-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v221)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v221) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)) (v5 : (c : Dev Cert.Kernel2Ideal.nD) → Buf (Elt Ideal) ((c.tc : Thread Cert.Kernel2Ideal.nD Cert.Kernel2Ideal.τ).loc Cert.Kernel2Ideal.main_v14_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_v14_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v54) = v4 c
          ∧ r.2.mem ((c.tc : Thread Cert.Reference2Ideal.nD Cert.Reference2Ideal.τ).loc Cert.Reference2Ideal.main_v57) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v241) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S3x32x128x128 : Shape := ⟨4, ![3, 32, 128, 128]⟩
abbrev S2x600x384 : Shape := ⟨3, ![2, 600, 384]⟩
abbrev S2x600x150 : Shape := ⟨3, ![2, 600, 150]⟩
abbrev S2x600 : Shape := ⟨2, ![2, 600]⟩
abbrev S450x300 : Shape := ⟨2, ![450, 300]⟩
abbrev S450x150 : Shape := ⟨2, ![450, 150]⟩
abbrev S450 : Shape := ⟨1, ![450]⟩
abbrev S128x150 : Shape := ⟨2, ![128, 150]⟩
abbrev S128 : Shape := ⟨1, ![128]⟩
abbrev S128x32x3x128 : Shape := ⟨4, ![128, 32, 3, 128]⟩
abbrev S128x32x384 : Shape := ⟨3, ![128, 32, 384]⟩
abbrev S1x600x384 : Shape := ⟨3, ![1, 600, 384]⟩
abbrev S600x384 : Shape := ⟨2, ![600, 384]⟩
abbrev S_ : Shape := ⟨0, ![]⟩
abbrev S384x1024 : Shape := ⟨2, ![384, 1024]⟩
abbrev S150x384 : Shape := ⟨2, ![150, 384]⟩
abbrev S384x150 : Shape := ⟨2, ![384, 150]⟩
abbrev S1 : Shape := ⟨1, ![1]⟩
abbrev S1x600x150 : Shape := ⟨3, ![1, 600, 150]⟩
abbrev S600x150 : Shape := ⟨2, ![600, 150]⟩
abbrev S256x1024 : Shape := ⟨2, ![256, 1024]⟩
abbrev S150x150 : Shape := ⟨2, ![150, 150]⟩
abbrev S2 : Shape := ⟨1, ![2]⟩
abbrev S1x600 : Shape := ⟨2, ![1, 600]⟩
abbrev S600 : Shape := ⟨1, ![600]⟩
abbrev S1x1024 : Shape := ⟨2, ![1, 1024]⟩
abbrev S150 : Shape := ⟨1, ![150]⟩
abbrev S512x768 : Shape := ⟨2, ![512, 768]⟩
abbrev S150x300 : Shape := ⟨2, ![150, 300]⟩
abbrev S1x768 : Shape := ⟨2, ![1, 768]⟩
abbrev S256x768 : Shape := ⟨2, ![256, 768]⟩
abbrev S256x128 : Shape := ⟨2, ![256, 128]⟩
abbrev S150x128 : Shape := ⟨2, ![150, 128]⟩
abbrev S1x128 : Shape := ⟨2, ![1, 128]⟩
abbrev S128x32x128 : Shape := ⟨3, ![128, 32, 128]⟩
abbrev S128x32x1024 : Shape := ⟨3, ![128, 32, 1024]⟩
abbrev S128x32x256 : Shape := ⟨3, ![128, 32, 256]⟩
abbrev S8x32x384 : Shape := ⟨3, ![8, 32, 384]⟩
abbrev S256x384 : Shape := ⟨2, ![256, 384]⟩
abbrev S8x32x1024 : Shape := ⟨3, ![8, 32, 1024]⟩
abbrev S32x256 : Shape := ⟨2, ![32, 256]⟩
abbrev S1x32x1024 : Shape := ⟨3, ![1, 32, 1024]⟩
abbrev S32x1024 : Shape := ⟨2, ![32, 1024]⟩
abbrev S1x32x384 : Shape := ⟨3, ![1, 32, 384]⟩
abbrev S32x384 : Shape := ⟨2, ![32, 384]⟩
abbrev S32x512 : Shape := ⟨2, ![32, 512]⟩
abbrev S32x768 : Shape := ⟨2, ![32, 768]⟩
abbrev S1x32x256 : Shape := ⟨3, ![1, 32, 256]⟩
abbrev S8x32x256 : Shape := ⟨3, ![8, 32, 256]⟩
abbrev S256x256 : Shape := ⟨2, ![256, 256]⟩
abbrev S8x32x128 : Shape := ⟨3, ![8, 32, 128]⟩

abbrev nBuf : Space → Nat
  | .hbm => 306
  | .vmem => 15
  | .smem => 0
  | _ => 0

abbrev hbmTy0_0 (i : Nat) : BufTy := match i % 128 with
  | 0 => ⟨S3x32x128x128, .f32⟩
  | 1 => ⟨S2x600x384, .f32⟩
  | 2 => ⟨S2x600x150, .f32⟩
  | 3 => ⟨S2x600, .f32⟩
  | 4 => ⟨S2x600, .f32⟩
  | 5 => ⟨S450x300, .f32⟩
  | 6 => ⟨S450x150, .f32⟩
  | 7 => ⟨S450, .f32⟩
  | 8 => ⟨S450, .f32⟩
  | 9 => ⟨S128x150, .f32⟩
  | 10 => ⟨S128, .f32⟩
  | 11 => ⟨S128x32x3x128, .f32⟩
  | 12 => ⟨S128x32x384, .f32⟩
  | 13 => ⟨S1x600x384, .f32⟩
  | 14 => ⟨S600x384, .f32⟩
  | 15 => ⟨S_, .f32⟩
  | 16 => ⟨S384x1024, .f32⟩
  | 17 => ⟨S150x384, .f32⟩
  | 18 => ⟨S384x150, .f32⟩
  | 19 => ⟨S_, .i32⟩
  | 20 => ⟨S1, .i32⟩
  | 21 => ⟨S384x1024, .f32⟩
  | 22 => ⟨S150x384, .f32⟩
  | 23 => ⟨S384x150, .f32⟩
  | 24 => ⟨S_, .i32⟩
  | 25 => ⟨S1, .i32⟩
  | 26 => ⟨S384x1024, .f32⟩
  | 27 => ⟨S150x384, .f32⟩
  | 28 => ⟨S384x150, .f32⟩
  | 29 => ⟨S_, .i32⟩
  | 30 => ⟨S1, .i32⟩
  | 31 => ⟨S384x1024, .f32⟩
  | 32 => ⟨S150x384, .f32⟩
  | 33 => ⟨S384x150, .f32⟩
  | 34 => ⟨S_, .i32⟩
  | 35 => ⟨S1, .i32⟩
  | 36 => ⟨S384x1024, .f32⟩
  | 37 => ⟨S1x600x150, .f32⟩
  | 38 => ⟨S600x150, .f32⟩
  | 39 => ⟨S_, .f32⟩
  | 40 => ⟨S256x1024, .f32⟩
  | 41 => ⟨S150x150, .f32⟩
  | 42 => ⟨S150x150, .f32⟩
  | 43 => ⟨S_, .i32⟩
  | 44 => ⟨S1, .i32⟩
  | 45 => ⟨S_, .i32⟩
  | 46 => ⟨S1, .i32⟩
  | 47 => ⟨S2, .i32⟩
  | 48 => ⟨S256x1024, .f32⟩
  | 49 => ⟨S150x150, .f32⟩
  | 50 => ⟨S150x150, .f32⟩
  | 51 => ⟨S_, .i32⟩
  | 52 => ⟨S1, .i32⟩
  | 53 => ⟨S_, .i32⟩
  | 54 => ⟨S1, .i32⟩
  | 55 => ⟨S2, .i32⟩
  | 56 => ⟨S256x1024, .f32⟩
  | 57 => ⟨S150x150, .f32⟩
  | 58 => ⟨S150x150, .f32⟩
  | 59 => ⟨S_, .i32⟩
  | 60 => ⟨S1, .i32⟩
  | 61 => ⟨S_, .i32⟩
  | 62 => ⟨S1, .i32⟩
  | 63 => ⟨S2, .i32⟩
  | 64 => ⟨S256x1024, .f32⟩
  | 65 => ⟨S150x150, .f32⟩
  | 66 => ⟨S150x150, .f32⟩
  | 67 => ⟨S_, .i32⟩
  | 68 => ⟨S1, .i32⟩
  | 69 => ⟨S_, .i32⟩
  | 70 => ⟨S1, .i32⟩
  | 71 => ⟨S2, .i32⟩
  | 72 => ⟨S256x1024, .f32⟩
  | 73 => ⟨S1x600, .f32⟩
  | 74 => ⟨S600, .f32⟩
  | 75 => ⟨S1x600, .f32⟩
  | 76 => ⟨S600, .f32⟩
  | 77 => ⟨S600, .f32⟩
  | 78 => ⟨S_, .f32⟩
  | 79 => ⟨S1x1024, .f32⟩
  | 80 => ⟨S150, .f32⟩
  | 81 => ⟨S_, .i32⟩
  | 82 => ⟨S1, .i32⟩
  | 83 => ⟨S_, .i32⟩
  | 84 => ⟨S1, .i32⟩
  | 85 => ⟨S2, .i32⟩
  | 86 => ⟨S1x1024, .f32⟩
  | 87 => ⟨S150, .f32⟩
  | 88 => ⟨S_, .i32⟩
  | 89 => ⟨S1, .i32⟩
  | 90 => ⟨S_, .i32⟩
  | 91 => ⟨S1, .i32⟩
  | 92 => ⟨S2, .i32⟩
  | 93 => ⟨S1x1024, .f32⟩
  | 94 => ⟨S150, .f32⟩
  | 95 => ⟨S_, .i32⟩
  | 96 => ⟨S1, .i32⟩
  | 97 => ⟨S_, .i32⟩
  | 98 => ⟨S1, .i32⟩
  | 99 => ⟨S2, .i32⟩
  | 100 => ⟨S1x1024, .f32⟩
  | 101 => ⟨S150, .f32⟩
  | 102 => ⟨S_, .i32⟩
  | 103 => ⟨S1, .i32⟩
  | 104 => ⟨S_, .i32⟩
  | 105 => ⟨S1, .i32⟩
  | 106 => ⟨S2, .i32⟩
  | 107 => ⟨S1x1024, .f32⟩
  | 108 => ⟨S1x600x384, .f32⟩
  | 109 => ⟨S600x384, .f32⟩
  | 110 => ⟨S_, .f32⟩
  | 111 => ⟨S384x1024, .f32⟩
  | 112 => ⟨S150x384, .f32⟩
  | 113 => ⟨S384x150, .f32⟩
  | 114 => ⟨S_, .i32⟩
  | 115 => ⟨S1, .i32⟩
  | 116 => ⟨S384x1024, .f32⟩
  | 117 => ⟨S150x384, .f32⟩
  | 118 => ⟨S384x150, .f32⟩
  | 119 => ⟨S_, .i32⟩
  | 120 => ⟨S1, .i32⟩
  | 121 => ⟨S384x1024, .f32⟩
  | 122 => ⟨S150x384, .f32⟩
  | 123 => ⟨S384x150, .f32⟩
  | 124 => ⟨S_, .i32⟩
  | 125 => ⟨S1, .i32⟩
  | 126 => ⟨S384x1024, .f32⟩
  | 127 => ⟨S150x384, .f32⟩
  | _ => ⟨S3x32x128x128, .f32⟩

abbrev hbmTy0_1 (i : Nat) : BufTy := match i % 128 with
  | 0 => ⟨S384x150, .f32⟩
  | 1 => ⟨S_, .i32⟩
  | 2 => ⟨S1, .i32⟩
  | 3 => ⟨S384x1024, .f32⟩
  | 4 => ⟨S1x600, .f32⟩
  | 5 => ⟨S600, .f32⟩
  | 6 => ⟨S1x600, .f32⟩
  | 7 => ⟨S600, .f32⟩
  | 8 => ⟨S600, .f32⟩
  | 9 => ⟨S_, .f32⟩
  | 10 => ⟨S1x1024, .f32⟩
  | 11 => ⟨S150, .f32⟩
  | 12 => ⟨S_, .i32⟩
  | 13 => ⟨S1, .i32⟩
  | 14 => ⟨S_, .i32⟩
  | 15 => ⟨S1, .i32⟩
  | 16 => ⟨S2, .i32⟩
  | 17 => ⟨S1x1024, .f32⟩
  | 18 => ⟨S150, .f32⟩
  | 19 => ⟨S_, .i32⟩
  | 20 => ⟨S1, .i32⟩
  | 21 => ⟨S_, .i32⟩
  | 22 => ⟨S1, .i32⟩
  | 23 => ⟨S2, .i32⟩
  | 24 => ⟨S1x1024, .f32⟩
  | 25 => ⟨S150, .f32⟩
  | 26 => ⟨S_, .i32⟩
  | 27 => ⟨S1, .i32⟩
  | 28 => ⟨S_, .i32⟩
  | 29 => ⟨S1, .i32⟩
  | 30 => ⟨S2, .i32⟩
  | 31 => ⟨S1x1024, .f32⟩
  | 32 => ⟨S150, .f32⟩
  | 33 => ⟨S_, .i32⟩
  | 34 => ⟨S1, .i32⟩
  | 35 => ⟨S_, .i32⟩
  | 36 => ⟨S1, .i32⟩
  | 37 => ⟨S2, .i32⟩
  | 38 => ⟨S1x1024, .f32⟩
  | 39 => ⟨S_, .f32⟩
  | 40 => ⟨S512x768, .f32⟩
  | 41 => ⟨S150x300, .f32⟩
  | 42 => ⟨S150x150, .f32⟩
  | 43 => ⟨S150x150, .f32⟩
  | 44 => ⟨S_, .i32⟩
  | 45 => ⟨S1, .i32⟩
  | 46 => ⟨S_, .i32⟩
  | 47 => ⟨S1, .i32⟩
  | 48 => ⟨S2, .i32⟩
  | 49 => ⟨S512x768, .f32⟩
  | 50 => ⟨S150x150, .f32⟩
  | 51 => ⟨S150x150, .f32⟩
  | 52 => ⟨S_, .i32⟩
  | 53 => ⟨S1, .i32⟩
  | 54 => ⟨S_, .i32⟩
  | 55 => ⟨S1, .i32⟩
  | 56 => ⟨S2, .i32⟩
  | 57 => ⟨S512x768, .f32⟩
  | 58 => ⟨S150x300, .f32⟩
  | 59 => ⟨S150x150, .f32⟩
  | 60 => ⟨S150x150, .f32⟩
  | 61 => ⟨S_, .i32⟩
  | 62 => ⟨S1, .i32⟩
  | 63 => ⟨S_, .i32⟩
  | 64 => ⟨S1, .i32⟩
  | 65 => ⟨S2, .i32⟩
  | 66 => ⟨S512x768, .f32⟩
  | 67 => ⟨S150x150, .f32⟩
  | 68 => ⟨S150x150, .f32⟩
  | 69 => ⟨S_, .i32⟩
  | 70 => ⟨S1, .i32⟩
  | 71 => ⟨S_, .i32⟩
  | 72 => ⟨S1, .i32⟩
  | 73 => ⟨S2, .i32⟩
  | 74 => ⟨S512x768, .f32⟩
  | 75 => ⟨S150x300, .f32⟩
  | 76 => ⟨S150x150, .f32⟩
  | 77 => ⟨S150x150, .f32⟩
  | 78 => ⟨S_, .i32⟩
  | 79 => ⟨S1, .i32⟩
  | 80 => ⟨S_, .i32⟩
  | 81 => ⟨S1, .i32⟩
  | 82 => ⟨S2, .i32⟩
  | 83 => ⟨S512x768, .f32⟩
  | 84 => ⟨S150x150, .f32⟩
  | 85 => ⟨S150x150, .f32⟩
  | 86 => ⟨S_, .i32⟩
  | 87 => ⟨S1, .i32⟩
  | 88 => ⟨S_, .i32⟩
  | 89 => ⟨S1, .i32⟩
  | 90 => ⟨S2, .i32⟩
  | 91 => ⟨S512x768, .f32⟩
  | 92 => ⟨S_, .f32⟩
  | 93 => ⟨S1x768, .f32⟩
  | 94 => ⟨S150, .f32⟩
  | 95 => ⟨S_, .i32⟩
  | 96 => ⟨S1, .i32⟩
  | 97 => ⟨S_, .i32⟩
  | 98 => ⟨S1, .i32⟩
  | 99 => ⟨S2, .i32⟩
  | 100 => ⟨S1x768, .f32⟩
  | 101 => ⟨S150, .f32⟩
  | 102 => ⟨S_, .i32⟩
  | 103 => ⟨S1, .i32⟩
  | 104 => ⟨S_, .i32⟩
  | 105 => ⟨S1, .i32⟩
  | 106 => ⟨S2, .i32⟩
  | 107 => ⟨S1x768, .f32⟩
  | 108 => ⟨S150, .f32⟩
  | 109 => ⟨S_, .i32⟩
  | 110 => ⟨S1, .i32⟩
  | 111 => ⟨S_, .i32⟩
  | 112 => ⟨S1, .i32⟩
  | 113 => ⟨S2, .i32⟩
  | 114 => ⟨S1x768, .f32⟩
  | 115 => ⟨S_, .f32⟩
  | 116 => ⟨S256x768, .f32⟩
  | 117 => ⟨S150x150, .f32⟩
  | 118 => ⟨S150x150, .f32⟩
  | 119 => ⟨S_, .i32⟩
  | 120 => ⟨S1, .i32⟩
  | 121 => ⟨S_, .i32⟩
  | 122 => ⟨S1, .i32⟩
  | 123 => ⟨S2, .i32⟩
  | 124 => ⟨S256x768, .f32⟩
  | 125 => ⟨S150x150, .f32⟩
  | 126 => ⟨S150x150, .f32⟩
  | 127 => ⟨S_, .i32⟩
  | _ => ⟨S3x32x128x128, .f32⟩

abbrev hbmTy0_2 (i : Nat) : BufTy := match i % 128 with
  | 0 => ⟨S1, .i32⟩
  | 1 => ⟨S_, .i32⟩
  | 2 => ⟨S1, .i32⟩
  | 3 => ⟨S2, .i32⟩
  | 4 => ⟨S256x768, .f32⟩
  | 5 => ⟨S150x150, .f32⟩
  | 6 => ⟨S150x150, .f32⟩
  | 7 => ⟨S_, .i32⟩
  | 8 => ⟨S1, .i32⟩
  | 9 => ⟨S_, .i32⟩
  | 10 => ⟨S1, .i32⟩
  | 11 => ⟨S2, .i32⟩
  | 12 => ⟨S256x768, .f32⟩
  | 13 => ⟨S_, .f32⟩
  | 14 => ⟨S1x768, .f32⟩
  | 15 => ⟨S150, .f32⟩
  | 16 => ⟨S_, .i32⟩
  | 17 => ⟨S1, .i32⟩
  | 18 => ⟨S_, .i32⟩
  | 19 => ⟨S1, .i32⟩
  | 20 => ⟨S2, .i32⟩
  | 21 => ⟨S1x768, .f32⟩
  | 22 => ⟨S150, .f32⟩
  | 23 => ⟨S_, .i32⟩
  | 24 => ⟨S1, .i32⟩
  | 25 => ⟨S_, .i32⟩
  | 26 => ⟨S1, .i32⟩
  | 27 => ⟨S2, .i32⟩
  | 28 => ⟨S1x768, .f32⟩
  | 29 => ⟨S150, .f32⟩
  | 30 => ⟨S_, .i32⟩
  | 31 => ⟨S1, .i32⟩
  | 32 => ⟨S_, .i32⟩
  | 33 => ⟨S1, .i32⟩
  | 34 => ⟨S2, .i32⟩
  | 35 => ⟨S1x768, .f32⟩
  | 36 => ⟨S_, .f32⟩
  | 37 => ⟨S256x128, .f32⟩
  | 38 => ⟨S150x128, .f32⟩
  | 39 => ⟨S_, .i32⟩
  | 40 => ⟨S1, .i32⟩
  | 41 => ⟨S256x128, .f32⟩
  | 42 => ⟨S1x128, .f32⟩
  | 43 => ⟨S384x1024, .bf16⟩
  | 44 => ⟨S256x1024, .bf16⟩
  | 45 => ⟨S384x1024, .bf16⟩
  | 46 => ⟨S512x768, .bf16⟩
  | 47 => ⟨S256x768, .bf16⟩
  | 48 => ⟨S256x128, .bf16⟩
  | 49 => ⟨S128x32x128, .f32⟩
  | _ => ⟨S3x32x128x128, .f32⟩

abbrev hbmTy (i : Nat) : BufTy := match i / 128 with
  | 0 => hbmTy0_0 i
  | 1 => hbmTy0_1 i
  | 2 => hbmTy0_2 i
  | _ => ⟨S3x32x128x128, .f32⟩

abbrev bufTy : (tb : Table) → Fin (tcTables nBuf tb) → BufTy
  | .hbm, ⟨i, _⟩ => hbmTy i
  | .local _ .vmem, ⟨0, _⟩ => ⟨S128x32x384, .f32⟩
  | .local _ .vmem, ⟨1, _⟩ => ⟨S384x1024, .bf16⟩
  | .local _ .vmem, ⟨2, _⟩ => ⟨S256x1024, .bf16⟩
  | .local _ .vmem, ⟨3, _⟩ => ⟨S1x1024, .f32⟩
  | .local _ .vmem, ⟨4, _⟩ => ⟨S384x1024, .bf16⟩
  | .local _ .vmem, ⟨5, _⟩ => ⟨S1x1024, .f32⟩
  | .local _ .vmem, ⟨6, _⟩ => ⟨S512x768, .bf16⟩
  | .local _ .vmem, ⟨7, _⟩ => ⟨S1x768, .f32⟩
  | .local _ .vmem, ⟨8, _⟩ => ⟨S256x768, .bf16⟩
  | .local _ .vmem, ⟨9, _⟩ => ⟨S1x768, .f32⟩
  | .local _ .vmem, ⟨10, _⟩ => ⟨S256x128, .bf16⟩
  | .local _ .vmem, ⟨11, _⟩ => ⟨S1x128, .f32⟩
  | .local _ .vmem, ⟨12, _⟩ => ⟨S128x32x128, .f32⟩
  | .local _ .vmem, ⟨13, _⟩ => ⟨S128x32x1024, .f32⟩
  | .local _ .vmem, ⟨14, _⟩ => ⟨S128x32x256, .f32⟩
  | _, _ => ⟨S3x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_c_16 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_17 : Ref sig .tc := ⟨.hbm, 95, rfl⟩
abbrev main_v65 : Ref sig .tc := ⟨.hbm, 96, rfl⟩
abbrev main_c_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_19 : Ref sig .tc := ⟨.hbm, 102, rfl⟩
abbrev main_v70 : Ref sig .tc := ⟨.hbm, 103, rfl⟩
abbrev main_c_20 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_21 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_22 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_23 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_24 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_25 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_26 : Ref sig .tc := ⟨.hbm, 137, rfl⟩
abbrev main_v98 : Ref sig .tc := ⟨.hbm, 138, rfl⟩
abbrev main_v99 : Ref sig .tc := ⟨.hbm, 139, rfl⟩
abbrev main_c_27 : Ref sig .tc := ⟨.hbm, 140, rfl⟩
abbrev main_v100 : Ref sig .tc := ⟨.hbm, 141, rfl⟩
abbrev main_c_28 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_29 : Ref sig .tc := ⟨.hbm, 147, rfl⟩
abbrev main_v105 : Ref sig .tc := ⟨.hbm, 148, rfl⟩
abbrev main_c_30 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_31 : Ref sig .tc := ⟨.hbm, 154, rfl⟩
abbrev main_v110 : Ref sig .tc := ⟨.hbm, 155, rfl⟩
abbrev main_c_32 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_33 : Ref sig .tc := ⟨.hbm, 161, rfl⟩
abbrev main_v115 : Ref sig .tc := ⟨.hbm, 162, rfl⟩
abbrev main_c_34 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_35 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_36 : Ref sig .tc := ⟨.hbm, 172, rfl⟩
abbrev main_v123 : Ref sig .tc := ⟨.hbm, 173, rfl⟩
abbrev main_c_37 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_38 : Ref sig .tc := ⟨.hbm, 180, rfl⟩
abbrev main_v129 : Ref sig .tc := ⟨.hbm, 181, rfl⟩
abbrev main_c_39 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_40 : Ref sig .tc := ⟨.hbm, 189, rfl⟩
abbrev main_v136 : Ref sig .tc := ⟨.hbm, 190, rfl⟩
abbrev main_c_41 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_c_42 : Ref sig .tc := ⟨.hbm, 197, rfl⟩
abbrev main_v142 : Ref sig .tc := ⟨.hbm, 198, rfl⟩
abbrev main_c_43 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_c_44 : Ref sig .tc := ⟨.hbm, 206, rfl⟩
abbrev main_v149 : Ref sig .tc := ⟨.hbm, 207, rfl⟩
abbrev main_c_45 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_c_46 : Ref sig .tc := ⟨.hbm, 214, rfl⟩
abbrev main_v155 : Ref sig .tc := ⟨.hbm, 215, rfl⟩
abbrev main_c_47 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_48 : Ref sig .tc := ⟨.hbm, 220, rfl⟩
abbrev main_v159 : Ref sig .tc := ⟨.hbm, 221, rfl⟩
abbrev main_v160 : Ref sig .tc := ⟨.hbm, 222, rfl⟩
abbrev main_c_49 : Ref sig .tc := ⟨.hbm, 223, rfl⟩
abbrev main_v161 : Ref sig .tc := ⟨.hbm, 224, rfl⟩
abbrev main_c_50 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_c_51 : Ref sig .tc := ⟨.hbm, 230, rfl⟩
abbrev main_v166 : Ref sig .tc := ⟨.hbm, 231, rfl⟩
abbrev main_c_52 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_c_53 : Ref sig .tc := ⟨.hbm, 237, rfl⟩
abbrev main_v171 : Ref sig .tc := ⟨.hbm, 238, rfl⟩
abbrev main_c_54 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_cst_55 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_c_56 : Ref sig .tc := ⟨.hbm, 247, rfl⟩
abbrev main_v178 : Ref sig .tc := ⟨.hbm, 248, rfl⟩
abbrev main_c_57 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_c_58 : Ref sig .tc := ⟨.hbm, 255, rfl⟩
abbrev main_v184 : Ref sig .tc := ⟨.hbm, 256, rfl⟩
abbrev main_c_59 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_c_60 : Ref sig .tc := ⟨.hbm, 263, rfl⟩
abbrev main_v190 : Ref sig .tc := ⟨.hbm, 264, rfl⟩
abbrev main_c_61 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_cst_62 : Ref sig .tc := ⟨.hbm, 269, rfl⟩
abbrev main_v194 : Ref sig .tc := ⟨.hbm, 270, rfl⟩
abbrev main_v195 : Ref sig .tc := ⟨.hbm, 271, rfl⟩
abbrev main_c_63 : Ref sig .tc := ⟨.hbm, 272, rfl⟩
abbrev main_v196 : Ref sig .tc := ⟨.hbm, 273, rfl⟩
abbrev main_c_64 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_c_65 : Ref sig .tc := ⟨.hbm, 279, rfl⟩
abbrev main_v201 : Ref sig .tc := ⟨.hbm, 280, rfl⟩
abbrev main_c_66 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_c_67 : Ref sig .tc := ⟨.hbm, 286, rfl⟩
abbrev main_v206 : Ref sig .tc := ⟨.hbm, 287, rfl⟩
abbrev main_c_68 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_cst_69 : Ref sig .tc := ⟨.hbm, 292, rfl⟩
abbrev main_v210 : Ref sig .tc := ⟨.hbm, 293, rfl⟩
abbrev main_v211 : Ref sig .tc := ⟨.hbm, 294, rfl⟩
abbrev main_c_70 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v183 : BitVec 32 := Scalar.addi c0_i32 c32_i32
  let c1_i32 : BitVec 32 := 1#32
  ⟨c0_i32, v183, c1_i32⟩
def k0_off1 (k0_t1 : Fin k0_t1_loop.trips) (c0_i32_239 : BitVec 32) : Fin 3 → Nat :=
  let c0_i32 : BitVec 32 := 0#32
  let c1_i32 : BitVec 32 := 1#32
  let arg15 : BitVec 32 := Scf.iv c0_i32 c1_i32 k0_t1
  let c4_i32 : BitVec 32 := 4#32
  let v351 : BitVec 32 := Scalar.muli arg15 c4_i32
  let v352 : BitVec 32 := Scalar.addi v351 c0_i32_239
  let v353 : Index := Scalar.indexCast v352
  let c0_240 : Index := 0#32
  let c0_241 : Index := 0#32
  ![v353.toNat, 0, 0]
@[reducible] def k0_t2_loop : Scf.Loop 32 :=
  let c0_i32_119 : BitVec 32 := 0#32
  let c32_i32_120 : BitVec 32 := 32#32
  let v217 : BitVec 32 := Scalar.addi c0_i32_119 c32_i32_120
  let c1_i32_121 : BitVec 32 := 1#32
  ⟨c0_i32_119, v217, c1_i32_121⟩
def k0_off2 (k0_t2 : Fin k0_t2_loop.trips) (c0_i32_241 : BitVec 32) : Fin 3 → Nat :=
  let c0_i32_119 : BitVec 32 := 0#32
  let c1_i32_121 : BitVec 32 := 1#32
  let arg15 : BitVec 32 := Scf.iv c0_i32_119 c1_i32_121 k0_t2
  let c4_i32 : BitVec 32 := 4#32
  let v373 : BitVec 32 := Scalar.muli arg15 c4_i32
  let v374 : BitVec 32 := Scalar.addi v373 c0_i32_241
  let v375 : Index := Scalar.indexCast v374
  let c0_242 : Index := 0#32
  let c0_243 : Index := 0#32
  ![v375.toNat, 0, 0]
abbrev stage0_0 : Fin 1 → Memref sig .tc .vmem S128x32x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S3x32x128x128 : Shape := ⟨4, ![3, 32, 128, 128]⟩
abbrev S2x600x384 : Shape := ⟨3, ![2, 600, 384]⟩
abbrev S2x600x150 : Shape := ⟨3, ![2, 600, 150]⟩
abbrev S2x600 : Shape := ⟨2, ![2, 600]⟩
abbrev S450x300 : Shape := ⟨2, ![450, 300]⟩
abbrev S450x150 : Shape := ⟨2, ![450, 150]⟩
abbrev S450 : Shape := ⟨1, ![450]⟩
abbrev S128x150 : Shape := ⟨2, ![128, 150]⟩
abbrev S128 : Shape := ⟨1, ![128]⟩
abbrev S1x32x128x128 : Shape := ⟨4, ![1, 32, 128, 128]⟩
abbrev S32x128x128 : Shape := ⟨3, ![32, 128, 128]⟩
abbrev S32x128x384 : Shape := ⟨3, ![32, 128, 384]⟩
abbrev S1x600x384 : Shape := ⟨3, ![1, 600, 384]⟩
abbrev S600x384 : Shape := ⟨2, ![600, 384]⟩
abbrev S1x600x150 : Shape := ⟨3, ![1, 600, 150]⟩
abbrev S600x150 : Shape := ⟨2, ![600, 150]⟩
abbrev S1x600 : Shape := ⟨2, ![1, 600]⟩
abbrev S600 : Shape := ⟨1, ![600]⟩
abbrev S128x32x384 : Shape := ⟨3, ![128, 32, 384]⟩
abbrev S_ : Shape := ⟨0, ![]⟩
abbrev S32x150 : Shape := ⟨2, ![32, 150]⟩
abbrev S128x32x150 : Shape := ⟨3, ![128, 32, 150]⟩
abbrev S1x32x384 : Shape := ⟨3, ![1, 32, 384]⟩
abbrev S32x384 : Shape := ⟨2, ![32, 384]⟩
abbrev S384x600 : Shape := ⟨2, ![384, 600]⟩
abbrev S32x600 : Shape := ⟨2, ![32, 600]⟩
abbrev S150x600 : Shape := ⟨2, ![150, 600]⟩
abbrev S1x32x150 : Shape := ⟨3, ![1, 32, 150]⟩
abbrev S32x128x150 : Shape := ⟨3, ![32, 128, 150]⟩
abbrev S32x128x300 : Shape := ⟨3, ![32, 128, 300]⟩
abbrev S32x1x300 : Shape := ⟨3, ![32, 1, 300]⟩
abbrev S32x300 : Shape := ⟨2, ![32, 300]⟩
abbrev S32x1x128x300 : Shape := ⟨4, ![32, 1, 128, 300]⟩
abbrev S128x32x300 : Shape := ⟨3, ![128, 32, 300]⟩
abbrev S1x32x300 : Shape := ⟨3, ![1, 32, 300]⟩
abbrev S300x450 : Shape := ⟨2, ![300, 450]⟩
abbrev S32x450 : Shape := ⟨2, ![32, 450]⟩
abbrev S1x450 : Shape := ⟨2, ![1, 450]⟩
abbrev S150x450 : Shape := ⟨2, ![150, 450]⟩
abbrev S150x128 : Shape := ⟨2, ![150, 128]⟩
abbrev S1x1x128 : Shape := ⟨3, ![1, 1, 128]⟩
abbrev S128x32x128 : Shape := ⟨3, ![128, 32, 128]⟩

abbrev nBuf : Space → Nat
  | .hbm => 264
  | .vmem => 0
  | .smem => 0
  | _ => 0

abbrev hbmTy0_0 (i : Nat) : BufTy := match i % 128 with
  | 0 => ⟨S3x32x128x128, .f32⟩
  | 1 => ⟨S2x600x384, .f32⟩
  | 2 => ⟨S2x600x150, .f32⟩
  | 3 => ⟨S2x600, .f32⟩
  | 4 => ⟨S2x600, .f32⟩
  | 5 => ⟨S450x300, .f32⟩
  | 6 => ⟨S450x150, .f32⟩
  | 7 => ⟨S450, .f32⟩
  | 8 => ⟨S450, .f32⟩
  | 9 => ⟨S128x150, .f32⟩
  | 10 => ⟨S128, .f32⟩
  | 11 => ⟨S1x32x128x128, .f32⟩
  | 12 => ⟨S32x128x128, .f32⟩
  | 13 => ⟨S1x32x128x128, .f32⟩
  | 14 => ⟨S32x128x128, .f32⟩
  | 15 => ⟨S1x32x128x128, .f32⟩
  | 16 => ⟨S32x128x128, .f32⟩
  | 17 => ⟨S32x128x384, .f32⟩
  | 18 => ⟨S1x600x384, .f32⟩
  | 19 => ⟨S600x384, .f32⟩
  | 20 => ⟨S1x600x150, .f32⟩
  | 21 => ⟨S600x150, .f32⟩
  | 22 => ⟨S1x600, .f32⟩
  | 23 => ⟨S600, .f32⟩
  | 24 => ⟨S1x600, .f32⟩
  | 25 => ⟨S600, .f32⟩
  | 26 => ⟨S128x32x384, .f32⟩
  | 27 => ⟨S_, .f32⟩
  | 28 => ⟨S32x150, .f32⟩
  | 29 => ⟨S_, .f32⟩
  | 30 => ⟨S128x32x150, .f32⟩
  | 31 => ⟨S_, .i32⟩
  | 32 => ⟨S128x32x384, .f32⟩
  | 33 => ⟨S600x384, .f32⟩
  | 34 => ⟨S600, .f32⟩
  | 35 => ⟨S600x150, .f32⟩
  | 36 => ⟨S600, .f32⟩
  | 37 => ⟨S_, .i32⟩
  | 38 => ⟨S32x150, .f32⟩
  | 39 => ⟨S32x150, .f32⟩
  | 40 => ⟨S128x32x150, .f32⟩
  | 41 => ⟨S_, .i32⟩
  | 42 => ⟨S_, .i1⟩
  | 43 => ⟨S_, .i32⟩
  | 44 => ⟨S_, .i32⟩
  | 45 => ⟨S1x32x384, .f32⟩
  | 46 => ⟨S32x384, .f32⟩
  | 47 => ⟨S384x600, .f32⟩
  | 48 => ⟨S32x600, .f32⟩
  | 49 => ⟨S1x600, .f32⟩
  | 50 => ⟨S32x600, .f32⟩
  | 51 => ⟨S32x600, .f32⟩
  | 52 => ⟨S150x600, .f32⟩
  | 53 => ⟨S32x600, .f32⟩
  | 54 => ⟨S32x600, .f32⟩
  | 55 => ⟨S1x600, .f32⟩
  | 56 => ⟨S32x600, .f32⟩
  | 57 => ⟨S32x600, .f32⟩
  | 58 => ⟨S32x150, .f32⟩
  | 59 => ⟨S32x150, .f32⟩
  | 60 => ⟨S32x150, .f32⟩
  | 61 => ⟨S32x150, .f32⟩
  | 62 => ⟨S32x150, .f32⟩
  | 63 => ⟨S32x150, .f32⟩
  | 64 => ⟨S_, .f32⟩
  | 65 => ⟨S32x150, .f32⟩
  | 66 => ⟨S32x150, .f32⟩
  | 67 => ⟨S_, .f32⟩
  | 68 => ⟨S32x150, .f32⟩
  | 69 => ⟨S32x150, .f32⟩
  | 70 => ⟨S32x150, .f32⟩
  | 71 => ⟨S32x150, .f32⟩
  | 72 => ⟨S32x150, .f32⟩
  | 73 => ⟨S_, .f32⟩
  | 74 => ⟨S32x150, .f32⟩
  | 75 => ⟨S32x150, .f32⟩
  | 76 => ⟨S_, .f32⟩
  | 77 => ⟨S32x150, .f32⟩
  | 78 => ⟨S32x150, .f32⟩
  | 79 => ⟨S32x150, .f32⟩
  | 80 => ⟨S32x150, .f32⟩
  | 81 => ⟨S32x150, .f32⟩
  | 82 => ⟨S32x150, .f32⟩
  | 83 => ⟨S32x150, .f32⟩
  | 84 => ⟨S_, .f32⟩
  | 85 => ⟨S32x150, .f32⟩
  | 86 => ⟨S32x150, .f32⟩
  | 87 => ⟨S_, .f32⟩
  | 88 => ⟨S32x150, .f32⟩
  | 89 => ⟨S32x150, .f32⟩
  | 90 => ⟨S32x150, .f32⟩
  | 91 => ⟨S32x150, .f32⟩
  | 92 => ⟨S1x32x150, .f32⟩
  | 93 => ⟨S_, .i32⟩
  | 94 => ⟨S_, .i32⟩
  | 95 => ⟨S128x32x150, .f32⟩
  | 96 => ⟨S_, .i32⟩
  | 97 => ⟨S_, .i32⟩
  | 98 => ⟨S32x128x150, .f32⟩
  | 99 => ⟨S1x600x384, .f32⟩
  | 100 => ⟨S600x384, .f32⟩
  | 101 => ⟨S1x600x150, .f32⟩
  | 102 => ⟨S600x150, .f32⟩
  | 103 => ⟨S1x600, .f32⟩
  | 104 => ⟨S600, .f32⟩
  | 105 => ⟨S1x600, .f32⟩
  | 106 => ⟨S600, .f32⟩
  | 107 => ⟨S128x32x384, .f32⟩
  | 108 => ⟨S128x32x384, .f32⟩
  | 109 => ⟨S_, .f32⟩
  | 110 => ⟨S32x150, .f32⟩
  | 111 => ⟨S_, .f32⟩
  | 112 => ⟨S128x32x150, .f32⟩
  | 113 => ⟨S_, .i32⟩
  | 114 => ⟨S128x32x384, .f32⟩
  | 115 => ⟨S600x384, .f32⟩
  | 116 => ⟨S600, .f32⟩
  | 117 => ⟨S600x150, .f32⟩
  | 118 => ⟨S600, .f32⟩
  | 119 => ⟨S_, .i32⟩
  | 120 => ⟨S32x150, .f32⟩
  | 121 => ⟨S32x150, .f32⟩
  | 122 => ⟨S128x32x150, .f32⟩
  | 123 => ⟨S_, .i32⟩
  | 124 => ⟨S_, .i1⟩
  | 125 => ⟨S_, .i32⟩
  | 126 => ⟨S_, .i32⟩
  | 127 => ⟨S1x32x384, .f32⟩
  | _ => ⟨S3x32x128x128, .f32⟩

abbrev hbmTy0_1 (i : Nat) : BufTy := match i % 128 with
  | 0 => ⟨S32x384, .f32⟩
  | 1 => ⟨S384x600, .f32⟩
  | 2 => ⟨S32x600, .f32⟩
  | 3 => ⟨S1x600, .f32⟩
  | 4 => ⟨S32x600, .f32⟩
  | 5 => ⟨S32x600, .f32⟩
  | 6 => ⟨S150x600, .f32⟩
  | 7 => ⟨S32x600, .f32⟩
  | 8 => ⟨S32x600, .f32⟩
  | 9 => ⟨S1x600, .f32⟩
  | 10 => ⟨S32x600, .f32⟩
  | 11 => ⟨S32x600, .f32⟩
  | 12 => ⟨S32x150, .f32⟩
  | 13 => ⟨S32x150, .f32⟩
  | 14 => ⟨S32x150, .f32⟩
  | 15 => ⟨S32x150, .f32⟩
  | 16 => ⟨S32x150, .f32⟩
  | 17 => ⟨S32x150, .f32⟩
  | 18 => ⟨S_, .f32⟩
  | 19 => ⟨S32x150, .f32⟩
  | 20 => ⟨S32x150, .f32⟩
  | 21 => ⟨S_, .f32⟩
  | 22 => ⟨S32x150, .f32⟩
  | 23 => ⟨S32x150, .f32⟩
  | 24 => ⟨S32x150, .f32⟩
  | 25 => ⟨S32x150, .f32⟩
  | 26 => ⟨S32x150, .f32⟩
  | 27 => ⟨S_, .f32⟩
  | 28 => ⟨S32x150, .f32⟩
  | 29 => ⟨S32x150, .f32⟩
  | 30 => ⟨S_, .f32⟩
  | 31 => ⟨S32x150, .f32⟩
  | 32 => ⟨S32x150, .f32⟩
  | 33 => ⟨S32x150, .f32⟩
  | 34 => ⟨S32x150, .f32⟩
  | 35 => ⟨S32x150, .f32⟩
  | 36 => ⟨S32x150, .f32⟩
  | 37 => ⟨S32x150, .f32⟩
  | 38 => ⟨S_, .f32⟩
  | 39 => ⟨S32x150, .f32⟩
  | 40 => ⟨S32x150, .f32⟩
  | 41 => ⟨S_, .f32⟩
  | 42 => ⟨S32x150, .f32⟩
  | 43 => ⟨S32x150, .f32⟩
  | 44 => ⟨S32x150, .f32⟩
  | 45 => ⟨S32x150, .f32⟩
  | 46 => ⟨S1x32x150, .f32⟩
  | 47 => ⟨S_, .i32⟩
  | 48 => ⟨S_, .i32⟩
  | 49 => ⟨S128x32x150, .f32⟩
  | 50 => ⟨S_, .i32⟩
  | 51 => ⟨S_, .i32⟩
  | 52 => ⟨S128x32x150, .f32⟩
  | 53 => ⟨S32x128x150, .f32⟩
  | 54 => ⟨S32x128x300, .f32⟩
  | 55 => ⟨S32x1x300, .f32⟩
  | 56 => ⟨S32x300, .f32⟩
  | 57 => ⟨S32x1x300, .f32⟩
  | 58 => ⟨S32x1x128x300, .f32⟩
  | 59 => ⟨S32x128x300, .f32⟩
  | 60 => ⟨S128x32x300, .f32⟩
  | 61 => ⟨S_, .f32⟩
  | 62 => ⟨S32x150, .f32⟩
  | 63 => ⟨S_, .f32⟩
  | 64 => ⟨S128x32x150, .f32⟩
  | 65 => ⟨S_, .i32⟩
  | 66 => ⟨S128x32x300, .f32⟩
  | 67 => ⟨S450x300, .f32⟩
  | 68 => ⟨S450, .f32⟩
  | 69 => ⟨S450x150, .f32⟩
  | 70 => ⟨S450, .f32⟩
  | 71 => ⟨S_, .i32⟩
  | 72 => ⟨S32x150, .f32⟩
  | 73 => ⟨S128x32x150, .f32⟩
  | 74 => ⟨S_, .i32⟩
  | 75 => ⟨S_, .i1⟩
  | 76 => ⟨S_, .i32⟩
  | 77 => ⟨S_, .i32⟩
  | 78 => ⟨S1x32x300, .f32⟩
  | 79 => ⟨S32x300, .f32⟩
  | 80 => ⟨S300x450, .f32⟩
  | 81 => ⟨S32x450, .f32⟩
  | 82 => ⟨S1x450, .f32⟩
  | 83 => ⟨S32x450, .f32⟩
  | 84 => ⟨S32x450, .f32⟩
  | 85 => ⟨S150x450, .f32⟩
  | 86 => ⟨S32x450, .f32⟩
  | 87 => ⟨S1x450, .f32⟩
  | 88 => ⟨S32x450, .f32⟩
  | 89 => ⟨S32x450, .f32⟩
  | 90 => ⟨S32x150, .f32⟩
  | 91 => ⟨S32x150, .f32⟩
  | 92 => ⟨S32x150, .f32⟩
  | 93 => ⟨S32x150, .f32⟩
  | 94 => ⟨S32x150, .f32⟩
  | 95 => ⟨S32x150, .f32⟩
  | 96 => ⟨S32x150, .f32⟩
  | 97 => ⟨S32x150, .f32⟩
  | 98 => ⟨S32x150, .f32⟩
  | 99 => ⟨S_, .f32⟩
  | 100 => ⟨S32x150, .f32⟩
  | 101 => ⟨S32x150, .f32⟩
  | 102 => ⟨S_, .f32⟩
  | 103 => ⟨S32x150, .f32⟩
  | 104 => ⟨S32x150, .f32⟩
  | 105 => ⟨S32x150, .f32⟩
  | 106 => ⟨S32x150, .f32⟩
  | 107 => ⟨S32x150, .f32⟩
  | 108 => ⟨S_, .f32⟩
  | 109 => ⟨S32x150, .f32⟩
  | 110 => ⟨S32x150, .f32⟩
  | 111 => ⟨S_, .f32⟩
  | 112 => ⟨S32x150, .f32⟩
  | 113 => ⟨S32x150, .f32⟩
  | 114 => ⟨S32x150, .f32⟩
  | 115 => ⟨S32x150, .f32⟩
  | 116 => ⟨S32x150, .f32⟩
  | 117 => ⟨S_, .f32⟩
  | 118 => ⟨S32x150, .f32⟩
  | 119 => ⟨S32x150, .f32⟩
  | 120 => ⟨S32x150, .f32⟩
  | 121 => ⟨S32x150, .f32⟩
  | 122 => ⟨S32x150, .f32⟩
  | 123 => ⟨S1x32x150, .f32⟩
  | 124 => ⟨S_, .i32⟩
  | 125 => ⟨S_, .i32⟩
  | 126 => ⟨S128x32x150, .f32⟩
  | 127 => ⟨S_, .i32⟩
  | _ => ⟨S3x32x128x128, .f32⟩

abbrev hbmTy0_2 (i : Nat) : BufTy := match i % 128 with
  | 0 => ⟨S_, .i32⟩
  | 1 => ⟨S32x128x150, .f32⟩
  | 2 => ⟨S150x128, .f32⟩
  | 3 => ⟨S32x128x128, .f32⟩
  | 4 => ⟨S1x1x128, .f32⟩
  | 5 => ⟨S32x128x128, .f32⟩
  | 6 => ⟨S32x128x128, .f32⟩
  | 7 => ⟨S128x32x128, .f32⟩
  | _ => ⟨S3x32x128x128, .f32⟩

abbrev hbmTy (i : Nat) : BufTy := match i / 128 with
  | 0 => hbmTy0_0 i
  | 1 => hbmTy0_1 i
  | 2 => hbmTy0_2 i
  | _ => ⟨S3x32x128x128, .f32⟩

abbrev bufTy : (tb : Table) → Fin (tcTables nBuf tb) → BufTy
  | .hbm, ⟨i, _⟩ => hbmTy i
  | _, _ => ⟨S3x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_c : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v18_6 : Ref sig .tc := ⟨.hbm, 38, rfl⟩
abbrev main_v18_7 : Ref sig .tc := ⟨.hbm, 39, rfl⟩
abbrev main_v18_8 : Ref sig .tc := ⟨.hbm, 40, rfl⟩
abbrev main_while0c_c_15 : Ref sig .tc := ⟨.hbm, 41, rfl⟩
abbrev main_while0c_v52 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_v0 : Ref sig .tc := ⟨.hbm, 45, rfl⟩
abbrev main_while0b_v52 : Ref sig .tc := ⟨.hbm, 46, rfl⟩
abbrev main_while0b_v53 : Ref sig .tc := ⟨.hbm, 47, rfl⟩
abbrev main_while0b_v54 : Ref sig .tc := ⟨.hbm, 48, rfl⟩
abbrev main_while0b_v55 : Ref sig .tc := ⟨.hbm, 49, rfl⟩
abbrev main_while0b_v56 : Ref sig .tc := ⟨.hbm, 50, rfl⟩
abbrev main_while0b_v57 : Ref sig .tc := ⟨.hbm, 51, rfl⟩
abbrev main_while0b_v58 : Ref sig .tc := ⟨.hbm, 52, rfl⟩
abbrev main_while0b_v59 : Ref sig .tc := ⟨.hbm, 53, rfl⟩
abbrev main_while0b_v60 : Ref sig .tc := ⟨.hbm, 54, rfl⟩
abbrev main_while0b_v61 : Ref sig .tc := ⟨.hbm, 55, rfl⟩
abbrev main_while0b_v62 : Ref sig .tc := ⟨.hbm, 56, rfl⟩
abbrev main_while0b_v63 : Ref sig .tc := ⟨.hbm, 57, rfl⟩
abbrev main_while0b_v64 : Ref sig .tc := ⟨.hbm, 58, rfl⟩
abbrev main_while0b_v65 : Ref sig .tc := ⟨.hbm, 59, rfl⟩
abbrev main_while0b_v66 : Ref sig .tc := ⟨.hbm, 60, rfl⟩
abbrev main_while0b_v67 : Ref sig .tc := ⟨.hbm, 61, rfl⟩
abbrev main_while0b_v68 : Ref sig .tc := ⟨.hbm, 62, rfl⟩
abbrev main_while0b_v69 : Ref sig .tc := ⟨.hbm, 63, rfl⟩
abbrev main_while0b_cst_15 : Ref sig .tc := ⟨.hbm, 64, rfl⟩
abbrev main_while0b_v70 : Ref sig .tc := ⟨.hbm, 65, rfl⟩
abbrev main_while0b_v71 : Ref sig .tc := ⟨.hbm, 66, rfl⟩
abbrev main_while0b_cst_16 : Ref sig .tc := ⟨.hbm, 67, rfl⟩
abbrev main_while0b_v72 : Ref sig .tc := ⟨.hbm, 68, rfl⟩
abbrev main_while0b_v73 : Ref sig .tc := ⟨.hbm, 69, rfl⟩
abbrev main_while0b_v74 : Ref sig .tc := ⟨.hbm, 70, rfl⟩
abbrev main_while0b_v75 : Ref sig .tc := ⟨.hbm, 71, rfl⟩
abbrev main_while0b_v76 : Ref sig .tc := ⟨.hbm, 72, rfl⟩
abbrev main_while0b_cst_17 : Ref sig .tc := ⟨.hbm, 73, rfl⟩
abbrev main_while0b_v77 : Ref sig .tc := ⟨.hbm, 74, rfl⟩
abbrev main_while0b_v78 : Ref sig .tc := ⟨.hbm, 75, rfl⟩
abbrev main_while0b_cst_18 : Ref sig .tc := ⟨.hbm, 76, rfl⟩
abbrev main_while0b_v79 : Ref sig .tc := ⟨.hbm, 77, rfl⟩
abbrev main_while0b_v80 : Ref sig .tc := ⟨.hbm, 78, rfl⟩
abbrev main_while0b_v81 : Ref sig .tc := ⟨.hbm, 79, rfl⟩
abbrev main_while0b_v82 : Ref sig .tc := ⟨.hbm, 80, rfl⟩
abbrev main_while0b_v83 : Ref sig .tc := ⟨.hbm, 81, rfl⟩
abbrev main_while0b_v84 : Ref sig .tc := ⟨.hbm, 82, rfl⟩
abbrev main_while0b_v85 : Ref sig .tc := ⟨.hbm, 83, rfl⟩
abbrev main_while0b_cst_19 : Ref sig .tc := ⟨.hbm, 84, rfl⟩
abbrev main_while0b_v86 : Ref sig .tc := ⟨.hbm, 85, rfl⟩
abbrev main_while0b_v87 : Ref sig .tc := ⟨.hbm, 86, rfl⟩
abbrev main_while0b_cst_20 : Ref sig .tc := ⟨.hbm, 87, rfl⟩
abbrev main_while0b_v88 : Ref sig .tc := ⟨.hbm, 88, rfl⟩
abbrev main_while0b_v89 : Ref sig .tc := ⟨.hbm, 89, rfl⟩
abbrev main_while0b_v90 : Ref sig .tc := ⟨.hbm, 90, rfl⟩
abbrev main_while0b_v91 : Ref sig .tc := ⟨.hbm, 91, rfl⟩
abbrev main_while0b_call1_v0 : Ref sig .tc := ⟨.hbm, 92, rfl⟩
abbrev main_while0b_call1_c : Ref sig .tc := ⟨.hbm, 93, rfl⟩
abbrev main_while0b_call1_c_0 : Ref sig .tc := ⟨.hbm, 94, rfl⟩
abbrev main_while0b_v92 : Ref sig .tc := ⟨.hbm, 95, rfl⟩
abbrev main_while0b_c_21 : Ref sig .tc := ⟨.hbm, 96, rfl⟩
abbrev main_while0b_v93 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_cst_1 : Ref sig .tc := ⟨.hbm, 109, rfl⟩
abbrev main_v30 : Ref sig .tc := ⟨.hbm, 110, rfl⟩
abbrev main_cst_2 : Ref sig .tc := ⟨.hbm, 111, rfl⟩
abbrev main_v31 : Ref sig .tc := ⟨.hbm, 112, rfl⟩
abbrev main_c_3 : Ref sig .tc := ⟨.hbm, 113, rfl⟩
abbrev main_v32_0 : Ref sig .tc := ⟨.hbm, 114, rfl⟩
abbrev main_v32_1 : Ref sig .tc := ⟨.hbm, 115, rfl⟩
abbrev main_v32_2 : Ref sig .tc := ⟨.hbm, 116, rfl⟩
abbrev main_v32_3 : Ref sig .tc := ⟨.hbm, 117, rfl⟩
abbrev main_v32_4 : Ref sig .tc := ⟨.hbm, 118, rfl⟩
abbrev main_v32_5 : Ref sig .tc := ⟨.hbm, 119, rfl⟩
abbrev main_v32_6 : Ref sig .tc := ⟨.hbm, 120, rfl⟩
abbrev main_v32_7 : Ref sig .tc := ⟨.hbm, 121, rfl⟩
abbrev main_v32_8 : Ref sig .tc := ⟨.hbm, 122, rfl⟩
abbrev main_while1c_c_15 : Ref sig .tc := ⟨.hbm, 123, rfl⟩
abbrev main_while1c_v52 : Ref sig .tc := ⟨.hbm, 124, rfl⟩
abbrev main_while1b_call2_c : Ref sig .tc := ⟨.hbm, 125, rfl⟩
abbrev main_while1b_call2_c_0 : Ref sig .tc := ⟨.hbm, 126, rfl⟩
abbrev main_while1b_call2_v0 : Ref sig .tc := ⟨.hbm, 127, rfl⟩
abbrev main_while1b_v52 : Ref sig .tc := ⟨.hbm, 128, rfl⟩
abbrev main_while1b_v53 : Ref sig .tc := ⟨.hbm, 129, rfl⟩
abbrev main_while1b_v54 : Ref sig .tc := ⟨.hbm, 130, rfl⟩
abbrev main_while1b_v55 : Ref sig .tc := ⟨.hbm, 131, rfl⟩
abbrev main_while1b_v56 : Ref sig .tc := ⟨.hbm, 132, rfl⟩
abbrev main_while1b_v57 : Ref sig .tc := ⟨.hbm, 133, rfl⟩
abbrev main_while1b_v58 : Ref sig .tc := ⟨.hbm, 134, rfl⟩
abbrev main_while1b_v59 : Ref sig .tc := ⟨.hbm, 135, rfl⟩
abbrev main_while1b_v60 : Ref sig .tc := ⟨.hbm, 136, rfl⟩
abbrev main_while1b_v61 : Ref sig .tc := ⟨.hbm, 137, rfl⟩
abbrev main_while1b_v62 : Ref sig .tc := ⟨.hbm, 138, rfl⟩
abbrev main_while1b_v63 : Ref sig .tc := ⟨.hbm, 139, rfl⟩
abbrev main_while1b_v64 : Ref sig .tc := ⟨.hbm, 140, rfl⟩
abbrev main_while1b_v65 : Ref sig .tc := ⟨.hbm, 141, rfl⟩
abbrev main_while1b_v66 : Ref sig .tc := ⟨.hbm, 142, rfl⟩
abbrev main_while1b_v67 : Ref sig .tc := ⟨.hbm, 143, rfl⟩
abbrev main_while1b_v68 : Ref sig .tc := ⟨.hbm, 144, rfl⟩
abbrev main_while1b_v69 : Ref sig .tc := ⟨.hbm, 145, rfl⟩
abbrev main_while1b_cst_15 : Ref sig .tc := ⟨.hbm, 146, rfl⟩
abbrev main_while1b_v70 : Ref sig .tc := ⟨.hbm, 147, rfl⟩
abbrev main_while1b_v71 : Ref sig .tc := ⟨.hbm, 148, rfl⟩
abbrev main_while1b_cst_16 : Ref sig .tc := ⟨.hbm, 149, rfl⟩
abbrev main_while1b_v72 : Ref sig .tc := ⟨.hbm, 150, rfl⟩
abbrev main_while1b_v73 : Ref sig .tc := ⟨.hbm, 151, rfl⟩
abbrev main_while1b_v74 : Ref sig .tc := ⟨.hbm, 152, rfl⟩
abbrev main_while1b_v75 : Ref sig .tc := ⟨.hbm, 153, rfl⟩
abbrev main_while1b_v76 : Ref sig .tc := ⟨.hbm, 154, rfl⟩
abbrev main_while1b_cst_17 : Ref sig .tc := ⟨.hbm, 155, rfl⟩
abbrev main_while1b_v77 : Ref sig .tc := ⟨.hbm, 156, rfl⟩
abbrev main_while1b_v78 : Ref sig .tc := ⟨.hbm, 157, rfl⟩
abbrev main_while1b_cst_18 : Ref sig .tc := ⟨.hbm, 158, rfl⟩
abbrev main_while1b_v79 : Ref sig .tc := ⟨.hbm, 159, rfl⟩
abbrev main_while1b_v80 : Ref sig .tc := ⟨.hbm, 160, rfl⟩
abbrev main_while1b_v81 : Ref sig .tc := ⟨.hbm, 161, rfl⟩
abbrev main_while1b_v82 : Ref sig .tc := ⟨.hbm, 162, rfl⟩
abbrev main_while1b_v83 : Ref sig .tc := ⟨.hbm, 163, rfl⟩
abbrev main_while1b_v84 : Ref sig .tc := ⟨.hbm, 164, rfl⟩
abbrev main_while1b_v85 : Ref sig .tc := ⟨.hbm, 165, rfl⟩
abbrev main_while1b_cst_19 : Ref sig .tc := ⟨.hbm, 166, rfl⟩
abbrev main_while1b_v86 : Ref sig .tc := ⟨.hbm, 167, rfl⟩
abbrev main_while1b_v87 : Ref sig .tc := ⟨.hbm, 168, rfl⟩
abbrev main_while1b_cst_20 : Ref sig .tc := ⟨.hbm, 169, rfl⟩
abbrev main_while1b_v88 : Ref sig .tc := ⟨.hbm, 170, rfl⟩
abbrev main_while1b_v89 : Ref sig .tc := ⟨.hbm, 171, rfl⟩
abbrev main_while1b_v90 : Ref sig .tc := ⟨.hbm, 172, rfl⟩
abbrev main_while1b_v91 : Ref sig .tc := ⟨.hbm, 173, rfl⟩
abbrev main_while1b_call3_v0 : Ref sig .tc := ⟨.hbm, 174, rfl⟩
abbrev main_while1b_call3_c : Ref sig .tc := ⟨.hbm, 175, rfl⟩
abbrev main_while1b_call3_c_0 : Ref sig .tc := ⟨.hbm, 176, rfl⟩
abbrev main_while1b_v92 : Ref sig .tc := ⟨.hbm, 177, rfl⟩
abbrev main_while1b_c_21 : Ref sig .tc := ⟨.hbm, 178, rfl⟩
abbrev main_while1b_v93 : Ref sig .tc := ⟨.hbm, 179, rfl⟩
abbrev main_v33 : Ref sig .tc := ⟨.hbm, 180, rfl⟩
abbrev main_v34 : Ref sig .tc := ⟨.hbm, 181, rfl⟩
abbrev main_v35 : Ref sig .tc := ⟨.hbm, 182, rfl⟩
abbrev main_v36 : Ref sig .tc := ⟨.hbm, 183, rfl⟩
abbrev main_v37 : Ref sig .tc := ⟨.hbm, 184, rfl⟩
abbrev main_v38 : Ref sig .tc := ⟨.hbm, 185, rfl⟩
abbrev main_v39 : Ref sig .tc := ⟨.hbm, 186, rfl⟩
abbrev main_v40 : Ref sig .tc := ⟨.hbm, 187, rfl⟩
abbrev main_v41 : Ref sig .tc := ⟨.hbm, 188, rfl⟩
abbrev main_cst_4 : Ref sig .tc := ⟨.hbm, 189, rfl⟩
abbrev main_v42 : Ref sig .tc := ⟨.hbm, 190, rfl⟩
abbrev main_cst_5 : Ref sig .tc := ⟨.hbm, 191, rfl⟩
abbrev main_v43 : Ref sig .tc := ⟨.hbm, 192, rfl⟩
abbrev main_c_6 : Ref sig .tc := ⟨.hbm, 193, rfl⟩
abbrev main_v44_0 : Ref sig .tc := ⟨.hbm, 194, rfl⟩
abbrev main_v44_1 : Ref sig .tc := ⟨.hbm, 195, rfl⟩
abbrev main_v44_2 : Ref sig .tc := ⟨.hbm, 196, rfl⟩
abbrev main_v44_3 : Ref sig .tc := ⟨.hbm, 197, rfl⟩
abbrev main_v44_4 : Ref sig .tc := ⟨.hbm, 198, rfl⟩
abbrev main_v44_5 : Ref sig .tc := ⟨.hbm, 199, rfl⟩
abbrev main_v44_6 : Ref sig .tc := ⟨.hbm, 200, rfl⟩
abbrev main_v44_7 : Ref sig .tc := ⟨.hbm, 201, rfl⟩
abbrev main_while2c_c_14 : Ref sig .tc := ⟨.hbm, 202, rfl⟩
abbrev main_while2c_v52 : Ref sig .tc := ⟨.hbm, 203, rfl⟩
abbrev main_while2b_call4_c : Ref sig .tc := ⟨.hbm, 204, rfl⟩
abbrev main_while2b_call4_c_0 : Ref sig .tc := ⟨.hbm, 205, rfl⟩
abbrev main_while2b_call4_v0 : Ref sig .tc := ⟨.hbm, 206, rfl⟩
abbrev main_while2b_v52 : Ref sig .tc := ⟨.hbm, 207, rfl⟩
abbrev main_while2b_v53 : Ref sig .tc := ⟨.hbm, 208, rfl⟩
abbrev main_while2b_v54 : Ref sig .tc := ⟨.hbm, 209, rfl⟩
abbrev main_while2b_v55 : Ref sig .tc := ⟨.hbm, 210, rfl⟩
abbrev main_while2b_v56 : Ref sig .tc := ⟨.hbm, 211, rfl⟩
abbrev main_while2b_v57 : Ref sig .tc := ⟨.hbm, 212, rfl⟩
abbrev main_while2b_v58 : Ref sig .tc := ⟨.hbm, 213, rfl⟩
abbrev main_while2b_v59 : Ref sig .tc := ⟨.hbm, 214, rfl⟩
abbrev main_while2b_v60 : Ref sig .tc := ⟨.hbm, 215, rfl⟩
abbrev main_while2b_v61 : Ref sig .tc := ⟨.hbm, 216, rfl⟩
abbrev main_while2b_v62 : Ref sig .tc := ⟨.hbm, 217, rfl⟩
abbrev main_while2b_v63 : Ref sig .tc := ⟨.hbm, 218, rfl⟩
abbrev main_while2b_v64 : Ref sig .tc := ⟨.hbm, 219, rfl⟩
abbrev main_while2b_v65 : Ref sig .tc := ⟨.hbm, 220, rfl⟩
abbrev main_while2b_v66 : Ref sig .tc := ⟨.hbm, 221, rfl⟩
abbrev main_while2b_v67 : Ref sig .tc := ⟨.hbm, 222, rfl⟩
abbrev main_while2b_v68 : Ref sig .tc := ⟨.hbm, 223, rfl⟩
abbrev main_while2b_v69 : Ref sig .tc := ⟨.hbm, 224, rfl⟩
abbrev main_while2b_v70 : Ref sig .tc := ⟨.hbm, 225, rfl⟩
abbrev main_while2b_v71 : Ref sig .tc := ⟨.hbm, 226, rfl⟩
abbrev main_while2b_cst_14 : Ref sig .tc := ⟨.hbm, 227, rfl⟩
abbrev main_while2b_v72 : Ref sig .tc := ⟨.hbm, 228, rfl⟩
abbrev main_while2b_v73 : Ref sig .tc := ⟨.hbm, 229, rfl⟩
abbrev main_while2b_cst_15 : Ref sig .tc := ⟨.hbm, 230, rfl⟩
abbrev main_while2b_v74 : Ref sig .tc := ⟨.hbm, 231, rfl⟩
abbrev main_while2b_v75 : Ref sig .tc := ⟨.hbm, 232, rfl⟩
abbrev main_while2b_v76 : Ref sig .tc := ⟨.hbm, 233, rfl⟩
abbrev main_while2b_v77 : Ref sig .tc := ⟨.hbm, 234, rfl⟩
abbrev main_while2b_v78 : Ref sig .tc := ⟨.hbm, 235, rfl⟩
abbrev main_while2b_cst_16 : Ref sig .tc := ⟨.hbm, 236, rfl⟩
abbrev main_while2b_v79 : Ref sig .tc := ⟨.hbm, 237, rfl⟩
abbrev main_while2b_v80 : Ref sig .tc := ⟨.hbm, 238, rfl⟩
abbrev main_while2b_cst_17 : Ref sig .tc := ⟨.hbm, 239, rfl⟩
abbrev main_while2b_v81 : Ref sig .tc := ⟨.hbm, 240, rfl⟩
abbrev main_while2b_v82 : Ref sig .tc := ⟨.hbm, 241, rfl⟩
abbrev main_while2b_v83 : Ref sig .tc := ⟨.hbm, 242, rfl⟩
abbrev main_while2b_v84 : Ref sig .tc := ⟨.hbm, 243, rfl⟩
abbrev main_while2b_v85 : Ref sig .tc := ⟨.hbm, 244, rfl⟩
abbrev main_while2b_cst_18 : Ref sig .tc := ⟨.hbm, 245, rfl⟩
abbrev main_while2b_v86 : Ref sig .tc := ⟨.hbm, 246, rfl⟩
abbrev main_while2b_v87 : Ref sig .tc := ⟨.hbm, 247, rfl⟩
abbrev main_while2b_v88 : Ref sig .tc := ⟨.hbm, 248, rfl⟩
abbrev main_while2b_v89 : Ref sig .tc := ⟨.hbm, 249, rfl⟩
abbrev main_while2b_v90 : Ref sig .tc := ⟨.hbm, 250, rfl⟩
abbrev main_while2b_call5_v0 : Ref sig .tc := ⟨.hbm, 251, rfl⟩
abbrev main_while2b_call5_c : Ref sig .tc := ⟨.hbm, 252, rfl⟩
abbrev main_while2b_call5_c_0 : Ref sig .tc := ⟨.hbm, 253, rfl⟩
abbrev main_while2b_v91 : Ref sig .tc := ⟨.hbm, 254, rfl⟩
abbrev main_while2b_c_19 : Ref sig .tc := ⟨.hbm, 255, rfl⟩
abbrev main_while2b_v92 : Ref sig .tc := ⟨.hbm, 256, rfl⟩
abbrev main_v45 : Ref sig .tc := ⟨.hbm, 257, rfl⟩
abbrev main_v46 : Ref sig .tc := ⟨.hbm, 258, rfl⟩
abbrev main_v47 : Ref sig .tc := ⟨.hbm, 259, rfl⟩
abbrev main_v48 : Ref sig .tc := ⟨.hbm, 260, rfl⟩
abbrev main_v49 : Ref sig .tc := ⟨.hbm, 261, rfl⟩
abbrev main_v50 : Ref sig .tc := ⟨.hbm, 262, rfl⟩
abbrev main_v51 : Ref sig .tc := ⟨.hbm, 263, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩

abbrev main_while2_count : Scf.Loop 32 := ⟨0#32, 128#32, 1#32⟩
-- ==== Kernel2.lean ====
abbrev S1x2x16384 : Shape := ⟨3, ![1, 2, 16384]⟩
abbrev S2x16384 : Shape := ⟨2, ![2, 16384]⟩
abbrev S1x16384 : Shape := ⟨2, ![1, 16384]⟩
abbrev S16384 : Shape := ⟨1, ![16384]⟩
abbrev S8x1x2048 : Shape := ⟨3, ![8, 1, 2048]⟩
abbrev S128x128 : Shape := ⟨2, ![128, 128]⟩
abbrev S1x1x2048 : Shape := ⟨3, ![1, 1, 2048]⟩
abbrev S1x2048 : Shape := ⟨2, ![1, 2048]⟩
abbrev S128x2048 : Shape := ⟨2, ![128, 2048]⟩

abbrev nBuf : Space → Nat
  | .hbm => 22
  | .vmem => 14
  | .smem => 0
  | _ => 0

abbrev bufTy : (tb : Table) → Fin (tcTables nBuf tb) → BufTy
  | .hbm, ⟨0, _⟩ => ⟨S1x2x16384, .i32⟩
  | .hbm, ⟨1, _⟩ => ⟨S1x2x16384, .i32⟩
  | .hbm, ⟨2, _⟩ => ⟨S2x16384, .i32⟩
  | .hbm, ⟨3, _⟩ => ⟨S2x16384, .i32⟩
  | .hbm, ⟨4, _⟩ => ⟨S1x16384, .i32⟩
  | .hbm, ⟨5, _⟩ => ⟨S16384, .i32⟩
  | .hbm, ⟨6, _⟩ => ⟨S1x16384, .i32⟩
  | .hbm, ⟨7, _⟩ => ⟨S16384, .i32⟩
  | .hbm, ⟨8, _⟩ => ⟨S1x16384, .i32⟩
  | .hbm, ⟨9, _⟩ => ⟨S16384, .i32⟩
  | .hbm, ⟨10, _⟩ => ⟨S1x16384, .i32⟩
  | .hbm, ⟨11, _⟩ => ⟨S16384, .i32⟩
  | .hbm, ⟨12, _⟩ => ⟨S8x1x2048, .i32⟩
  | .hbm, ⟨13, _⟩ => ⟨S8x1x2048, .i32⟩
  | .hbm, ⟨14, _⟩ => ⟨S8x1x2048, .i32⟩
  | .hbm, ⟨15, _⟩ => ⟨S8x1x2048, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .local _ .vmem, ⟨0, _⟩ => ⟨S1x1x2048, .i32⟩
  | .local _ .vmem, ⟨1, _⟩ => ⟨S1x1x2048, .i32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S1x2x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_v14_2 : Ref sig .tc := ⟨.hbm, 18, rfl⟩
abbrev main_v14_3 : Ref sig .tc := ⟨.hbm, 19, rfl⟩
abbrev main_v14_4 : Ref sig .tc := ⟨.hbm, 20, rfl⟩
abbrev main_v14_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_21 : BitVec 32 := 0#32
  let v51 : BitVec 1 := Scalar.cmpi .ne v50 c0_i32_21
  v51

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S1x2x16384 : Shape := ⟨3, ![1, 2, 16384]⟩
abbrev S2x16384 : Shape := ⟨2, ![2, 16384]⟩
abbrev S128 : Shape := ⟨1, ![128]⟩
abbrev S1x16384 : Shape := ⟨2, ![1, 16384]⟩
abbrev S16384 : Shape := ⟨1, ![16384]⟩
abbrev S1x1x16384 : Shape := ⟨3, ![1, 1, 16384]⟩
abbrev S128x1x1 : Shape := ⟨3, ![128, 1, 1]⟩
abbrev S128x1x16384 : Shape := ⟨3, ![128, 1, 16384]⟩
abbrev S1x128x1 : Shape := ⟨3, ![1, 128, 1]⟩
abbrev S1x128x16384 : Shape := ⟨3, ![1, 128, 16384]⟩
abbrev S128x128x16384 : Shape := ⟨3, ![128, 128, 16384]⟩
abbrev S_ : Shape := ⟨0, ![]⟩
abbrev S128x128 : Shape := ⟨2, ![128, 128]⟩

abbrev nBuf : Space → Nat
  | .hbm => 88
  | .vmem => 0
  | .smem => 0
  | _ => 0

abbrev bufTy : (tb : Table) → Fin (tcTables nBuf tb) → BufTy
  | .hbm, ⟨0, _⟩ => ⟨S1x2x16384, .i32⟩
  | .hbm, ⟨1, _⟩ => ⟨S1x2x16384, .i32⟩
  | .hbm, ⟨2, _⟩ => ⟨S2x16384, .i32⟩
  | .hbm, ⟨3, _⟩ => ⟨S128, .i32⟩
  | .hbm, ⟨4, _⟩ => ⟨S1x16384, .i32⟩
  | .hbm, ⟨5, _⟩ => ⟨S16384, .i32⟩
  | .hbm, ⟨6, _⟩ => ⟨S1x1x16384, .i32⟩
  | .hbm, ⟨7, _⟩ => ⟨S128x1x1, .i32⟩
  | .hbm, ⟨8, _⟩ => ⟨S128x1x16384, .i32⟩
  | .hbm, ⟨9, _⟩ => ⟨S128x1x16384, .i32⟩
  | .hbm, ⟨10, _⟩ => ⟨S128x1x16384, .i1⟩
  | .hbm, ⟨11, _⟩ => ⟨S1x16384, .i32⟩
  | .hbm, ⟨12, _⟩ => ⟨S16384, .i32⟩
  | .hbm, ⟨13, _⟩ => ⟨S1x1x16384, .i32⟩
  | .hbm, ⟨14, _⟩ => ⟨S1x128x1, .i32⟩
  | .hbm, ⟨15, _⟩ => ⟨S1x128x16384, .i32⟩
  | .hbm, ⟨16, _⟩ => ⟨S1x128x16384, .i32⟩
  | .hbm, ⟨17, _⟩ => ⟨S1x128x16384, .i1⟩
  | .hbm, ⟨18, _⟩ => ⟨S128x128x16384, .i1⟩
  | .hbm, ⟨19, _⟩ => ⟨S128x128x16384, .i1⟩
  | .hbm, ⟨20, _⟩ => ⟨S128x128x16384, .i1⟩
  | .hbm, ⟨21, _⟩ => ⟨S_, .f32⟩
  | .hbm, ⟨22, _⟩ => ⟨S_, .f32⟩
  | .hbm, ⟨23, _⟩ => ⟨S128x128x16384, .f32⟩
  | .hbm, ⟨24, _⟩ => ⟨S128x128x16384, .f32⟩
  | .hbm, ⟨25, _⟩ => ⟨S128x128x16384, .f32⟩
  | .hbm, ⟨26, _⟩ => ⟨S128x128x16384, .f32⟩
  | .hbm, ⟨27, _⟩ => ⟨S_, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .i1⟩
  | .hbm, ⟨32, _⟩ => ⟨S128x128, .f32⟩
  | .hbm, ⟨33, _⟩ => ⟨S_, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S_, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S2x16384, .i32⟩
  | .hbm, ⟨46, _⟩ => ⟨S128, .i32⟩
  | .hbm, ⟨47, _⟩ => ⟨S1x16384, .i32⟩
  | .hbm, ⟨48, _⟩ => ⟨S16384, .i32⟩
  | .hbm, ⟨49, _⟩ => ⟨S1x1x16384, .i32⟩
  | .hbm, ⟨50, _⟩ => ⟨S128x1x1, .i32⟩
  | .hbm, ⟨51, _⟩ => ⟨S128x1x16384, .i32⟩
  | .hbm, ⟨52, _⟩ => ⟨S128x1x16384, .i32⟩
  | .hbm, ⟨53, _⟩ => ⟨S128x1x16384, .i1⟩
  | .hbm, ⟨54, _⟩ => ⟨S1x16384, .i32⟩
  | .hbm, ⟨55, _⟩ => ⟨S16384, .i32⟩
  | .hbm, ⟨56, _⟩ => ⟨S1x1x16384, .i32⟩
  | .hbm, ⟨57, _⟩ => ⟨S1x128x1, .i32⟩
  | .hbm, ⟨58, _⟩ => ⟨S1x128x16384, .i32⟩
  | .hbm, ⟨59, _⟩ => ⟨S1x128x16384, .i32⟩
  | .hbm, ⟨60, _⟩ => ⟨S1x128x16384, .i1⟩
  | .hbm, ⟨61, _⟩ => ⟨S128x128x16384, .i1⟩
  | .hbm, ⟨62, _⟩ => ⟨S128x128x16384, .i1⟩
  | .hbm, ⟨63, _⟩ => ⟨S128x128x16384, .i1⟩
  | .hbm, ⟨64, _⟩ => ⟨S_, .f32⟩
  | .hbm, ⟨65, _⟩ => ⟨S_, .f32⟩
  | .hbm, ⟨66, _⟩ => ⟨S128x128x16384, .f32⟩
  | .hbm, ⟨67, _⟩ => ⟨S128x128x16384, .f32⟩
  | .hbm, ⟨68, _⟩ => ⟨S128x128x16384, .f32⟩
  | .hbm, ⟨69, _⟩ => ⟨S128x128x16384, .f32⟩
  | .hbm, ⟨70, _⟩ => ⟨S_, .f32⟩
  | .hbm, ⟨71, _⟩ => ⟨S128x128, .f32⟩
  | .hbm, ⟨72, _⟩ => ⟨S_, .f32⟩
  | .hbm, ⟨73, _⟩ => ⟨S128x128, .f32⟩
  | .hbm, ⟨74, _⟩ => ⟨S128x128, .i1⟩
  | .hbm, ⟨75, _⟩ => ⟨S128x128, .f32⟩
  | .hbm, ⟨76, _⟩ => ⟨S_, .f32⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S_, .f32⟩
  | .hbm, ⟨81, _⟩ => ⟨S128x128, .f32⟩
  | .hbm, ⟨82, _⟩ => ⟨S128x128, .i1⟩
  | .hbm, ⟨83, _⟩ => ⟨S_, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S128x128, .f32⟩
  | _, _ => ⟨S1x2x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_cst_8 : Ref sig .tc := ⟨.hbm, 65, rfl⟩
abbrev main_call3_v0 : Ref sig .tc := ⟨.hbm, 66, rfl⟩
abbrev main_call3_v1 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_call4_v0 : Ref sig .tc := ⟨.hbm, 77, rfl⟩
abbrev main_call4_v1 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_cst_14 : Ref sig .tc := ⟨.hbm, 84, rfl⟩
abbrev main_call5_v0 : Ref sig .tc := ⟨.hbm, 85, rfl⟩
abbrev main_call5_v1 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel3.lean ====
abbrev S32x136x128 : Shape := ⟨3, ![32, 136, 128]⟩
abbrev S3x7x128x128 : Shape := ⟨4, ![3, 7, 128, 128]⟩
abbrev S3x1x128 : Shape := ⟨3, ![3, 1, 128]⟩
abbrev S128x128 : Shape := ⟨2, ![128, 128]⟩
abbrev S3x2x2x128x128 : Shape := ⟨5, ![3, 2, 2, 128, 128]⟩
abbrev S3x2x2x2x128 : Shape := ⟨5, ![3, 2, 2, 2, 128]⟩
abbrev S3x2x2x128 : Shape := ⟨4, ![3, 2, 2, 128]⟩
abbrev S3x32x128x128 : Shape := ⟨4, ![3, 32, 128, 128]⟩
abbrev S8x136x128 : Shape := ⟨3, ![8, 136, 128]⟩
abbrev S1x7x128x128 : Shape := ⟨4, ![1, 7, 128, 128]⟩
abbrev S1x1x128 : Shape := ⟨3, ![1, 1, 128]⟩
abbrev S1x2x2x128x128 : Shape := ⟨5, ![1, 2, 2, 128, 128]⟩
abbrev S1x2x2x2x128 : Shape := ⟨5, ![1, 2, 2, 2, 128]⟩
abbrev S1x2x2x128 : Shape := ⟨4, ![1, 2, 2, 128]⟩
abbrev S1x8x128x128 : Shape := ⟨4, ![1, 8, 128, 128]⟩
abbrev S7x128x128 : Shape := ⟨3, ![7, 128, 128]⟩
abbrev S2x2x128x128 : Shape := ⟨4, ![2, 2, 128, 128]⟩
abbrev S2x2x2x128 : Shape := ⟨4, ![2, 2, 2, 128]⟩
abbrev S2x2x128 : Shape := ⟨3, ![2, 2, 128]⟩
abbrev S1x128 : Shape := ⟨2, ![1, 128]⟩
abbrev S1x128x128 : Shape := ⟨3, ![1, 128, 128]⟩
abbrev S1024x128 : Shape := ⟨2, ![1024, 128]⟩
abbrev S128x1024 : Shape := ⟨2, ![128, 1024]⟩
abbrev S1x1x128x128 : Shape := ⟨4, ![1, 1, 128, 128]⟩
abbrev S1x1x2x128 : Shape := ⟨4, ![1, 1, 2, 128]⟩
abbrev S2x128 : Shape := ⟨2, ![2, 128]⟩
abbrev S128 : Shape := ⟨1, ![128]⟩
abbrev S1024x1 : Shape := ⟨2, ![1024, 1]⟩
abbrev S1x1024 : Shape := ⟨2, ![1, 1024]⟩
abbrev S8x128x1 : Shape := ⟨3, ![8, 128, 1]⟩
abbrev S8x1x128 : Shape := ⟨3, ![8, 1, 128]⟩
abbrev S8x128x128 : Shape := ⟨3, ![8, 128, 128]⟩
abbrev S8x128 : Shape := ⟨2, ![8, 128]⟩
abbrev S1x8x128 : Shape := ⟨3, ![1, 8, 128]⟩

abbrev nBuf : Space → Nat
  | .hbm => 14
  | .vmem => 20
  | .smem => 0
  | _ => 0

abbrev bufTy : (tb : Table) → Fin (tcTables nBuf tb) → BufTy
  | .hbm, ⟨0, _⟩ => ⟨S32x136x128, .f32⟩
  | .hbm, ⟨1, _⟩ => ⟨S3x7x128x128, .f32⟩
  | .hbm, ⟨2, _⟩ => ⟨S3x1x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S3x2x2x128x128, .f32⟩
  | .hbm, ⟨8, _⟩ => ⟨S3x2x2x2x128, .f32⟩
  | .hbm, ⟨9, _⟩ => ⟨S3x2x2x128, .f32⟩
  | .hbm, ⟨10, _⟩ => ⟨S32x136x128, .bf16⟩
  | .hbm, ⟨11, _⟩ => ⟨S3x7x128x128, .bf16⟩
  | .hbm, ⟨12, _⟩ => ⟨S3x2x2x128x128, .bf16⟩
  | .hbm, ⟨13, _⟩ => ⟨S3x32x128x128, .f32⟩
  | .local _ .vmem, ⟨0, _⟩ => ⟨S8x136x128, .bf16⟩
  | .local _ .vmem, ⟨1, _⟩ => ⟨S8x136x128, .bf16⟩
  | .local _ .vmem, ⟨2, _⟩ => ⟨S8x136x128, .f32⟩
  | .local _ .vmem, ⟨3, _⟩ => ⟨S8x136x128, .f32⟩
  | .local _ .vmem, ⟨4, _⟩ => ⟨S1x7x128x128, .bf16⟩
  | .local _ .vmem, ⟨5, _⟩ => ⟨S1x7x128x128, .bf16⟩
  | .local _ .vmem, ⟨6, _⟩ => ⟨S1x1x128, .f32⟩
  | .local _ .vmem, ⟨7, _⟩ => ⟨S1x1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x2x2x128x128, .bf16⟩
  | .local _ .vmem, ⟨13, _⟩ => ⟨S1x2x2x128x128, .bf16⟩
  | .local _ .vmem, ⟨14, _⟩ => ⟨S1x2x2x2x128, .f32⟩
  | .local _ .vmem, ⟨15, _⟩ => ⟨S1x2x2x2x128, .f32⟩
  | .local _ .vmem, ⟨16, _⟩ => ⟨S1x2x2x128, .f32⟩
  | .local _ .vmem, ⟨17, _⟩ => ⟨S1x2x2x128, .f32⟩
  | .local _ .vmem, ⟨18, _⟩ => ⟨S1x8x128x128, .f32⟩
  | .local _ .vmem, ⟨19, _⟩ => ⟨S1x8x128x128, .f32⟩
  | _, _ => ⟨S32x136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x136x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x136x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x7x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x2x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x2x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S32x136x128 : Shape := ⟨3, ![32, 136, 128]⟩
abbrev S3x7x128x128 : Shape := ⟨4, ![3, 7, 128, 128]⟩
abbrev S3x1x128 : Shape := ⟨3, ![3, 1, 128]⟩
abbrev S128x128 : Shape := ⟨2, ![128, 128]⟩
abbrev S3x2x2x128x128 : Shape := ⟨5, ![3, 2, 2, 128, 128]⟩
abbrev S3x2x2x2x128 : Shape := ⟨5, ![3, 2, 2, 2, 128]⟩
abbrev S3x2x2x128 : Shape := ⟨4, ![3, 2, 2, 128]⟩
abbrev S32x128x128 : Shape := ⟨3, ![32, 128, 128]⟩
abbrev S3x1x128x128 : Shape := ⟨4, ![3, 1, 128, 128]⟩
abbrev S3x128x128 : Shape := ⟨3, ![3, 128, 128]⟩
abbrev S3x128x32x128 : Shape := ⟨4, ![3, 128, 32, 128]⟩
abbrev S3x32x128x128 : Shape := ⟨4, ![3, 32, 128, 128]⟩
abbrev S_ : Shape := ⟨0, ![]⟩
abbrev S3x1x1x128 : Shape := ⟨4, ![3, 1, 1, 128]⟩
abbrev S1x32x128x128 : Shape := ⟨4, ![1, 32, 128, 128]⟩
abbrev S2x32x128x128 : Shape := ⟨4, ![2, 32, 128, 128]⟩
abbrev S3x1x1x128x128 : Shape := ⟨5, ![3, 1, 1, 128, 128]⟩
abbrev S3x1x1x2x128 : Shape := ⟨5, ![3, 1, 1, 2, 128]⟩
abbrev S3x2x128 : Shape := ⟨3, ![3, 2, 128]⟩
abbrev S3x128 : Shape := ⟨2, ![3, 128]⟩
abbrev S3x32x128 : Shape := ⟨3, ![3, 32, 128]⟩
abbrev S3x32x128x1 : Shape := ⟨4, ![3, 32, 128, 1]⟩
abbrev S3x32x1x128 : Shape := ⟨4, ![3, 32, 1, 128]⟩
abbrev S1x1x128x128 : Shape := ⟨4, ![1, 1, 128, 128]⟩

abbrev nBuf : Space → Nat
  | .hbm => 314
  | .vmem => 0
  | .smem => 0
  | _ => 0

abbrev hbmTy0_0 (i : Nat) : BufTy := match i % 128 with
  | 0 => ⟨S32x136x128, .f32⟩
  | 1 => ⟨S3x7x128x128, .f32⟩
  | 2 => ⟨S3x1x128, .f32⟩
  | 3 => ⟨S128x128, .f32⟩
  | 4 => ⟨S128x128, .f32⟩
  | 5 => ⟨S128x128, .f32⟩
  | 6 => ⟨S128x128, .f32⟩
  | 7 => ⟨S3x2x2x128x128, .f32⟩
  | 8 => ⟨S3x2x2x2x128, .f32⟩
  | 9 => ⟨S3x2x2x128, .f32⟩
  | 10 => ⟨S32x128x128, .f32⟩
  | 11 => ⟨S32x128x128, .f32⟩
  | 12 => ⟨S3x1x128x128, .f32⟩
  | 13 => ⟨S3x128x128, .f32⟩
  | 14 => ⟨S3x128x32x128, .f32⟩
  | 15 => ⟨S3x32x128x128, .f32⟩
  | 16 => ⟨S_, .f32⟩
  | 17 => ⟨S3x32x128x128, .f32⟩
  | 18 => ⟨S3x32x128x128, .f32⟩
  | 19 => ⟨S32x128x128, .f32⟩
  | 20 => ⟨S3x1x128x128, .f32⟩
  | 21 => ⟨S3x128x128, .f32⟩
  | 22 => ⟨S3x128x32x128, .f32⟩
  | 23 => ⟨S3x32x128x128, .f32⟩
  | 24 => ⟨S3x32x128x128, .f32⟩
  | 25 => ⟨S32x128x128, .f32⟩
  | 26 => ⟨S3x1x128x128, .f32⟩
  | 27 => ⟨S3x128x128, .f32⟩
  | 28 => ⟨S3x128x32x128, .f32⟩
  | 29 => ⟨S3x32x128x128, .f32⟩
  | 30 => ⟨S3x32x128x128, .f32⟩
  | 31 => ⟨S32x128x128, .f32⟩
  | 32 => ⟨S3x1x128x128, .f32⟩
  | 33 => ⟨S3x128x128, .f32⟩
  | 34 => ⟨S3x128x32x128, .f32⟩
  | 35 => ⟨S3x32x128x128, .f32⟩
  | 36 => ⟨S3x32x128x128, .f32⟩
  | 37 => ⟨S32x128x128, .f32⟩
  | 38 => ⟨S3x1x128x128, .f32⟩
  | 39 => ⟨S3x128x128, .f32⟩
  | 40 => ⟨S3x128x32x128, .f32⟩
  | 41 => ⟨S3x32x128x128, .f32⟩
  | 42 => ⟨S3x32x128x128, .f32⟩
  | 43 => ⟨S32x128x128, .f32⟩
  | 44 => ⟨S3x1x128x128, .f32⟩
  | 45 => ⟨S3x128x128, .f32⟩
  | 46 => ⟨S3x128x32x128, .f32⟩
  | 47 => ⟨S3x32x128x128, .f32⟩
  | 48 => ⟨S3x32x128x128, .f32⟩
  | 49 => ⟨S32x128x128, .f32⟩
  | 50 => ⟨S3x1x128x128, .f32⟩
  | 51 => ⟨S3x128x128, .f32⟩
  | 52 => ⟨S3x128x32x128, .f32⟩
  | 53 => ⟨S3x32x128x128, .f32⟩
  | 54 => ⟨S3x32x128x128, .f32⟩
  | 55 => ⟨S3x1x1x128, .f32⟩
  | 56 => ⟨S3x32x128x128, .f32⟩
  | 57 => ⟨S3x32x128x128, .f32⟩
  | 58 => ⟨S_, .f32⟩
  | 59 => ⟨S3x32x128x128, .f32⟩
  | 60 => ⟨S3x32x128x128, .f32⟩
  | 61 => ⟨S1x32x128x128, .f32⟩
  | 62 => ⟨S2x32x128x128, .f32⟩
  | 63 => ⟨S3x32x128x128, .f32⟩
  | 64 => ⟨S3x32x128x128, .f32⟩
  | 65 => ⟨S3x1x1x128x128, .f32⟩
  | 66 => ⟨S3x128x128, .f32⟩
  | 67 => ⟨S3x1x1x2x128, .f32⟩
  | 68 => ⟨S3x2x128, .f32⟩
  | 69 => ⟨S3x1x1x128, .f32⟩
  | 70 => ⟨S3x128, .f32⟩
  | 71 => ⟨S3x32x128x128, .f32⟩
  | 72 => ⟨S3x1x128, .f32⟩
  | 73 => ⟨S3x128, .f32⟩
  | 74 => ⟨S3x32x128, .f32⟩
  | 75 => ⟨S3x32x128x1, .f32⟩
  | 76 => ⟨S3x1x128, .f32⟩
  | 77 => ⟨S3x128, .f32⟩
  | 78 => ⟨S3x32x128, .f32⟩
  | 79 => ⟨S3x32x1x128, .f32⟩
  | 80 => ⟨S3x32x128x128, .f32⟩
  | 81 => ⟨S3x32x128x128, .f32⟩
  | 82 => ⟨S3x32x128x128, .f32⟩
  | 83 => ⟨S_, .f32⟩
  | 84 => ⟨S_, .f32⟩
  | 85 => ⟨S3x32x128x128, .f32⟩
  | 86 => ⟨S3x32x128x128, .i1⟩
  | 87 => ⟨S_, .f32⟩
  | 88 => ⟨S3x32x128x128, .f32⟩
  | 89 => ⟨S3x32x128x128, .f32⟩
  | 90 => ⟨S3x32x128x128, .f32⟩
  | 91 => ⟨S1x1x128x128, .f32⟩
  | 92 => ⟨S3x32x128x128, .f32⟩
  | 93 => ⟨S3x32x128x128, .f32⟩
  | 94 => ⟨S_, .f32⟩
  | 95 => ⟨S3x32x128, .f32⟩
  | 96 => ⟨S3x32x128, .f32⟩
  | 97 => ⟨S_, .f32⟩
  | 98 => ⟨S3x32x128, .f32⟩
  | 99 => ⟨S3x32x128, .i1⟩
  | 100 => ⟨S_, .f32⟩
  | 101 => ⟨S_, .f32⟩
  | 102 => ⟨S3x32x128, .f32⟩
  | 103 => ⟨S3x32x128, .f32⟩
  | 104 => ⟨S3x32x1x128, .f32⟩
  | 105 => ⟨S3x32x128x128, .f32⟩
  | 106 => ⟨S3x32x128x128, .f32⟩
  | 107 => ⟨S1x1x128x128, .f32⟩
  | 108 => ⟨S3x32x128x128, .f32⟩
  | 109 => ⟨S3x32x128x128, .f32⟩
  | 110 => ⟨S3x32x128x128, .f32⟩
  | 111 => ⟨S_, .f32⟩
  | 112 => ⟨S3x32x128, .f32⟩
  | 113 => ⟨S_, .f32⟩
  | 114 => ⟨S3x32x128, .f32⟩
  | 115 => ⟨S3x32x128, .f32⟩
  | 116 => ⟨S3x32x1x128, .f32⟩
  | 117 => ⟨S3x32x128x128, .f32⟩
  | 118 => ⟨S3x32x128x128, .f32⟩
  | 119 => ⟨S3x32x128x128, .f32⟩
  | 120 => ⟨S3x1x1x128, .f32⟩
  | 121 => ⟨S3x32x128x128, .f32⟩
  | 122 => ⟨S3x32x128x128, .f32⟩
  | 123 => ⟨S_, .f32⟩
  | 124 => ⟨S3x32x128x128, .f32⟩
  | 125 => ⟨S3x32x128x128, .f32⟩
  | 126 => ⟨S3x32x128x128, .f32⟩
  | 127 => ⟨S3x1x1x128x128, .f32⟩
  | _ => ⟨S32x136x128, .f32⟩

abbrev hbmTy0_1 (i : Nat) : BufTy := match i % 128 with
  | 0 => ⟨S3x128x128, .f32⟩
  | 1 => ⟨S3x1x1x2x128, .f32⟩
  | 2 => ⟨S3x2x128, .f32⟩
  | 3 => ⟨S3x1x1x128, .f32⟩
  | 4 => ⟨S3x128, .f32⟩
  | 5 => ⟨S3x32x128x128, .f32⟩
  | 6 => ⟨S3x1x128, .f32⟩
  | 7 => ⟨S3x128, .f32⟩
  | 8 => ⟨S3x32x128, .f32⟩
  | 9 => ⟨S3x32x128x1, .f32⟩
  | 10 => ⟨S3x1x128, .f32⟩
  | 11 => ⟨S3x128, .f32⟩
  | 12 => ⟨S3x32x128, .f32⟩
  | 13 => ⟨S3x32x1x128, .f32⟩
  | 14 => ⟨S3x32x128x128, .f32⟩
  | 15 => ⟨S3x32x128x128, .f32⟩
  | 16 => ⟨S3x32x128x128, .f32⟩
  | 17 => ⟨S_, .f32⟩
  | 18 => ⟨S_, .f32⟩
  | 19 => ⟨S3x32x128x128, .f32⟩
  | 20 => ⟨S3x32x128x128, .i1⟩
  | 21 => ⟨S_, .f32⟩
  | 22 => ⟨S3x32x128x128, .f32⟩
  | 23 => ⟨S3x32x128x128, .f32⟩
  | 24 => ⟨S3x32x128x128, .f32⟩
  | 25 => ⟨S1x1x128x128, .f32⟩
  | 26 => ⟨S3x32x128x128, .f32⟩
  | 27 => ⟨S3x32x128x128, .f32⟩
  | 28 => ⟨S_, .f32⟩
  | 29 => ⟨S3x32x128, .f32⟩
  | 30 => ⟨S3x32x128, .f32⟩
  | 31 => ⟨S_, .f32⟩
  | 32 => ⟨S3x32x128, .f32⟩
  | 33 => ⟨S3x32x128, .i1⟩
  | 34 => ⟨S_, .f32⟩
  | 35 => ⟨S_, .f32⟩
  | 36 => ⟨S3x32x128, .f32⟩
  | 37 => ⟨S3x32x128, .f32⟩
  | 38 => ⟨S3x32x1x128, .f32⟩
  | 39 => ⟨S3x32x128x128, .f32⟩
  | 40 => ⟨S3x32x128x128, .f32⟩
  | 41 => ⟨S1x1x128x128, .f32⟩
  | 42 => ⟨S3x32x128x128, .f32⟩
  | 43 => ⟨S3x32x128x128, .f32⟩
  | 44 => ⟨S3x32x128x128, .f32⟩
  | 45 => ⟨S_, .f32⟩
  | 46 => ⟨S3x32x128, .f32⟩
  | 47 => ⟨S_, .f32⟩
  | 48 => ⟨S3x32x128, .f32⟩
  | 49 => ⟨S3x32x128, .f32⟩
  | 50 => ⟨S3x32x1x128, .f32⟩
  | 51 => ⟨S3x32x128x128, .f32⟩
  | 52 => ⟨S3x32x128x128, .f32⟩
  | 53 => ⟨S3x32x128x128, .f32⟩
  | 54 => ⟨S3x1x1x128, .f32⟩
  | 55 => ⟨S3x32x128x128, .f32⟩
  | 56 => ⟨S3x32x128x128, .f32⟩
  | 57 => ⟨S_, .f32⟩
  | 58 => ⟨S3x32x128x128, .f32⟩
  | 59 => ⟨S3x32x128x128, .f32⟩
  | 60 => ⟨S3x32x128x128, .f32⟩
  | 61 => ⟨S3x32x128x128, .f32⟩
  | 62 => ⟨S3x1x1x128x128, .f32⟩
  | 63 => ⟨S3x128x128, .f32⟩
  | 64 => ⟨S3x1x1x2x128, .f32⟩
  | 65 => ⟨S3x2x128, .f32⟩
  | 66 => ⟨S3x1x1x128, .f32⟩
  | 67 => ⟨S3x128, .f32⟩
  | 68 => ⟨S3x32x128x128, .f32⟩
  | 69 => ⟨S3x1x128, .f32⟩
  | 70 => ⟨S3x128, .f32⟩
  | 71 => ⟨S3x32x128, .f32⟩
  | 72 => ⟨S3x32x128x1, .f32⟩
  | 73 => ⟨S3x1x128, .f32⟩
  | 74 => ⟨S3x128, .f32⟩
  | 75 => ⟨S3x32x128, .f32⟩
  | 76 => ⟨S3x32x1x128, .f32⟩
  | 77 => ⟨S3x32x128x128, .f32⟩
  | 78 => ⟨S3x32x128x128, .f32⟩
  | 79 => ⟨S3x32x128x128, .f32⟩
  | 80 => ⟨S_, .f32⟩
  | 81 => ⟨S_, .f32⟩
  | 82 => ⟨S3x32x128x128, .f32⟩
  | 83 => ⟨S3x32x128x128, .i1⟩
  | 84 => ⟨S_, .f32⟩
  | 85 => ⟨S3x32x128x128, .f32⟩
  | 86 => ⟨S3x32x128x128, .f32⟩
  | 87 => ⟨S3x32x128x128, .f32⟩
  | 88 => ⟨S1x1x128x128, .f32⟩
  | 89 => ⟨S3x32x128x128, .f32⟩
  | 90 => ⟨S3x32x128x128, .f32⟩
  | 91 => ⟨S_, .f32⟩
  | 92 => ⟨S3x32x128, .f32⟩
  | 93 => ⟨S3x32x128, .f32⟩
  | 94 => ⟨S_, .f32⟩
  | 95 => ⟨S3x32x128, .f32⟩
  | 96 => ⟨S3x32x128, .i1⟩
  | 97 => ⟨S_, .f32⟩
  | 98 => ⟨S_, .f32⟩
  | 99 => ⟨S3x32x128, .f32⟩
  | 100 => ⟨S3x32x128, .f32⟩
  | 101 => ⟨S3x32x1x128, .f32⟩
  | 102 => ⟨S3x32x128x128, .f32⟩
  | 103 => ⟨S3x32x128x128, .f32⟩
  | 104 => ⟨S1x1x128x128, .f32⟩
  | 105 => ⟨S3x32x128x128, .f32⟩
  | 106 => ⟨S3x32x128x128, .f32⟩
  | 107 => ⟨S3x32x128x128, .f32⟩
  | 108 => ⟨S_, .f32⟩
  | 109 => ⟨S3x32x128, .f32⟩
  | 110 => ⟨S_, .f32⟩
  | 111 => ⟨S3x32x128, .f32⟩
  | 112 => ⟨S3x32x128, .f32⟩
  | 113 => ⟨S3x32x1x128, .f32⟩
  | 114 => ⟨S3x32x128x128, .f32⟩
  | 115 => ⟨S3x32x128x128, .f32⟩
  | 116 => ⟨S3x32x128x128, .f32⟩
  | 117 => ⟨S3x1x1x128, .f32⟩
  | 118 => ⟨S3x32x128x128, .f32⟩
  | 119 => ⟨S3x32x128x128, .f32⟩
  | 120 => ⟨S_, .f32⟩
  | 121 => ⟨S3x32x128x128, .f32⟩
  | 122 => ⟨S3x32x128x128, .f32⟩
  | 123 => ⟨S3x32x128x128, .f32⟩
  | 124 => ⟨S3x1x1x128x128, .f32⟩
  | 125 => ⟨S3x128x128, .f32⟩
  | 126 => ⟨S3x1x1x2x128, .f32⟩
  | 127 => ⟨S3x2x128, .f32⟩
  | _ => ⟨S32x136x128, .f32⟩

abbrev hbmTy0_2 (i : Nat) : BufTy := match i % 128 with
  | 0 => ⟨S3x1x1x128, .f32⟩
  | 1 => ⟨S3x128, .f32⟩
  | 2 => ⟨S3x32x128x128, .f32⟩
  | 3 => ⟨S3x1x128, .f32⟩
  | 4 => ⟨S3x128, .f32⟩
  | 5 => ⟨S3x32x128, .f32⟩
  | 6 => ⟨S3x32x128x1, .f32⟩
  | 7 => ⟨S3x1x128, .f32⟩
  | 8 => ⟨S3x128, .f32⟩
  | 9 => ⟨S3x32x128, .f32⟩
  | 10 => ⟨S3x32x1x128, .f32⟩
  | 11 => ⟨S3x32x128x128, .f32⟩
  | 12 => ⟨S3x32x128x128, .f32⟩
  | 13 => ⟨S3x32x128x128, .f32⟩
  | 14 => ⟨S_, .f32⟩
  | 15 => ⟨S_, .f32⟩
  | 16 => ⟨S3x32x128x128, .f32⟩
  | 17 => ⟨S3x32x128x128, .i1⟩
  | 18 => ⟨S_, .f32⟩
  | 19 => ⟨S3x32x128x128, .f32⟩
  | 20 => ⟨S3x32x128x128, .f32⟩
  | 21 => ⟨S3x32x128x128, .f32⟩
  | 22 => ⟨S1x1x128x128, .f32⟩
  | 23 => ⟨S3x32x128x128, .f32⟩
  | 24 => ⟨S3x32x128x128, .f32⟩
  | 25 => ⟨S_, .f32⟩
  | 26 => ⟨S3x32x128, .f32⟩
  | 27 => ⟨S3x32x128, .f32⟩
  | 28 => ⟨S_, .f32⟩
  | 29 => ⟨S3x32x128, .f32⟩
  | 30 => ⟨S3x32x128, .i1⟩
  | 31 => ⟨S_, .f32⟩
  | 32 => ⟨S_, .f32⟩
  | 33 => ⟨S3x32x128, .f32⟩
  | 34 => ⟨S3x32x128, .f32⟩
  | 35 => ⟨S3x32x1x128, .f32⟩
  | 36 => ⟨S3x32x128x128, .f32⟩
  | 37 => ⟨S3x32x128x128, .f32⟩
  | 38 => ⟨S1x1x128x128, .f32⟩
  | 39 => ⟨S3x32x128x128, .f32⟩
  | 40 => ⟨S3x32x128x128, .f32⟩
  | 41 => ⟨S3x32x128x128, .f32⟩
  | 42 => ⟨S_, .f32⟩
  | 43 => ⟨S3x32x128, .f32⟩
  | 44 => ⟨S_, .f32⟩
  | 45 => ⟨S3x32x128, .f32⟩
  | 46 => ⟨S3x32x128, .f32⟩
  | 47 => ⟨S3x32x1x128, .f32⟩
  | 48 => ⟨S3x32x128x128, .f32⟩
  | 49 => ⟨S3x32x128x128, .f32⟩
  | 50 => ⟨S3x32x128x128, .f32⟩
  | 51 => ⟨S3x1x1x128, .f32⟩
  | 52 => ⟨S3x32x128x128, .f32⟩
  | 53 => ⟨S3x32x128x128, .f32⟩
  | 54 => ⟨S_, .f32⟩
  | 55 => ⟨S3x32x128x128, .f32⟩
  | 56 => ⟨S3x32x128x128, .f32⟩
  | 57 => ⟨S3x32x128x128, .f32⟩
  | _ => ⟨S32x136x128, .f32⟩

abbrev hbmTy (i : Nat) : BufTy := match i / 128 with
  | 0 => hbmTy0_0 i
  | 1 => hbmTy0_1 i
  | 2 => hbmTy0_2 i
  | _ => ⟨S32x136x128, .f32⟩

abbrev bufTy : (tb : Table) → Fin (tcTables nBuf tb) → BufTy
  | .hbm, ⟨i, _⟩ => hbmTy i
  | _, _ => ⟨S32x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_1 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_2 : Ref sig .tc := ⟨.hbm, 94, rfl⟩
abbrev main_v75 : Ref sig .tc := ⟨.hbm, 95, rfl⟩
abbrev main_v76 : Ref sig .tc := ⟨.hbm, 96, rfl⟩
abbrev main_cst_3 : Ref sig .tc := ⟨.hbm, 97, rfl⟩
abbrev main_v77 : Ref sig .tc := ⟨.hbm, 98, rfl⟩
abbrev main_v78 : Ref sig .tc := ⟨.hbm, 99, rfl⟩
abbrev main_cst_4 : Ref sig .tc := ⟨.hbm, 100, rfl⟩
abbrev main_call1_v0 : Ref sig .tc := ⟨.hbm, 101, rfl⟩
abbrev main_call1_v1 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_5 : Ref sig .tc := ⟨.hbm, 111, rfl⟩
abbrev main_v87 : Ref sig .tc := ⟨.hbm, 112, rfl⟩
abbrev main_cst_6 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_7 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_8 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_9 : Ref sig .tc := ⟨.hbm, 156, rfl⟩
abbrev main_v122 : Ref sig .tc := ⟨.hbm, 157, rfl⟩
abbrev main_v123 : Ref sig .tc := ⟨.hbm, 158, rfl⟩
abbrev main_cst_10 : Ref sig .tc := ⟨.hbm, 159, rfl⟩
abbrev main_v124 : Ref sig .tc := ⟨.hbm, 160, rfl⟩
abbrev main_v125 : Ref sig .tc := ⟨.hbm, 161, rfl⟩
abbrev main_cst_11 : Ref sig .tc := ⟨.hbm, 162, rfl⟩
abbrev main_call3_v0 : Ref sig .tc := ⟨.hbm, 163, rfl⟩
abbrev main_call3_v1 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_12 : Ref sig .tc := ⟨.hbm, 173, rfl⟩
abbrev main_v134 : Ref sig .tc := ⟨.hbm, 174, rfl⟩
abbrev main_cst_13 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_14 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_15 : Ref sig .tc := ⟨.hbm, 208, rfl⟩
abbrev main_call4_cst : Ref sig .tc := ⟨.hbm, 209, rfl⟩
abbrev main_call4_v0 : Ref sig .tc := ⟨.hbm, 210, rfl⟩
abbrev main_call4_v1 : Ref sig .tc := ⟨.hbm, 211, rfl⟩
abbrev main_call4_v2 : Ref sig .tc := ⟨.hbm, 212, rfl⟩
abbrev main_call4_v3 : Ref sig .tc := ⟨.hbm, 213, rfl⟩
abbrev main_call4_v4 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_16 : Ref sig .tc := ⟨.hbm, 219, rfl⟩
abbrev main_v170 : Ref sig .tc := ⟨.hbm, 220, rfl⟩
abbrev main_v171 : Ref sig .tc := ⟨.hbm, 221, rfl⟩
abbrev main_cst_17 : Ref sig .tc := ⟨.hbm, 222, rfl⟩
abbrev main_v172 : Ref sig .tc := ⟨.hbm, 223, rfl⟩
abbrev main_v173 : Ref sig .tc := ⟨.hbm, 224, rfl⟩
abbrev main_cst_18 : Ref sig .tc := ⟨.hbm, 225, rfl⟩
abbrev main_call5_v0 : Ref sig .tc := ⟨.hbm, 226, rfl⟩
abbrev main_call5_v1 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_19 : Ref sig .tc := ⟨.hbm, 236, rfl⟩
abbrev main_v182 : Ref sig .tc := ⟨.hbm, 237, rfl⟩
abbrev main_cst_20 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_21 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_22 : Ref sig .tc := ⟨.hbm, 270, rfl⟩
abbrev main_call6_cst : Ref sig .tc := ⟨.hbm, 271, rfl⟩
abbrev main_call6_v0 : Ref sig .tc := ⟨.hbm, 272, rfl⟩
abbrev main_call6_v1 : Ref sig .tc := ⟨.hbm, 273, rfl⟩
abbrev main_call6_v2 : Ref sig .tc := ⟨.hbm, 274, rfl⟩
abbrev main_call6_v3 : Ref sig .tc := ⟨.hbm, 275, rfl⟩
abbrev main_call6_v4 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_23 : Ref sig .tc := ⟨.hbm, 281, rfl⟩
abbrev main_v217 : Ref sig .tc := ⟨.hbm, 282, rfl⟩
abbrev main_v218 : Ref sig .tc := ⟨.hbm, 283, rfl⟩
abbrev main_cst_24 : Ref sig .tc := ⟨.hbm, 284, rfl⟩
abbrev main_v219 : Ref sig .tc := ⟨.hbm, 285, rfl⟩
abbrev main_v220 : Ref sig .tc := ⟨.hbm, 286, rfl⟩
abbrev main_cst_25 : Ref sig .tc := ⟨.hbm, 287, rfl⟩
abbrev main_call7_v0 : Ref sig .tc := ⟨.hbm, 288, rfl⟩
abbrev main_call7_v1 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_26 : Ref sig .tc := ⟨.hbm, 298, rfl⟩
abbrev main_v229 : Ref sig .tc := ⟨.hbm, 299, rfl⟩
abbrev main_cst_27 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_cst_28 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩

abbrev nD : Nat := 1
abbrev τ : Topo := Topo.v7x

variable {F : FTy → Type} [FloatOps F]
-- ==== Proof.KernelFrame.lean ====
/-
  The kernel at machine words runs, leaves its arguments alone and ends with its counters at zero. Nothing is said
  here of the values it writes: the body's triple hands the result array and the two scratch arrays back at contents
  left unnamed.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen hiding frame_of

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run of the pipeline whose arrays are those found at its start, the arguments end unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The kernel body -/

/-- Each array's buffer at point `t`, and that it is a whole buffer. -/
abbrev ms0_0 (t : Fin cfg0.N) : Memref sig .tc .vmem S128x32x384 .f32 := win0_0.stage (cfg0.slots t 0)
abbrev hs0_0 (t : Fin cfg0.N) : (ms0_0 t).IsWhole := hstage0_0 0
abbrev ms0_1 (t : Fin cfg0.N) : Memref sig .tc .vmem S384x1024 .bf16 := win0_1.stage (cfg0.slots t 1)
abbrev hs0_1 (t : Fin cfg0.N) : (ms0_1 t).IsWhole := hstage0_1 0
abbrev ms0_2 (t : Fin cfg0.N) : Memref sig .tc .vmem S256x1024 .bf16 := win0_2.stage (cfg0.slots t 2)
abbrev hs0_2 (t : Fin cfg0.N) : (ms0_2 t).IsWhole := hstage0_2 0
abbrev ms0_3 (t : Fin cfg0.N) : Memref sig .tc .vmem S1x1024 .f32 := win0_3.stage (cfg0.slots t 3)
abbrev hs0_3 (t : Fin cfg0.N) : (ms0_3 t).IsWhole := hstage0_3 0
abbrev ms0_4 (t : Fin cfg0.N) : Memref sig .tc .vmem S384x1024 .bf16 := win0_4.stage (cfg0.slots t 4)
abbrev hs0_4 (t : Fin cfg0.N) : (ms0_4 t).IsWhole := hstage0_4 0
abbrev ms0_5 (t : Fin cfg0.N) : Memref sig .tc .vmem S1x1024 .f32 := win0_5.stage (cfg0.slots t 5)
abbrev hs0_5 (t : Fin cfg0.N) : (ms0_5 t).IsWhole := hstage0_5 0
abbrev ms0_6 (t : Fin cfg0.N) : Memref sig .tc .vmem S512x768 .bf16 := win0_6.stage (cfg0.slots t 6)
abbrev hs0_6 (t : Fin cfg0.N) : (ms0_6 t).IsWhole := hstage0_6 0
abbrev ms0_7 (t : Fin cfg0.N) : Memref sig .tc .vmem S1x768 .f32 := win0_7.stage (cfg0.slots t 7)
abbrev hs0_7 (t : Fin cfg0.N) : (ms0_7 t).IsWhole := hstage0_7 0
abbrev ms0_8 (t : Fin cfg0.N) : Memref sig .tc .vmem S256x768 .bf16 := win0_8.stage (cfg0.slots t 8)
abbrev hs0_8 (t : Fin cfg0.N) : (ms0_8 t).IsWhole := hstage0_8 0
abbrev ms0_9 (t : Fin cfg0.N) : Memref sig .tc .vmem S1x768 .f32 := win0_9.stage (cfg0.slots t 9)
abbrev hs0_9 (t : Fin cfg0.N) : (ms0_9 t).IsWhole := hstage0_9 0
abbrev ms0_10 (t : Fin cfg0.N) : Memref sig .tc .vmem S256x128 .bf16 := win0_10.stage (cfg0.slots t 10)
abbrev hs0_10 (t : Fin cfg0.N) : (ms0_10 t).IsWhole := hstage0_10 0
abbrev ms0_11 (t : Fin cfg0.N) : Memref sig .tc .vmem S1x128 .f32 := win0_11.stage (cfg0.slots t 11)
abbrev hs0_11 (t : Fin cfg0.N) : (ms0_11 t).IsWhole := hstage0_11 0
abbrev ms0_12 (t : Fin cfg0.N) : Memref sig .tc .vmem S128x32x128 .f32 := win0_12.stage (cfg0.slots t 12)
abbrev hs0_12 (t : Fin cfg0.N) : (ms0_12 t).IsWhole := hstage0_12 0
/-- The two scratch arrays. -/
abbrev scM0_0 : Memref sig .tc .vmem S128x32x1024 .f32 := Memref.whole cc0_scratch0
abbrev scM0_1 : Memref sig .tc .vmem S128x32x256 .f32 := Memref.whole cc0_scratch1

/-- The invariant with the scratch arrays named: each is owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The body's triple: the operands keep their contents; the result array and the scratch arrays end at some contents. -/
theorem kernelRun0_A (c : Dev nD) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole)
    (x0 : Vec F S128x32x384 .f32) (x1 : Vec F S384x1024 .bf16) (x2 : Vec F S256x1024 .bf16) (x3 : Vec F S1x1024 .f32) (x4 : Vec F S384x1024 .bf16) (x5 : Vec F S1x1024 .f32) (x6 : Vec F S512x768 .bf16) (x7 : Vec F S1x768 .f32) (x8 : Vec F S256x768 .bf16) (x9 : Vec F S1x768 .f32) (x10 : Vec F S256x128 .bf16) (x11 : Vec F S1x128 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__rnn_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__rnn_kernel_eq_skeleton]; unfold cc0__rnn_kernel_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _, _; isplitr; swap; · iexact H12
      ipureintro; rfl
    isplitl [HS0]
    · iexists _, _; isplitr; swap; · iexact HS0
      ipureintro; rfl
    iexists _, _; isplitr; swap; · iexact HS1
    ipureintro; rfl

/-! ## The pipeline's proof data -/

/-- The windows whose contents are left unnamed: the result array alone. -/
def forgets0 : Fin 13 → Bool := fun w => w.val == 12

/-- The proof data: each operand holds its array's contents after the body, the result array holds something unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

/-- The arrays are those found at the pipeline's start. -/
theorem A_eq (c : Dev nD) (w : Fin cfg0.W) : (dats m 0 c).A w = V m c (Pipeline.arrRef spec0 w) := by
  dsimp only [dats]

/-- What the body leaves in each operand. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each operand's buffer holds its array's contents before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d))

set_option maxHeartbeats 1200000 in
/-- The body at any point: the triple applied to what the operands hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The function called at point `t` is the kernel body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: the pipeline's arrays end as the proof data say, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Whole

end
-- ==== Proof.Counts.lean ====
/-
  The call `_build_counts`, whatever the floats are: what its six blocks hold after each grid point, as functions of
  the point's chunks of the two edge lists and of the counts the point before left. The first point starts from zeros
  (`out_A`), the middle ones only add (`out_B`), the last one also derives the four other arrays (`out_C`).
-/
module

public import proofs.«01_k».proof.Proof.Gen.Kernel2Ideal.Frame
public import Idealize.ShloMosaic.Lib.Pipeline.Value
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat)

namespace Cert.Kernel2Ideal.Counts

open Cert.Kernel2Ideal Cert.Kernel2Ideal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

/-- The counts of the first list that the point before `t` left, with the point's own edges added. -/
abbrev more0 (c : Dev nD) (t : Fin cfg0.N) : Vec F S128x128 .f32 :=
  k0_pay10 (outsAt0 m c (t.val - 1) (Nat.lt_of_le_of_lt (Nat.sub_le _ _) t.isLt)).1 (iblk m c 0 t) (iblk m c 1 t)
/-- The same for the second list. -/
abbrev more1 (c : Dev nD) (t : Fin cfg0.N) : Vec F S128x128 .f32 :=
  k0_pay10 (outsAt0 m c (t.val - 1) (Nat.lt_of_le_of_lt (Nat.sub_le _ _) t.isLt)).2.2.2.1 (iblk m c 2 t) (iblk m c 3 t)

theorem out_A (c : Dev nD) (t : Fin cfg0.N) (h0 : t.val % 8 = 0) (h1 : ¬t.val % 8 = 7) :
    (outsAt0 m c t.val t.isLt).1 = k0_pay10 k0_pay8 (iblk m c 0 t) (iblk m c 1 t)
      ∧ (outsAt0 m c t.val t.isLt).2.2.2.1 = k0_pay10 k0_pay8 (iblk m c 2 t) (iblk m c 3 t) := by
  rw [outsAt0_A m c t h0 h1]
  dsimp only
  unfold out0_A_4 out0_A_7
  rw [View.read_writes_eq_canon _ _ _ fun y => cover0_A_4 (y := y) .., View.read_writes_eq_canon _ _ _ fun y => cover0_A_7 (y := y) ..]
  unfold kernelRun0_A
  dsimp only
  sl_unfold_words
  constructor <;>
  · rw [View.canon_cons_unit_zero (S := S128x128) hz, View.readCov_unit_zero (S := S128x128) _ hz]
    simp only [View.readAt_eq_ld, (hs0_0 t).read_unread, (hs0_1 t).read_unread, (hs0_2 t).read_unread, (hs0_3 t).read_unread,
      View.ld_unit_zero (S := S128x128) hz, View.ld_unit_zero (S := S1x1x2048) hz3]
    try rfl

theorem out_B (c : Dev nD) (t : Fin cfg0.N) (h0 : ¬t.val % 8 = 0) (h1 : ¬t.val % 8 = 7) :
    (outsAt0 m c t.val t.isLt).1 = more0 m c t ∧ (outsAt0 m c t.val t.isLt).2.2.2.1 = more1 m c t := by
  rw [outsAt0_B m c t h0 h1]
  dsimp only
  unfold out0_B_4 out0_B_7
  rw [View.read_writes_eq_canon _ _ _ fun y => cover0_B_4 (y := y) .., View.read_writes_eq_canon _ _ _ fun y => cover0_B_7 (y := y) ..]
  unfold kernelRun0_B
  dsimp only
  sl_unfold_words
  constructor <;>
  · rw [View.canon_unit_zero hz]
    simp only [View.readAt_eq_ld, (hs0_0 t).read_unread, (hs0_1 t).read_unread, (hs0_2 t).read_unread, (hs0_3 t).read_unread,
      (hs0_4 t).read_unread, (hs0_7 t).read_unread, View.ld_unit_zero (S := S128x128) hz, View.ld_unit_zero (S := S1x1x2048) hz3]
    try rfl

/-- The last point's six blocks at once. -/
theorem out_C (c : Dev nD) (t : Fin cfg0.N) (h0 : ¬t.val % 8 = 0) (h1 : t.val % 8 = 7) :
    (outsAt0 m c t.val t.isLt).1 = more0 m c t ∧ (outsAt0 m c t.val t.isLt).2.1 = k0_pay4 (more0 m c t)
      ∧ (outsAt0 m c t.val t.isLt).2.2.1 = k0_pay6 (more0 m c t) ∧ (outsAt0 m c t.val t.isLt).2.2.2.1 = more1 m c t
      ∧ (outsAt0 m c t.val t.isLt).2.2.2.2.1 = k0_pay5 (more1 m c t) ∧ (outsAt0 m c t.val t.isLt).2.2.2.2.2 = k0_pay7 (more1 m c t) := by
  rw [outsAt0_C m c t h0 h1]
  dsimp only
  and_intros
  on_goal 1 => unfold out0_C_4; rw [View.read_writes_eq_canon _ _ _ fun y => cover0_C_4 (y := y) ..]
  on_goal 2 => unfold out0_C_5; rw [View.read_writes_eq_canon _ _ _ fun y => cover0_C_5 (y := y) ..]
  on_goal 3 => unfold out0_C_6; rw [View.read_writes_eq_canon _ _ _ fun y => cover0_C_6 (y := y) ..]
  on_goal 4 => unfold out0_C_7; rw [View.read_writes_eq_canon _ _ _ fun y => cover0_C_7 (y := y) ..]
  on_goal 5 => unfold out0_C_8; rw [View.read_writes_eq_canon _ _ _ fun y => cover0_C_8 (y := y) ..]
  on_goal 6 => unfold out0_C_9; rw [View.read_writes_eq_canon _ _ _ fun y => cover0_C_9 (y := y) ..]
  all_goals
    unfold kernelRun0_C
    dsimp only
    sl_unfold_words
    rw [View.canon_unit_zero hz]
    try rw [View.readCov_unit_zero (S := S128x128) _ hz]
    simp only [View.readAt_eq_ld, (hs0_0 t).read_unread, (hs0_1 t).read_unread, (hs0_2 t).read_unread, (hs0_3 t).read_unread,
      (hs0_4 t).read_unread, (hs0_7 t).read_unread, View.ld_unit_zero (S := S128x128) hz, View.ld_unit_zero (S := S1x1x2048) hz3]
    try rfl

end Cert.Kernel2Ideal.Counts

end
-- ==== Proof.CountsValue.lean ====
/-
  The call `_build_counts` at extended reals: its six arrays, for each of the two edge lists, as the number of edges
  between two nodes and two functions of it. Each of the eight grid points adds its 2048 edges, as a product of two
  matrices of indicators, to the counts of the points before it; the last point takes logarithms.
-/
module

public import proofs.«01_k».proof.Proof.Counts
public import Idealize.ShloMosaic.Lib.MatmulPlain
public import Idealize.ShloMosaic.Lib.WordCmp
public import Idealize.ShloMosaic.Lib.Pipeline.ValueKit

@[expose] public section

noncomputable section

open Idealize.ShloMosaic hiding ix1 ix2 ix3 eq_ix2
open Idealize.ShloMosaic.TcCoe Idealize.SL.Sem
open Idealize.ShloMosaic.Pipeline (Dat)
open Idealize.ShloMosaic.ValueIdx
namespace Cert.Kernel2Ideal.Counts

open Cert.Kernel2Ideal Cert.Kernel2Ideal.Gen
variable {F : FTy → Type} [FloatOps F]
variable (m : (ℓ : Loc nD τ sig) → Buf (Elt F) ℓ) (ρ : Dev nD → PrngReg)
/-! ## At the ideal values: the two matrices are edge counts -/

/-- The indicator the one-hot matrix holds at row `a` for the node number `w`. -/
def hot (a : Fin 128) (w : BitVec 32) : EReal := if BitVec.ofNat 32 a.val = w then 1 else 0

theorem hot_eq (a : Fin 128) (w : BitVec 32) :
    (FloatOps.sitofp .f32 ((IntOp.cmpi .eq (BitVec.ofNat 32 a.val) w).setWidth 32) : Ideal .f32) = hot a w := by
  rw [WordCmp.cmpi_eq_eq]
  unfold hot
  show ((((BitVec.ofBool (decide (BitVec.ofNat 32 a.val = w))).setWidth 32).toInt : ℝ) : EReal) = _
  by_cases h : BitVec.ofNat 32 a.val = w <;> simp [h]

/-- One point's contribution: the pairs of the chunk that are the edge from `a` to `b`. -/
theorem pay10_apply (acc : Vec Ideal S128x128 .f32) (s d : Vec Ideal S1x1x2048 .i32) (a b : Fin 128) :
    k0_pay10 (F := Ideal) acc s d (ix2 a b) = acc (ix2 a b) + ∑ k : Fin 2048, hot a (s (ix3 0 0 k)) * hot b (d (ix3 0 0 k)) := by
  have one : ∀ (v : Vec Ideal S1x1x2048 .i32) (r : Fin 128) (k : Fin 2048),
      k0_pay12 (F := Ideal) v (ix2 r k) = hot r (v (ix3 0 0 k)) := fun v r k => by
    rw [← hot_eq]
    unfold k0_pay12
    show (FloatOps.sitofp .f32 ((IntOp.cmpi .eq (iota .tc S128x2048 32 [0] iota_S128x2048_d0_w32 (ix2 r k)) (broadcastTo S128x2048 (shapeCast S1x2048 (shapeCast S1x2048 v shapeCasts_S1x1x2048_S1x2048) shapeCasts_S1x2048_S1x2048) broadcasts_S1x2048_S128x2048 (ix2 r k))).setWidth 32) : Ideal .f32) = _
    rw [broadcastTo_apply _ _ _ (ix2 0 k) (fun x => by match x with | ⟨0, _⟩ => rfl | ⟨1, _⟩ => rfl), shapeCast_self,
      shapeCast_apply _ _ _ (ix3 0 0 k) (by rw [Shape.rowMajor_val_three, Shape.rowMajor_val_two]; rfl)]
    congr 3
    simp [iota]
  have e : k0_pay10 (F := Ideal) acc s d (ix2 a b)
      = acc (ix2 a b) + FloatOps.matmul (DotDims.transposedRhs 128 2048 128) none (k0_pay12 (F := Ideal) s) (k0_pay12 (F := Ideal) d) (constant S128x128 .f32 0x00000000#32) (ix2 a b) := by
    unfold k0_pay10
    rw [shapeCast_self]
    rfl
  rw [e, Ideal.matmul_transposedRhs_apply]
  refine congrArg (acc (ix2 a b) + ·) ?_
  show Ideal.ofBits .f32 0x00000000#32 + _ = _
  rw [Ideal.ofBits_zero_f32, zero_add]
  exact Finset.sum_congr rfl fun k _ => by rw [one, one]

/-- Row `r` of an edge list, flattened. -/
theorem row_apply (x : S1x2x16384.Idx → BitVec 32) (r : Fin 2) (h1 : S1x2x16384.ShapeCasts S2x16384) (h2 : S2x16384.Slices ![r.val, 0] S1x16384)
    (h3 : S1x16384.ShapeCasts S16384) (q : Fin 16384) :
    shapeCast S16384 (extractStridedSlice S1x16384 ![r.val, 0] (shapeCast S2x16384 x h1) h2) h3 (ix1 q) = x (ix3 0 r q) := by
  rw [shapeCast_apply _ _ _ (ix2 0 q) (by rw [Shape.rowMajor_val_two, Shape.rowMajor_val_one]; show 0 * 16384 + q.val = q.val; omega),
    extractStridedSlice_apply _ _ _ _ (ix2 r q) (fun a => by match a with | ⟨0, _⟩ => rfl | ⟨1, _⟩ => show q.val = 0 + q.val; omega),
    shapeCast_apply _ _ _ (ix3 0 r q) (by rw [Shape.rowMajor_val_three, Shape.rowMajor_val_two]; show (0 * 2 + r.val) * 16384 + q.val = r.val * 16384 + q.val; omega)]

/-- The kernel's two edge lists on core `c`. -/
abbrev e0 (c : Dev nD) : S1x2x16384.Idx → BitVec 32 := m ((c : Thread nD τ).loc main_arg0)
abbrev e1 (c : Dev nD) : S1x2x16384.Idx → BitVec 32 := m ((c : Thread nD τ).loc main_arg1)

/-- Place `k` of chunk `t`. -/
abbrev at8 (t : Fin cfg0.N) (k : Fin 2048) : Fin 16384 := ⟨t.val * 2048 + k.val, by have : t.val < 8 := lt_of_lt_of_eq t.isLt N_0; omega⟩

theorem chunk_apply (y : S16384.Idx → BitVec 32) (h : S16384.ShapeCasts S8x1x2048) (t : Fin cfg0.N) (k : Fin 2048) (j : S8x1x2048.Idx)
    (j0 : (j 0).val = t.val) (j1 : (j 1).val = 0) (j2 : (j 2).val = k.val) : shapeCast S8x1x2048 y h j = y (ix1 (at8 t k)) :=
  shapeCast_apply _ _ _ _ (by
    rw [Shape.rowMajor_val_three, Shape.rowMajor_val_one, j0, j1, j2]
    show t.val * 2048 + k.val = (t.val * 1 + 0) * 2048 + k.val
    omega)

theorem idx_t (t : Fin cfg0.N) : (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0) := by
  revert t; decide

/-- What a window reads at place `k` of point `t`: row `r` of its edge list at that place of chunk `t`. -/
theorem list_apply (x : S1x2x16384.Idx → BitVec 32) (r : Fin 2) (h1 : S1x2x16384.ShapeCasts S2x16384) (h2 : S2x16384.Slices ![r.val, 0] S1x16384)
    (h3 : S1x16384.ShapeCasts S16384) (h4 : S16384.ShapeCasts S8x1x2048) (t : Fin cfg0.N) (k : Fin 2048) (j : S8x1x2048.Idx)
    {i : Fin 3 → Nat} (hi : i 0 = t.val ∧ i 1 = 0 ∧ i 2 = 0)
    (j0 : (j 0).val = i 0 * 1 + 1 * 0) (j1 : (j 1).val = i 1 * 1 + 1 * 0) (j2 : (j 2).val = i 2 * 2048 + 1 * k.val) :
    shapeCast S8x1x2048 (shapeCast S16384 (extractStridedSlice S1x16384 ![r.val, 0] (shapeCast S2x16384 x h1) h2) h3) h4 j = x (ix3 0 r (at8 t k)) := by
  obtain ⟨i0, i1, i2⟩ := hi
  rw [chunk_apply _ _ t k _ (by omega) (by omega) (by omega), row_apply]

theorem blk0 (c : Dev nD) (t : Fin cfg0.N) (k : Fin 2048) : (iblk m c 0 t : Vec F S1x1x2048 .i32) (ix3 0 0 k) = e0 m c (ix3 0 0 (at8 t k)) := by
  have e : V m c main_v10 = shapeCast S8x1x2048 (shapeCast S16384 (extractStridedSlice S1x16384 ![0, 0] (shapeCast S2x16384 (e0 m c) shapeCasts_S1x2x16384_S2x16384) slices_S2x16384_S1x16384_0_0) shapeCasts_S1x16384_S16384) shapeCasts_S16384_S8x1x2048 := by
    show StableHlo.after hostOps0 (fun b => m (c, b)) (Proc.devRef .tc main_v10) = _
    after_results
    rfl
  unfold iblk
  rw [View.read_apply]
  show V m c main_v10 _ = _
  rw [e]
  exact list_apply _ 0 _ _ _ _ t k _ (idx_t t).1 rfl rfl rfl

theorem blk1 (c : Dev nD) (t : Fin cfg0.N) (k : Fin 2048) : (iblk m c 1 t : Vec F S1x1x2048 .i32) (ix3 0 0 k) = e0 m c (ix3 0 1 (at8 t k)) := by
  have e : V m c main_v11 = shapeCast S8x1x2048 (shapeCast S16384 (extractStridedSlice S1x16384 ![1, 0] (shapeCast S2x16384 (e0 m c) shapeCasts_S1x2x16384_S2x16384) slices_S2x16384_S1x16384_1_0) shapeCasts_S1x16384_S16384) shapeCasts_S16384_S8x1x2048 := by
    show StableHlo.after hostOps0 (fun b => m (c, b)) (Proc.devRef .tc main_v11) = _
    after_results
    rfl
  unfold iblk
  rw [View.read_apply]
  show V m c main_v11 _ = _
  rw [e]
  exact list_apply _ 1 _ _ _ _ t k _ (idx_t t).2.1 rfl rfl rfl

theorem blk2 (c : Dev nD) (t : Fin cfg0.N) (k : Fin 2048) : (iblk m c 2 t : Vec F S1x1x2048 .i32) (ix3 0 0 k) = e1 m c (ix3 0 0 (at8 t k)) := by
  have e : V m c main_v12 = shapeCast S8x1x2048 (shapeCast S16384 (extractStridedSlice S1x16384 ![0, 0] (shapeCast S2x16384 (e1 m c) shapeCasts_S1x2x16384_S2x16384) slices_S2x16384_S1x16384_0_0) shapeCasts_S1x16384_S16384) shapeCasts_S16384_S8x1x2048 := by
    show StableHlo.after hostOps0 (fun b => m (c, b)) (Proc.devRef .tc main_v12) = _
    after_results
    rfl
  unfold iblk
  rw [View.read_apply]
  show V m c main_v12 _ = _
  rw [e]
  exact list_apply _ 0 _ _ _ _ t k _ (idx_t t).2.2.1 rfl rfl rfl

theorem blk3 (c : Dev nD) (t : Fin cfg0.N) (k : Fin 2048) : (iblk m c 3 t : Vec F S1x1x2048 .i32) (ix3 0 0 k) = e1 m c (ix3 0 1 (at8 t k)) := by
  have e : V m c main_v13 = shapeCast S8x1x2048 (shapeCast S16384 (extractStridedSlice S1x16384 ![1, 0] (shapeCast S2x16384 (e1 m c) shapeCasts_S1x2x16384_S2x16384) slices_S2x16384_S1x16384_1_0) shapeCasts_S1x16384_S16384) shapeCasts_S16384_S8x1x2048 := by
    show StableHlo.after hostOps0 (fun b => m (c, b)) (Proc.devRef .tc main_v13) = _
    after_results
    rfl
  unfold iblk
  rw [View.read_apply]
  show V m c main_v13 _ = _
  rw [e]
  exact list_apply _ 1 _ _ _ _ t k _ (idx_t t).2.2.2 rfl rfl rfl

/-- The pair at place `q` is the edge from `a` to `b`: 1 if so, else 0 (and 0 past the end of the list). -/
def isEdge (x : S1x2x16384.Idx → BitVec 32) (a b : Fin 128) (q : ℕ) : EReal :=
  if h : q < 16384 then hot a (x (ix3 0 0 ⟨q, h⟩)) * hot b (x (ix3 0 1 ⟨q, h⟩)) else 0

/-- The number of edges from `a` to `b`. -/
def count (x : S1x2x16384.Idx → BitVec 32) (a b : Fin 128) : EReal := ∑ q : Fin 16384, hot a (x (ix3 0 0 q)) * hot b (x (ix3 0 1 q))

/-- A matrix that starts at zero and gains each point's contribution is, after point `n`, the count over the first `n + 1` chunks. -/
theorem acc_apply (A : (n : ℕ) → n < cfg0.N → Vec Ideal S128x128 .f32) (S D : Fin cfg0.N → Vec Ideal S1x1x2048 .i32)
    (x : S1x2x16384.Idx → BitVec 32) (hS : ∀ t k, S t (ix3 0 0 k) = x (ix3 0 0 (at8 t k))) (hD : ∀ t k, D t (ix3 0 0 k) = x (ix3 0 1 (at8 t k)))
    (h0 : ∀ h, A 0 h = k0_pay10 k0_pay8 (S ⟨0, h⟩) (D ⟨0, h⟩))
    (hs : ∀ n h, A (n + 1) h = k0_pay10 (A n (Nat.lt_of_succ_lt h)) (S ⟨n + 1, h⟩) (D ⟨n + 1, h⟩)) (a b : Fin 128) :
    ∀ n h, A n h (ix2 a b) = ∑ q ∈ Finset.range ((n + 1) * 2048), isEdge x a b q := by
  have step : ∀ t : Fin cfg0.N, ∑ k : Fin 2048, hot a (S t (ix3 0 0 k)) * hot b (D t (ix3 0 0 k))
      = ∑ k ∈ Finset.range 2048, isEdge x a b (t.val * 2048 + k) := fun t => by
    rw [Finset.sum_range]
    exact Finset.sum_congr rfl fun k _ => by rw [hS, hD, isEdge, dif_pos (at8 t k).isLt]
  intro n
  induction n with
  | zero =>
    intro h
    rw [h0, pay10_apply, step]
    show Ideal.ofBits .f32 0x00000000#32 + _ = _
    rw [Ideal.ofBits_zero_f32, zero_add]
    exact Finset.sum_congr (by simp) fun k _ => congrArg _ (by show 0 * 2048 + k = k; omega)
  | succ n ih => intro h; rw [hs, pay10_apply, step, ih, Nat.succ_mul (n + 1), Finset.sum_range_add]

theorem count_eq (x : S1x2x16384.Idx → BitVec 32) (a b : Fin 128) : ∑ q ∈ Finset.range ((7 + 1) * 2048), isEdge x a b q = count x a b := by
  rw [Finset.sum_range]
  exact Finset.sum_congr rfl fun q _ => dif_pos q.isLt

section
variable (m : (ℓ : Loc nD τ sig) → Buf (Elt Ideal) ℓ)

theorem last : 7 < cfg0.N := by decide

/-- The two count matrices at the last point. -/
theorem counts4 (c : Dev nD) (a b : Fin 128) : (outsAt0 m c 7 last).1 (ix2 a b) = count (e0 m c) a b := by
  refine (acc_apply (fun n h => (outsAt0 m c n h).1) _ _ (e0 m c) (blk0 m c) (blk1 m c) (fun h => (out_A m c ⟨0, h⟩ rfl (by show ¬0 % 8 = 7; decide)).1) (fun n h => ?_) a b 7 last).trans (count_eq _ a b)
  have h8 : n + 1 < 8 := lt_of_lt_of_eq h N_0
  by_cases h7 : (n + 1) % 8 = 7
  · exact (out_C m c ⟨n + 1, h⟩ (by show ¬(n + 1) % 8 = 0; omega) h7).1
  · exact (out_B m c ⟨n + 1, h⟩ (by show ¬(n + 1) % 8 = 0; omega) h7).1
theorem counts7 (c : Dev nD) (a b : Fin 128) : (outsAt0 m c 7 last).2.2.2.1 (ix2 a b) = count (e1 m c) a b := by
  refine (acc_apply (fun n h => (outsAt0 m c n h).2.2.2.1) _ _ (e1 m c) (blk2 m c) (blk3 m c) (fun h => (out_A m c ⟨0, h⟩ rfl (by show ¬0 % 8 = 7; decide)).2) (fun n h => ?_) a b 7 last).trans (count_eq _ a b)
  have h8 : n + 1 < 8 := lt_of_lt_of_eq h N_0
  by_cases h7 : (n + 1) % 8 = 7
  · exact (out_C m c ⟨n + 1, h⟩ (by show ¬(n + 1) % 8 = 0; omega) h7).2.2.2.1
  · exact (out_B m c ⟨n + 1, h⟩ (by show ¬(n + 1) % 8 = 0; omega) h7).2

/-- The counts of an edge list as a matrix. -/
def cnt (x : S1x2x16384.Idx → BitVec 32) : Vec Ideal S128x128 .f32 := fun i => count x (i 0) (i 1)

theorem cnt4 (c : Dev nD) : (outsAt0 m c 7 last).1 = cnt (e0 m c) := funext fun i => by
  obtain ⟨a, b, rfl⟩ : ∃ (a b : Fin 128), i = ix2 a b := ⟨i 0, i 1, eq_ix2 i⟩
  exact counts4 m c a b
theorem cnt7 (c : Dev nD) : (outsAt0 m c 7 last).2.2.2.1 = cnt (e1 m c) := funext fun i => by
  obtain ⟨a, b, rfl⟩ : ∃ (a b : Fin 128), i = ix2 a b := ⟨i 0, i 1, eq_ix2 i⟩
  exact counts7 m c a b

theorem final4 (c : Dev nD) : (dats m 0 c).arrAt 4 cfg0.N = cnt (e0 m c) := by
  refine (dats m 0 c).arrAt_eq_of_after_last 4 ⟨7, last⟩ (by decide +kernel) _ fun j => ?_
  rw [after0_4, cnt4]
  generalize cnt (e0 m c) = G
  rfl
theorem final5 (c : Dev nD) : (dats m 0 c).arrAt 5 cfg0.N = k0_pay4 (cnt (e0 m c)) := by
  refine (dats m 0 c).arrAt_eq_of_after_last 5 ⟨7, last⟩ (by decide +kernel) _ fun j => ?_
  rw [after0_5, (out_C m c ⟨7, last⟩ (by decide) rfl).2.1, ← (out_C m c ⟨7, last⟩ (by decide) rfl).1, cnt4]
  generalize k0_pay4 (cnt (e0 m c)) = G
  rfl
theorem final6 (c : Dev nD) : (dats m 0 c).arrAt 6 cfg0.N = k0_pay6 (cnt (e0 m c)) := by
  refine (dats m 0 c).arrAt_eq_of_after_last 6 ⟨7, last⟩ (by decide +kernel) _ fun j => ?_
  rw [after0_6, (out_C m c ⟨7, last⟩ (by decide) rfl).2.2.1, ← (out_C m c ⟨7, last⟩ (by decide) rfl).1, cnt4]
  generalize k0_pay6 (cnt (e0 m c)) = G
  rfl
theorem final7 (c : Dev nD) : (dats m 0 c).arrAt 7 cfg0.N = cnt (e1 m c) := by
  refine (dats m 0 c).arrAt_eq_of_after_last 7 ⟨7, last⟩ (by decide +kernel) _ fun j => ?_
  rw [after0_7, cnt7]
  generalize cnt (e1 m c) = G
  rfl
theorem final8 (c : Dev nD) : (dats m 0 c).arrAt 8 cfg0.N = k0_pay5 (cnt (e1 m c)) := by
  refine (dats m 0 c).arrAt_eq_of_after_last 8 ⟨7, last⟩ (by decide +kernel) _ fun j => ?_
  rw [after0_8, (out_C m c ⟨7, last⟩ (by decide) rfl).2.2.2.2.1, ← (out_C m c ⟨7, last⟩ (by decide) rfl).2.2.2.1, cnt7]
  generalize k0_pay5 (cnt (e1 m c)) = G
  rfl
theorem final9 (c : Dev nD) : (dats m 0 c).arrAt 9 cfg0.N = k0_pay7 (cnt (e1 m c)) := by
  refine (dats m 0 c).arrAt_eq_of_after_last 9 ⟨7, last⟩ (by decide +kernel) _ fun j => ?_
  rw [after0_9, (out_C m c ⟨7, last⟩ (by decide) rfl).2.2.2.2.2, ← (out_C m c ⟨7, last⟩ (by decide) rfl).2.2.2.1, cnt7]
  generalize k0_pay7 (cnt (e1 m c)) = G
  rfl

end

end Cert.Kernel2Ideal.Counts

end
-- ==== Proof.CountsClaim.lean ====
/-
  The edge counts of the plain reference are those of the call `_build_counts`: the reference sums one comparison of
  each edge with each pair of nodes, the call multiplies two indicators.
-/
module

public import proofs.«01_k».proof.Proof.CountsValue
public import proofs.«01_k».proof.Proof.Gen.Kernel2Ideal.Value
public import proofs.«01_k».proof.Proof.Gen.Reference2Ideal.Run
public import proofs.«01_k».proof.Proof.Gen.Reference2Ideal.Read

@[expose] public section

noncomputable section

open Idealize.ShloMosaic hiding ix1 ix2 ix3 eq_ix2
open Idealize.ShloMosaic.TcCoe Idealize.SL.Sem
open Idealize.ShloMosaic.ValueIdx
namespace Cert.Reference2Ideal.Counts

open Cert.Reference2Ideal Cert.Reference2Ideal.Gen Cert.Reference2Ideal.Read
open Cert.Kernel2Ideal.Counts (hot cnt row_apply)

/-- The reference's summand at nodes `a`, `b` and edge `q` is the product of the two indicators. -/
theorem edge_apply (x : S1x2x16384.Idx → BitVec 32) (a b : Fin 128) (q : Fin 16384) :
    val_main_v20 (F := Ideal) x (ix3 a b q) = hot a (x (ix3 0 0 q)) * hot b (x (ix3 0 1 q)) := by
  have r0 : val_main_v3 (F := Ideal) x (ix1 q) = x (ix3 0 0 q) := row_apply x 0 _ _ _ q
  have r1 : val_main_v10 (F := Ideal) x (ix1 q) = x (ix3 0 1 q) := row_apply x 1 _ _ _ q
  have e : val_main_v20 (F := Ideal) x (ix3 a b q) = Scalar.select (IntOp.andi (IntOp.cmpi .eq (val_main_v3 (F := Ideal) x (ix1 q)) (BitVec.ofNat 32 a.val)) (IntOp.cmpi .eq (val_main_v10 (F := Ideal) x (ix1 q)) (BitVec.ofNat 32 b.val)))
      (Ideal.ofBits .f32 0x3F800000#32) (Ideal.ofBits .f32 0x00000000#32) := by
    simp only [val_main_v20_apply, val_main_v19_apply, val_main_v18_apply, val_main_v17_apply, val_main_v16_apply, val_main_v15_apply, val_main_v14_apply, val_main_v13_apply, val_main_v12_apply, val_main_v11_apply,
      val_main_v8_apply, val_main_v7_apply, val_main_v6_apply, val_main_v5_apply, val_main_v4_apply, val_main_v1_apply, val_main_call0_v0_apply, val_main_call0_v1_apply, val_main_cst_apply, val_main_cst_0_apply]
    rfl
  rw [e, r0, r1, WordCmp.cmpi_eq_eq, WordCmp.cmpi_eq_eq, Ideal.ofBits_zero_f32, Ideal.ofBits_one_f32]
  unfold hot
  by_cases h0 : BitVec.ofNat 32 a.val = x (ix3 0 0 q) <;> by_cases h1 : BitVec.ofNat 32 b.val = x (ix3 0 1 q) <;>
    simp [h0, h1, eq_comm, Scalar.select, IntOp.andi]

/-- The reference's sum over the edges. -/
theorem v21_eq (x : S1x2x16384.Idx → BitVec 32) : val_main_v21 (F := Ideal) x = cnt x := funext fun i => by
  obtain ⟨a, b, rfl⟩ : ∃ (a b : Fin 128), i = ix2 a b := ⟨i 0, i 1, eq_ix2 i⟩
  show _ = Cert.Kernel2Ideal.Counts.count x a b
  rw [val_main_v21_apply, show val_main_cst_1 (F := Ideal) _ = 0 from Ideal.ofBits_zero_f32, zero_add]
  unfold Cert.Kernel2Ideal.Counts.count
  refine Fintype.sum_congr _ _ fun q => ?_
  rw [show idx_main_v21 (ix2 a b) q = ix3 a b q from funext fun d => by match d with | ⟨0, _⟩ => rfl | ⟨1, _⟩ => rfl | ⟨2, _⟩ => rfl]
  exact edge_apply x a b q

/-- Its logarithms, minus infinity where there is no edge. -/
theorem v25_eq (x : S1x2x16384.Idx → BitVec 32) : val_main_v25 (F := Ideal) x = Cert.Kernel2Ideal.Gen.k0_pay4 (F := Ideal) (cnt x) := by
  unfold val_main_v25 val_main_v23 val_main_v24 Cert.Kernel2Ideal.Gen.k0_pay4 Cert.Kernel2Ideal.Gen.k0_pay2
  rw [v21_eq, shapeCast_self]
  rfl

/-- Zero where there is an edge, minus infinity elsewhere. -/
theorem v28_eq (x : S1x2x16384.Idx → BitVec 32) : val_main_v28 (F := Ideal) x = Cert.Kernel2Ideal.Gen.k0_pay6 (F := Ideal) (cnt x) := by
  unfold val_main_v28 val_main_v27 Cert.Kernel2Ideal.Gen.k0_pay6 Cert.Kernel2Ideal.Gen.k0_pay2
  rw [v21_eq, shapeCast_self]
  rfl

/-- The second list goes through the same operations. -/
theorem v50_eq (x : S1x2x16384.Idx → BitVec 32) : val_main_v50 (F := Ideal) x = cnt x := v21_eq x
theorem v54_eq (x : S1x2x16384.Idx → BitVec 32) : val_main_v54 (F := Ideal) x = Cert.Kernel2Ideal.Gen.k0_pay5 (F := Ideal) (cnt x) := v25_eq x
theorem v57_eq (x : S1x2x16384.Idx → BitVec 32) : val_main_v57 (F := Ideal) x = Cert.Kernel2Ideal.Gen.k0_pay7 (F := Ideal) (cnt x) := v28_eq x

/-- The call's run: its six arrays and its arguments. -/
theorem kernel_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v14_0) = cnt (m ((c.tc : Thread Cert.Kernel2Ideal.nD Cert.Kernel2Ideal.τ).loc Cert.Kernel2Ideal.main_arg0))
      ∧ r.2.mem ((c.tc : Thread Cert.Kernel2Ideal.nD Cert.Kernel2Ideal.τ).loc Cert.Kernel2Ideal.main_v14_1) = Cert.Kernel2Ideal.Gen.k0_pay4 (F := Ideal) (cnt (m ((c.tc : Thread Cert.Kernel2Ideal.nD Cert.Kernel2Ideal.τ).loc Cert.Kernel2Ideal.main_arg0)))
      ∧ r.2.mem ((c.tc : Thread Cert.Kernel2Ideal.nD Cert.Kernel2Ideal.τ).loc Cert.Kernel2Ideal.main_v14_2) = Cert.Kernel2Ideal.Gen.k0_pay6 (F := Ideal) (cnt (m ((c.tc : Thread Cert.Kernel2Ideal.nD Cert.Kernel2Ideal.τ).loc Cert.Kernel2Ideal.main_arg0)))
      ∧ r.2.mem ((c.tc : Thread Cert.Kernel2Ideal.nD Cert.Kernel2Ideal.τ).loc Cert.Kernel2Ideal.main_v14_3) = cnt (m ((c.tc : Thread Cert.Kernel2Ideal.nD Cert.Kernel2Ideal.τ).loc Cert.Kernel2Ideal.main_arg1))
      ∧ r.2.mem ((c.tc : Thread Cert.Kernel2Ideal.nD Cert.Kernel2Ideal.τ).loc Cert.Kernel2Ideal.main_v14_4) = Cert.Kernel2Ideal.Gen.k0_pay5 (F := Ideal) (cnt (m ((c.tc : Thread Cert.Kernel2Ideal.nD Cert.Kernel2Ideal.τ).loc Cert.Kernel2Ideal.main_arg1)))
      ∧ r.2.mem ((c.tc : Thread Cert.Kernel2Ideal.nD Cert.Kernel2Ideal.τ).loc Cert.Kernel2Ideal.main_v14_5) = Cert.Kernel2Ideal.Gen.k0_pay7 (F := Ideal) (cnt (m ((c.tc : Thread Cert.Kernel2Ideal.nD Cert.Kernel2Ideal.τ).loc Cert.Kernel2Ideal.main_arg1)))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)) :=
  (θ_run _ _ _).mono (fun _ h c => by
    obtain ⟨h0, h1, h2, h3, h4, h5, h⟩ := h c
    exact ⟨h0.trans (Cert.Kernel2Ideal.Counts.final4 m c), h1.trans (Cert.Kernel2Ideal.Counts.final5 m c), h2.trans (Cert.Kernel2Ideal.Counts.final6 m c),
      h3.trans (Cert.Kernel2Ideal.Counts.final7 m c), h4.trans (Cert.Kernel2Ideal.Counts.final8 m c), h5.trans (Cert.Kernel2Ideal.Counts.final9 m c), h⟩)
    (Cert.Kernel2Ideal.Value.run_blocks m g)

/-- The reference's run: the same six functions of its arguments. -/
theorem reference_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_v21) = cnt (m ((c.tc : Thread Cert.Reference2Ideal.nD Cert.Reference2Ideal.τ).loc Cert.Reference2Ideal.main_arg0))
      ∧ r.2.mem ((c.tc : Thread Cert.Reference2Ideal.nD Cert.Reference2Ideal.τ).loc Cert.Reference2Ideal.main_v25) = Cert.Kernel2Ideal.Gen.k0_pay4 (F := Ideal) (cnt (m ((c.tc : Thread Cert.Reference2Ideal.nD Cert.Reference2Ideal.τ).loc Cert.Reference2Ideal.main_arg0)))
      ∧ r.2.mem ((c.tc : Thread Cert.Reference2Ideal.nD Cert.Reference2Ideal.τ).loc Cert.Reference2Ideal.main_v28) = Cert.Kernel2Ideal.Gen.k0_pay6 (F := Ideal) (cnt (m ((c.tc : Thread Cert.Reference2Ideal.nD Cert.Reference2Ideal.τ).loc Cert.Reference2Ideal.main_arg0)))
      ∧ r.2.mem ((c.tc : Thread Cert.Reference2Ideal.nD Cert.Reference2Ideal.τ).loc Cert.Reference2Ideal.main_v50) = cnt (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_v54) = Cert.Kernel2Ideal.Gen.k0_pay5 (F := Ideal) (cnt (m ((c.tc : Thread Cert.Reference2Ideal.nD Cert.Reference2Ideal.τ).loc Cert.Reference2Ideal.main_arg1)))
      ∧ r.2.mem ((c.tc : Thread Cert.Reference2Ideal.nD Cert.Reference2Ideal.τ).loc Cert.Reference2Ideal.main_v57) = Cert.Kernel2Ideal.Gen.k0_pay7 (F := Ideal) (cnt (m ((c.tc : Thread Cert.Reference2Ideal.nD Cert.Reference2Ideal.τ).loc Cert.Reference2Ideal.main_arg1)))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)) :=
  (θ_run _ _ _).mono (fun _ h c => by
    obtain ⟨h0, h1, h2, h3, h4, h5, h⟩ := h c
    exact ⟨(h0.trans (val_main_v21_eq _)).trans (v21_eq _), (h1.trans (val_main_v25_eq _)).trans (v25_eq _), (h2.trans (val_main_v28_eq _)).trans (v28_eq _),
      (h3.trans (val_main_v50_eq _)).trans (v50_eq _), (h4.trans (val_main_v54_eq _)).trans (v54_eq _), (h5.trans (val_main_v57_eq _)).trans (v57_eq _), h⟩)
    (Cert.Reference2Ideal.Value.run m g)

/-- The reference has no counters. -/
theorem sem_zero (s : MemSt Cert.Reference2Ideal.nD Cert.Reference2Ideal.τ Cert.Reference2Ideal.sig (Elt Ideal)) : s.sem = fun _ => 0 := sem_eq_zero_of_no_sems (by decide) s

end Cert.Reference2Ideal.Counts

end
-- ==== Proof.BranchMath.lean ====
/-
  One graph attention layer of the call `_run_branches` at extended reals, for one sample: `gat` of the features `x k s`
  (feature `k` of node `s`), the weights, the two attention vectors, the bias, and the two arrays made from the edge
  counts (their logarithms `lc` and the mask `mk`); and the convolution before the layers.
-/
module

public import Idealize.ShloMosaic.PureOps.Ideal.Laws
public import Idealize.ShloMosaic.Lib.ValueIdxCore

@[expose] public section

noncomputable section
open Idealize.ShloMosaic
open Idealize.ShloMosaic.ValueIdx
namespace Cert.Branch

/-- A 128 × 128 array. -/
abbrev Mat := Fin 128 → Fin 128 → EReal
variable (x W lc mk : Mat) (a0 a1 b : Fin 128 → EReal)

/-- The slope of the leaky rectifier, and the small number in the softmax's denominator. -/
abbrev slope : EReal := Ideal.ofBits .f32 0x3E4CCCCD#32
abbrev tiny : EReal := Ideal.ofBits .f32 0x24E69595#32

/-- A node's features after the layer's weights. -/
def feat (s l : Fin 128) : EReal := ∑ k, x k s * W k l
/-- The leaky rectifier. -/
def leaky (v : EReal) : EReal := max v (slope * v)
/-- The score of the edge from `s` to `d`, of the features `h`. -/
def score (h : Mat) (s d : Fin 128) : EReal := leaky (∑ l, h s l * a0 l + ∑ l, h d l * a1 l)
/-- A value, 0 for an infinite one. -/
def fin0 (v : EReal) : EReal := if v = ⊤ ∨ v = ⊥ then 0 else v
/-- The greatest masked score into `d`. -/
def peak (e : Mat) (d : Fin 128) : EReal := fin0 ((Finset.univ : Finset (Fin 128)).fold max (Ideal.ofBits .f32 0xFF800000#32) fun s => e s d + mk s d)
/-- The unnormalised attention, and the attention. -/
def raw (e : Mat) (s d : Fin 128) : EReal := Ideal.exp (e s d - peak mk e d + lc s d)
def share (p : Mat) (s d : Fin 128) : EReal := Ideal.div (p s d) (∑ q, p q d + tiny)
/-- The layer. -/
def gat (d l : Fin 128) : EReal :=
  max (∑ s, share (raw lc mk (score a0 a1 (feat x W))) s d * feat x W s l + b l) 0

theorem exp_nonneg (v : EReal) : 0 ≤ Ideal.exp v := by
  induction v with
  | bot => exact le_refl _
  | top => exact le_top
  | coe r => exact EReal.coe_nonneg.mpr (Real.exp_pos r).le

theorem tiny_pos : 0 < tiny := by
  have : tiny = ((15111573 * (2:ℝ) ^ (-77 : ℤ) : ℝ) : EReal) := by
    simp [tiny, Ideal.ofBits, Ideal.ieee]
  rw [this]; exact_mod_cast (by positivity : (0:ℝ) < 15111573 * (2:ℝ) ^ (-77 : ℤ))

theorem slope_eq : ∃ r : ℝ, slope = (r : EReal) ∧ 0 < r ∧ r < 1 := by
  refine ⟨13421773 * (2:ℝ) ^ (-26 : ℤ), by simp [slope, Ideal.ofBits, Ideal.ieee], by positivity, by norm_num⟩

/-- The leaky rectifier as a choice by sign. -/
theorem leaky_eq (v : EReal) : leaky v = if 0 ≤ v then v else slope * v := by
  obtain ⟨r, hr, h0, h1⟩ := slope_eq
  unfold leaky; rw [hr]
  induction v with
  | bot => simp [EReal.coe_mul_bot_of_pos h0]
  | top => simp
  | coe y =>
    rw [← EReal.coe_mul]
    split
    · rename_i h; have := EReal.coe_nonneg.mp h; exact max_eq_left (EReal.coe_le_coe_iff.mpr (by nlinarith))
    · rename_i h; have : y < 0 := by by_contra hc; exact h (EReal.coe_nonneg.mpr (not_lt.mp hc))
      exact max_eq_right (EReal.coe_le_coe_iff.mpr (by nlinarith))

/-- Dividing by a denominator that is not 0 is multiplying by its reciprocal. -/
theorem mul_div_one (p y : EReal) (h : y ≠ 0) : p * Ideal.div 1 y = Ideal.div p y := by
  unfold Ideal.div; rw [if_neg h, if_neg h, one_mul]

theorem denom_ne (p : Mat) (hp : ∀ s d, 0 ≤ p s d) (d : Fin 128) : ∑ q, p q d + tiny ≠ 0 :=
  ne_of_gt (lt_of_lt_of_le tiny_pos (le_add_of_nonneg_left (Finset.sum_nonneg fun q _ => hp q d)))

/-- The convolution over seven rows, of one sample's padded rows `xp` and the seven weights `w`. -/
def conv (xp : Fin 136 → Fin 128 → EReal) (w : Fin 7 → Mat) (n l : Fin 128) : EReal :=
  max (∑ t : Fin 7, ∑ k, xp ⟨n.val + t.val, by omega⟩ k * w t k l + b l) 0

/-- Two layers of attention added to what they are of, and the branch: two such pairs. Layer `q` of pair `p` has weights
    `W p q`, score weights `a p q` and bias `b p q`; the first layer of a pair uses `lf`, `mf`, the second `lt`, `mt`. -/
def pair (lf mf lt mt : Mat) (W : Fin 2 → Mat) (a : Fin 2 → Fin 2 → Fin 128 → EReal) (b : Fin 2 → Fin 128 → EReal) (x : Mat) : Mat := fun n l =>
  x n l + gat (gat x (W 0) lf mf (a 0 0) (a 0 1) (b 0)) (W 1) lt mt (a 1 0) (a 1 1) (b 1) n l
def branch (lf mf lt mt : Mat) (W : Fin 2 → Fin 2 → Mat) (a : Fin 2 → Fin 2 → Fin 2 → Fin 128 → EReal) (b : Fin 2 → Fin 2 → Fin 128 → EReal) (x : Mat) : Mat :=
  pair lf mf lt mt (W 1) (a 1) (b 1) (pair lf mf lt mt (W 0) (a 0) (b 0) x)

/-- An array of the call. -/
abbrev Arr (n : Nat) (d : Fin n → Nat) := (⟨n, d⟩ : Shape).Idx → EReal

/-- What branch `r` is given of sample `s`: the padded rows' middle for branch 0, their convolution for the others. -/
def given (xp : Arr 3 ![32, 136, 128]) (wc : Arr 4 ![3, 7, 128, 128]) (bc : Arr 3 ![3, 1, 128]) (r : Fin 3) (s : Fin 32) : Mat := fun n l =>
  if r.val = 0 then xp (ix3 s ⟨n.val + 3, by omega⟩ l) else conv (fun l => bc (ix3 r 0 l)) (fun q k => xp (ix3 s q k)) (fun t k l => wc (ix4 r t k l)) n l

/-- The call's result of its ten arguments. -/
def result (xp : Arr 3 ![32, 136, 128]) (wc : Arr 4 ![3, 7, 128, 128]) (bc : Arr 3 ![3, 1, 128]) (lf mf lt mt : Arr 2 ![128, 128])
    (W : Arr 5 ![3, 2, 2, 128, 128]) (a : Arr 5 ![3, 2, 2, 2, 128]) (b : Arr 4 ![3, 2, 2, 128]) : Arr 4 ![3, 32, 128, 128] := fun i =>
  branch (fun s d => lf (ix2 s d)) (fun s d => mf (ix2 s d)) (fun s d => lt (ix2 s d)) (fun s d => mt (ix2 s d))
    (fun p q k l => W (ix5 (i 0) p q k l)) (fun p q c l => a (ix5 (i 0) p q c l)) (fun p q l => b (ix4 (i 0) p q l)) (given xp wc bc (i 0) (i 1)) (i 2) (i 3)

end Cert.Branch
-- ==== Proof.BranchRef.lean ====
/-
  The plain reference of the call `_run_branches` at extended reals: the graph attention of every branch and sample at
  once, as `Branch.gat` of each; and its convolution as `Branch.conv`.
-/
module

public import proofs.«01_k».proof.Proof.BranchMath
public import proofs.«01_k».proof.Proof.Gen.Reference3Ideal.Run
public import proofs.«01_k».proof.Proof.Gen.Reference3Ideal.Read
public import Idealize.ShloMosaic.Lib.KernelVsHost

@[expose] public section

noncomputable section
open Idealize.ShloMosaic
open Idealize.ShloMosaic.ValueIdx
namespace Cert.Reference3Ideal.Branch
open Cert.Reference3Ideal Cert.Reference3Ideal.Gen Cert.Reference3Ideal.Read Cert.Branch

/-- An array of the reference at extended reals. -/
abbrev V (s : Shape) := FVec Ideal s .f32

/-! ## The stages of a layer -/

/-- The features of all nodes after the weights. -/
def featR (h : V S3x32x128x128) (W : V S3x128x128) : V S3x32x128x128 :=
  Host.dotGeneral dot_S3x32x128x128_S3x128x128_S3x32x128x128_3_1_12_2_0_0 none (transpose S3x32x128x128 [0, 1, 3, 2] h transposes_S3x32x128x128_S3x32x128x128_0_1_3_2) W
theorem slicesV (c : Fin 2) : S3x2x128.Slices ![0, c.val, 0] S3x1x128 := by revert c; decide
/-- The features times one of the two score vectors. -/
def dotR (h : V S3x32x128x128) (a : V S3x2x128) (c : Fin 2) : V S3x32x128 :=
  Host.dotGeneral dot_S3x32x128x128_S3x128_S3x32x128_3_1_12_n_0_0 none h (shapeCast S3x128 (extractStridedSlice S3x1x128 ![0, c.val, 0] a (slicesV c)) shapeCasts_S3x1x128_S3x128)
/-- One value for each row, and for each column. -/
def rowR (v : V S3x32x128) : V S3x32x128x128 :=
  broadcastInDim S3x32x128x128 ![0, 1, 2, 3] bcast_S3x32x128x1_S3x32x128x128_0_1_2_3 (broadcastInDim S3x32x128x1 ![0, 1, 2] bcast_S3x32x128_S3x32x128x1_0_1_2 v)
def colR (v : V S3x32x128) : V S3x32x128x128 :=
  broadcastInDim S3x32x128x128 ![0, 1, 2, 3] bcast_S3x32x1x128_S3x32x128x128_0_1_2_3 (broadcastInDim S3x32x1x128 ![0, 1, 3] bcast_S3x32x128_S3x32x1x128_0_1_3 v)
/-- The scores. -/
def scoreR (h : V S3x32x128x128) (a : V S3x2x128) : V S3x32x128x128 :=
  select (cmpf .oge (addf (rowR (dotR h a 0)) (colR (dotR h a 1))) (broadcastInDim S3x32x128x128 ![] bcast_S_S3x32x128x128 (constant S_ .f32 0x00000000#32))) (addf (rowR (dotR h a 0)) (colR (dotR h a 1)))
    (mulf (broadcastInDim S3x32x128x128 ![] bcast_S_S3x32x128x128 (constant S_ .f32 0x3E4CCCCD#32)) (addf (rowR (dotR h a 0)) (colR (dotR h a 1))))
/-- One array for every branch and sample. -/
def eachR (m : V S128x128) : V S3x32x128x128 :=
  broadcastInDim S3x32x128x128 ![0, 1, 2, 3] bcast_S1x1x128x128_S3x32x128x128_0_1_2_3 (broadcastInDim S1x1x128x128 ![2, 3] bcast_S128x128_S1x1x128x128_2_3 m)
/-- The greatest masked scores. -/
def topR (e : V S3x32x128x128) (mk : V S128x128) : V S3x32x128 :=
  Host.reduce FloatOps.maximumf (addf e (eachR mk)) (constant S_ .f32 0xFF800000#32) reducesTo_S3x32x128x128_S3x32x128_d2 h_S_
def peakR (e : V S3x32x128x128) (mk : V S128x128) : V S3x32x128 :=
  select (cmpf .olt (Host.absf (topR e mk)) (broadcastInDim S3x32x128 ![] bcast_S_S3x32x128 (constant S_ .f32 0x7F800000#32))) (topR e mk) (broadcastInDim S3x32x128 ![] bcast_S_S3x32x128 (constant S_ .f32 0x00000000#32))
/-- The unnormalised attention, and the attention. -/
def rawR (e : V S3x32x128x128) (lc mk : V S128x128) : V S3x32x128x128 := Host.exp (addf (subf e (colR (peakR e mk))) (eachR lc))
def totR (p : V S3x32x128x128) : V S3x32x128 := Host.reduceAdd p (constant S_ .f32 0x00000000#32) reducesTo_S3x32x128x128_S3x32x128_d2 h_S_
def shareR (p : V S3x32x128x128) : V S3x32x128x128 :=
  Host.divf p (colR (addf (totR p) (broadcastInDim S3x32x128 ![] bcast_S_S3x32x128 (constant S_ .f32 0x24E69595#32))))
/-- The attention times the features, the bias, and the layer. -/
def mixR (al h : V S3x32x128x128) : V S3x32x128x128 :=
  Host.dotGeneral dot_S3x32x128x128_S3x32x128x128_S3x32x128x128_2_2_3_3_01_01 none al h
def biasR (b : V S3x128) : V S3x32x128x128 :=
  broadcastInDim S3x32x128x128 ![0, 1, 2, 3] bcast_S3x1x1x128_S3x32x128x128_0_1_2_3 (broadcastInDim S3x1x1x128 ![0, 3] bcast_S3x128_S3x1x1x128_0_3 b)
def gatR (h : V S3x32x128x128) (W : V S3x128x128) (a : V S3x2x128) (b : V S3x128) (lc mk : V S128x128) : V S3x32x128x128 :=
  maximumf (addf (mixR (shareR (rawR (scoreR (featR h W) a) lc mk)) (featR h W)) (biasR b)) (broadcastInDim S3x32x128x128 ![] bcast_S_S3x32x128x128 (constant S_ .f32 0x00000000#32))

/-! ## Their elements -/

/-- Sample `s` of branch `r`, and a 128 × 128 array, by coordinates. -/
abbrev smp (e : V S3x32x128x128) (r : Fin 3) (s : Fin 32) : Mat := fun n l => e (ix4 r s n l)
abbrev mat (m : V S128x128) : Mat := fun s d => m (ix2 s d)

/-- A product over one axis of 128 entries. -/
theorem dotH {sl sr so : Shape} (D : DotDims sl sr so) (hr : D.contr.rank = 1) (hs : D.contr.size ⟨0, by omega⟩ = 128) (A : V sl) (B : V sr) (i : so.Idx)
    (L : Fin 128 → sl.Idx) (R : Fin 128 → sr.Idx)
    (hL : ∀ (q : D.contr.Idx) (k : Fin 128), (q ⟨0, by omega⟩).val = k.val → ∀ a, (D.lhsIdx i q a).val = (L k a).val)
    (hR : ∀ (q : D.contr.Idx) (k : Fin 128), (q ⟨0, by omega⟩).val = k.val → ∀ a, (D.rhsIdx i q a).val = (R k a).val) :
    (Host.dotGeneral D none A B : V so) i = ∑ k : Fin 128, A (L k) * B (R k) := by
  simp only [Host.dotGeneral]
  rw [Ideal.dotGeneral_apply, ← Equiv.sum_comp (contrEquiv1 D 128 hr hs).symm]
  refine Finset.sum_congr rfl fun k _ => ?_
  have hk := contrEquiv1_symm_val D 128 hr hs k
  rw [show D.lhsIdx i ((contrEquiv1 D 128 hr hs).symm k) = L k from funext fun a => Fin.ext (hL _ k hk a),
    show D.rhsIdx i ((contrEquiv1 D 128 hr hs).symm k) = R k from funext fun a => Fin.ext (hR _ k hk a)]

theorem featR_apply (h : V S3x32x128x128) (W : V S3x128x128) (r : Fin 3) (b : Fin 32) (s l : Fin 128) :
    featR h W (ix4 r b s l) = feat (smp h r b) (fun k l => W (ix3 r k l)) s l := by
  refine (dotH _ rfl rfl _ W _ (fun k => ix4 r b s k) (fun k => ix3 r k l) (fun q k hk a => ?_) (fun q k hk a => ?_)).trans
    (Finset.sum_congr rfl fun k _ => congrArg (· * W (ix3 r k l)) ?_)
  · match a with | ⟨0, _⟩ => rfl | ⟨1, _⟩ => rfl | ⟨2, _⟩ => rfl | ⟨3, _⟩ => exact hk
  · match a with | ⟨0, _⟩ => rfl | ⟨1, _⟩ => exact hk | ⟨2, _⟩ => rfl
  · exact transpose_apply _ _ _ _ (ix4 r b k s) (fun d => by match d with | ⟨0, _⟩ => rfl | ⟨1, _⟩ => rfl | ⟨2, _⟩ => rfl | ⟨3, _⟩ => rfl)

theorem dotR_apply (h : V S3x32x128x128) (a : V S3x2x128) (c : Fin 2) (r : Fin 3) (b : Fin 32) (s : Fin 128) :
    dotR h a c (ix3 r b s) = ∑ l, h (ix4 r b s l) * a (ix3 r c l) := by
  refine (dotH _ rfl rfl h _ _ (fun k => ix4 r b s k) (fun k => ix2 r k) (fun q k hk a => ?_) (fun q k hk a => ?_)).trans
    (Finset.sum_congr rfl fun k _ => congrArg (h (ix4 r b s k) * ·) ?_)
  · match a with | ⟨0, _⟩ => rfl | ⟨1, _⟩ => rfl | ⟨2, _⟩ => rfl | ⟨3, _⟩ => exact hk
  · match a with | ⟨0, _⟩ => rfl | ⟨1, _⟩ => exact hk
  · exact (shapeCast_apply _ _ _ (ix3 r 0 k) (by rw [Shape.rowMajor_val_two, Shape.rowMajor_val_three]; show (r.val * 1 + 0) * 128 + k.val = r.val * 128 + k.val; omega)).trans
      (extractStridedSlice_apply _ _ _ _ (ix3 r c k) (fun d => by match d with | ⟨0, _⟩ => (show r.val = 0 + r.val; omega) | ⟨1, _⟩ => rfl | ⟨2, _⟩ => (show k.val = 0 + k.val; omega)))

theorem rowR_apply (v : V S3x32x128) (r : Fin 3) (b : Fin 32) (s d : Fin 128) : rowR v (ix4 r b s d) = v (ix3 r b s) :=
  (broadcastInDim_apply _ _ _ _ (ix4 r b s 0) (fun a => by match a with | ⟨0, _⟩ => rfl | ⟨1, _⟩ => rfl | ⟨2, _⟩ => rfl | ⟨3, _⟩ => rfl)).trans
    (broadcastInDim_apply _ _ _ _ (ix3 r b s) (fun a => by match a with | ⟨0, _⟩ => rfl | ⟨1, _⟩ => rfl | ⟨2, _⟩ => rfl))
theorem colR_apply (v : V S3x32x128) (r : Fin 3) (b : Fin 32) (s d : Fin 128) : colR v (ix4 r b s d) = v (ix3 r b d) :=
  (broadcastInDim_apply _ _ _ _ (ix4 r b 0 d) (fun a => by match a with | ⟨0, _⟩ => rfl | ⟨1, _⟩ => rfl | ⟨2, _⟩ => rfl | ⟨3, _⟩ => rfl)).trans
    (broadcastInDim_apply _ _ _ _ (ix3 r b d) (fun a => by match a with | ⟨0, _⟩ => rfl | ⟨1, _⟩ => rfl | ⟨2, _⟩ => rfl))
theorem eachR_apply (m : V S128x128) (r : Fin 3) (b : Fin 32) (s d : Fin 128) : eachR m (ix4 r b s d) = m (ix2 s d) :=
  (broadcastInDim_apply _ _ _ _ (ix4 0 0 s d) (fun a => by match a with | ⟨0, _⟩ => rfl | ⟨1, _⟩ => rfl | ⟨2, _⟩ => rfl | ⟨3, _⟩ => rfl)).trans
    (broadcastInDim_apply _ _ _ _ (ix2 s d) (fun a => by match a with | ⟨0, _⟩ => rfl | ⟨1, _⟩ => rfl))
theorem biasR_apply (v : V S3x128) (r : Fin 3) (b : Fin 32) (d l : Fin 128) : biasR v (ix4 r b d l) = v (ix2 r l) :=
  (broadcastInDim_apply _ _ _ _ (ix4 r 0 0 l) (fun a => by match a with | ⟨0, _⟩ => rfl | ⟨1, _⟩ => rfl | ⟨2, _⟩ => rfl | ⟨3, _⟩ => rfl)).trans
    (broadcastInDim_apply _ _ _ _ (ix2 r l) (fun a => by match a with | ⟨0, _⟩ => rfl | ⟨1, _⟩ => rfl))

theorem leaky_select (v : EReal) : Scalar.select (Ideal.cmp .oge v (Ideal.ofBits .f32 0x00000000#32)) v (slope * v) = leaky v := by
  rw [leaky_eq, Ideal.ofBits_zero_f32]
  show Scalar.select (BitVec.ofBool (decide (0 ≤ v))) _ _ = _
  by_cases h : 0 ≤ v <;> simp [h, Scalar.select]

theorem scoreR_apply (h : V S3x32x128x128) (a : V S3x2x128) (r : Fin 3) (b : Fin 32) (s d : Fin 128) :
    scoreR h a (ix4 r b s d) = score (fun l => a (ix3 r 0 l)) (fun l => a (ix3 r 1 l)) (smp h r b) s d := by
  refine (leaky_select (rowR (dotR h a 0) (ix4 r b s d) + colR (dotR h a 1) (ix4 r b s d))).trans (congrArg leaky ?_)
  rw [rowR_apply, colR_apply, dotR_apply, dotR_apply]

theorem reduces2 : S3x32x128x128.Reduces [2] S3x32x128 := by decide
theorem lift_eq (r : Fin 3) (b : Fin 32) (d k : Fin 128) : reduces2.lift (ix3 r b d) k = ix4 r b k d := by
  funext a; apply Fin.ext; match a with | ⟨0, _⟩ => rfl | ⟨1, _⟩ => rfl | ⟨2, _⟩ => rfl | ⟨3, _⟩ => rfl

theorem fin0_select (v : Ideal .f32) :
    Scalar.select (FloatOps.cmpf .olt (FloatOps.hostAbsf v) (FloatOps.ofBits (F := Ideal) .f32 0x7F800000#32)) v (Ideal.ofBits .f32 0x00000000#32) = fin0 v := by
  rw [← Ideal.xori_weird_eq_hostAbsf_olt_inf]
  show Scalar.select (IntOp.xori (BitVec.ofBool (decide (v = ⊤ ∨ v = ⊥))) 1#1) v _ = _
  unfold fin0; rw [Ideal.ofBits_zero_f32]
  by_cases h : v = ⊤ ∨ v = ⊥ <;> simp [h, IntOp.xori, Scalar.select]

theorem splat_apply (c : BitVec 32) (i : S3x32x128.Idx) : broadcastInDim S3x32x128 ![] bcast_S_S3x32x128 (constant S_ .f32 c : V S_) i = Ideal.ofBits .f32 c := rfl
theorem select_apply (t u z : V S3x32x128) (i : S3x32x128.Idx) :
    select (cmpf .olt (Host.absf t) u) t z i = Scalar.select (FloatOps.cmpf (F := Ideal) (φ := .f32) .olt (FloatOps.hostAbsf (t i)) (u i)) (t i) (z i) := rfl

theorem peakR_eq (e : V S3x32x128x128) (mk : V S128x128) (i : S3x32x128.Idx) : peakR e mk i = fin0 (topR e mk i) := by
  unfold peakR
  rw [select_apply, splat_apply, splat_apply]
  exact fin0_select _

theorem peakR_apply (e : V S3x32x128x128) (mk : V S128x128) (r : Fin 3) (b : Fin 32) (d : Fin 128) :
    peakR e mk (ix3 r b d) = peak (mat mk) (smp e r b) d := by
  refine (peakR_eq e mk _).trans (congrArg fin0 ?_)
  have et : topR e mk = multiReduction .maximumf [2] S3x32x128 (addf e (eachR mk)) 0xFF800000#32 reduces2 (.inl rfl) rfl := hostReduce_maximumf_eq_multiReduction _ _ _ h_S_ _ _ _
  rw [et]
  refine (Ideal.multiReduction_maximumf_single _ _ _ _ _ _).trans ?_
  refine congrArg (fun f => Finset.fold max (Ideal.ofBits .f32 0xFF800000#32) f Finset.univ) (funext fun k => ?_)
  exact (congrArg (addf e (eachR mk)) (lift_eq r b d k)).trans (congrArg (e (ix4 r b k d) + ·) (eachR_apply mk r b k d))

theorem rawR_apply (e : V S3x32x128x128) (lc mk : V S128x128) (r : Fin 3) (b : Fin 32) (s d : Fin 128) :
    rawR e lc mk (ix4 r b s d) = raw (mat lc) (mat mk) (smp e r b) s d := by
  show Ideal.exp (e (ix4 r b s d) - colR (peakR e mk) (ix4 r b s d) + eachR lc (ix4 r b s d)) = _
  rw [colR_apply, peakR_apply, eachR_apply]; rfl

theorem totR_apply (p : V S3x32x128x128) (r : Fin 3) (b : Fin 32) (d : Fin 128) : totR p (ix3 r b d) = ∑ q, p (ix4 r b q d) := by
  unfold totR; simp only [Host.reduceAdd, Ideal.hostReduceAdd_def]
  rw [Ideal.hostReduceAdd_single reducesTo_S3x32x128x128_S3x32x128_d2 reduces2]
  show Ideal.ofBits .f32 0x00000000#32 + _ = _
  rw [Ideal.ofBits_zero_f32, zero_add]
  exact Finset.sum_congr rfl fun k _ => congrArg p (lift_eq r b d k)

theorem shareR_apply (p : V S3x32x128x128) (r : Fin 3) (b : Fin 32) (s d : Fin 128) : shareR p (ix4 r b s d) = share (smp p r b) s d := by
  show Ideal.div (p (ix4 r b s d)) (colR _ (ix4 r b s d)) = _
  rw [colR_apply]
  show Ideal.div (p (ix4 r b s d)) (totR p (ix3 r b d) + tiny) = _
  rw [totR_apply]; rfl

theorem mixR_apply (al h : V S3x32x128x128) (r : Fin 3) (b : Fin 32) (d l : Fin 128) :
    mixR al h (ix4 r b d l) = ∑ s, al (ix4 r b s d) * h (ix4 r b s l) := by
  refine dotH _ rfl rfl al h _ (fun k => ix4 r b k d) (fun k => ix4 r b k l) (fun q k hk a => ?_) (fun q k hk a => ?_)
  · match a with | ⟨0, _⟩ => rfl | ⟨1, _⟩ => rfl | ⟨2, _⟩ => exact hk | ⟨3, _⟩ => rfl
  · match a with | ⟨0, _⟩ => rfl | ⟨1, _⟩ => rfl | ⟨2, _⟩ => exact hk | ⟨3, _⟩ => rfl

/-- The layer of all branches and samples is the layer of each. -/
theorem gatR_apply (h : V S3x32x128x128) (W : V S3x128x128) (a : V S3x2x128) (v : V S3x128) (lc mk : V S128x128) (r : Fin 3) (b : Fin 32) (d l : Fin 128) :
    gatR h W a v lc mk (ix4 r b d l) = gat (smp h r b) (fun k l => W (ix3 r k l)) (mat lc) (mat mk) (fun l => a (ix3 r 0 l)) (fun l => a (ix3 r 1 l)) (fun l => v (ix2 r l)) d l := by
  show max (mixR _ _ (ix4 r b d l) + biasR v (ix4 r b d l)) (Ideal.ofBits .f32 0x00000000#32) = _
  have eh : smp (featR h W) r b = feat (smp h r b) (fun k l => W (ix3 r k l)) := funext fun s => funext fun l => featR_apply h W r b s l
  have ee : smp (scoreR (featR h W) a) r b = score (fun l => a (ix3 r 0 l)) (fun l => a (ix3 r 1 l)) (smp (featR h W) r b) :=
    funext fun s => funext fun d => scoreR_apply _ a r b s d
  have er : smp (rawR (scoreR (featR h W) a) lc mk) r b = raw (mat lc) (mat mk) (smp (scoreR (featR h W) a) r b) :=
    funext fun s => funext fun d => rawR_apply _ lc mk r b s d
  rw [mixR_apply, biasR_apply, Ideal.ofBits_zero_f32]
  unfold gat
  refine congrArg (fun u => max (u + v (ix2 r l)) 0) (Finset.sum_congr rfl fun s _ => ?_)
  rw [featR_apply, shareR_apply, er, ee, eh]

/-! ## The layers of the program -/

theorem slicesW (p q : Fin 2) : S3x2x2x128x128.Slices ![0, p.val, q.val, 0, 0] S3x1x1x128x128 := by revert p q; decide
theorem slicesA (p q : Fin 2) : S3x2x2x2x128.Slices ![0, p.val, q.val, 0, 0] S3x1x1x2x128 := by revert p q; decide
theorem slicesB (p q : Fin 2) : S3x2x2x128.Slices ![0, p.val, q.val, 0] S3x1x1x128 := by revert p q; decide
/-- The parameters of layer `q` of pair `p`. -/
def wR (x : V S3x2x2x128x128) (p q : Fin 2) : V S3x128x128 := shapeCast S3x128x128 (extractStridedSlice S3x1x1x128x128 ![0, p.val, q.val, 0, 0] x (slicesW p q)) shapeCasts_S3x1x1x128x128_S3x128x128
def aR (x : V S3x2x2x2x128) (p q : Fin 2) : V S3x2x128 := shapeCast S3x2x128 (extractStridedSlice S3x1x1x2x128 ![0, p.val, q.val, 0, 0] x (slicesA p q)) shapeCasts_S3x1x1x2x128_S3x2x128
def bR (x : V S3x2x2x128) (p q : Fin 2) : V S3x128 := shapeCast S3x128 (extractStridedSlice S3x1x1x128 ![0, p.val, q.val, 0] x (slicesB p q)) shapeCasts_S3x1x1x128_S3x128

theorem wR_apply (x : V S3x2x2x128x128) (p q : Fin 2) (r : Fin 3) (k l : Fin 128) : wR x p q (ix3 r k l) = x (ix5 r p q k l) :=
  (shapeCast_apply _ _ _ (ix5 r 0 0 k l) (by rw [Shape.rowMajor_val_five, Shape.rowMajor_val_three]; show (((r.val * 1 + 0) * 1 + 0) * 128 + k.val) * 128 + l.val = (r.val * 128 + k.val) * 128 + l.val; omega)).trans
    (extractStridedSlice_apply _ _ _ _ (ix5 r p q k l) (fun d => by match d with | ⟨0, _⟩ => (show r.val = 0 + r.val; omega) | ⟨1, _⟩ => rfl | ⟨2, _⟩ => rfl | ⟨3, _⟩ => (show k.val = 0 + k.val; omega) | ⟨4, _⟩ => (show l.val = 0 + l.val; omega)))
theorem aR_apply (x : V S3x2x2x2x128) (p q : Fin 2) (r : Fin 3) (k : Fin 2) (l : Fin 128) : aR x p q (ix3 r k l) = x (ix5 r p q k l) :=
  (shapeCast_apply _ _ _ (ix5 r 0 0 k l) (by rw [Shape.rowMajor_val_five, Shape.rowMajor_val_three]; show (((r.val * 1 + 0) * 1 + 0) * 2 + k.val) * 128 + l.val = (r.val * 2 + k.val) * 128 + l.val; omega)).trans
    (extractStridedSlice_apply _ _ _ _ (ix5 r p q k l) (fun d => by match d with | ⟨0, _⟩ => (show r.val = 0 + r.val; omega) | ⟨1, _⟩ => rfl | ⟨2, _⟩ => rfl | ⟨3, _⟩ => (show k.val = 0 + k.val; omega) | ⟨4, _⟩ => (show l.val = 0 + l.val; omega)))
theorem bR_apply (x : V S3x2x2x128) (p q : Fin 2) (r : Fin 3) (l : Fin 128) : bR x p q (ix2 r l) = x (ix4 r p q l) :=
  (shapeCast_apply _ _ _ (ix4 r 0 0 l) (by rw [Shape.rowMajor_val_four, Shape.rowMajor_val_two]; show ((r.val * 1 + 0) * 1 + 0) * 128 + l.val = r.val * 128 + l.val; omega)).trans
    (extractStridedSlice_apply _ _ _ _ (ix4 r p q l) (fun d => by match d with | ⟨0, _⟩ => (show r.val = 0 + r.val; omega) | ⟨1, _⟩ => rfl | ⟨2, _⟩ => rfl | ⟨3, _⟩ => (show l.val = 0 + l.val; omega)))

/-- Two layers added to what they are of. -/
def pairR (h : V S3x32x128x128) (lf mf lt mt : V S128x128) (W : V S3x2x2x128x128) (a : V S3x2x2x2x128) (b : V S3x2x2x128) (p : Fin 2) : V S3x32x128x128 :=
  addf h (gatR (gatR h (wR W p 0) (aR a p 0) (bR b p 0) lf mf) (wR W p 1) (aR a p 1) (bR b p 1) lt mt)

theorem pairR_apply (h : V S3x32x128x128) (lf mf lt mt : V S128x128) (W : V S3x2x2x128x128) (a : V S3x2x2x2x128) (b : V S3x2x2x128) (p : Fin 2) (r : Fin 3) (s : Fin 32) :
    smp (pairR h lf mf lt mt W a b p) r s
      = pair (mat lf) (mat mf) (mat lt) (mat mt) (fun q k l => W (ix5 r p q k l)) (fun q c l => a (ix5 r p q c l)) (fun q l => b (ix4 r p q l)) (smp h r s) := by
  have g : ∀ (h : V S3x32x128x128) (q : Fin 2) (lc mk : V S128x128), smp (gatR h (wR W p q) (aR a p q) (bR b p q) lc mk) r s
      = gat (smp h r s) (fun k l => W (ix5 r p q k l)) (mat lc) (mat mk) (fun l => a (ix5 r p q 0 l)) (fun l => a (ix5 r p q 1 l)) (fun l => b (ix4 r p q l)) := fun h q lc mk =>
    funext fun d => funext fun l => by
      refine (gatR_apply h _ _ _ lc mk r s d l).trans ?_
      simp only [wR_apply, aR_apply, bR_apply]
  funext n l
  show h (ix4 r s n l) + smp (gatR (gatR h (wR W p 0) (aR a p 0) (bR b p 0) lf mf) (wR W p 1) (aR a p 1) (bR b p 1) lt mt) r s n l = _
  rw [g, g]; rfl

end Cert.Reference3Ideal.Branch
-- ==== Proof.Branch.lean ====
/-
  The kernel of the call `_run_branches` at extended reals: the graph attention of eight samples side by side, as
  `Branch.gat` of each. Node `s` of sample `j` is row or column `128 j + s`.
-/
module

public import proofs.«01_k».proof.Proof.BranchMath
public import proofs.«01_k».proof.Proof.Gen.Kernel3Ideal.Frame
public import Idealize.ShloMosaic.Lib.MatmulPlain
public import Idealize.ShloMosaic.Lib.Pipeline.ValueKit

@[expose] public section

noncomputable section
open Idealize.ShloMosaic hiding ix1 ix2 ix3 eq_ix2
open Idealize.ShloMosaic.ValueIdx
namespace Cert.Kernel3Ideal.Branch
open Cert.Kernel3Ideal Cert.Kernel3Ideal.Gen Cert.Branch

/-- An array of the kernel at extended reals. -/
abbrev V (s : Shape) (φ : FTy := .f32) := FVec Ideal s φ

/-- Place `s` of sample `j`. -/
abbrev at8 (j : Fin 8) (s : Fin 128) : Fin 1024 := ⟨j.val * 128 + s.val, by omega⟩

/-- Eight tiles side by side, and eight one below another. -/
abbrev side {φ : FTy} (f : Fin 8 → V S128x128 φ) : V S128x1024 φ :=
  concatenate S128x1024 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩] concatenates_S128x128_S128x128_S128x128_S128x128_S128x128_S128x128_S128x128_S128x128_S128x1024_d1
abbrev stack {φ : FTy} (f : Fin 8 → V S128x128 φ) : V S1024x128 φ :=
  concatenate S1024x128 0 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩] concatenates_S128x128_S128x128_S128x128_S128x128_S128x128_S128x128_S128x128_S128x128_S1024x128_d0

theorem side_apply {φ : FTy} (f : Fin 8 → V S128x128 φ) (i l : Fin 128) (j : Fin 8) : side f (ix2 i (at8 j l)) = f j (ix2 i l) :=
  concatenate_ofFn_apply (t := S128x1024) (s₁ := S128x128) 1 f _ rfl 128 rfl (ix2 i (at8 j l)) j (by show (j.val * 128 + l.val) / 128 = _; omega) (ix2 i l)
    (by show l.val = (j.val * 128 + l.val) % 128; omega) (fun a ha => by match a with | ⟨0, _⟩ => rfl | ⟨1, _⟩ => exact absurd rfl ha)

theorem stack_apply {φ : FTy} (f : Fin 8 → V S128x128 φ) (i l : Fin 128) (j : Fin 8) : stack f (ix2 (at8 j i) l) = f j (ix2 i l) :=
  concatenate_ofFn_apply (t := S1024x128) (s₁ := S128x128) 0 f _ rfl 128 rfl (ix2 (at8 j i) l) j (by show (j.val * 128 + i.val) / 128 = _; omega) (ix2 i l)
    (by show i.val = (j.val * 128 + i.val) % 128; omega) (fun a ha => by match a with | ⟨1, _⟩ => rfl | ⟨0, _⟩ => exact absurd rfl ha)

/-- A product that contracts the rows of both factors. -/
theorem dot00 {M N K : Nat} {φ₁ φ₂ : FTy} (wf : DotDims.WF ⟨2, ![K, M]⟩ ⟨2, ![K, N]⟩ ⟨2, ![M, N]⟩ [0] [0] [1] [1] [] []) (p : Option ContractPrecision)
    (A : V ⟨2, ![K, M]⟩ φ₁) (B : V ⟨2, ![K, N]⟩ φ₂) (r : Fin M) (c : Fin N) :
    FloatOps.matmul (⟨[0], [0], [1], [1], [], [], wf⟩ : DotDims ⟨2, ![K, M]⟩ ⟨2, ![K, N]⟩ ⟨2, ![M, N]⟩) p A B (constant ⟨2, ![M, N]⟩ .f32 0x00000000#32) (ix2 r c)
      = ∑ k : Fin K, A (ix2 k r) * B (ix2 k c) := by
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  congr 1 <;> refine congrArg _ (funext fun a => Fin.ext ?_)
  · match a with
    | ⟨0, _⟩ => exact hk
    | ⟨1, _⟩ => rfl
  · match a with
    | ⟨0, _⟩ => exact hk
    | ⟨1, _⟩ => rfl

/-! ## The stages of a layer -/

/-- The features of all nodes after the weights. -/
def featT (X : V S128x1024) (W : V S128x128 .bf16) : V S1024x128 :=
  matmul dot_S128x1024_S128x128_S1024x128_0_0_1_1_n_n none (truncf .bf16 X bitsLt_bf16_f32) W (constant S1024x128 .f32 0x00000000#32)
/-- The scores, before the rectifier and after it. -/
def sumT (h : V S1024x128) (a : V S2x128) : V S8x128x128 :=
  addf (broadcastTo S8x128x128 (shapeCast S8x128x1 (matmul dot_S1024x128_S1x128_S1024x1_1_1_0_0_n_n none h (extractStridedSlice S1x128 ![0, 0] a slices_S2x128_o0_0_S1x128) (constant S1024x1 .f32 0x00000000#32)) shapeCasts_S1024x1_S8x128x1) broadcasts_S8x128x1_S8x128x128)
    (broadcastTo S8x128x128 (shapeCast S8x1x128 (matmul dot_S1x128_S1024x128_S1x1024_1_1_0_0_n_n none (extractStridedSlice S1x128 ![1, 0] a slices_S2x128_o1_0_S1x128) h (constant S1x1024 .f32 0x00000000#32)) shapeCasts_S1x1024_S8x1x128) broadcasts_S8x1x128_S8x128x128)
def scoreT (h : V S1024x128) (a : V S2x128) : V S8x128x128 :=
  maximumf (sumT h a) (mulf (broadcast S8x128x128 (Scalar.ofBits .f32 0x3E4CCCCD#32)) (sumT h a))
/-- One array for every sample. -/
def eachT (m : V S128x128) : V S8x128x128 := broadcastTo S8x128x128 (shapeCast S1x128x128 m shapeCasts_S128x128_S1x128x128) broadcasts_S1x128x128_S8x128x128
/-- The greatest masked scores as a row of each sample. -/
def topT (e : V S8x128x128) (mk : V S128x128) : V S8x1x128 :=
  shapeCast S8x1x128 (multiReduction .maximumf [1] S8x128 (addf e (eachT mk)) 0xFF800000#32 reduces_S8x128x128_S8x128 (.inl rfl) rfl) shapeCasts_S8x128_S8x1x128
def peakT (e : V S8x128x128) (mk : V S128x128) : V S8x1x128 :=
  select (xori (weird (topT e mk)) (constantI S8x1x128 1 1#1)) (topT e mk) (broadcast S8x1x128 (Scalar.ofBits .f32 0x00000000#32))
/-- The unnormalised attention, and the attention. -/
def rawT (e : V S8x128x128) (lc mk : V S128x128) : V S8x128x128 :=
  exp (addf (subf e (broadcastTo S8x128x128 (peakT e mk) broadcasts_S8x1x128_S8x128x128)) (eachT lc))
def totT (p : V S8x128x128) : V S8x128 := multiReduction .add [1] S8x128 p 0x00000000#32 reduces_S8x128x128_S8x128 (.inl rfl) rfl
def shareT (p : V S8x128x128) : V S8x128x128 .bf16 :=
  truncf .bf16 (mulf p (broadcastTo S8x128x128 (divf (broadcast S8x1x128 (Scalar.ofBits .f32 0x3F800000#32)) (addf (shapeCast S8x1x128 (totT p) shapeCasts_S8x128_S8x1x128) (broadcast S8x1x128 (Scalar.ofBits .f32 0x24E69595#32)))) broadcasts_S8x1x128_S8x128x128)) bitsLt_bf16_f32
theorem slicesA (j : Fin 8) : S8x128x128.Slices ![j.val, 0, 0] S1x128x128 := by revert j; decide
theorem slicesB (j : Fin 8) : S1024x128.Slices ![j.val * 128, 0] S128x128 := by revert j; decide
/-- One sample's attention times its features. -/
def mixT (al : V S8x128x128 .bf16) (h : V S1024x128) (j : Fin 8) : V S128x128 :=
  matmul dot_S128x128_S128x128_S128x128_0_0_1_1_n_n none (shapeCast S128x128 (extractStridedSlice S1x128x128 ![j.val, 0, 0] al (slicesA j)) shapeCasts_S1x128x128_S128x128)
    (extractStridedSlice S128x128 ![j.val * 128, 0] (truncf .bf16 h bitsLt_bf16_f32) (slicesB j)) (constant S128x128 .f32 0x00000000#32)
/-- The bias for every sample, and the layer's end. -/
def biasT (b : V S128) : V S1x1024 :=
  shapeCast S1x1024 (broadcastTo S1x8x128 (shapeCast S1x1x128 (shapeCast S1x1x128 b shapeCasts_S128_S1x1x128) shapeCasts_S1x1x128_S1x1x128) broadcasts_S1x1x128_S1x8x128) shapeCasts_S1x8x128_S1x1024
def endT (o : V S128x1024) (b : V S1x1024) : V S128x1024 :=
  maximumf (addf o (broadcastTo S128x1024 b broadcasts_S1x1024_S128x1024)) (broadcast S128x1024 (Scalar.ofBits .f32 0x00000000#32))
/-- The layer. -/
def gatT (X : V S128x1024) (W : V S128x128 .bf16) (a : V S2x128) (b : V S128) (lc mk : V S128x128) : V S128x1024 :=
  endT (side (mixT (shareT (rawT (scoreT (featT X W) a) lc mk)) (featT X W))) (biasT b)

/-! ## Their elements -/

/-- The features of sample `j` in an array of eight. -/
abbrev col (X : V S128x1024) (j : Fin 8) : Mat := fun k s => X (ix2 k (at8 j s))
/-- A 128 × 128 array, and a row, by coordinates. -/
abbrev mat {φ : FTy} (m : V S128x128 φ) : Mat := fun s d => m (ix2 s d)
/-- A sample of an array of eight. -/
abbrev smp {φ : FTy} (e : V S8x128x128 φ) (j : Fin 8) : Mat := fun s d => e (ix3 j s d)

theorem featT_apply (X : V S128x1024) (W : V S128x128 .bf16) (j : Fin 8) (s l : Fin 128) : featT X W (ix2 (at8 j s) l) = feat (col X j) (mat W) s l :=
  dot00 _ none (truncf .bf16 X bitsLt_bf16_f32) W (at8 j s) l

theorem eachT_apply (m : V S128x128) (j : Fin 8) (s d : Fin 128) : eachT m (ix3 j s d) = m (ix2 s d) :=
  (broadcastTo_apply _ _ _ (ix3 0 s d) (fun a => by match a with | ⟨0, _⟩ => rfl | ⟨1, _⟩ => rfl | ⟨2, _⟩ => rfl)).trans
    (shapeCast_apply _ _ _ (ix2 s d) (by rw [Shape.rowMajor_val_two, Shape.rowMajor_val_three]; show s.val * 128 + d.val = (0 * 128 + s.val) * 128 + d.val; omega))

theorem row_apply (v : V S8x1x128) (j : Fin 8) (s d : Fin 128) : broadcastTo S8x128x128 v broadcasts_S8x1x128_S8x128x128 (ix3 j s d) = v (ix3 j 0 d) :=
  broadcastTo_apply _ _ _ (ix3 j 0 d) (fun a => by match a with | ⟨0, _⟩ => rfl | ⟨1, _⟩ => rfl | ⟨2, _⟩ => rfl)

theorem flat_apply (v : V S8x128) (j : Fin 8) (d : Fin 128) : shapeCast S8x1x128 v shapeCasts_S8x128_S8x1x128 (ix3 j 0 d) = v (ix2 j d) :=
  shapeCast_apply _ _ _ (ix2 j d) (by rw [Shape.rowMajor_val_two, Shape.rowMajor_val_three]; show j.val * 128 + d.val = (j.val * 1 + 0) * 128 + d.val; omega)

theorem sumT_apply (h : V S1024x128) (a : V S2x128) (j : Fin 8) (s d : Fin 128) :
    sumT h a (ix3 j s d) = ∑ l, h (ix2 (at8 j s) l) * a (ix2 0 l) + ∑ l, h (ix2 (at8 j d) l) * a (ix2 1 l) := by
  have e0 : ∀ l : Fin 128, extractStridedSlice S1x128 ![0, 0] a slices_S2x128_o0_0_S1x128 (ix2 0 l) = a (ix2 0 l) := fun l =>
    extractStridedSlice_apply _ _ _ _ _ (fun k => by match k with | ⟨0, _⟩ => rfl | ⟨1, _⟩ => (show l.val = 0 + l.val; omega))
  have e1 : ∀ l : Fin 128, extractStridedSlice S1x128 ![1, 0] a slices_S2x128_o1_0_S1x128 (ix2 0 l) = a (ix2 1 l) := fun l =>
    extractStridedSlice_apply _ _ _ _ _ (fun k => by match k with | ⟨0, _⟩ => rfl | ⟨1, _⟩ => (show l.val = 0 + l.val; omega))
  refine congrArg₂ (· + ·) ?_ ?_
  · refine (broadcastTo_apply _ _ _ (ix3 j s 0) (fun a => by match a with | ⟨0, _⟩ => rfl | ⟨1, _⟩ => rfl | ⟨2, _⟩ => rfl)).trans
      ((shapeCast_apply _ _ _ (ix2 (at8 j s) 0) (by rw [Shape.rowMajor_val_two, Shape.rowMajor_val_three]; rfl)).trans
        ((Ideal.matmul_transposedRhs_apply (M := 1024) (K := 128) (N := 1) none h _ _ (at8 j s) 0).trans ?_))
    show Ideal.ofBits .f32 0x00000000#32 + _ = _
    rw [Ideal.ofBits_zero_f32, zero_add]
    exact Finset.sum_congr rfl fun l _ => by rw [e0]
  · refine (row_apply _ j s d).trans
      ((shapeCast_apply _ _ _ (ix2 0 (at8 j d)) (by rw [Shape.rowMajor_val_two, Shape.rowMajor_val_three]; show 0 * 1024 + (j.val * 128 + d.val) = (j.val * 1 + 0) * 128 + d.val; omega)).trans
        ((Ideal.matmul_transposedRhs_apply (M := 1) (K := 128) (N := 1024) none _ h _ 0 (at8 j d)).trans ?_))
    show Ideal.ofBits .f32 0x00000000#32 + _ = _
    rw [Ideal.ofBits_zero_f32, zero_add]
    exact Finset.sum_congr rfl fun l _ => by rw [e1, mul_comm]

theorem scoreT_apply (h : V S1024x128) (a : V S2x128) (j : Fin 8) (s d : Fin 128) :
    scoreT h a (ix3 j s d) = score (fun l => a (ix2 0 l)) (fun l => a (ix2 1 l)) (fun s l => h (ix2 (at8 j s) l)) s d := by
  show max (sumT h a (ix3 j s d)) (slope * sumT h a (ix3 j s d)) = _
  rw [sumT_apply]; rfl

theorem lift_eq (j : Fin 8) (d k : Fin 128) : reduces_S8x128x128_S8x128.lift (ix2 j d) k = ix3 j k d := by
  funext a; apply Fin.ext; match a with | ⟨0, _⟩ => rfl | ⟨1, _⟩ => rfl | ⟨2, _⟩ => rfl

theorem fin0_select (v : EReal) :
    Scalar.select (IntOp.xori (FloatOps.weird (F := Ideal) v) 1#1) v (Ideal.ofBits .f32 0x00000000#32) = fin0 v := by
  show Scalar.select (IntOp.xori (BitVec.ofBool (decide (v = ⊤ ∨ v = ⊥))) 1#1) v _ = _
  unfold fin0; rw [Ideal.ofBits_zero_f32]
  by_cases h : v = ⊤ ∨ v = ⊥ <;> simp [h, IntOp.xori, Scalar.select]

theorem peakT_apply (e : V S8x128x128) (mk : V S128x128) (j : Fin 8) (d : Fin 128) : peakT e mk (ix3 j 0 d) = peak (mat mk) (smp e j) d := by
  refine (fin0_select _).trans (congrArg fin0 ?_)
  refine (flat_apply _ j d).trans ((Ideal.multiReduction_maximumf_single _ _ _ _ _ _).trans ?_)
  refine congrArg (fun f => Finset.fold max (Ideal.ofBits .f32 0xFF800000#32) f Finset.univ) (funext fun k => ?_)
  exact (congrArg (addf e (eachT mk)) (lift_eq j d k)).trans (congrArg (e (ix3 j k d) + ·) (eachT_apply mk j k d))

theorem rawT_apply (e : V S8x128x128) (lc mk : V S128x128) (j : Fin 8) (s d : Fin 128) : rawT e lc mk (ix3 j s d) = raw (mat lc) (mat mk) (smp e j) s d := by
  show Ideal.exp (e (ix3 j s d) - broadcastTo S8x128x128 (peakT e mk) broadcasts_S8x1x128_S8x128x128 (ix3 j s d) + eachT lc (ix3 j s d)) = _
  rw [row_apply, peakT_apply, eachT_apply]; rfl

theorem totT_apply (p : V S8x128x128) (j : Fin 8) (d : Fin 128) : totT p (ix2 j d) = ∑ q, smp p j q d :=
  (Ideal.multiReduction_add_single _ _ _ _ _ _).trans (Finset.sum_congr rfl fun k _ => congrArg p (lift_eq j d k))

theorem shareT_apply (p : V S8x128x128) (j : Fin 8) (s d : Fin 128) (hp : ∀ s d, 0 ≤ smp p j s d) : shareT p (ix3 j s d) = share (smp p j) s d := by
  show p (ix3 j s d) * _ = _
  rw [row_apply]
  show p (ix3 j s d) * Ideal.div (Ideal.ofBits .f32 0x3F800000#32) (shapeCast S8x1x128 (totT p) shapeCasts_S8x128_S8x1x128 (ix3 j 0 d) + tiny) = _
  rw [flat_apply, totT_apply, Ideal.ofBits_one_f32, mul_div_one _ _ (denom_ne _ hp d)]
  rfl

theorem mixT_apply (al : V S8x128x128 .bf16) (h : V S1024x128) (j : Fin 8) (d l : Fin 128) :
    mixT al h j (ix2 d l) = ∑ s, al (ix3 j s d) * h (ix2 (at8 j s) l) := by
  refine (dot00 _ none _ _ d l).trans (Finset.sum_congr rfl fun s _ => congrArg₂ (· * ·) ?_ ?_)
  · refine (shapeCast_apply _ _ _ (ix3 0 s d) (by rw [Shape.rowMajor_val_two, Shape.rowMajor_val_three]; show (0 * 128 + s.val) * 128 + d.val = s.val * 128 + d.val; omega)).trans
      (extractStridedSlice_apply _ _ _ _ (ix3 j s d) (fun k => by match k with | ⟨0, _⟩ => rfl | ⟨1, _⟩ => (show s.val = 0 + s.val; omega) | ⟨2, _⟩ => (show d.val = 0 + d.val; omega)))
  · exact extractStridedSlice_apply _ _ _ _ (ix2 (at8 j s) l) (fun k => by match k with | ⟨0, _⟩ => rfl | ⟨1, _⟩ => (show l.val = 0 + l.val; omega))

theorem biasT_apply (b : V S128) (j : Fin 8) (l : Fin 128) : biasT b (ix2 0 (at8 j l)) = b (ix1 l) := by
  refine (shapeCast_apply _ _ _ (ix3 0 j l) (by rw [Shape.rowMajor_val_two, Shape.rowMajor_val_three]; show (0 * 8 + j.val) * 128 + l.val = 0 * 1024 + (j.val * 128 + l.val); omega)).trans
    ((broadcastTo_apply _ _ _ (ix3 0 0 l) (fun a => by match a with | ⟨0, _⟩ => rfl | ⟨1, _⟩ => rfl | ⟨2, _⟩ => rfl)).trans ?_)
  rw [shapeCast_self]
  exact shapeCast_apply _ _ _ (ix1 l) (by rw [Shape.rowMajor_val_one, Shape.rowMajor_val_three]; show l.val = (0 * 1 + 0) * 128 + l.val; omega)

/-- The layer of eight samples is the layer of each. -/
theorem gatT_apply (X : V S128x1024) (W : V S128x128 .bf16) (a : V S2x128) (b : V S128) (lc mk : V S128x128) (j : Fin 8) (d l : Fin 128) :
    gatT X W a b lc mk (ix2 d (at8 j l)) = gat (col X j) (mat W) (mat lc) (mat mk) (fun l => a (ix2 0 l)) (fun l => a (ix2 1 l)) (fun l => b (ix1 l)) d l := by
  show max (side _ (ix2 d (at8 j l)) + broadcastTo S128x1024 (biasT b) broadcasts_S1x1024_S128x1024 (ix2 d (at8 j l))) (Ideal.ofBits .f32 0x00000000#32) = _
  have eh : (fun s l => featT X W (ix2 (at8 j s) l)) = feat (col X j) (mat W) := funext fun s => funext fun l => featT_apply X W j s l
  have ee : smp (scoreT (featT X W) a) j = score (fun l => a (ix2 0 l)) (fun l => a (ix2 1 l)) (feat (col X j) (mat W)) := by
    rw [← eh]; exact funext fun s => funext fun d => scoreT_apply _ a j s d
  have er : smp (rawT (scoreT (featT X W) a) lc mk) j = raw (mat lc) (mat mk) (smp (scoreT (featT X W) a) j) := funext fun s => funext fun d => rawT_apply _ lc mk j s d
  rw [side_apply, mixT_apply, Ideal.ofBits_zero_f32, broadcastTo_apply _ _ _ (ix2 0 (at8 j l)) (fun a => by match a with | ⟨0, _⟩ => rfl | ⟨1, _⟩ => rfl), biasT_apply]
  unfold gat
  refine congrArg (fun v => max (v + b (ix1 l)) 0) (Finset.sum_congr rfl fun s _ => ?_)
  rw [featT_apply, shareT_apply _ _ _ _ (fun s d => by rw [er]; exact exp_nonneg _), er, ee]

end Cert.Kernel3Ideal.Branch
-- ==== Proof.BranchBody.lean ====
/-
  The body of `_run_branches` at extended reals: what a grid point writes, element by element, from the blocks it reads.
-/
module

public import proofs.«01_k».proof.Proof.Branch

@[expose] public section

noncomputable section
open Idealize.ShloMosaic hiding ix1 ix2 ix3 ix4 ix5 eq_ix2
open Idealize.ShloMosaic.ValueIdx
namespace Cert.Kernel3Ideal.Branch
open Cert.Kernel3Ideal Cert.Kernel3Ideal.Gen Cert.Branch

/-! ## The convolution -/

theorem inb3 (j : Fin 8) (t : Fin 7) : ∀ a, ![j.val, t.val, 0] a + S1x128x128.size a ≤ S8x136x128.size a := by revert j t; decide
/-- The rows of sample `j` from row `t` on. -/
def rowsT {φ : FTy} (x : V S8x136x128 φ) (t : Fin 7) (j : Fin 8) : V S128x128 φ :=
  shapeCast S128x128 (fun y : S1x128x128.Idx => x ((Rect.unit (s := S8x136x128) ![j.val, t.val, 0] S1x128x128.size (inb3 j t)).idx y)) shapeCasts_S1x128x128_S128x128
theorem slicesW (t : Fin 7) : S7x128x128.Slices ![t.val, 0, 0] S1x128x128 := by revert t; decide
/-- What the rows from `t` on contribute. -/
def tapT (x : V S8x136x128 .bf16) (w : V S1x7x128x128 .bf16) (t : Fin 7) : V S1024x128 :=
  matmul dot_S1024x128_S128x128_S1024x128_1_0_0_1_n_n none (stack (rowsT x t))
    (shapeCast S128x128 (extractStridedSlice S1x128x128 ![t.val, 0, 0] (shapeCast S7x128x128 w shapeCasts_S1x7x128x128_S7x128x128) (slicesW t)) shapeCasts_S1x128x128_S128x128)
    (constant S1024x128 .f32 0x00000000#32)
def biasC (b : V S1x1x128) : V S1024x128 := broadcastTo S1024x128 (shapeCast S1x128 b shapeCasts_S1x1x128_S1x128) broadcasts_S1x128_S1024x128
def convT (x : V S8x136x128 .bf16) (w : V S1x7x128x128 .bf16) (b : V S1x1x128) : V S1024x128 :=
  maximumf (addf (addf (addf (addf (addf (addf (addf (biasC b) (tapT x w 0)) (tapT x w 1)) (tapT x w 2)) (tapT x w 3)) (tapT x w 4)) (tapT x w 5)) (tapT x w 6))
    (broadcast S1024x128 (Scalar.ofBits .f32 0x00000000#32))
/-- The input of the attention: the middle rows for the first branch, the convolution for the others. -/
def inT (i : grid0.Coords) (x0 : V S8x136x128 .bf16) (x1 : V S8x136x128) (w : V S1x7x128x128 .bf16) (b : V S1x1x128) : V S128x1024 :=
  Scalar.select (Scalar.cmpi .eq (BitVec.ofNat 32 (i 0).val) 0#32) (side (rowsT x1 3))
    (side fun j => extractStridedSlice S128x128 ![j.val * 128, 0] (convT x0 w b) (slicesB j))

theorem rowsT_apply {φ : FTy} (x : V S8x136x128 φ) (t : Fin 7) (j : Fin 8) (n k : Fin 128) : rowsT x t j (ix2 n k) = x (ix3 j ⟨n.val + t.val, by omega⟩ k) := by
  refine (shapeCast_apply _ _ _ (ix3 0 n k) (by rw [Shape.rowMajor_val_two, Shape.rowMajor_val_three]; show (0 * 128 + n.val) * 128 + k.val = n.val * 128 + k.val; omega)).trans
    (congrArg x (funext fun a => Fin.ext ((Rect.idx_unit_val _ _ _ _ a).trans ?_)))
  match a with
  | ⟨0, _⟩ => exact Nat.add_zero j.val
  | ⟨1, _⟩ => exact Nat.add_comm t.val n.val
  | ⟨2, _⟩ => exact Nat.zero_add k.val

theorem tapT_apply (x : V S8x136x128 .bf16) (w : V S1x7x128x128 .bf16) (t : Fin 7) (j : Fin 8) (n l : Fin 128) :
    tapT x w t (ix2 (at8 j n) l) = ∑ k, x (ix3 j ⟨n.val + t.val, by omega⟩ k) * w (ix4 0 t k l) := by
  refine (Ideal.matmul_plain_apply (M := 1024) (K := 128) (N := 128) none _ _ _ (at8 j n) l).trans ?_
  show Ideal.ofBits .f32 0x00000000#32 + _ = _
  rw [Ideal.ofBits_zero_f32, zero_add]
  refine Finset.sum_congr rfl fun k _ => congrArg₂ (· * ·) ((stack_apply _ n k j).trans (rowsT_apply x t j n k)) ?_
  refine (shapeCast_apply _ _ _ (ix3 0 k l) (by rw [Shape.rowMajor_val_two, Shape.rowMajor_val_three]; show (0 * 128 + k.val) * 128 + l.val = k.val * 128 + l.val; omega)).trans
    ((extractStridedSlice_apply _ _ _ _ (ix3 t k l) (fun a => by match a with | ⟨0, _⟩ => rfl | ⟨1, _⟩ => exact (Nat.zero_add k.val).symm | ⟨2, _⟩ => exact (Nat.zero_add l.val).symm)).trans
      (shapeCast_apply _ _ _ (ix4 0 t k l) (by rw [Shape.rowMajor_val_three, Shape.rowMajor_val_four]; show ((0 * 7 + t.val) * 128 + k.val) * 128 + l.val = (t.val * 128 + k.val) * 128 + l.val; omega)))

theorem biasC_apply (b : V S1x1x128) (n : Fin 1024) (l : Fin 128) : biasC b (ix2 n l) = b (ix3 0 0 l) :=
  (broadcastTo_apply _ _ _ (ix2 0 l) (fun a => by match a with | ⟨0, _⟩ => rfl | ⟨1, _⟩ => rfl)).trans
    (shapeCast_apply _ _ _ (ix3 0 0 l) (by rw [Shape.rowMajor_val_two, Shape.rowMajor_val_three]; show (0 * 1 + 0) * 128 + l.val = 0 * 128 + l.val; omega))

theorem convT_apply (x : V S8x136x128 .bf16) (w : V S1x7x128x128 .bf16) (b : V S1x1x128) (j : Fin 8) (n l : Fin 128) :
    convT x w b (ix2 (at8 j n) l) = conv (fun l => b (ix3 0 0 l)) (fun r k => x (ix3 j r k)) (fun t k l => w (ix4 0 t k l)) n l := by
  show max (biasC b (ix2 (at8 j n) l) + tapT x w 0 (ix2 (at8 j n) l) + tapT x w 1 (ix2 (at8 j n) l) + tapT x w 2 (ix2 (at8 j n) l) + tapT x w 3 (ix2 (at8 j n) l)
    + tapT x w 4 (ix2 (at8 j n) l) + tapT x w 5 (ix2 (at8 j n) l) + tapT x w 6 (ix2 (at8 j n) l)) (Ideal.ofBits .f32 0x00000000#32) = _
  simp only [biasC_apply, tapT_apply, Ideal.ofBits_zero_f32]
  unfold conv
  rw [Fin.sum_univ_seven, add_comm _ (b (ix3 0 0 l))]
  simp only [add_assoc]

/-- The input by branch. -/
abbrev inp (i : grid0.Coords) (x0 : V S8x136x128 .bf16) (x1 : V S8x136x128) (w : V S1x7x128x128 .bf16) (b : V S1x1x128) (j : Fin 8) : Mat := fun n l =>
  if (i 0).val = 0 then x1 (ix3 j ⟨n.val + 3, by omega⟩ l) else conv (fun l => b (ix3 0 0 l)) (fun r k => x0 (ix3 j r k)) (fun t k l => w (ix4 0 t k l)) n l

theorem inT_apply (i : grid0.Coords) (x0 : V S8x136x128 .bf16) (x1 : V S8x136x128) (w : V S1x7x128x128 .bf16) (b : V S1x1x128) (j : Fin 8) (n l : Fin 128) :
    inT i x0 x1 w b (ix2 n (at8 j l)) = inp i x0 x1 w b j n l := by
  have hc : Scalar.cmpi .eq (BitVec.ofNat 32 (i 0).val) 0#32 = if (i 0).val = 0 then 1#1 else 0#1 := by
    have h : ∀ v : Fin 3, Scalar.cmpi .eq (BitVec.ofNat 32 v.val) 0#32 = if v.val = 0 then 1#1 else 0#1 := by decide
    exact h (i 0)
  unfold inT inp
  rw [hc]
  split
  · rw [show ∀ A B : V S128x1024, Scalar.select 1#1 A B = A from fun _ _ => rfl]
    rw [side_apply, rowsT_apply]; rfl
  · rw [show ∀ A B : V S128x1024, Scalar.select 0#1 A B = B from fun _ _ => rfl, side_apply, ← convT_apply]
    exact extractStridedSlice_apply _ _ _ _ (ix2 (at8 j n) l) (fun a => by match a with | ⟨0, _⟩ => rfl | ⟨1, _⟩ => exact (Nat.zero_add l.val).symm)

/-! ## The weights of a layer -/

theorem slicesP (p q : Fin 2) : S2x2x128x128.Slices ![p.val, q.val, 0, 0] S1x1x128x128 := by revert p q; decide
theorem slicesQ (p q : Fin 2) : S2x2x2x128.Slices ![p.val, q.val, 0, 0] S1x1x2x128 := by revert p q; decide
theorem slicesR (p q : Fin 2) : S2x2x128.Slices ![p.val, q.val, 0] S1x1x128 := by revert p q; decide
def wT (x8 : V S1x2x2x128x128 .bf16) (p q : Fin 2) : V S128x128 .bf16 :=
  shapeCast S128x128 (extractStridedSlice S1x1x128x128 ![p.val, q.val, 0, 0] (shapeCast S2x2x128x128 x8 shapeCasts_S1x2x2x128x128_S2x2x128x128) (slicesP p q)) shapeCasts_S1x1x128x128_S128x128
def aT (x9 : V S1x2x2x2x128) (p q : Fin 2) : V S2x128 :=
  shapeCast S2x128 (extractStridedSlice S1x1x2x128 ![p.val, q.val, 0, 0] (shapeCast S2x2x2x128 x9 shapeCasts_S1x2x2x2x128_S2x2x2x128) (slicesQ p q)) shapeCasts_S1x1x2x128_S2x128
def bT (x10 : V S1x2x2x128) (p q : Fin 2) : V S128 :=
  shapeCast S128 (extractStridedSlice S1x1x128 ![p.val, q.val, 0] (shapeCast S2x2x128 x10 shapeCasts_S1x2x2x128_S2x2x128) (slicesR p q)) shapeCasts_S1x1x128_S128

theorem wT_apply (x8 : V S1x2x2x128x128 .bf16) (p q : Fin 2) (k l : Fin 128) : wT x8 p q (ix2 k l) = x8 (ix5 0 p q k l) :=
  (shapeCast_apply _ _ _ (ix4 0 0 k l) (by rw [Shape.rowMajor_val_two, Shape.rowMajor_val_four]; show ((0 * 1 + 0) * 128 + k.val) * 128 + l.val = k.val * 128 + l.val; omega)).trans
    ((extractStridedSlice_apply _ _ _ _ (ix4 p q k l) (fun a => by match a with | ⟨0, _⟩ => rfl | ⟨1, _⟩ => rfl | ⟨2, _⟩ => exact (Nat.zero_add k.val).symm | ⟨3, _⟩ => exact (Nat.zero_add l.val).symm)).trans
      (shapeCast_apply _ _ _ (ix5 0 p q k l) (by rw [Shape.rowMajor_val_four, Shape.rowMajor_val_five]; show (((0 * 2 + p.val) * 2 + q.val) * 128 + k.val) * 128 + l.val = ((p.val * 2 + q.val) * 128 + k.val) * 128 + l.val; omega)))
theorem aT_apply (x9 : V S1x2x2x2x128) (p q c : Fin 2) (l : Fin 128) : aT x9 p q (ix2 c l) = x9 (ix5 0 p q c l) :=
  (shapeCast_apply _ _ _ (ix4 0 0 c l) (by rw [Shape.rowMajor_val_two, Shape.rowMajor_val_four]; show ((0 * 1 + 0) * 2 + c.val) * 128 + l.val = c.val * 128 + l.val; omega)).trans
    ((extractStridedSlice_apply _ _ _ _ (ix4 p q c l) (fun a => by match a with | ⟨0, _⟩ => rfl | ⟨1, _⟩ => rfl | ⟨2, _⟩ => exact (Nat.zero_add c.val).symm | ⟨3, _⟩ => exact (Nat.zero_add l.val).symm)).trans
      (shapeCast_apply _ _ _ (ix5 0 p q c l) (by rw [Shape.rowMajor_val_four, Shape.rowMajor_val_five]; show (((0 * 2 + p.val) * 2 + q.val) * 2 + c.val) * 128 + l.val = ((p.val * 2 + q.val) * 2 + c.val) * 128 + l.val; omega)))
theorem bT_apply (x10 : V S1x2x2x128) (p q : Fin 2) (l : Fin 128) : bT x10 p q (ix1 l) = x10 (ix4 0 p q l) :=
  (shapeCast_apply _ _ _ (ix3 0 0 l) (by rw [Shape.rowMajor_val_one, Shape.rowMajor_val_three]; show (0 * 1 + 0) * 128 + l.val = l.val; omega)).trans
    ((extractStridedSlice_apply _ _ _ _ (ix3 p q l) (fun a => by match a with | ⟨0, _⟩ => rfl | ⟨1, _⟩ => rfl | ⟨2, _⟩ => exact (Nat.zero_add l.val).symm)).trans
      (shapeCast_apply _ _ _ (ix4 0 p q l) (by rw [Shape.rowMajor_val_three, Shape.rowMajor_val_four]; show ((0 * 2 + p.val) * 2 + q.val) * 128 + l.val = (p.val * 2 + q.val) * 128 + l.val; omega)))

/-! ## The body -/

/-- A pair of layers of the eight samples. -/
def pairT (X : V S128x1024) (lf mf lt mt : V S128x128) (x8 : V S1x2x2x128x128 .bf16) (x9 : V S1x2x2x2x128) (x10 : V S1x2x2x128) (p : Fin 2) : V S128x1024 :=
  addf X (gatT (gatT X (wT x8 p 0) (aT x9 p 0) (bT x10 p 0) lf mf) (wT x8 p 1) (aT x9 p 1) (bT x10 p 1) lt mt)

theorem pairT_apply (X : V S128x1024) (lf mf lt mt : V S128x128) (x8 : V S1x2x2x128x128 .bf16) (x9 : V S1x2x2x2x128) (x10 : V S1x2x2x128) (p : Fin 2) (j : Fin 8) :
    col (pairT X lf mf lt mt x8 x9 x10 p) j
      = pair (mat lf) (mat mf) (mat lt) (mat mt) (fun q k l => x8 (ix5 0 p q k l)) (fun q c l => x9 (ix5 0 p q c l)) (fun q l => x10 (ix4 0 p q l)) (col X j) := by
  have ew : ∀ q, mat (wT x8 p q) = fun k l => x8 (ix5 0 p q k l) := fun q => funext fun k => funext fun l => wT_apply x8 p q k l
  have ea : ∀ q c, (fun l => aT x9 p q (ix2 c l)) = fun l => x9 (ix5 0 p q c l) := fun q c => funext fun l => aT_apply x9 p q c l
  have eb : ∀ q, (fun l => bT x10 p q (ix1 l)) = fun l => x10 (ix4 0 p q l) := fun q => funext fun l => bT_apply x10 p q l
  have e1 : col (gatT X (wT x8 p 0) (aT x9 p 0) (bT x10 p 0) lf mf) j
      = gat (col X j) (mat (wT x8 p 0)) (mat lf) (mat mf) (fun l => aT x9 p 0 (ix2 0 l)) (fun l => aT x9 p 0 (ix2 1 l)) (fun l => bT x10 p 0 (ix1 l)) :=
    funext fun n => funext fun l => gatT_apply X _ _ _ lf mf j n l
  funext n l
  show X (ix2 n (at8 j l)) + gatT _ _ _ _ lt mt (ix2 n (at8 j l)) = _
  rw [gatT_apply, e1]
  unfold pair
  rw [ew, ew, ea, ea, ea, ea, eb, eb]

theorem z2 : (![0, 0] : Fin 2 → Nat) = fun _ => 0 := funext fun a => by fin_cases a <;> rfl

section
variable (i : grid0.Coords) (x0 : Vec Ideal S8x136x128 .bf16) (x1 : Vec Ideal S8x136x128 .f32) (x2 : Vec Ideal S1x7x128x128 .bf16) (x3 : Vec Ideal S1x1x128 .f32) (x4 x5 x6 x7 : Vec Ideal S128x128 .f32) (x8 : Vec Ideal S1x2x2x128x128 .bf16) (x9 : Vec Ideal S1x2x2x2x128 .f32) (x10 : Vec Ideal S1x2x2x128 .f32)

theorem in_eq : k0_pay93 i x0 x1 x2 x3 x4 x5 x6 x7 x8 x9 x10 = inT i x0 x1 (View.ld x2 r0_0) (View.ld x3 r0_4) := rfl
theorem first_eq : k0_pay105 i x0 x1 x2 x3 x4 x5 x6 x7 x8 x9 x10
    = pairT (k0_pay93 i x0 x1 x2 x3 x4 x5 x6 x7 x8 x9 x10) (View.ld x4 r0_61) (View.ld x5 r0_61) (View.ld x6 r0_61) (View.ld x7 r0_61) (View.ld x8 r0_1) (View.ld x9 r0_2) (View.ld x10 r0_3) 0 := rfl
theorem second_eq : k0_pay120 i x0 x1 x2 x3 x4 x5 x6 x7 x8 x9 x10
    = pairT (k0_pay105 i x0 x1 x2 x3 x4 x5 x6 x7 x8 x9 x10) (View.ld x4 r0_61) (View.ld x5 r0_61) (View.ld x6 r0_61) (View.ld x7 r0_61) (View.ld x8 r0_1) (View.ld x9 r0_2) (View.ld x10 r0_3) 1 := rfl

theorem z3 : (![0, 0, 0] : Fin 3 → Nat) = fun _ => 0 := funext fun a => by fin_cases a <;> rfl
theorem z4 : (![0, 0, 0, 0] : Fin 4 → Nat) = fun _ => 0 := funext fun a => by fin_cases a <;> rfl
theorem z5 : (![0, 0, 0, 0, 0] : Fin 5 → Nat) = fun _ => 0 := funext fun a => by fin_cases a <;> rfl

/-- What is written of sample `j`. -/
theorem tile_at (X : V S128x1024) (j0 : Fin 8) (h : S128x1024.Slices ![0, j0.val * 128] S128x128) (j : Fin 8) (n l : Fin 128) (x : S1x1x128x128.Idx)
    (hx : ∀ a, (ix4 (n0 := 1) 0 j n l a : Nat) = ![0, j0.val, 0, 0] a + x a) :
    shapeCast S1x1x128x128 (extractStridedSlice S128x128 ![0, j0.val * 128] X h) shapeCasts_S128x128_S1x1x128x128 x = X (ix2 n (at8 j l)) := by
  have h1 : j.val = j0.val + (x 1).val := hx 1
  have h2 : n.val = 0 + (x 2).val := hx 2
  have h3 : l.val = 0 + (x 3).val := hx 3
  have hb : (x 1).val < 1 := (x 1).isLt
  have h0 : (x 0).val < 1 := (x 0).isLt
  refine (shapeCast_apply _ _ _ (ix2 n l) ?_).trans (extractStridedSlice_apply _ _ _ _ (ix2 n (at8 j l)) fun a => ?_)
  · rw [Shape.rowMajor_val_two, Shape.rowMajor_val_four]
    show n.val * 128 + l.val = (((x 0).val * 1 + (x 1).val) * 128 + (x 2).val) * 128 + (x 3).val
    omega
  · match a with
    | ⟨0, _⟩ => exact (Nat.zero_add n.val).symm
    | ⟨1, _⟩ => show j.val * 128 + l.val = j0.val * 128 + l.val; omega

theorem out_col (j : Fin 8) (n l : Fin 128) :
    out0_11 i x0 x1 x2 x3 x4 x5 x6 x7 x8 x9 x10 (ix4 0 j n l) = k0_pay120 i x0 x1 x2 x3 x4 x5 x6 x7 x8 x9 x10 (ix2 n (at8 j l)) := by
  refine View.canon_eq_of_allAt _ _ _ (cover0_11 ..) ?_
  refine View.allAt_cons_unit _ _ _ _ _ (tile_at _ 7 _ j n l) ?_
  refine View.allAt_cons_unit _ _ _ _ _ (tile_at _ 6 _ j n l) ?_
  refine View.allAt_cons_unit _ _ _ _ _ (tile_at _ 5 _ j n l) ?_
  refine View.allAt_cons_unit _ _ _ _ _ (tile_at _ 4 _ j n l) ?_
  refine View.allAt_cons_unit _ _ _ _ _ (tile_at _ 3 _ j n l) ?_
  refine View.allAt_cons_unit _ _ _ _ _ (tile_at _ 2 _ j n l) ?_
  refine View.allAt_cons_unit _ _ _ _ _ (tile_at _ 1 _ j n l) ?_
  exact View.allAt_cons_unit _ _ _ _ _ (tile_at _ 0 _ j n l) (View.allAt_nil _ _)

/-- What a grid point writes of sample `j`. -/
theorem out_apply (j : Fin 8) (n l : Fin 128) :
    out0_11 i x0 x1 x2 x3 x4 x5 x6 x7 x8 x9 x10 (ix4 0 j n l)
      = branch (mat (φ := .f32) x4) (mat (φ := .f32) x5) (mat (φ := .f32) x6) (mat (φ := .f32) x7) (fun p q k l => x8 (ix5 0 p q k l)) (fun p q c l => x9 (ix5 0 p q c l)) (fun p q l => x10 (ix4 0 p q l)) (inp i x0 x1 x2 x3 j) n l := by
  have e0 : col (inT i x0 x1 x2 x3) j = inp i x0 x1 x2 x3 j := funext fun n => funext fun l => inT_apply i x0 x1 x2 x3 j n l
  rw [out_col, second_eq, first_eq, in_eq]
  rw [View.ld_unit_zero (S := S1x7x128x128) z4, View.ld_unit_zero (S := S1x1x128) z3, View.ld_unit_zero (S := S1x2x2x128x128) z5,
    View.ld_unit_zero (S := S1x2x2x2x128) z5, View.ld_unit_zero (S := S1x2x2x128) z4]
  simp only [View.ld_unit_zero (S := S128x128) z2]
  unfold branch
  rw [← e0, ← pairT_apply, ← pairT_apply]
end

end Cert.Kernel3Ideal.Branch
-- ==== Proof.BranchValue.lean ====
/-
  The call `_run_branches` of the kernel at extended reals: its result is `Branch.result` of its arguments.
-/
module

public import proofs.«01_k».proof.Proof.BranchBody
public import proofs.«01_k».proof.Proof.Gen.Kernel3Ideal.Value
public import Idealize.ShloMosaic.Lib.Tactic
public import Idealize.ShloMosaic.Lib.Claim

@[expose] public section

noncomputable section
open Idealize.ShloMosaic hiding ix1 ix2 ix3 ix4 ix5 eq_ix2
open Idealize.ShloMosaic.ValueIdx Idealize.ShloMosaic.TcCoe Idealize.SL.Sem
open Idealize.ShloMosaic.Pipeline (Dat)
namespace Cert.Kernel3Ideal.Branch
open Cert.Kernel3Ideal Cert.Kernel3Ideal.Gen Cert.Branch

variable (m : (ℓ : Loc nD τ sig) → Buf (Elt Ideal) ℓ)

/-- A point's branch and its eight samples. -/
abbrev br (t : Fin cfg0.N) : Fin 3 := grid0.coords t 0
abbrev sm (t : Fin cfg0.N) (j : Fin 8) : Fin 32 := ⟨(grid0.coords t 1).val * 8 + j.val, by have : (grid0.coords t 1).val < 4 := (grid0.coords t 1).isLt; omega⟩

theorem idxA (t : Fin cfg0.N) : (win0_0.index t 0 = (grid0.coords t 1).val ∧ win0_0.index t 1 = 0 ∧ win0_0.index t 2 = 0)
    ∧ (win0_1.index t 0 = (grid0.coords t 1).val ∧ win0_1.index t 1 = 0 ∧ win0_1.index t 2 = 0)
    ∧ (win0_2.index t 0 = (grid0.coords t 0).val ∧ win0_2.index t 1 = 0 ∧ win0_2.index t 2 = 0 ∧ win0_2.index t 3 = 0)
    ∧ (win0_3.index t 0 = (grid0.coords t 0).val ∧ win0_3.index t 1 = 0 ∧ win0_3.index t 2 = 0) := by
  revert t; decide
theorem idxB (t : Fin cfg0.N) : (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by
  revert t; decide
theorem idxC (t : Fin cfg0.N) : (win0_8.index t 0 = (grid0.coords t 0).val ∧ win0_8.index t 1 = 0 ∧ win0_8.index t 2 = 0 ∧ win0_8.index t 3 = 0 ∧ win0_8.index t 4 = 0)
    ∧ (win0_9.index t 0 = (grid0.coords t 0).val ∧ win0_9.index t 1 = 0 ∧ win0_9.index t 2 = 0 ∧ win0_9.index t 3 = 0 ∧ win0_9.index t 4 = 0)
    ∧ (win0_10.index t 0 = (grid0.coords t 0).val ∧ win0_10.index t 1 = 0 ∧ win0_10.index t 2 = 0 ∧ win0_10.index t 3 = 0)
    ∧ (win0_11.index t 0 = (grid0.coords t 0).val ∧ win0_11.index t 1 = (grid0.coords t 1).val ∧ win0_11.index t 2 = 0 ∧ win0_11.index t 3 = 0) := by
  revert t; decide

theorem off0 {i v : Nat} (n : Nat) (h : i = 0) : i * n + 1 * v = v := by rw [h, Nat.zero_mul, Nat.zero_add, Nat.one_mul]
theorem off1 {i k : Nat} (h : i = k) : i * 1 + 1 * 0 = k := by rw [h, Nat.mul_one]; rfl
theorem off8 {i k v : Nat} (h : i = k) : i * 8 + 1 * v = k * 8 + v := by rw [h, Nat.one_mul]

/-- The arguments on core `c`. -/
abbrev A0 (c : Dev nD) : Arr 3 ![32, 136, 128] := m ((c : Thread nD τ).loc main_arg0)
abbrev A1 (c : Dev nD) : Arr 4 ![3, 7, 128, 128] := m ((c : Thread nD τ).loc main_arg1)
abbrev A2 (c : Dev nD) : Arr 3 ![3, 1, 128] := m ((c : Thread nD τ).loc main_arg2)
abbrev A3 (c : Dev nD) : Arr 2 ![128, 128] := m ((c : Thread nD τ).loc main_arg3)
abbrev A4 (c : Dev nD) : Arr 2 ![128, 128] := m ((c : Thread nD τ).loc main_arg4)
abbrev A5 (c : Dev nD) : Arr 2 ![128, 128] := m ((c : Thread nD τ).loc main_arg5)
abbrev A6 (c : Dev nD) : Arr 2 ![128, 128] := m ((c : Thread nD τ).loc main_arg6)
abbrev A7 (c : Dev nD) : Arr 5 ![3, 2, 2, 128, 128] := m ((c : Thread nD τ).loc main_arg7)
abbrev A8 (c : Dev nD) : Arr 5 ![3, 2, 2, 2, 128] := m ((c : Thread nD τ).loc main_arg8)
abbrev A9 (c : Dev nD) : Arr 4 ![3, 2, 2, 128] := m ((c : Thread nD τ).loc main_arg9)

/-- The three arguments in their shorter format. -/
theorem V0 (c : Dev nD) : Gen.V m c main_v0 = A0 m c := by
  show StableHlo.after hostOps0 (fun b => m (c, b)) (Proc.devRef .tc main_v0) = _
  after_results
  rfl
theorem V1 (c : Dev nD) : Gen.V m c main_v1 = A1 m c := by
  show StableHlo.after hostOps0 (fun b => m (c, b)) (Proc.devRef .tc main_v1) = _
  after_results
  rfl
theorem V2 (c : Dev nD) : Gen.V m c main_v2 = A7 m c := by
  show StableHlo.after hostOps0 (fun b => m (c, b)) (Proc.devRef .tc main_v2) = _
  after_results
  rfl

/-! What a point reads. -/

theorem blk0 (c : Dev nD) (t : Fin cfg0.N) (j : Fin 8) (q : Fin 136) (k : Fin 128) : (iblk m c 0 t : Vec Ideal S8x136x128 .bf16) (ix3 j q k) = A0 m c (ix3 (sm t j) q k) := by
  obtain ⟨h0, h1, h2⟩ := (idxA t).1
  refine (View.read_apply ..).trans ((congrFun (V0 m c) _).trans (congrArg (A0 m c) (funext fun a => Fin.ext ?_)))
  match a with
    | ⟨0, _⟩ => exact off8 h0
    | ⟨1, _⟩ => exact off0 136 h1
    | ⟨2, _⟩ => exact off0 128 h2
theorem blk1 (c : Dev nD) (t : Fin cfg0.N) (j : Fin 8) (q : Fin 136) (k : Fin 128) : (iblk m c 1 t : Vec Ideal S8x136x128 .f32) (ix3 j q k) = A0 m c (ix3 (sm t j) q k) := by
  obtain ⟨h0, h1, h2⟩ := (idxA t).2.1
  refine (View.read_apply ..).trans ((congrFun (V_main_arg0 m c) _).trans (congrArg (A0 m c) (funext fun a => Fin.ext ?_)))
  match a with
    | ⟨0, _⟩ => exact off8 h0
    | ⟨1, _⟩ => exact off0 136 h1
    | ⟨2, _⟩ => exact off0 128 h2
theorem blk2 (c : Dev nD) (t : Fin cfg0.N) (d : Fin 7) (k l : Fin 128) : (iblk m c 2 t : Vec Ideal S1x7x128x128 .bf16) (ix4 0 d k l) = A1 m c (ix4 (br t) d k l) := by
  obtain ⟨h0, h1, h2, h3⟩ := (idxA t).2.2.1
  refine (View.read_apply ..).trans ((congrFun (V1 m c) _).trans (congrArg (A1 m c) (funext fun a => Fin.ext ?_)))
  match a with
    | ⟨0, _⟩ => exact off1 h0
    | ⟨1, _⟩ => exact off0 7 h1
    | ⟨2, _⟩ => exact off0 128 h2
    | ⟨3, _⟩ => exact off0 128 h3
theorem blk3 (c : Dev nD) (t : Fin cfg0.N) (l : Fin 128) : (iblk m c 3 t : Vec Ideal S1x1x128 .f32) (ix3 0 0 l) = A2 m c (ix3 (br t) 0 l) := by
  obtain ⟨h0, h1, h2⟩ := (idxA t).2.2.2
  refine (View.read_apply ..).trans ((congrFun (V_main_arg2 m c) _).trans (congrArg (A2 m c) (funext fun a => Fin.ext ?_)))
  match a with
    | ⟨0, _⟩ => exact off1 h0
    | ⟨1, _⟩ => exact off1 h1
    | ⟨2, _⟩ => exact off0 128 h2
theorem blk4 (c : Dev nD) (t : Fin cfg0.N) (k l : Fin 128) : (iblk m c 4 t : Vec Ideal S128x128 .f32) (ix2 k l) = A3 m c (ix2 k l) := by
  obtain ⟨h0, h1⟩ := (idxB t).1
  refine (View.read_apply ..).trans ((congrFun (V_main_arg3 m c) _).trans (congrArg (A3 m c) (funext fun a => Fin.ext ?_)))
  match a with
    | ⟨0, _⟩ => exact off0 128 h0
    | ⟨1, _⟩ => exact off0 128 h1
theorem blk5 (c : Dev nD) (t : Fin cfg0.N) (k l : Fin 128) : (iblk m c 5 t : Vec Ideal S128x128 .f32) (ix2 k l) = A4 m c (ix2 k l) := by
  obtain ⟨h0, h1⟩ := (idxB t).2.1
  refine (View.read_apply ..).trans ((congrFun (V_main_arg4 m c) _).trans (congrArg (A4 m c) (funext fun a => Fin.ext ?_)))
  match a with
    | ⟨0, _⟩ => exact off0 128 h0
    | ⟨1, _⟩ => exact off0 128 h1
theorem blk6 (c : Dev nD) (t : Fin cfg0.N) (k l : Fin 128) : (iblk m c 6 t : Vec Ideal S128x128 .f32) (ix2 k l) = A5 m c (ix2 k l) := by
  obtain ⟨h0, h1⟩ := (idxB t).2.2.1
  refine (View.read_apply ..).trans ((congrFun (V_main_arg5 m c) _).trans (congrArg (A5 m c) (funext fun a => Fin.ext ?_)))
  match a with
    | ⟨0, _⟩ => exact off0 128 h0
    | ⟨1, _⟩ => exact off0 128 h1
theorem blk7 (c : Dev nD) (t : Fin cfg0.N) (k l : Fin 128) : (iblk m c 7 t : Vec Ideal S128x128 .f32) (ix2 k l) = A6 m c (ix2 k l) := by
  obtain ⟨h0, h1⟩ := (idxB t).2.2.2
  refine (View.read_apply ..).trans ((congrFun (V_main_arg6 m c) _).trans (congrArg (A6 m c) (funext fun a => Fin.ext ?_)))
  match a with
    | ⟨0, _⟩ => exact off0 128 h0
    | ⟨1, _⟩ => exact off0 128 h1
theorem blk8 (c : Dev nD) (t : Fin cfg0.N) (p q : Fin 2) (k l : Fin 128) : (iblk m c 8 t : Vec Ideal S1x2x2x128x128 .bf16) (ix5 0 p q k l) = A7 m c (ix5 (br t) p q k l) := by
  obtain ⟨h0, h1, h2, h3, h4⟩ := (idxC t).1
  refine (View.read_apply ..).trans ((congrFun (V2 m c) _).trans (congrArg (A7 m c) (funext fun a => Fin.ext ?_)))
  match a with
    | ⟨0, _⟩ => exact off1 h0
    | ⟨1, _⟩ => exact off0 2 h1
    | ⟨2, _⟩ => exact off0 2 h2
    | ⟨3, _⟩ => exact off0 128 h3
    | ⟨4, _⟩ => exact off0 128 h4
theorem blk9 (c : Dev nD) (t : Fin cfg0.N) (p q d : Fin 2) (l : Fin 128) : (iblk m c 9 t : Vec Ideal S1x2x2x2x128 .f32) (ix5 0 p q d l) = A8 m c (ix5 (br t) p q d l) := by
  obtain ⟨h0, h1, h2, h3, h4⟩ := (idxC t).2.1
  refine (View.read_apply ..).trans ((congrFun (V_main_arg8 m c) _).trans (congrArg (A8 m c) (funext fun a => Fin.ext ?_)))
  match a with
    | ⟨0, _⟩ => exact off1 h0
    | ⟨1, _⟩ => exact off0 2 h1
    | ⟨2, _⟩ => exact off0 2 h2
    | ⟨3, _⟩ => exact off0 2 h3
    | ⟨4, _⟩ => exact off0 128 h4
theorem blk10 (c : Dev nD) (t : Fin cfg0.N) (p q : Fin 2) (l : Fin 128) : (iblk m c 10 t : Vec Ideal S1x2x2x128 .f32) (ix4 0 p q l) = A9 m c (ix4 (br t) p q l) := by
  obtain ⟨h0, h1, h2, h3⟩ := (idxC t).2.2.1
  refine (View.read_apply ..).trans ((congrFun (V_main_arg9 m c) _).trans (congrArg (A9 m c) (funext fun a => Fin.ext ?_)))
  match a with
    | ⟨0, _⟩ => exact off1 h0
    | ⟨1, _⟩ => exact off0 2 h1
    | ⟨2, _⟩ => exact off0 2 h2
    | ⟨3, _⟩ => exact off0 128 h3

theorem covered : (cfg0.win 11).Covers := by decide +kernel

/-- The result of the arguments on core `c`. -/
abbrev R (c : Dev nD) := result (A0 m c) (A1 m c) (A2 m c) (A3 m c) (A4 m c) (A5 m c) (A6 m c) (A7 m c) (A8 m c) (A9 m c)

theorem point (c : Dev nD) (t : Fin cfg0.N) (j : Fin 8) (n l : Fin 128) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 j n l)
      = R m c (ix4 (br t) (sm t j) n l) := by
  refine (out_apply ..).trans ?_
  unfold inp mat
  simp only [blk0, blk1, blk2, blk3, blk4, blk5, blk6, blk7, blk8, blk9, blk10]
  rfl

theorem place (t : Fin cfg0.N) (y : S1x8x128x128.Idx) : ((cfg0.win 11).blk t).view.emb y = (ix4 (br t) (sm t (y 1)) (y 2) (y 3) : S3x32x128x128.Idx) := by
  obtain ⟨h0, h1, h2, h3⟩ := (idxC t).2.2.2
  have hb : (y 0).val = 0 := Nat.lt_one_iff.mp (y 0).isLt
  refine funext fun a => Fin.ext ?_
  match a with
  | ⟨0, _⟩ => exact (congrArg (win0_11.index t 0 * 1 + 1 * ·) hb).trans (off1 h0)
  | ⟨1, _⟩ => exact off8 h1
  | ⟨2, _⟩ => exact off0 128 h2
  | ⟨3, _⟩ => exact off0 128 h3

theorem one_block (y : S1x8x128x128.Idx) : y = ix4 0 (y 1) (y 2) (y 3) := funext fun a => by
  match a with
  | ⟨0, _⟩ => exact Fin.ext (Nat.lt_one_iff.mp (y 0).isLt)
  | ⟨1, _⟩ => rfl
  | ⟨2, _⟩ => rfl
  | ⟨3, _⟩ => rfl

/-- The result array is `result` of the arguments. -/
theorem final (c : Dev nD) : (dats m 0 c).arrAt 11 cfg0.N = R m c := by
  refine (dats m 0 c).arrAt_eq_of_covers 11 _ covered fun t _ y => ?_
  rw [after0_11]
  have h : ∀ y, out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = R m c (((cfg0.win 11).blk t).view.emb y) := fun y => by
    rw [place t y]
    exact (congrArg _ (one_block y)).trans (point m c t (y 1) (y 2) (y 3))
  generalize out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) = X at h ⊢
  generalize R m c = Y at h ⊢
  exact h y

end Cert.Kernel3Ideal.Branch
-- ==== Proof.BranchClaim.lean ====
/-
  The call `_run_branches` and its plain reference compute the same function of their ten arguments.
-/
module

public import proofs.«01_k».proof.Proof.BranchRef
public import proofs.«01_k».proof.Proof.BranchValue
public import proofs.«01_k».proof.Proof.Gen.Kernel3Ideal.Value

@[expose] public section

noncomputable section
open Idealize.ShloMosaic hiding ix1 ix2 ix3 ix4 ix5 eq_ix2
open Idealize.ShloMosaic.TcCoe Idealize.SL.Sem
open Idealize.ShloMosaic.ValueIdx
namespace Cert.Reference3Ideal.Branch
open Cert.Reference3Ideal Cert.Reference3Ideal.Gen Cert.Reference3Ideal.Read Cert.Branch

/-! ## What the layers are given -/

theorem slicesX (t : Fin 7) : S32x136x128.Slices ![0, t.val, 0] S32x128x128 := by revert t; decide
theorem slicesK (t : Fin 7) : S3x7x128x128.Slices ![0, t.val, 0, 0] S3x1x128x128 := by revert t; decide
/-- The product of the rows from `t` on with the convolution's weight `t`. -/
def tapR (xp : V S32x136x128) (wc : V S3x7x128x128) (t : Fin 7) : V S3x32x128x128 :=
  transpose S3x32x128x128 [0, 2, 3, 1] (Host.dotGeneral dot_S3x128x128_S32x128x128_S3x128x32x128_1_2_02_01_n_n none
    (shapeCast S3x128x128 (extractStridedSlice S3x1x128x128 ![0, t.val, 0, 0] wc (slicesK t)) shapeCasts_S3x1x128x128_S3x128x128 : V S3x128x128)
    (extractStridedSlice S32x128x128 ![0, t.val, 0] xp (slicesX t)) : V S3x128x32x128) transposes_S3x128x32x128_S3x32x128x128_0_2_3_1

theorem tapR_apply (xp : V S32x136x128) (wc : V S3x7x128x128) (t : Fin 7) (r : Fin 3) (s : Fin 32) (n l : Fin 128) :
    tapR xp wc t (ix4 r s n l) = ∑ k : Fin 128, xp (ix3 s ⟨n.val + t.val, by omega⟩ k) * wc (ix4 r t k l) := by
  refine (transpose_apply _ _ _ _ (ix4 r l s n) (fun d => by match d with | ⟨0, _⟩ => rfl | ⟨1, _⟩ => rfl | ⟨2, _⟩ => rfl | ⟨3, _⟩ => rfl)).trans
    ((dotH _ rfl rfl _ _ _ (fun k => ix3 r k l) (fun k => ix3 s n k) (fun q k hk a => ?_) (fun q k hk a => ?_)).trans (Finset.sum_congr rfl fun k _ => ?_))
  · match a with | ⟨0, _⟩ => rfl | ⟨1, _⟩ => exact hk | ⟨2, _⟩ => rfl
  · match a with | ⟨0, _⟩ => rfl | ⟨1, _⟩ => rfl | ⟨2, _⟩ => exact hk
  · refine (mul_comm _ _).trans (congrArg₂ (· * ·) ?_ ?_)
    · exact extractStridedSlice_apply _ _ _ _ (ix3 s ⟨n.val + t.val, by omega⟩ k) (fun d => by match d with | ⟨0, _⟩ => (show s.val = 0 + s.val; omega) | ⟨1, _⟩ => (show n.val + t.val = t.val + n.val; omega) | ⟨2, _⟩ => (show k.val = 0 + k.val; omega))
    · exact (shapeCast_apply _ _ _ (ix4 r 0 k l) (by rw [Shape.rowMajor_val_four, Shape.rowMajor_val_three]; show ((r.val * 1 + 0) * 128 + k.val) * 128 + l.val = (r.val * 128 + k.val) * 128 + l.val; omega)).trans
        (extractStridedSlice_apply _ _ _ _ (ix4 r t k l) (fun d => by match d with | ⟨0, _⟩ => (show r.val = 0 + r.val; omega) | ⟨1, _⟩ => rfl | ⟨2, _⟩ => (show k.val = 0 + k.val; omega) | ⟨3, _⟩ => (show l.val = 0 + l.val; omega)))

/-- The program's sum of the seven products and its bias, and the rectifier. -/
theorem v43_eq (xp : V S32x136x128) (wc : V S3x7x128x128) :
    val_main_v43 (F := Ideal) xp wc = addf (addf (addf (addf (addf (addf (addf (val_main_v6 (F := Ideal)) (tapR xp wc 0)) (tapR xp wc 1)) (tapR xp wc 2)) (tapR xp wc 3)) (tapR xp wc 4)) (tapR xp wc 5)) (tapR xp wc 6) := rfl

theorem v48_apply (xp : V S32x136x128) (wc : V S3x7x128x128) (bc : V S3x1x128) (r : Fin 3) (s : Fin 32) (n l : Fin 128) :
    val_main_v48 (F := Ideal) xp wc bc (ix4 r s n l) = conv (fun l => bc (ix3 r 0 l)) (fun q k => xp (ix3 s q k)) (fun t k l => wc (ix4 r t k l)) n l := by
  have eb : val_main_v45 (F := Ideal) bc (ix4 r s n l) = bc (ix3 r 0 l) := by
    rw [val_main_v45_apply, val_main_v44_apply]
    exact congrArg bc (funext fun a => by match a with | ⟨0, _⟩ => rfl | ⟨1, _⟩ => rfl | ⟨2, _⟩ => rfl)
  rw [val_main_v48_apply, val_main_v46_apply, v43_eq, eb]
  show max (Ideal.ofBits .f32 0x00000000#32 + tapR xp wc 0 (ix4 r s n l) + tapR xp wc 1 (ix4 r s n l) + tapR xp wc 2 (ix4 r s n l) + tapR xp wc 3 (ix4 r s n l) + tapR xp wc 4 (ix4 r s n l) + tapR xp wc 5 (ix4 r s n l) + tapR xp wc 6 (ix4 r s n l) + bc (ix3 r 0 l)) (Ideal.ofBits .f32 0x00000000#32) = _
  rw [Ideal.ofBits_zero_f32, zero_add]
  unfold conv
  rw [Fin.sum_univ_seven]
  simp only [tapR_apply]

/-- What the layers are given of branch `r` and sample `s`. -/
theorem v51_apply (xp : V S32x136x128) (wc : V S3x7x128x128) (bc : V S3x1x128) (r : Fin 3) (s : Fin 32) (n l : Fin 128) :
    val_main_v51 (F := Ideal) xp wc bc (ix4 r s n l) = given xp wc bc r s n l := by
  unfold given val_main_v51
  split
  · rename_i h
    refine (concatenate_apply_piece (t := S3x32x128x128) 0 _ _ (ix4 r s n l) 0 (by show 0 < 2; omega) S1x32x128x128 (val_main_v49 (F := Ideal) xp) rfl rfl 0 rfl (ix4 0 s n l)
      (fun b hb => by match b with | ⟨0, _⟩ => exact absurd rfl hb | ⟨1, _⟩ => rfl | ⟨2, _⟩ => rfl | ⟨3, _⟩ => rfl) (by show 0 + 0 = r.val; omega)).trans ?_
    rw [val_main_v49_apply, val_main_v0_apply]
    exact congrArg xp (funext fun a => Fin.ext (by match a with | ⟨0, _⟩ => rfl | ⟨1, _⟩ => (show 3 + n.val = n.val + 3; omega) | ⟨2, _⟩ => rfl))
  · rename_i h
    refine (concatenate_apply_piece (t := S3x32x128x128) 0 _ _ (ix4 r s n l) 1 (by show 1 < 2; omega) S2x32x128x128 (val_main_v50 (F := Ideal) xp wc bc) rfl rfl 1 rfl (ix4 ⟨r.val - 1, by omega⟩ s n l)
      (fun b hb => by match b with | ⟨0, _⟩ => exact absurd rfl hb | ⟨1, _⟩ => rfl | ⟨2, _⟩ => rfl | ⟨3, _⟩ => rfl) (by show 1 + (r.val - 1) = r.val; omega)).trans ?_
    rw [val_main_v50_apply]
    refine Eq.trans (congrArg _ (funext fun a => Fin.ext (by match a with | ⟨0, _⟩ => (show 1 + (r.val - 1) = r.val; omega) | ⟨1, _⟩ => rfl | ⟨2, _⟩ => rfl | ⟨3, _⟩ => rfl))) (v48_apply xp wc bc r s n l)

/-! ## The result -/

theorem v146_eq (xp : V S32x136x128) (wc : V S3x7x128x128) (bc : V S3x1x128) (lf mf lt mt : V S128x128) (W : V S3x2x2x128x128) (a : V S3x2x2x2x128) (b : V S3x2x2x128) :
    val_main_v146 (F := Ideal) xp wc bc lf mf lt mt W a b = pairR (val_main_v51 (F := Ideal) xp wc bc) lf mf lt mt W a b 0 := rfl
theorem v241_eq (xp : V S32x136x128) (wc : V S3x7x128x128) (bc : V S3x1x128) (lf mf lt mt : V S128x128) (W : V S3x2x2x128x128) (a : V S3x2x2x2x128) (b : V S3x2x2x128) :
    val_main_v241 (F := Ideal) xp wc bc lf mf lt mt W a b = pairR (val_main_v146 (F := Ideal) xp wc bc lf mf lt mt W a b) lf mf lt mt W a b 1 := rfl

theorem result_eq (xp : V S32x136x128) (wc : V S3x7x128x128) (bc : V S3x1x128) (lf mf lt mt : V S128x128) (W : V S3x2x2x128x128) (a : V S3x2x2x2x128) (b : V S3x2x2x128) :
    val_main_v241 (F := Ideal) xp wc bc lf mf lt mt W a b = result xp wc bc lf mf lt mt W a b := funext fun i => by
  obtain ⟨r, s, n, l, rfl⟩ : ∃ (r : Fin 3) (s : Fin 32) (n l : Fin 128), i = ix4 r s n l := ⟨i 0, i 1, i 2, i 3, funext fun d => by match d with | ⟨0, _⟩ => rfl | ⟨1, _⟩ => rfl | ⟨2, _⟩ => rfl | ⟨3, _⟩ => rfl⟩
  rw [v241_eq, v146_eq]
  refine (congrFun (congrFun (pairR_apply _ lf mf lt mt W a b 1 r s) n) l).trans ?_
  rw [pairR_apply, show smp (val_main_v51 (F := Ideal) xp wc bc) r s = given xp wc bc r s from funext fun n => funext fun l => v51_apply xp wc bc r s n l]
  rfl

/-- The reference's run: the result and its arguments. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v241) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => by
    obtain ⟨h0, h⟩ := h c
    exact ⟨(h0.trans (val_main_v241_eq _)).trans (result_eq _ _ _ _ _ _ _ _ _ _), h⟩) (Cert.Reference3Ideal.Value.run m g)

/-- The reference has no counters. -/
theorem sem_zero (s : MemSt nD τ sig (Elt Ideal)) : s.sem = fun _ => 0 := sem_eq_zero_of_no_sems (by decide) s

end Cert.Reference3Ideal.Branch

namespace Cert.Kernel3Ideal.Branch
open Cert.Kernel3Ideal Cert.Kernel3Ideal.Gen Cert.Branch

/-- The call's run: the result and its arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => by
    obtain ⟨h0, h⟩ := h c
    exact ⟨h0.trans (final m c), h⟩) (Cert.Kernel3Ideal.Value.run_blocks m g)

end Cert.Kernel3Ideal.Branch

end
-- ==== Proof.Math.lean ====
/-
  The two recurrences as plain functions on extended reals, one batch row at a time: with hidden vectors of 150 entries
  and the weights as given (`rLstm`, `rGru`), and with hidden vectors of 256 entries and padded weights (`kLstm`, `kBwd`,
  `kGru`). `lstm_agree`, `bwd_agree`, `gi_agree`, `gru_agree`: where the padded weights hold the given ones and zero
  elsewhere, the two agree. No finiteness is assumed: a padded entry is multiplied by a zero weight, and `x * 0 = 0` at
  every extended real.
-/
module

public import Idealize.ShloMosaic.Lib.Pointwise

@[expose] public section

noncomputable section

namespace Cert.Rnn

open Idealize.ShloMosaic

/-- Column `j` of block `g` among blocks of width 256. -/
def kq {n : ℕ} (g : Fin n) (j : Fin 256) : Fin (n * 256) :=
  ⟨256 * g.val + j.val, by have := g.isLt; have := j.isLt; omega⟩

/-- Row `j` of block `g` among blocks of 150. -/
def rq {n : ℕ} (g : Fin n) (j : Fin 150) : Fin (n * 150) :=
  ⟨150 * g.val + j.val, by have := g.isLt; have := j.isLt; omega⟩

/-- A hidden entry in the padded vector. -/
def up (j : Fin 150) : Fin 256 := ⟨j.val, by have := j.isLt; omega⟩

/-- A padding entry of the padded vector. -/
def pad (j : Fin 106) : Fin 256 := ⟨150 + j.val, by have := j.isLt; omega⟩

/-- A sum over 256 entries is the one over the first 150 plus the one over the other 106. -/
theorem sum_split (f : Fin 256 → EReal) : ∑ k, f k = (∑ k, f (up k)) + ∑ k, f (pad k) :=
  Fin.sum_univ_add (a := 150) (b := 106) f

/-- A product with a padded column: the padding contributes nothing. -/
theorem dot_up (H : Fin 256 → EReal) (w : Fin 256 → EReal) (h W : Fin 150 → EReal) (hH : ∀ k, H (up k) = h k)
    (hw : ∀ k, w (up k) = W k) (h0 : ∀ k, w (pad k) = 0) : ∑ k, H k * w k = ∑ k, h k * W k := by
  rw [sum_split]
  simp only [hH, hw, h0, mul_zero, Finset.sum_const_zero, add_zero]

/-! ## The padded recurrences -/

/-- The gates of a padded LSTM step. -/
def kG (xp : Fin 1024 → EReal) (wh : Fin 256 → Fin 1024 → EReal) (H : Fin 256 → EReal) (q : Fin 1024) : EReal :=
  xp q + ∑ k, H k * wh k q

/-- The new cell of a padded LSTM step. -/
def kC (xp : Fin 1024 → EReal) (wh : Fin 256 → Fin 1024 → EReal) (H C : Fin 256 → EReal) (j : Fin 256) : EReal :=
  Ideal.logistic (kG xp wh H (kq (n := 4) 1 j)) * C j
    + Ideal.logistic (kG xp wh H (kq (n := 4) 0 j)) * Ideal.tanh (kG xp wh H (kq (n := 4) 2 j))

/-- The new hidden vector of a padded LSTM step. -/
def kH (xp : Fin 1024 → EReal) (wh : Fin 256 → Fin 1024 → EReal) (H C : Fin 256 → EReal) (j : Fin 256) : EReal :=
  Ideal.logistic (kG xp wh H (kq (n := 4) 3 j)) * Ideal.tanh (kC xp wh H C j)

/-- Hidden vector and cell after `n` padded LSTM steps from zero. -/
def kLstm (xp : ℕ → Fin 1024 → EReal) (wh : Fin 256 → Fin 1024 → EReal) : ℕ → (Fin 256 → EReal) × (Fin 256 → EReal)
  | 0 => (fun _ => 0, fun _ => 0)
  | n + 1 => (kH (xp n) wh (kLstm xp wh n).1 (kLstm xp wh n).2, kC (xp n) wh (kLstm xp wh n).1 (kLstm xp wh n).2)

/-- The padded single step from zero state, recurrent product and forget gate left out. -/
def kBwd (xp : Fin 1024 → EReal) (j : Fin 256) : EReal :=
  Ideal.logistic (xp (kq (n := 4) 3 j))
    * Ideal.tanh (Ideal.logistic (xp (kq (n := 4) 0 j)) * Ideal.tanh (xp (kq (n := 4) 2 j)))

/-- The padded recurrent half of a GRU step. -/
def kGh (wh : Fin 256 → Fin 768 → EReal) (bh : Fin 768 → EReal) (H : Fin 256 → EReal) (q : Fin 768) : EReal :=
  (∑ k, H k * wh k q) + bh q

/-- One padded GRU step. -/
def kGruStep (gi : Fin 768 → EReal) (wh : Fin 256 → Fin 768 → EReal) (bh : Fin 768 → EReal) (H : Fin 256 → EReal)
    (j : Fin 256) : EReal :=
  (1 - Ideal.logistic (gi (kq (n := 3) 1 j) + kGh wh bh H (kq (n := 3) 1 j)))
      * Ideal.tanh (gi (kq (n := 3) 2 j)
          + Ideal.logistic (gi (kq (n := 3) 0 j) + kGh wh bh H (kq (n := 3) 0 j)) * kGh wh bh H (kq (n := 3) 2 j))
    + Ideal.logistic (gi (kq (n := 3) 1 j) + kGh wh bh H (kq (n := 3) 1 j)) * H j

/-- Hidden vector after `n` padded GRU steps from zero. -/
def kGru (gi : Fin 768 → EReal) (wh : Fin 256 → Fin 768 → EReal) (bh : Fin 768 → EReal) : ℕ → Fin 256 → EReal
  | 0 => fun _ => 0
  | n + 1 => kGruStep gi wh bh (kGru gi wh bh n)

/-- The padded GRU's constant input: the two padded hidden vectors side by side. -/
def kGi (hf hb : Fin 256 → EReal) (wi : Fin 512 → Fin 768 → EReal) (bi : Fin 768 → EReal) (q : Fin 768) : EReal :=
  (∑ k : Fin 512, (if h : k.val < 256 then hf ⟨k.val, h⟩ else hb ⟨k.val - 256, by have := k.isLt; omega⟩) * wi k q)
    + bi q

/-! ## The given recurrences -/

/-- The gates of an LSTM step. -/
def rG (x : Fin 384 → EReal) (Wi : Fin 600 → Fin 384 → EReal) (Wh : Fin 600 → Fin 150 → EReal) (bi bh : Fin 600 → EReal)
    (h : Fin 150 → EReal) (q : Fin 600) : EReal :=
  ((∑ k, x k * Wi q k) + bi q + ∑ k, h k * Wh q k) + bh q

/-- The new cell of an LSTM step, from its gates. -/
def rC (G : Fin 600 → EReal) (c : Fin 150 → EReal) (j : Fin 150) : EReal :=
  Ideal.logistic (G (rq (n := 4) 1 j)) * c j
    + Ideal.logistic (G (rq (n := 4) 0 j)) * Ideal.tanh (G (rq (n := 4) 2 j))

/-- The new hidden vector of an LSTM step, from its gates. -/
def rH (G : Fin 600 → EReal) (c : Fin 150 → EReal) (j : Fin 150) : EReal :=
  Ideal.logistic (G (rq (n := 4) 3 j)) * Ideal.tanh (rC G c j)

/-- Hidden vector and cell after `n` LSTM steps from zero. -/
def rLstm (x : ℕ → Fin 384 → EReal) (Wi : Fin 600 → Fin 384 → EReal) (Wh : Fin 600 → Fin 150 → EReal)
    (bi bh : Fin 600 → EReal) : ℕ → (Fin 150 → EReal) × (Fin 150 → EReal)
  | 0 => (fun _ => 0, fun _ => 0)
  | n + 1 => (rH (rG (x n) Wi Wh bi bh (rLstm x Wi Wh bi bh n).1) (rLstm x Wi Wh bi bh n).2,
      rC (rG (x n) Wi Wh bi bh (rLstm x Wi Wh bi bh n).1) (rLstm x Wi Wh bi bh n).2)

/-- The two hidden vectors side by side. -/
def rCtx (hf hb : Fin 150 → EReal) (k : Fin 300) : EReal :=
  if h : k.val < 150 then hf ⟨k.val, h⟩ else hb ⟨k.val - 150, by have := k.isLt; omega⟩

/-- One half of a GRU step: a product and its bias. -/
def rGh {n : ℕ} (W : Fin 450 → Fin n → EReal) (b : Fin 450 → EReal) (x : Fin n → EReal) (q : Fin 450) : EReal :=
  (∑ k, x k * W q k) + b q

/-- One GRU step, from its two halves. -/
def rGruStep (gi gh : Fin 450 → EReal) (h : Fin 150 → EReal) (j : Fin 150) : EReal :=
  (1 - Ideal.logistic (gi (rq (n := 3) 1 j) + gh (rq (n := 3) 1 j)))
      * Ideal.tanh (gi (rq (n := 3) 2 j)
          + Ideal.logistic (gi (rq (n := 3) 0 j) + gh (rq (n := 3) 0 j)) * gh (rq (n := 3) 2 j))
    + Ideal.logistic (gi (rq (n := 3) 1 j) + gh (rq (n := 3) 1 j)) * h j

/-- Hidden vector after `n` GRU steps from zero, the input the same at every step. -/
def rGru (gi : Fin 450 → EReal) (Wh : Fin 450 → Fin 150 → EReal) (bh : Fin 450 → EReal) : ℕ → Fin 150 → EReal
  | 0 => fun _ => 0
  | n + 1 => rGruStep gi (rGh Wh bh (rGru gi Wh bh n)) (rGru gi Wh bh n)

/-! ## Agreement -/

section

variable (xp : ℕ → Fin 1024 → EReal) (wh : Fin 256 → Fin 1024 → EReal)
  (x : ℕ → Fin 384 → EReal) (Wi : Fin 600 → Fin 384 → EReal) (Wh : Fin 600 → Fin 150 → EReal) (bi bh : Fin 600 → EReal)

/-- The forward recurrences agree at every hidden entry. -/
theorem lstm_agree
    (hxp : ∀ n, n < 128 → ∀ (g : Fin 4) j, xp n (kq g (up j)) = (∑ k, x n k * Wi (rq g j) k) + (bi (rq g j) + bh (rq g j)))
    (hwh : ∀ (g : Fin 4) j k, wh (up k) (kq g (up j)) = Wh (rq g j) k)
    (hw0 : ∀ (g : Fin 4) j k, wh (pad k) (kq g (up j)) = 0) :
    ∀ n, n ≤ 128 → (∀ j, (kLstm xp wh n).1 (up j) = (rLstm x Wi Wh bi bh n).1 j)
      ∧ ∀ j, (kLstm xp wh n).2 (up j) = (rLstm x Wi Wh bi bh n).2 j
  | 0, _ => ⟨fun _ => rfl, fun _ => rfl⟩
  | n + 1, hn => by
    obtain ⟨ih1, ih2⟩ := lstm_agree hxp hwh hw0 n (by omega)
    have hg : ∀ (g : Fin 4) j, kG (xp n) wh (kLstm xp wh n).1 (kq g (up j))
        = rG (x n) Wi Wh bi bh (rLstm x Wi Wh bi bh n).1 (rq g j) := fun g j => by
      unfold kG rG
      rw [dot_up _ (fun k => wh k (kq g (up j))) _ (fun k => Wh (rq g j) k) ih1 (hwh g j) (hw0 g j), hxp n hn]
      abel
    have hc : ∀ j, kC (xp n) wh (kLstm xp wh n).1 (kLstm xp wh n).2 (up j)
        = rC (rG (x n) Wi Wh bi bh (rLstm x Wi Wh bi bh n).1) (rLstm x Wi Wh bi bh n).2 j := fun j => by
      unfold kC rC; rw [hg, hg, hg, ih2]
    refine ⟨fun j => ?_, hc⟩
    show kH _ _ _ _ _ = rH _ _ _
    unfold kH rH; rw [hg, hc]

/-- The reversed recurrence's first step, whose recurrent product and forget gate meet the zero state. -/
theorem bwd_agree (xb : Fin 1024 → EReal)
    (hxp : ∀ (g : Fin 4) j, xb (kq g (up j)) = (∑ k, x 0 k * Wi (rq g j) k) + (bi (rq g j) + bh (rq g j))) (j : Fin 150) :
    kBwd xb (up j) = (rLstm x Wi Wh bi bh 1).1 j := by
  have hg : ∀ (g : Fin 4), xb (kq g (up j)) = rG (x 0) Wi Wh bi bh (rLstm x Wi Wh bi bh 0).1 (rq g j) := fun g => by
    rw [hxp]; unfold rG
    simp only [rLstm, zero_mul, Finset.sum_const_zero, add_zero]
    abel
  show kBwd _ _ = rH _ _ _
  unfold kBwd rH rC
  rw [hg, hg, hg]
  simp only [rLstm, mul_zero, zero_add]

end

/-- A sum over the two padded vectors side by side. -/
theorem sum512 (f : Fin 512 → EReal) :
    ∑ k, f k = (∑ k : Fin 256, f ⟨k.val, by have := k.isLt; omega⟩) + ∑ k : Fin 256, f ⟨256 + k.val, by have := k.isLt; omega⟩ :=
  Fin.sum_univ_add (a := 256) (b := 256) f

/-- A sum over the two given vectors side by side. -/
theorem sum300 (f : Fin 300 → EReal) :
    ∑ k, f k = (∑ k : Fin 150, f ⟨k.val, by have := k.isLt; omega⟩) + ∑ k : Fin 150, f ⟨150 + k.val, by have := k.isLt; omega⟩ :=
  Fin.sum_univ_add (a := 150) (b := 150) f

/-- The GRU's constant input agrees. -/
theorem gi_agree (Hf Hb : Fin 256 → EReal) (hf hb : Fin 150 → EReal) (h1 : ∀ j, Hf (up j) = hf j) (h2 : ∀ j, Hb (up j) = hb j)
    (wi : Fin 512 → Fin 768 → EReal) (b : Fin 768 → EReal) (Wi : Fin 450 → Fin 300 → EReal) (bi : Fin 450 → EReal)
    (hwf : ∀ (g : Fin 3) j (k : Fin 150), wi ⟨(up k).val, by have := (up k).isLt; omega⟩ (kq g (up j)) = Wi (rq g j) ⟨k.val, by have := k.isLt; omega⟩)
    (hwf0 : ∀ (g : Fin 3) j (k : Fin 106), wi ⟨(pad k).val, by have := (pad k).isLt; omega⟩ (kq g (up j)) = 0)
    (hwb : ∀ (g : Fin 3) j (k : Fin 150), wi ⟨256 + (up k).val, by have := (up k).isLt; omega⟩ (kq g (up j)) = Wi (rq g j) ⟨150 + k.val, by have := k.isLt; omega⟩)
    (hwb0 : ∀ (g : Fin 3) j (k : Fin 106), wi ⟨256 + (pad k).val, by have := (pad k).isLt; omega⟩ (kq g (up j)) = 0)
    (hb' : ∀ (g : Fin 3) j, b (kq g (up j)) = bi (rq g j)) (g : Fin 3) (j : Fin 150) :
    kGi Hf Hb wi b (kq g (up j)) = rGh Wi bi (rCtx hf hb) (rq g j) := by
  unfold kGi rGh
  rw [hb', sum512, sum300]
  refine congrArg (· + _) (congrArg₂ (· + ·) ?_ ?_)
  · refine Eq.trans (Finset.sum_congr rfl fun k _ => ?_)
      ((dot_up Hf (fun k => wi ⟨k.val, by have := k.isLt; omega⟩ (kq g (up j))) hf _ h1 (hwf g j) (hwf0 g j)).trans
        (Finset.sum_congr rfl fun k _ => ?_))
    · rw [dif_pos k.isLt]
    · unfold rCtx; rw [dif_pos k.isLt]
  · refine Eq.trans (Finset.sum_congr rfl fun k _ => ?_)
      ((dot_up Hb (fun k => wi ⟨256 + k.val, by have := k.isLt; omega⟩ (kq g (up j))) hb _ h2 (hwb g j) (hwb0 g j)).trans
        (Finset.sum_congr rfl fun k _ => ?_))
    · rw [dif_neg (by simp)]
      refine congrArg (· * _) (congrArg Hb (Fin.ext (by simp)))
    · unfold rCtx
      rw [dif_neg (by simp)]
      refine congrArg (· * _) (congrArg hb (Fin.ext (by simp)))

/-- The GRU recurrences agree at every hidden entry. -/
theorem gru_agree (gi : Fin 768 → EReal) (wh : Fin 256 → Fin 768 → EReal) (b : Fin 768 → EReal)
    (ri : Fin 450 → EReal) (Wh : Fin 450 → Fin 150 → EReal) (bh : Fin 450 → EReal)
    (hgi : ∀ (g : Fin 3) j, gi (kq g (up j)) = ri (rq g j))
    (hwh : ∀ (g : Fin 3) j k, wh (up k) (kq g (up j)) = Wh (rq g j) k)
    (hw0 : ∀ (g : Fin 3) j k, wh (pad k) (kq g (up j)) = 0)
    (hb : ∀ (g : Fin 3) j, b (kq g (up j)) = bh (rq g j)) :
    ∀ n j, kGru gi wh b n (up j) = rGru ri Wh bh n j
  | 0, _ => rfl
  | n + 1, j => by
    have ih := gru_agree gi wh b ri Wh bh hgi hwh hw0 hb n
    have hg : ∀ (g : Fin 3), kGh wh b (kGru gi wh b n) (kq g (up j)) = rGh Wh bh (rGru ri Wh bh n) (rq g j) := fun g => by
      unfold kGh rGh
      rw [dot_up _ (fun k => wh k (kq g (up j))) _ (fun k => Wh (rq g j) k) ih (hwh g j) (hw0 g j), hb]
    show kGruStep _ _ _ _ _ = rGruStep _ _ _ _
    unfold kGruStep rGruStep
    rw [hg, hg, hg, hgi, hgi, hgi, ih]

end Cert.Rnn

end
-- ==== Proof.Steps.lean ====
/-
  What one step of the kernel body computes, read at an index: the slabs of the input projection and of the final
  projection, one LSTM step, the reversed direction's step, one GRU step, each as the padded recurrences of Math.lean.
-/
module

public import proofs.«01_k».proof.Proof.Gen.KernelIdeal.Frame
public import proofs.«01_k».proof.Proof.Gen.KernelIdeal.Loops
public import Idealize.ShloMosaic.Lib.Pointwise
public import Idealize.ShloMosaic.Lib.WholeRead
public import proofs.«01_k».proof.Proof.Math

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Rnn

/-! ## The slabs -/

/-- Row `t`, batch entry `b`, column `q` of the input projection. -/
def xpT (x0 : Vec Ideal S128x32x384 .f32) (x1 : Vec Ideal S384x1024 .bf16) (x3 : Vec Ideal S1x1024 .f32)
    (i : S128x32x1024.Idx) : EReal :=
  (∑ k : Fin 384, x0 (ix3 (i 0) (i 1) k) * x1 (ix2 k (i 2))) + x3 (ix2 0 (i 2))

/-- What a slab of the input projection holds. -/
abbrev SlabX (w : FVec Ideal S384x1024 .bf16) (b : FVec Ideal S1x1024 .f32) (x : Vec Ideal S8x32x384 .f32)
    (p : FVec Ideal S8x32x1024 .f32) : Prop :=
  ∀ (a : Fin 8) (r : Fin 32) (q : Fin 1024), p (ix3 a r q) = (∑ k : Fin 384, x (ix3 a r k) * w (ix2 k q)) + b (ix2 0 q)

section
variable (w : FVec Ideal S384x1024 .bf16) (b : FVec Ideal S1x1024 .f32) (x : Vec Ideal S8x32x384 .f32)

theorem slab21 : SlabX w b x (k0_pay21 w b x) := fun a r q => by pointwise [k0_pay21, k0_pay19, k0_pay20]
theorem slab22 : SlabX w b x (k0_pay22 w b x) := fun a r q => by pointwise [k0_pay22, k0_pay19, k0_pay20]
theorem slab25 : SlabX w b x (k0_pay25 w b x) := fun a r q => by pointwise [k0_pay25]
theorem slab26 : SlabX w b x (k0_pay26 w b x) := fun a r q => by pointwise [k0_pay26]
theorem slab29 : SlabX w b x (k0_pay29 w b x) := fun a r q => by pointwise [k0_pay29]
theorem slab30 : SlabX w b x (k0_pay30 w b x) := fun a r q => by pointwise [k0_pay30]
theorem slab31 : SlabX w b x (k0_pay31 w b x) := fun a r q => by pointwise [k0_pay31]
theorem slab32 : SlabX w b x (k0_pay32 w b x) := fun a r q => by pointwise [k0_pay32]
theorem slab33 : SlabX w b x (k0_pay33 w b x) := fun a r q => by pointwise [k0_pay33]
theorem slab34 : SlabX w b x (k0_pay34 w b x) := fun a r q => by pointwise [k0_pay34]
theorem slab35 : SlabX w b x (k0_pay35 w b x) := fun a r q => by pointwise [k0_pay35]
theorem slab36 : SlabX w b x (k0_pay36 w b x) := fun a r q => by pointwise [k0_pay36]
theorem slab37 : SlabX w b x (k0_pay37 w b x) := fun a r q => by pointwise [k0_pay37]
theorem slab24 : SlabX w b x (k0_pay24 (k0_pay23 w b x)) := fun a r q => by pointwise [k0_pay24, k0_pay23, k0_pay19, k0_pay20]
theorem slab28 : SlabX w b x (k0_pay28 (k0_pay27 w b x)) := fun a r q => by pointwise [k0_pay28, k0_pay27]
theorem slab39 : SlabX w b x (k0_pay39 w b (k0_pay38 x)) := fun a r q => by pointwise [k0_pay39, k0_pay38]

theorem pay19_eq : k0_pay19 w = w := shapeCast_self _ _
theorem pay20_eq : k0_pay20 b = b := shapeCast_self _ _

end

/-- Row `t`, batch entry `b`, column `q` of the final projection of `hall`. -/
def fcT (hall : S128x32x256.Idx → EReal) (x10 : Vec Ideal S256x128 .bf16) (x11 : Vec Ideal S1x128 .f32)
    (i : S128x32x128.Idx) : EReal :=
  (∑ k : Fin 256, hall (ix3 (i 0) (i 1) k) * x10 (ix2 k (i 2))) + x11 (ix2 0 (i 2))

/-- What a slab of the final projection holds. -/
abbrev SlabF (w : FVec Ideal S256x128 .bf16) (b : FVec Ideal S1x128 .f32) (x : Vec Ideal S8x32x256 .f32)
    (p : FVec Ideal S8x32x128 .f32) : Prop :=
  ∀ (a : Fin 8) (r : Fin 32) (q : Fin 128), p (ix3 a r q) = (∑ k : Fin 256, x (ix3 a r k) * w (ix2 k q)) + b (ix2 0 q)

section
variable (w : FVec Ideal S256x128 .bf16) (b : FVec Ideal S1x128 .f32) (x : Vec Ideal S8x32x256 .f32)

theorem slab55 : SlabF w b x (k0_pay55 w b x) := fun a r q => by pointwise [k0_pay55, k0_pay53, k0_pay54]
theorem slab56 : SlabF w b x (k0_pay56 w b x) := fun a r q => by pointwise [k0_pay56, k0_pay53, k0_pay54]
theorem slab57 : SlabF w b x (k0_pay57 w b x) := fun a r q => by pointwise [k0_pay57]
theorem slab58 : SlabF w b x (k0_pay58 w b x) := fun a r q => by pointwise [k0_pay58]
theorem slab59 : SlabF w b x (k0_pay59 w b x) := fun a r q => by pointwise [k0_pay59]
theorem slab60 : SlabF w b x (k0_pay60 w b x) := fun a r q => by pointwise [k0_pay60]
theorem slab61 : SlabF w b x (k0_pay61 w b x) := fun a r q => by pointwise [k0_pay61]
theorem slab62 : SlabF w b x (k0_pay62 w b x) := fun a r q => by pointwise [k0_pay62]
theorem slab63 : SlabF w b x (k0_pay63 w b x) := fun a r q => by pointwise [k0_pay63]
theorem slab67 : SlabF w b x (k0_pay67 w b x) := fun a r q => by pointwise [k0_pay67]
theorem slab68 : SlabF w b x (k0_pay68 w b x) := fun a r q => by pointwise [k0_pay68]
theorem slab69 : SlabF w b x (k0_pay69 w b x) := fun a r q => by pointwise [k0_pay69]
theorem slab2 : SlabF w b x (k0_pay2 w b x) := fun a r q => by pointwise [k0_pay2]
theorem slab3 : SlabF w b x (k0_pay3 w b x) := fun a r q => by pointwise [k0_pay3]
theorem slab66 : SlabF w b x (k0_pay66 (k0_pay64 w x) (k0_pay65 b)) := fun a r q => by pointwise [k0_pay66, k0_pay64, k0_pay65]
theorem slab1 : SlabF w b x (k0_pay1 w b (k0_pay70 x)) := fun a r q => by pointwise [k0_pay1, k0_pay70]

theorem pay53_eq : k0_pay53 w = w := shapeCast_self _ _
theorem pay54_eq : k0_pay54 b = b := shapeCast_self _ _

end

/-! ## One LSTM step -/

/-- One LSTM step of the kernel: hidden vector and cell from the row of the input projection. -/
def vstep (w : FVec Ideal S256x1024 .bf16) (x : Vec Ideal S1x32x1024 .f32) (s : FVec Ideal S32x256 .f32 × FVec Ideal S32x256 .f32) :
    FVec Ideal S32x256 .f32 × FVec Ideal S32x256 .f32 :=
  (mulf (logistic (extractStridedSlice S32x256 ![0, 768] (k0_pay4 w s.1 x) slices_S32x1024_o0_768_S32x256))
    (tanh (k0_pay5 w s.1 s.2 x)), k0_pay5 w s.1 s.2 x)

theorem pay4_apply (w : FVec Ideal S256x1024 .bf16) (h : FVec Ideal S32x256 .f32) (x : Vec Ideal S1x32x1024 .f32) (r : Fin 32) (q : Fin 1024) :
    k0_pay4 w h x (ix2 r q) = kG (fun q => x (ix3 0 r q)) (fun k q => w (ix2 k q)) (fun k => h (ix2 r k)) q := by
  unfold kG; pointwise [k0_pay4]

theorem pay5_apply (w : FVec Ideal S256x1024 .bf16) (h c : FVec Ideal S32x256 .f32) (x : Vec Ideal S1x32x1024 .f32) (r : Fin 32) (j : Fin 256) :
    k0_pay5 w h c x (ix2 r j)
      = kC (fun q => x (ix3 0 r q)) (fun k q => w (ix2 k q)) (fun k => h (ix2 r k)) (fun k => c (ix2 r k)) j := by
  pointwise [k0_pay5]
  rw [pay4_apply, pay4_apply, pay4_apply]
  unfold kC
  have e0 : (⟨j.val, by have := j.isLt; omega⟩ : Fin 1024) = kq (n := 4) 0 j := Fin.ext (by simp [kq])
  rw [← e0]; rfl

theorem vstep_fst (w : FVec Ideal S256x1024 .bf16) (x : Vec Ideal S1x32x1024 .f32) (s : FVec Ideal S32x256 .f32 × FVec Ideal S32x256 .f32) (r : Fin 32) (j : Fin 256) :
    (vstep w x s).1 (ix2 r j)
      = kH (fun q => x (ix3 0 r q)) (fun k q => w (ix2 k q)) (fun k => s.1 (ix2 r k)) (fun k => s.2 (ix2 r k)) j := by
  unfold vstep
  pointwise []
  rw [pay4_apply, pay5_apply]
  rfl

/-- The carried values hold the recurrence after `n` steps, row by row. -/
def Holds (xp : Fin 32 → ℕ → Fin 1024 → EReal) (w : FVec Ideal S256x1024 .bf16) (n : ℕ)
    (s : FVec Ideal S32x256 .f32 × FVec Ideal S32x256 .f32) : Prop :=
  ∀ r j, s.1 (ix2 r j) = (kLstm (xp r) (fun k q => w (ix2 k q)) n).1 j ∧ s.2 (ix2 r j) = (kLstm (xp r) (fun k q => w (ix2 k q)) n).2 j

theorem Holds.step {xp : Fin 32 → ℕ → Fin 1024 → EReal} {w : FVec Ideal S256x1024 .bf16} {n : ℕ}
    {s : FVec Ideal S32x256 .f32 × FVec Ideal S32x256 .f32} (h : Holds xp w n s) (x : Vec Ideal S1x32x1024 .f32)
    (hx : ∀ r q, x (ix3 0 r q) = xp r n q) : Holds xp w (n + 1) (vstep w x s) := fun r j => by
  have e1 : (fun k => s.1 (ix2 r k)) = (kLstm (xp r) (fun k q => w (ix2 k q)) n).1 := funext fun k => (h r k).1
  have e2 : (fun k => s.2 (ix2 r k)) = (kLstm (xp r) (fun k q => w (ix2 k q)) n).2 := funext fun k => (h r k).2
  have e3 : (fun q => x (ix3 0 r q)) = xp r n := funext fun q => hx r q
  exact ⟨by rw [vstep_fst, e1, e2, e3]; rfl, by
    show k0_pay5 w s.1 s.2 x (ix2 r j) = _
    rw [pay5_apply, e1, e2, e3]; rfl⟩

/-! ## One GRU step -/

theorem pay9_apply (g : FVec Ideal S32x768 .f32) (w : FVec Ideal S256x768 .bf16) (b : FVec Ideal S1x768 .f32) (h : FVec Ideal S32x256 .f32)
    (r : Fin 32) (j : Fin 256) :
    k0_pay9 g w b h (ix2 r j)
      = kGruStep (fun q => g (ix2 r q)) (fun k q => w (ix2 k q)) (fun q => b (ix2 0 q)) (fun k => h (ix2 r k)) j := by
  have e0 : kq (n := 3) 0 j = (⟨j.val, by have := j.isLt; omega⟩ : Fin 768) := Fin.ext (by simp [kq])
  unfold kGruStep kGh
  rw [e0]
  pointwise [k0_pay9]
  rfl

/-! ## The reversed direction and the GRU's constant input -/

theorem gi_apply (hf : FVec Ideal S32x256 .f32) (x : Vec Ideal S1x32x384 .f32) (wb : Vec Ideal S384x1024 .bf16) (bb : Vec Ideal S1x1024 .f32)
    (wi : Vec Ideal S512x768 .bf16) (bi : Vec Ideal S1x768 .f32) (r : Fin 32) (q : Fin 768) :
    k0_pay48 (k0_pay47 hf x wb bb wi) bi (ix2 r q)
      = kGi (fun k => hf (ix2 r k)) (kBwd fun q => (∑ k : Fin 384, x (ix3 0 r k) * wb (ix2 k q)) + bb (ix2 0 q))
          (fun k q => wi (ix2 k q)) (fun q => bi (ix2 0 q)) q := by
  have e0 : ∀ j : Fin 256, kq (n := 4) 0 j = (⟨j.val, by have := j.isLt; omega⟩ : Fin 1024) := fun j => Fin.ext (by simp [kq])
  unfold kGi kBwd
  pointwise [k0_pay48, k0_pay47]
  simp only [e0]
  rfl

end Cert.KernelIdeal.Body

end
-- ==== Proof.BodyLoops.lean ====
/-
  The two counted loops of the kernel body. Before trip `k` the first carries the LSTM's hidden vector and cell after
  `4 k` steps; the second carries the GRU's hidden vector after `4 k` steps and has written those of the steps before,
  one per row of the scratch array.
-/
module

public import proofs.«01_k».proof.Proof.Gen.KernelIdeal.Frame
public import proofs.«01_k».proof.Proof.Gen.KernelIdeal.Loops
public import Idealize.ShloMosaic.Lib.Pointwise
public import Idealize.ShloMosaic.Lib.WholeRead
public import proofs.«01_k».proof.Proof.Steps

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Rnn

/-- The row of the projection a load at row `o` reads. -/
theorem row_apply (m : Memref sig .tc .vmem S128x32x1024 .f32) (X : BufTy.Contents (Elt Ideal) m.view.ty) (off : Fin 3 → ℕ)
    (inb : ∀ a, off a + S1x32x1024.size a ≤ S128x32x1024.size a) (o : Fin 128) (h : off = ![o.val, 0, 0]) (r : Fin 32) (q : Fin 1024) :
    View.readAt (Elt Ideal) m.view (Rect.unit (s := S128x32x1024) off S1x32x1024.size inb).toLoadRect X (ix3 0 r q)
      = View.read (Elt Ideal) m.view X (ix3 o r q) := by
  subst h
  rw [View.readAt_eq_ld]
  refine congrArg (View.read (Elt Ideal) m.view X) (funext fun a => Fin.ext ?_)
  match a with
  | ⟨0, _⟩ => exact (show o.val + 1 * 0 = o.val by omega)
  | ⟨1, _⟩ => exact (show 0 + 1 * r.val = r.val by omega)
  | ⟨2, _⟩ => exact (show 0 + 1 * q.val = q.val by omega)

theorem trips1 (k : Fin k0_t1_loop.trips) : k.val < 32 := Nat.lt_of_lt_of_le k.isLt k0_t1_abs.2.1
theorem trips2 (k : Fin k0_t2_loop.trips) : k.val < 32 := Nat.lt_of_lt_of_le k.isLt k0_t2_abs.2.1

/-- One trip of the first loop is four steps. -/
theorem trip1_eq (𝒱 : Variants) (c : Dev nD) (bd : Option 𝒱.V) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v1 : FVec Ideal S384x1024 .bf16) (v3 : FVec Ideal S1x1024 .f32) (v172 : FVec Ideal S256x384 .bf16) (v180 : Vec Ideal S256x1024 .bf16) (X : BufTy.Contents (Elt Ideal) arg13.view.ty) (k : Fin k0_t1_loop.trips) (acc : FVec Ideal S32x256 .f32 × FVec Ideal S32x256 .f32) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X k acc
      = vstep v180 (View.readAt (Elt Ideal) arg13.view (Rect.unit (s := S128x32x1024) (k0_off1 k 3#32) S1x32x1024.size (k0_off1_inb k 3)).toLoadRect X)
        (vstep v180 (View.readAt (Elt Ideal) arg13.view (Rect.unit (s := S128x32x1024) (k0_off1 k 2#32) S1x32x1024.size (k0_off1_inb k 2)).toLoadRect X)
        (vstep v180 (View.readAt (Elt Ideal) arg13.view (Rect.unit (s := S128x32x1024) (k0_off1 k 1#32) S1x32x1024.size (k0_off1_inb k 1)).toLoadRect X)
        (vstep v180 (View.readAt (Elt Ideal) arg13.view (Rect.unit (s := S128x32x1024) (k0_off1 k 0#32) S1x32x1024.size (k0_off1_inb k 0)).toLoadRect X) acc))) := by
  have e : k0_pay40 v180 = v180 := shapeCast_self _ _
  have e' : vstep v180 = vstep (k0_pay40 v180) := by rw [e]
  rw [e']
  unfold tripR_k0_t1 trip_k0_t1
  rfl

/-- The first loop's carried values before trip `k`. -/
theorem st1_holds (𝒱 : Variants) (c : Dev nD) (bd : Option 𝒱.V) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v1 : FVec Ideal S384x1024 .bf16) (v3 : FVec Ideal S1x1024 .f32) (v172 : FVec Ideal S256x384 .bf16) (v180 : Vec Ideal S256x1024 .bf16) (X : BufTy.Contents (Elt Ideal) arg13.view.ty) (xp : Fin 32 → ℕ → Fin 1024 → EReal)
    (hX : ∀ (t : Fin 128) r q, View.read (Elt Ideal) arg13.view X (ix3 t r q) = xp r t.val q) :
    ∀ k, k ≤ k0_t1_loop.trips → Holds xp v180 (4 * k) (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X (k0_pay41, k0_pay41) k)
  | 0, _ => fun r j => ⟨(show Ideal.ofBits .f32 0#32 = 0 from Ideal.ofBits_zero .f32), (show Ideal.ofBits .f32 0#32 = 0 from Ideal.ofBits_zero .f32)⟩
  | k + 1, hk => by
    have ih := st1_holds 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X xp hX k (Nat.le_of_succ_le hk)
    have hk' := trips1 ⟨k, hk⟩
    rw [show st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X (k0_pay41, k0_pay41) (k + 1) = _ from st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X (k0_pay41, k0_pay41) ⟨k, hk⟩, trip1_eq]
    have row : ∀ (i : Fin 4) (r : Fin 32) (q : Fin 1024),
        View.readAt (Elt Ideal) arg13.view (Rect.unit (s := S128x32x1024) (k0_off1 ⟨k, hk⟩ (BitVec.ofNat 32 i.val)) S1x32x1024.size (k0_off1_inb ⟨k, hk⟩ i)).toLoadRect X (ix3 0 r q)
          = xp r (4 * k + i.val) q := fun i r q =>
      (row_apply arg13 X _ _ ⟨4 * k + i.val, by have := i.isLt; dsimp only at hk'; omega⟩ (k0_off1_eq ⟨k, hk⟩ i) r q).trans (hX _ r q)
    exact (((ih.step _ (row 0)).step _ (row 1)).step _ (row 2)).step _ (row 3)

/-! ## The GRU loop -/

section

variable (gi : FVec Ideal S32x768 .f32) (w : FVec Ideal S256x768 .bf16) (b : FVec Ideal S1x768 .f32)

/-- Row `r`'s hidden vector after `n` GRU steps. -/
def gruN (r : Fin 32) (n : ℕ) : Fin 256 → EReal :=
  kGru (fun q => gi (ix2 r q)) (fun k q => w (ix2 k q)) (fun q => b (ix2 0 q)) n

/-- The hidden vectors of all steps, as the array the scratch holds. -/
def hallT (i : S128x32x256.Idx) : EReal := gruN gi w b (i 1) ((i 0).val + 1) (i 2)

/-- The carried vector holds the recurrence after `n` steps, row by row. -/
def HoldsG (n : ℕ) (h : FVec Ideal S32x256 .f32) : Prop := ∀ r j, h (ix2 r j) = gruN gi w b r n j

variable {gi w b}

theorem HoldsG.step {n : ℕ} {h : FVec Ideal S32x256 .f32} (H : HoldsG gi w b n h) : HoldsG gi w b (n + 1) (k0_pay9 gi w b h) :=
  fun r j => by
    have e1 : (fun k => h (ix2 r k)) = gruN gi w b r n := funext fun k => H r k
    rw [pay9_apply, e1]; rfl

/-- The piece a step stores is a row of `hallT`. -/
theorem HoldsG.piece {n : ℕ} {h : FVec Ideal S32x256 .f32} (H : HoldsG gi w b (n + 1) h) (off : Fin 3 → ℕ)
    (inb : ∀ a, off a + S1x32x256.size a ≤ S128x32x256.size a) (ho : off = ![n, 0, 0])
    (x : (Rect.unit (s := S128x32x256) off S1x32x256.size inb).shape.Idx) :
    k0_pay12 (F := Ideal) h x = hallT gi w b ((Rect.unit (s := S128x32x256) off S1x32x256.size inb).emb x) := by
  subst ho
  obtain ⟨a, r, j, rfl⟩ : ∃ (a : Fin 1) (r : Fin 32) (j : Fin 256), x = ix3 a r j := ⟨x 0, x 1, x 2, eq_ix3 x⟩
  have e : k0_pay12 (F := Ideal) h (ix3 a r j) = h (ix2 r j) := by pointwise [k0_pay12]
  refine e.trans ((H r j).trans ?_)
  unfold hallT
  have h0 : ((Rect.unit (s := S128x32x256) ![n, 0, 0] S1x32x256.size inb).emb (ix3 a r j) 0).val = n := by
    show n + 1 * a.val = n
    have := a.isLt; omega
  have h1 : (Rect.unit (s := S128x32x256) ![n, 0, 0] S1x32x256.size inb).emb (ix3 a r j) 1 = r :=
    Fin.ext (show 0 + 1 * r.val = r.val by omega)
  have h2 : (Rect.unit (s := S128x32x256) ![n, 0, 0] S1x32x256.size inb).emb (ix3 a r j) 2 = j :=
    Fin.ext (show 0 + 1 * j.val = j.val by omega)
  rw [h0, h1, h2]

/-- A row holds the indices of its first coordinate. -/
theorem mem_row {n : ℕ} (off : Fin 3 → ℕ) (inb : ∀ a, off a + S1x32x256.size a ≤ S128x32x256.size a) (ho : off = ![n, 0, 0])
    (y : S128x32x256.Idx) (hy : (y 0).val = n) : y ∈ (Rect.unit (s := S128x32x256) off S1x32x256.size inb).set := by
  subst ho
  rw [Rect.mem_set_unit]
  intro a
  match a with
  | ⟨0, _⟩ => exact (show n ≤ (y 0).val ∧ (y 0).val < n + 1 by omega)
  | ⟨1, _⟩ => exact (show 0 ≤ (y 1).val ∧ (y 1).val < 0 + 32 from ⟨Nat.zero_le _, by have : (y 1).val < 32 := (y 1).isLt; omega⟩)
  | ⟨2, _⟩ => exact (show 0 ≤ (y 2).val ∧ (y 2).val < 0 + 256 from ⟨Nat.zero_le _, by have : (y 2).val < 256 := (y 2).isLt; omega⟩)

/-- One trip of the second loop yields the fourth step … -/
theorem trip2_fst (𝒱 : Variants) (c : Dev nD) (bd : Option 𝒱.V) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v182 : FVec Ideal S32x256 .f32) (v208 : FVec Ideal S32x768 .f32) (v209 : Vec Ideal S1x768 .f32) (v213 : Vec Ideal S256x768 .bf16) (v215 : Vec Ideal S1x768 .f32) (k : Fin k0_t2_loop.trips) (acc : FVec Ideal S32x256 .f32) :
    tripR_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 k acc
      = k0_pay9 (k0_pay48 v208 v209) v213 v215 (k0_pay9 (k0_pay48 v208 v209) v213 v215
          (k0_pay9 (k0_pay48 v208 v209) v213 v215 (k0_pay9 (k0_pay48 v208 v209) v213 v215 acc))) := by
  have e : k0_pay9 (F := Ideal) (k0_pay48 v208 v209) v213 v215 = k0_pay9 (k0_pay48 v208 v209) (k0_pay49 v213) (k0_pay50 v215) := by
    rw [show k0_pay49 v213 = v213 from shapeCast_self _ _, show k0_pay50 v215 = v215 from shapeCast_self _ _]
  rw [e]
  unfold tripR_k0_t2 trip_k0_t2
  rfl

/-- … and stores each of the four as a row. -/
theorem trip2_snd (𝒱 : Variants) (c : Dev nD) (bd : Option 𝒱.V) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v182 : FVec Ideal S32x256 .f32) (v208 : FVec Ideal S32x768 .f32) (v209 : Vec Ideal S1x768 .f32) (v213 : Vec Ideal S256x768 .bf16) (v215 : Vec Ideal S1x768 .f32) (k : Fin k0_t2_loop.trips) (acc : FVec Ideal S32x256 .f32) :
    tripL_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 k acc
      = [⟨Rect.unit (s := S128x32x256) (k0_off2 k 3#32) S1x32x256.size (k0_off2_inb k 3), k0_pay12 (k0_pay9 (k0_pay48 v208 v209) v213 v215 (k0_pay9 (k0_pay48 v208 v209) v213 v215
          (k0_pay9 (k0_pay48 v208 v209) v213 v215 (k0_pay9 (k0_pay48 v208 v209) v213 v215 acc))))⟩,
        ⟨Rect.unit (s := S128x32x256) (k0_off2 k 2#32) S1x32x256.size (k0_off2_inb k 2), k0_pay12 (k0_pay9 (k0_pay48 v208 v209) v213 v215
          (k0_pay9 (k0_pay48 v208 v209) v213 v215 (k0_pay9 (k0_pay48 v208 v209) v213 v215 acc)))⟩,
        ⟨Rect.unit (s := S128x32x256) (k0_off2 k 1#32) S1x32x256.size (k0_off2_inb k 1), k0_pay12 (k0_pay9 (k0_pay48 v208 v209) v213 v215 (k0_pay9 (k0_pay48 v208 v209) v213 v215 acc))⟩,
        ⟨Rect.unit (s := S128x32x256) (k0_off2 k 0#32) S1x32x256.size (k0_off2_inb k 0), k0_pay12 (k0_pay9 (k0_pay48 v208 v209) v213 v215 acc)⟩] := by
  have e : k0_pay9 (F := Ideal) (k0_pay48 v208 v209) v213 v215 = k0_pay9 (k0_pay48 v208 v209) (k0_pay49 v213) (k0_pay50 v215) := by
    rw [show k0_pay49 v213 = v213 from shapeCast_self _ _, show k0_pay50 v215 = v215 from shapeCast_self _ _]
  rw [e]
  unfold tripL_k0_t2 trip_k0_t2
  rfl

/-- The second loop's state before trip `k`: the carried vector, the rows written, and that they are all of the first `4 k`. -/
theorem st2_holds (𝒱 : Variants) (c : Dev nD) (bd : Option 𝒱.V) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v182 : FVec Ideal S32x256 .f32) (v208 : FVec Ideal S32x768 .f32) (v209 : Vec Ideal S1x768 .f32) (v213 : Vec Ideal S256x768 .bf16) (v215 : Vec Ideal S1x768 .f32) (h0 : HoldsG (k0_pay48 v208 v209) v213 v215 0 v182) :
    ∀ k, k ≤ k0_t2_loop.trips →
      HoldsG (k0_pay48 v208 v209) v213 v215 (4 * k) (st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 v182 k).1
      ∧ (∀ p ∈ (st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 v182 k).2, ∀ x : p.1.shape.Idx, p.2 x = hallT (k0_pay48 v208 v209) v213 v215 (p.1.emb x))
      ∧ ∀ y : S128x32x256.Idx, (y 0).val < 4 * k → ∃ p ∈ (st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 v182 k).2, y ∈ p.1.set
  | 0, _ => ⟨h0, fun p hp => absurd hp List.not_mem_nil, fun y hy => absurd hy (Nat.not_lt_zero _)⟩
  | k + 1, hk => by
    obtain ⟨i1, i2, i3⟩ := st2_holds 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 h0 k (Nat.le_of_succ_le hk)
    rw [show st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 v182 (k + 1) = _ from st_k0_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 v182 ⟨k, hk⟩]
    dsimp only
    rw [trip2_fst, trip2_snd]
    have s1 := i1.step
    have s2 := s1.step
    have s3 := s2.step
    have s4 := s3.step
    refine ⟨s4, ?_, fun y hy => ?_⟩
    · intro p hp
      rcases List.mem_append.1 hp with hp | hp
      · simp only [List.mem_cons, List.not_mem_nil, or_false] at hp
        rcases hp with rfl | rfl | rfl | rfl
        · exact s4.piece _ (k0_off2_inb ⟨k, hk⟩ 3) (k0_off2_eq ⟨k, hk⟩ 3)
        · exact s3.piece _ (k0_off2_inb ⟨k, hk⟩ 2) (k0_off2_eq ⟨k, hk⟩ 2)
        · exact s2.piece _ (k0_off2_inb ⟨k, hk⟩ 1) (k0_off2_eq ⟨k, hk⟩ 1)
        · exact s1.piece _ (k0_off2_inb ⟨k, hk⟩ 0) (k0_off2_eq ⟨k, hk⟩ 0)
      · exact i2 p hp
    · by_cases h : (y 0).val < 4 * k
      · obtain ⟨p, hp, hm⟩ := i3 y h
        exact ⟨p, List.mem_append_right _ hp, hm⟩
      · have hc : (y 0).val = 4 * k + 3 ∨ (y 0).val = 4 * k + 2 ∨ (y 0).val = 4 * k + 1 ∨ (y 0).val = 4 * k + 0 := by omega
        rcases hc with h | h | h | h
        · exact ⟨_, List.mem_append_left _ (.head _), mem_row _ (k0_off2_inb ⟨k, hk⟩ 3) (k0_off2_eq ⟨k, hk⟩ 3) y h⟩
        · exact ⟨_, List.mem_append_left _ (.tail _ (.head _)), mem_row _ (k0_off2_inb ⟨k, hk⟩ 2) (k0_off2_eq ⟨k, hk⟩ 2) y h⟩
        · exact ⟨_, List.mem_append_left _ (.tail _ (.tail _ (.head _))), mem_row _ (k0_off2_inb ⟨k, hk⟩ 1) (k0_off2_eq ⟨k, hk⟩ 1) y h⟩
        · exact ⟨_, List.mem_append_left _ (.tail _ (.tail _ (.tail _ (.head _)))), mem_row _ (k0_off2_inb ⟨k, hk⟩ 0) (k0_off2_eq ⟨k, hk⟩ 0) y h⟩

end

end Cert.KernelIdeal.Body

end
-- ==== Proof.Pieces.lean ====
/-
  From the pieces that the body stores to the arrays that it leaves: slabs of rows, and the result of the call as a
  function of its operands.
-/
module

public import proofs.«01_k».proof.Proof.Gen.KernelIdeal.Frame
public import proofs.«01_k».proof.Proof.Gen.KernelIdeal.Loops
public import Idealize.ShloMosaic.Lib.Pointwise
public import Idealize.ShloMosaic.Lib.WholeRead

public import Idealize.ShloMosaic.Lib.Pipeline.Value
public import proofs.«01_k».proof.Proof.BodyLoops
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Cert.Rnn

/-- Pieces that are all restrictions of `G` and cover the array make it read `G`. -/
theorem read_pieces {sp : Space} {s : Shape} {e : EltTy} [∀ e, Nonempty (Elt Ideal e)] (v : View sig .tc sp s e)
    (f : v.ty.Contents (Elt Ideal)) (L : List (View.Piece (Elt Ideal) s e)) (G : s.Idx → Elt Ideal e)
    (hp : ∀ p ∈ L, ∀ x, p.2 x = G (p.1.emb x)) (hc : ∀ y, ∃ p ∈ L, y ∈ p.1.set) :
    View.read (Elt Ideal) v (v.writes (Elt Ideal) f L) = G := by
  rw [View.read_writes_eq_canon v f L hc]
  funext y
  exact View.canon_apply_of_pieces G L hp y (hc y)

/-- Loading the whole of a memref reads its contents. -/
theorem read_full {sp : Space} {s : Shape} {e : EltTy} (m : Memref sig .tc sp s e) (hm : m.IsWhole) (X : Vec Ideal s e)
    (off : Fin s.rank → ℕ) (inb : ∀ a, off a + s.size a ≤ s.size a) (ho : ∀ a, off a = 0) :
    View.readAt (Elt Ideal) m.view (Rect.unit (s := s) off s.size inb).toLoadRect (hm.unread X) = X := by
  funext x
  refine (hm.readAt_unread X _ x).trans (congrArg X (funext fun a => Fin.ext ?_))
  show off a + 1 * (x a).val = (x a).val
  rw [ho a]; omega

/-- Loading the rows from `n` reads the contents at row `n + a`. -/
theorem read_rows {d1 d2 d3 h : ℕ} (m : Memref sig .tc .vmem ⟨3, ![d1, d2, d3]⟩ .f32) (X) (n : ℕ)
    (inb : ∀ a, (![n, 0, 0] : Fin 3 → ℕ) a + (⟨3, ![h, d2, d3]⟩ : Shape).size a ≤ (⟨3, ![d1, d2, d3]⟩ : Shape).size a)
    (a : Fin h) (r : Fin d2) (k : Fin d3) (o : Fin d1) (ho : o.val = n + a.val) :
    View.readAt (Elt Ideal) m.view (Rect.unit (s := ⟨3, ![d1, d2, d3]⟩) ![n, 0, 0] (⟨3, ![h, d2, d3]⟩ : Shape).size inb).toLoadRect X (ix3 a r k)
      = View.read (Elt Ideal) m.view X (ix3 o r k) := by
  rw [View.readAt_eq_ld]
  refine congrArg (View.read (Elt Ideal) m.view X) (funext fun b => Fin.ext ?_)
  match b with
  | ⟨0, _⟩ => exact (show n + 1 * a.val = o.val by omega)
  | ⟨1, _⟩ => exact (show 0 + 1 * r.val = r.val by omega)
  | ⟨2, _⟩ => exact (show 0 + 1 * k.val = k.val by omega)

/-- Where a slab of rows puts its index. -/
theorem emb_rows {d1 d2 d3 h : ℕ} (n : ℕ)
    (inb : ∀ a, (![n, 0, 0] : Fin 3 → ℕ) a + (⟨3, ![h, d2, d3]⟩ : Shape).size a ≤ (⟨3, ![d1, d2, d3]⟩ : Shape).size a)
    (a : Fin h) (r : Fin d2) (k : Fin d3) (o : Fin d1) (ho : o.val = n + a.val) :
    (Rect.unit (s := ⟨3, ![d1, d2, d3]⟩) ![n, 0, 0] (⟨3, ![h, d2, d3]⟩ : Shape).size inb).emb (ix3 a r k) = ix3 o r k := by
  refine funext fun b => Fin.ext ?_
  match b with
  | ⟨0, _⟩ => exact (show n + 1 * a.val = o.val by omega)
  | ⟨1, _⟩ => exact (show 0 + 1 * r.val = r.val by omega)
  | ⟨2, _⟩ => exact (show 0 + 1 * k.val = k.val by omega)

/-- A slab of rows holds the indices whose first coordinate lies in it. -/
theorem mem_rows {d1 d2 d3 h : ℕ} (n : ℕ)
    (inb : ∀ a, (![n, 0, 0] : Fin 3 → ℕ) a + (⟨3, ![h, d2, d3]⟩ : Shape).size a ≤ (⟨3, ![d1, d2, d3]⟩ : Shape).size a)
    (y : (⟨3, ![d1, d2, d3]⟩ : Shape).Idx) (hy : n ≤ (y 0).val ∧ (y 0).val < n + h) :
    y ∈ (Rect.unit (s := ⟨3, ![d1, d2, d3]⟩) ![n, 0, 0] (⟨3, ![h, d2, d3]⟩ : Shape).size inb).set := by
  rw [Rect.mem_set_unit]
  intro b
  match b with
  | ⟨0, _⟩ => exact (show n ≤ (y 0).val ∧ (y 0).val < n + h from hy)
  | ⟨1, _⟩ => exact (show 0 ≤ (y 1).val ∧ (y 1).val < 0 + d2 from ⟨Nat.zero_le _, by have : (y 1).val < d2 := (y 1).isLt; omega⟩)
  | ⟨2, _⟩ => exact (show 0 ≤ (y 2).val ∧ (y 2).val < 0 + d3 from ⟨Nat.zero_le _, by have : (y 2).val < d3 := (y 2).isLt; omega⟩)

/-- A slab of the input projection is the rows of the whole projection it is stored at. -/
theorem pieceX (m : Memref sig .tc .vmem S128x32x384 .f32) (X) (x0 : Vec Ideal S128x32x384 .f32) (x1 : Vec Ideal S384x1024 .bf16)
    (x3 : Vec Ideal S1x1024 .f32) (hX : View.read (Elt Ideal) m.view X = x0) (w b) (hw : w = x1) (hb : b = x3) (n : ℕ) (hn : n + 8 ≤ 128)
    (inb : ∀ a, (![n, 0, 0] : Fin 3 → ℕ) a + S8x32x1024.size a ≤ S128x32x1024.size a)
    (inb' : ∀ a, (![n, 0, 0] : Fin 3 → ℕ) a + S8x32x384.size a ≤ S128x32x384.size a) (p)
    (H : SlabX w b (View.readAt (Elt Ideal) m.view (Rect.unit (s := S128x32x384) ![n, 0, 0] S8x32x384.size inb').toLoadRect X) p)
    (y : (Rect.unit (s := S128x32x1024) ![n, 0, 0] S8x32x1024.size inb).shape.Idx) :
    p y = xpT x0 x1 x3 ((Rect.unit (s := S128x32x1024) ![n, 0, 0] S8x32x1024.size inb).emb y) := by
  obtain ⟨a, r, q, rfl⟩ : ∃ (a : Fin 8) (r : Fin 32) (q : Fin 1024), y = ix3 a r q := ⟨y 0, y 1, y 2, eq_ix3 y⟩
  subst hw hb hX
  have ha := a.isLt
  rw [show (Rect.unit (s := S128x32x1024) ![n, 0, 0] S8x32x1024.size inb).emb (ix3 a r q) = ix3 ⟨n + a.val, by omega⟩ r q from
    emb_rows n inb a r q _ rfl]
  refine (H a r q).trans ?_
  unfold xpT
  refine congrArg₂ (· + ·) (Finset.sum_congr rfl fun k _ => congrArg₂ (· * ·) ?_ rfl) rfl
  exact read_rows m X n inb' a r k ⟨n + a.val, by omega⟩ rfl

/-- A slab of the final projection is the rows of the whole projection it is stored at. -/
theorem pieceF (m : Memref sig .tc .vmem S128x32x256 .f32) (X) (x0 : S128x32x256.Idx → EReal) (x1 : Vec Ideal S256x128 .bf16)
    (x3 : Vec Ideal S1x128 .f32) (hX : View.read (Elt Ideal) m.view X = x0) (w b) (hw : w = x1) (hb : b = x3) (n : ℕ) (hn : n + 8 ≤ 128)
    (inb : ∀ a, (![n, 0, 0] : Fin 3 → ℕ) a + S8x32x128.size a ≤ S128x32x128.size a)
    (inb' : ∀ a, (![n, 0, 0] : Fin 3 → ℕ) a + S8x32x256.size a ≤ S128x32x256.size a) (p)
    (H : SlabF w b (View.readAt (Elt Ideal) m.view (Rect.unit (s := S128x32x256) ![n, 0, 0] S8x32x256.size inb').toLoadRect X) p)
    (y : (Rect.unit (s := S128x32x128) ![n, 0, 0] S8x32x128.size inb).shape.Idx) :
    p y = fcT x0 x1 x3 ((Rect.unit (s := S128x32x128) ![n, 0, 0] S8x32x128.size inb).emb y) := by
  obtain ⟨a, r, q, rfl⟩ : ∃ (a : Fin 8) (r : Fin 32) (q : Fin 128), y = ix3 a r q := ⟨y 0, y 1, y 2, eq_ix3 y⟩
  subst hw hb hX
  have ha := a.isLt
  rw [show (Rect.unit (s := S128x32x128) ![n, 0, 0] S8x32x128.size inb).emb (ix3 a r q) = ix3 ⟨n + a.val, by omega⟩ r q from
    emb_rows n inb a r q _ rfl]
  refine (H a r q).trans ?_
  unfold fcT
  refine congrArg₂ (· + ·) (Finset.sum_congr rfl fun k _ => congrArg₂ (· * ·) ?_ rfl) rfl
  exact read_rows m X n inb' a r k ⟨n + a.val, by omega⟩ rfl

/-- Sixteen slabs of eight rows hold every one of the 128 rows. -/
theorem slab_of (y : ℕ) (hy : y < 128) :
    ∃ i : Fin 16, 8 * i.val ≤ y ∧ y < 8 * i.val + 8 := ⟨⟨y / 8, by omega⟩, by show 8 * (y / 8) ≤ y; omega, by show y < 8 * (y / 8) + 8; omega⟩

/-! ## What the body stores, of its operands alone -/

/-- Row `n` of the input projection of batch entry `r`. -/
def xpRow (x0 : Vec Ideal S128x32x384 .f32) (x1 : Vec Ideal S384x1024 .bf16) (x3 : Vec Ideal S1x1024 .f32)
    (r : Fin 32) (n : ℕ) (q : Fin 1024) : EReal :=
  if h : n < 128 then xpT x0 x1 x3 (ix3 ⟨n, h⟩ r q) else 0

/-- The GRU's constant input from the two directions' last hidden vectors. -/
def giT (x0 : Vec Ideal S128x32x384 .f32) (x1 : Vec Ideal S384x1024 .bf16) (x2 : Vec Ideal S256x1024 .bf16) (x3 : Vec Ideal S1x1024 .f32)
    (x4 : Vec Ideal S384x1024 .bf16) (x5 : Vec Ideal S1x1024 .f32) (x6 : Vec Ideal S512x768 .bf16) (x7 : Vec Ideal S1x768 .f32) :
    FVec Ideal S32x768 .f32 := fun i =>
  kGi (kLstm (xpRow x0 x1 x3 (i 0)) (fun k q => x2 (ix2 k q)) 128).1
    (kBwd fun q => (∑ k : Fin 384, x0 (ix3 (127 : Fin 128) (i 0) k) * x4 (ix2 k q)) + x5 (ix2 0 q))
    (fun k q => x6 (ix2 k q)) (fun q => x7 (ix2 0 q)) (i 1)

/-- The result of the call. -/
def outT (x0 : Vec Ideal S128x32x384 .f32) (x1 : Vec Ideal S384x1024 .bf16) (x2 : Vec Ideal S256x1024 .bf16) (x3 : Vec Ideal S1x1024 .f32)
    (x4 : Vec Ideal S384x1024 .bf16) (x5 : Vec Ideal S1x1024 .f32) (x6 : Vec Ideal S512x768 .bf16) (x7 : Vec Ideal S1x768 .f32)
    (x8 : Vec Ideal S256x768 .bf16) (x9 : Vec Ideal S1x768 .f32) (x10 : Vec Ideal S256x128 .bf16) (x11 : Vec Ideal S1x128 .f32) :
    Vec Ideal S128x32x128 .f32 := fcT (hallT (giT x0 x1 x2 x3 x4 x5 x6 x7) x8 x9) x10 x11

end Cert.KernelIdeal.Body

end
-- ==== Proof.Body.lean ====
/-
  The kernel body's triple at the ideal instance: run on operands `x0 … x11` it leaves them as they were and the
  result array at `outT x0 … x11`.
-/
module

public import proofs.«01_k».proof.Proof.Gen.KernelIdeal.Frame
public import proofs.«01_k».proof.Proof.Gen.KernelIdeal.Loops
public import Idealize.ShloMosaic.Lib.Pointwise
public import Idealize.ShloMosaic.Lib.WholeRead

public import proofs.«01_k».proof.Proof.Pieces
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

open Cert.Rnn

theorem trips1_eq : k0_t1_loop.trips = 32 := by decide +kernel
theorem trips2_eq : k0_t2_loop.trips = 32 := by decide +kernel

/-- After the second loop the scratch array holds the hidden vectors of all 128 steps. -/
theorem hall_eq (c : Dev nD) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v182 : FVec Ideal S32x256 .f32) (v208 : FVec Ideal S32x768 .f32) (v209 : Vec Ideal S1x768 .f32) (v213 : Vec Ideal S256x768 .bf16) (v215 : Vec Ideal S1x768 .f32) (f : arg14.view.ty.Contents (Elt Ideal)) (h0 : HoldsG (k0_pay48 v208 v209) v213 v215 0 v182) (n : ℕ) (hn : n = 32) :
    View.read (Elt Ideal) arg14.view (arg14.view.writes (Elt Ideal) f (st_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 v182 n).2)
      = hallT (k0_pay48 v208 v209) v213 v215 := by
  subst hn
  obtain ⟨_, h2, h3⟩ := st2_holds (𝒱 := Variants.none) (bd := none) c arg0 harg0 arg1 harg1 arg2 harg2 arg3 harg3 arg4 harg4 arg5 harg5 arg6 harg6 arg7 harg7 arg8 harg8 arg9 harg9 arg10 harg10 arg11 harg11 arg12 harg12 arg13 harg13 arg14 harg14 v182 v208 v209 v213 v215 h0 32 (le_of_eq trips2_eq.symm)
  exact read_pieces _ _ _ _ h2 fun y => h3 y (y 0).isLt

/-- The GRU's constant input, from the carried values after the first loop. -/
theorem gi_eq (c : Dev nD) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole) (v1 : FVec Ideal S384x1024 .bf16) (v3 : FVec Ideal S1x1024 .f32) (v172 : FVec Ideal S256x384 .bf16) (v180 : Vec Ideal S256x1024 .bf16) (X : BufTy.Contents (Elt Ideal) arg13.view.ty) (x0 : Vec Ideal S128x32x384 .f32) (x1 : Vec Ideal S384x1024 .bf16) (x2 : Vec Ideal S256x1024 .bf16) (x3 : Vec Ideal S1x1024 .f32) (x4 : Vec Ideal S384x1024 .bf16) (x5 : Vec Ideal S1x1024 .f32) (x6 : Vec Ideal S512x768 .bf16) (x7 : Vec Ideal S1x768 .f32) (y4 : Vec Ideal S384x1024 .bf16) (y5 : Vec Ideal S1x1024 .f32) (y6 : Vec Ideal S512x768 .bf16) (y7 : Vec Ideal S1x768 .f32)
    (h4 : y4 = x4) (h5 : y5 = x5) (h6 : y6 = x6) (h7 : y7 = x7) (hX : View.read (Elt Ideal) arg13.view X = xpT x0 x1 x3) (h2 : v180 = x2)
    (xr : Vec Ideal S1x32x384 .f32) (hr : ∀ r k, xr (ix3 0 r k) = x0 (ix3 (127 : Fin 128) r k)) (n : ℕ) (hn : n = 32) :
    k0_pay48 (k0_pay47 (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X (k0_pay41, k0_pay41) n).1 xr y4 y5 y6) y7
      = giT x0 x1 x2 x3 x4 x5 x6 x7 := by
  subst hn h2 h4 h5 h6 h7
  have H := st1_holds (𝒱 := Variants.none) (bd := none) c arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X (xpRow x0 x1 x3)
    (fun t r q => by rw [hX, xpRow, dif_pos t.isLt]) 32 (le_of_eq trips1_eq.symm)
  funext i
  obtain ⟨r, q, rfl⟩ : ∃ (r : Fin 32) (q : Fin 768), i = ix2 r q := ⟨i 0, i 1, eq_ix2 i⟩
  rw [gi_apply]
  unfold giT
  have e1 : (fun k => (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 v1 v3 v172 v180 X (k0_pay41, k0_pay41) 32).1 (ix2 r k))
      = (kLstm (xpRow x0 x1 x3 r) (fun k q => v180 (ix2 k q)) 128).1 := funext fun k => (H r k).1
  have e2 : (fun k => xr (ix3 0 r k)) = fun k => x0 (ix3 (127 : Fin 128) r k) := funext fun k => hr r k
  rw [e1]
  simp only [hr]
  rfl

set_option maxHeartbeats 4000000 in
/-- The body's triple. -/
theorem body_run (c : Dev nD) (arg0 : Memref sig .tc .vmem S128x32x384 .f32) (harg0 : arg0.IsWhole) (arg1 : Memref sig .tc .vmem S384x1024 .bf16) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S384x1024 .bf16) (harg4 : arg4.IsWhole) (arg5 : Memref sig .tc .vmem S1x1024 .f32) (harg5 : arg5.IsWhole) (arg6 : Memref sig .tc .vmem S512x768 .bf16) (harg6 : arg6.IsWhole) (arg7 : Memref sig .tc .vmem S1x768 .f32) (harg7 : arg7.IsWhole) (arg8 : Memref sig .tc .vmem S256x768 .bf16) (harg8 : arg8.IsWhole) (arg9 : Memref sig .tc .vmem S1x768 .f32) (harg9 : arg9.IsWhole) (arg10 : Memref sig .tc .vmem S256x128 .bf16) (harg10 : arg10.IsWhole) (arg11 : Memref sig .tc .vmem S1x128 .f32) (harg11 : arg11.IsWhole) (arg12 : Memref sig .tc .vmem S128x32x128 .f32) (harg12 : arg12.IsWhole) (arg13 : Memref sig .tc .vmem S128x32x1024 .f32) (harg13 : arg13.IsWhole) (arg14 : Memref sig .tc .vmem S128x32x256 .f32) (harg14 : arg14.IsWhole)
    (x0 : Vec Ideal S128x32x384 .f32) (x1 : Vec Ideal S384x1024 .bf16) (x2 : Vec Ideal S256x1024 .bf16) (x3 : Vec Ideal S1x1024 .f32) (x4 : Vec Ideal S384x1024 .bf16) (x5 : Vec Ideal S1x1024 .f32) (x6 : Vec Ideal S512x768 .bf16) (x7 : Vec Ideal S1x768 .f32) (x8 : Vec Ideal S256x768 .bf16) (x9 : Vec Ideal S1x768 .f32) (x10 : Vec Ideal S256x128 .bf16) (x11 : Vec Ideal S1x128 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outT x0 x1 x2 x3 x4 x5 x6 x7 x8 x9 x10 x11) ∗ (∃ d, owns (c : Thread nD τ) arg13 fullShare d) ∗ (∃ d, owns (c : Thread nD τ) arg14 fullShare d)) -∗ K ⟨⟩))
          ⊢ wp frame (wpE (defs₀ (F := Ideal)) Variants.none c none) E (cc0__rnn_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__rnn_kernel_eq_skeleton]; unfold cc0__rnn_kernel_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap; · iexact H12
      ipureintro
      have full2 : ∀ {a b : ℕ} {e : EltTy} (m : Memref sig .tc .vmem ⟨2, ![a, b]⟩ e) (hm : m.IsWhole) (X : Vec Ideal ⟨2, ![a, b]⟩ e) (inb),
          View.readAt (Elt Ideal) m.view (Rect.unit (s := ⟨2, ![a, b]⟩) ![0, 0] (⟨2, ![a, b]⟩ : Shape).size inb).toLoadRect (hm.unread X) = X :=
        fun m hm X inb => read_full m hm X _ inb fun a => by match a with | ⟨0, _⟩ => rfl | ⟨1, _⟩ => rfl
      have w1 := full2 arg1 harg1 x1 inb_S384x1024_S384x1024_0_0
      have w3 := full2 arg3 harg3 x3 inb_S1x1024_S1x1024_0_0
      have w2 := full2 arg2 harg2 x2 inb_S256x1024_S256x1024_0_0
      have w4 := full2 arg4 harg4 x4 inb_S384x1024_S384x1024_0_0
      have w5 := full2 arg5 harg5 x5 inb_S1x1024_S1x1024_0_0
      have w6 := full2 arg6 harg6 x6 inb_S512x768_S512x768_0_0
      have w7 := full2 arg7 harg7 x7 inb_S1x768_S1x768_0_0
      have w8 := full2 arg8 harg8 x8 inb_S256x768_S256x768_0_0
      have w9 := full2 arg9 harg9 x9 inb_S1x768_S1x768_0_0
      have w10 := full2 arg10 harg10 x10 inb_S256x128_S256x128_0_0
      have w11 := full2 arg11 harg11 x11 inb_S1x128_S1x128_0_0
      have h13 : View.read (Elt Ideal) arg13.view (arg13.view.writes (Elt Ideal) arg13.view.junk (body_run.sl.HS0_16 c arg0 harg0 arg1 harg1 arg3 harg3 x0 x1 x3)) = xpT x0 x1 x3 := by
        refine read_pieces _ _ _ _ ?_ ?_
        ·
          refine List.forall_mem_cons.2 ⟨pieceX arg0 _ x0 x1 x3 (harg0.read_unread _) _ _ (by first | exact w1 | exact (shapeCast_self _ _).trans w1) (by first | exact w3 | exact (shapeCast_self _ _).trans w3) 120 (by omega) inb_S128x32x1024_S8x32x1024_120_0_0 inb_S128x32x384_S8x32x384_120_0_0 _ (slab39 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 112 (by omega) inb_S128x32x1024_S8x32x1024_112_0_0 inb_S128x32x384_S8x32x384_112_0_0 _ (slab37 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 104 (by omega) inb_S128x32x1024_S8x32x1024_104_0_0 inb_S128x32x384_S8x32x384_104_0_0 _ (slab36 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 96 (by omega) inb_S128x32x1024_S8x32x1024_96_0_0 inb_S128x32x384_S8x32x384_96_0_0 _ (slab35 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 88 (by omega) inb_S128x32x1024_S8x32x1024_88_0_0 inb_S128x32x384_S8x32x384_88_0_0 _ (slab34 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 80 (by omega) inb_S128x32x1024_S8x32x1024_80_0_0 inb_S128x32x384_S8x32x384_80_0_0 _ (slab33 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 72 (by omega) inb_S128x32x1024_S8x32x1024_72_0_0 inb_S128x32x384_S8x32x384_72_0_0 _ (slab32 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 64 (by omega) inb_S128x32x1024_S8x32x1024_64_0_0 inb_S128x32x384_S8x32x384_64_0_0 _ (slab31 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 56 (by omega) inb_S128x32x1024_S8x32x1024_56_0_0 inb_S128x32x384_S8x32x384_56_0_0 _ (slab30 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 48 (by omega) inb_S128x32x1024_S8x32x1024_48_0_0 inb_S128x32x384_S8x32x384_48_0_0 _ (slab29 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 40 (by omega) inb_S128x32x1024_S8x32x1024_40_0_0 inb_S128x32x384_S8x32x384_40_0_0 _ (slab28 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 32 (by omega) inb_S128x32x1024_S8x32x1024_32_0_0 inb_S128x32x384_S8x32x384_32_0_0 _ (slab26 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 24 (by omega) inb_S128x32x1024_S8x32x1024_24_0_0 inb_S128x32x384_S8x32x384_24_0_0 _ (slab25 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 16 (by omega) inb_S128x32x1024_S8x32x1024_16_0_0 inb_S128x32x384_S8x32x384_16_0_0 _ (slab24 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 8 (by omega) inb_S128x32x1024_S8x32x1024_8_0_0 inb_S128x32x384_S8x32x384_8_0_0 _ (slab22 _ _ _), ?_⟩
          refine List.forall_mem_cons.2 ⟨pieceX arg0 _ x0 x1 x3 (harg0.read_unread _) _ _ (by first | exact w1 | exact (shapeCast_self _ _).trans w1) (by first | exact w3 | exact (shapeCast_self _ _).trans w3) 0 (by omega) inb_S128x32x1024_S8x32x1024_0_0_0 inb_S128x32x384_S8x32x384_0_0_0 _ (slab21 _ _ _), ?_⟩
          exact fun p hp => absurd hp List.not_mem_nil
        ·
          intro y
          obtain ⟨i, hi⟩ := slab_of (y 0).val (y 0).isLt
          fin_cases i
          · exact ⟨_, (.tail _ (.tail _ (.tail _ (.tail _ (.tail _ (.tail _ (.tail _ (.tail _ (.tail _ (.tail _ (.tail _ (.tail _ (.tail _ (.tail _ (.tail _ (.head _)))))))))))))))), mem_rows 0 inb_S128x32x1024_S8x32x1024_0_0_0 y hi⟩
          · exact ⟨_, (.tail _ (.tail _ (.tail _ (.tail _ (.tail _ (.tail _ (.tail _ (.tail _ (.tail _ (.tail _ (.tail _ (.tail _ (.tail _ (.tail _ (.head _))))))))))))))), mem_rows 8 inb_S128x32x1024_S8x32x1024_8_0_0 y hi⟩
          · exact ⟨_, (.tail _ (.tail _ (.tail _ (.tail _ (.tail _ (.tail _ (.tail _ (.tail _ (.tail _ (.tail _ (.tail _ (.tail _ (.tail _ (.head _)))))))))))))), mem_rows 16 inb_S128x32x1024_S8x32x1024_16_0_0 y hi⟩
          · exact ⟨_, (.tail _ (.tail _ (.tail _ (.tail _ (.tail _ (.tail _ (.tail _ (.tail _ (.tail _ (.tail _ (.tail _ (.tail _ (.head _))))))))))))), mem_rows 24 inb_S128x32x1024_S8x32x1024_24_0_0 y hi⟩
          · exact ⟨_, (.tail _ (.tail _ (.tail _ (.tail _ (.tail _ (.tail _ (.tail _ (.tail _ (.tail _ (.tail _ (.tail _ (.head _)))))))))))), mem_rows 32 inb_S128x32x1024_S8x32x1024_32_0_0 y hi⟩
          · exact ⟨_, (.tail _ (.tail _ (.tail _ (.tail _ (.tail _ (.tail _ (.tail _ (.tail _ (.tail _ (.tail _ (.head _))))))))))), mem_rows 40 inb_S128x32x1024_S8x32x1024_40_0_0 y hi⟩
          · exact ⟨_, (.tail _ (.tail _ (.tail _ (.tail _ (.tail _ (.tail _ (.tail _ (.tail _ (.tail _ (.head _)))))))))), mem_rows 48 inb_S128x32x1024_S8x32x1024_48_0_0 y hi⟩
          · exact ⟨_, (.tail _ (.tail _ (.tail _ (.tail _ (.tail _ (.tail _ (.tail _ (.tail _ (.head _))))))))), mem_rows 56 inb_S128x32x1024_S8x32x1024_56_0_0 y hi⟩
          · exact ⟨_, (.tail _ (.tail _ (.tail _ (.tail _ (.tail _ (.tail _ (.tail _ (.head _)))))))), mem_rows 64 inb_S128x32x1024_S8x32x1024_64_0_0 y hi⟩
          · exact ⟨_, (.tail _ (.tail _ (.tail _ (.tail _ (.tail _ (.tail _ (.head _))))))), mem_rows 72 inb_S128x32x1024_S8x32x1024_72_0_0 y hi⟩
          · exact ⟨_, (.tail _ (.tail _ (.tail _ (.tail _ (.tail _ (.head _)))))), mem_rows 80 inb_S128x32x1024_S8x32x1024_80_0_0 y hi⟩
          · exact ⟨_, (.tail _ (.tail _ (.tail _ (.tail _ (.head _))))), mem_rows 88 inb_S128x32x1024_S8x32x1024_88_0_0 y hi⟩
          · exact ⟨_, (.tail _ (.tail _ (.tail _ (.head _)))), mem_rows 96 inb_S128x32x1024_S8x32x1024_96_0_0 y hi⟩
          · exact ⟨_, (.tail _ (.tail _ (.head _))), mem_rows 104 inb_S128x32x1024_S8x32x1024_104_0_0 y hi⟩
          · exact ⟨_, (.tail _ (.head _)), mem_rows 112 inb_S128x32x1024_S8x32x1024_112_0_0 y hi⟩
          · exact ⟨_, (.head _), mem_rows 120 inb_S128x32x1024_S8x32x1024_120_0_0 y hi⟩

      have hr : ∀ (r : Fin 32) (k : Fin 384), View.readAt (Elt Ideal) arg0.view (Rect.unit (s := S128x32x384) ![127, 0, 0] S1x32x384.size inb_S128x32x384_S1x32x384_127_0_0).toLoadRect (harg0.unread x0) (ix3 0 r k)
          = x0 (ix3 (127 : Fin 128) r k) := fun r k =>
        (read_rows arg0 _ 127 inb_S128x32x384_S1x32x384_127_0_0 0 r k (127 : Fin 128) rfl).trans (congrFun (harg0.read_unread x0) _)
      have hg : k0_pay48 (body_run.sl.r_6 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6) (View.readAt (Elt Ideal) arg7.view (Rect.unit (s := S1x768) ![0, 0] S1x768.size inb_S1x768_S1x768_0_0).toLoadRect (harg7.unread x7)) = giT x0 x1 x2 x3 x4 x5 x6 x7 :=
        gi_eq c arg0 harg0 arg1 harg1 arg2 harg2 arg3 harg3 arg4 harg4 arg5 harg5 arg6 harg6 arg7 harg7 arg8 harg8 arg9 harg9 arg10 harg10 arg11 harg11 arg12 harg12 arg13 harg13 arg14 harg14 _ _ _ _ _ x0 x1 x2 x3 x4 x5 x6 x7 _ _ _ _ w4 w5 w6 w7 h13 w2 _ hr _ trips1_eq
      have hall := (hall_eq c arg0 harg0 arg1 harg1 arg2 harg2 arg3 harg3 arg4 harg4 arg5 harg5 arg6 harg6 arg7 harg7 arg8 harg8 arg9 harg9 arg10 harg10 arg11 harg11 arg12 harg12 arg13 harg13 arg14 harg14 k0_pay41 (body_run.sl.r_6 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6) (View.readAt (Elt Ideal) arg7.view (Rect.unit (s := S1x768) ![0, 0] S1x768.size inb_S1x768_S1x768_0_0).toLoadRect (harg7.unread x7)) (View.readAt (Elt Ideal) arg8.view (Rect.unit (s := S256x768) ![0, 0] S256x768.size inb_S256x768_S256x768_0_0).toLoadRect (harg8.unread x8)) (View.readAt (Elt Ideal) arg9.view (Rect.unit (s := S1x768) ![0, 0] S1x768.size inb_S1x768_S1x768_0_0).toLoadRect (harg9.unread x9)) fs1
        (fun r j => (show Ideal.ofBits .f32 0#32 = 0 from Ideal.ofBits_zero .f32)) _ trips2_eq).trans
        (show hallT (k0_pay48 (body_run.sl.r_6 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6) (View.readAt (Elt Ideal) arg7.view (Rect.unit (s := S1x768) ![0, 0] S1x768.size inb_S1x768_S1x768_0_0).toLoadRect (harg7.unread x7))) (View.readAt (Elt Ideal) arg8.view (Rect.unit (s := S256x768) ![0, 0] S256x768.size inb_S256x768_S256x768_0_0).toLoadRect (harg8.unread x8)) (View.readAt (Elt Ideal) arg9.view (Rect.unit (s := S1x768) ![0, 0] S1x768.size inb_S1x768_S1x768_0_0).toLoadRect (harg9.unread x9)) = hallT (giT x0 x1 x2 x3 x4 x5 x6 x7) x8 x9 by rw [hg, w8, w9])
      refine read_pieces arg12.view _ _ (outT x0 x1 x2 x3 x4 x5 x6 x7 x8 x9 x10 x11) ?_ ?_
      ·
        refine List.forall_mem_cons.2 ⟨pieceF arg14 _ _ x10 x11 hall _ _ (by first | exact w10 | exact (shapeCast_self _ _).trans w10) (by first | exact w11 | exact (shapeCast_self _ _).trans w11) 120 (by omega) inb_S128x32x128_S8x32x128_120_0_0 inb_S128x32x256_S8x32x256_120_0_0 _ (slab3 _ _ _), ?_⟩
        refine List.forall_mem_cons.2 ⟨pieceF arg14 _ _ x10 x11 hall _ _ (by first | exact w10 | exact (shapeCast_self _ _).trans w10) (by first | exact w11 | exact (shapeCast_self _ _).trans w11) 112 (by omega) inb_S128x32x128_S8x32x128_112_0_0 inb_S128x32x256_S8x32x256_112_0_0 _ (slab2 _ _ _), ?_⟩
        refine List.forall_mem_cons.2 ⟨pieceF arg14 _ _ x10 x11 hall _ _ (by first | exact w10 | exact (shapeCast_self _ _).trans w10) (by first | exact w11 | exact (shapeCast_self _ _).trans w11) 104 (by omega) inb_S128x32x128_S8x32x128_104_0_0 inb_S128x32x256_S8x32x256_104_0_0 _ (slab1 _ _ _), ?_⟩
        refine List.forall_mem_cons.2 ⟨pieceF arg14 _ _ x10 x11 hall _ _ (by first | exact w10 | exact (shapeCast_self _ _).trans w10) (by first | exact w11 | exact (shapeCast_self _ _).trans w11) 96 (by omega) inb_S128x32x128_S8x32x128_96_0_0 inb_S128x32x256_S8x32x256_96_0_0 _ (slab69 _ _ _), ?_⟩
        refine List.forall_mem_cons.2 ⟨pieceF arg14 _ _ x10 x11 hall _ _ (by first | exact w10 | exact (shapeCast_self _ _).trans w10) (by first | exact w11 | exact (shapeCast_self _ _).trans w11) 88 (by omega) inb_S128x32x128_S8x32x128_88_0_0 inb_S128x32x256_S8x32x256_88_0_0 _ (slab68 _ _ _), ?_⟩
        refine List.forall_mem_cons.2 ⟨pieceF arg14 _ _ x10 x11 hall _ _ (by first | exact w10 | exact (shapeCast_self _ _).trans w10) (by first | exact w11 | exact (shapeCast_self _ _).trans w11) 80 (by omega) inb_S128x32x128_S8x32x128_80_0_0 inb_S128x32x256_S8x32x256_80_0_0 _ (slab67 _ _ _), ?_⟩
        refine List.forall_mem_cons.2 ⟨pieceF arg14 _ _ x10 x11 hall _ _ (by first | exact w10 | exact (shapeCast_self _ _).trans w10) (by first | exact w11 | exact (shapeCast_self _ _).trans w11) 72 (by omega) inb_S128x32x128_S8x32x128_72_0_0 inb_S128x32x256_S8x32x256_72_0_0 _ (slab66 _ _ _), ?_⟩
        refine List.forall_mem_cons.2 ⟨pieceF arg14 _ _ x10 x11 hall _ _ (by first | exact w10 | exact (shapeCast_self _ _).trans w10) (by first | exact w11 | exact (shapeCast_self _ _).trans w11) 64 (by omega) inb_S128x32x128_S8x32x128_64_0_0 inb_S128x32x256_S8x32x256_64_0_0 _ (slab63 _ _ _), ?_⟩
        refine List.forall_mem_cons.2 ⟨pieceF arg14 _ _ x10 x11 hall _ _ (by first | exact w10 | exact (shapeCast_self _ _).trans w10) (by first | exact w11 | exact (shapeCast_self _ _).trans w11) 56 (by omega) inb_S128x32x128_S8x32x128_56_0_0 inb_S128x32x256_S8x32x256_56_0_0 _ (slab62 _ _ _), ?_⟩
        refine List.forall_mem_cons.2 ⟨pieceF arg14 _ _ x10 x11 hall _ _ (by first | exact w10 | exact (shapeCast_self _ _).trans w10) (by first | exact w11 | exact (shapeCast_self _ _).trans w11) 48 (by omega) inb_S128x32x128_S8x32x128_48_0_0 inb_S128x32x256_S8x32x256_48_0_0 _ (slab61 _ _ _), ?_⟩
        refine List.forall_mem_cons.2 ⟨pieceF arg14 _ _ x10 x11 hall _ _ (by first | exact w10 | exact (shapeCast_self _ _).trans w10) (by first | exact w11 | exact (shapeCast_self _ _).trans w11) 40 (by omega) inb_S128x32x128_S8x32x128_40_0_0 inb_S128x32x256_S8x32x256_40_0_0 _ (slab60 _ _ _), ?_⟩
        refine List.forall_mem_cons.2 ⟨pieceF arg14 _ _ x10 x11 hall _ _ (by first | exact w10 | exact (shapeCast_self _ _).trans w10) (by first | exact w11 | exact (shapeCast_self _ _).trans w11) 32 (by omega) inb_S128x32x128_S8x32x128_32_0_0 inb_S128x32x256_S8x32x256_32_0_0 _ (slab59 _ _ _), ?_⟩
        refine List.forall_mem_cons.2 ⟨pieceF arg14 _ _ x10 x11 hall _ _ (by first | exact w10 | exact (shapeCast_self _ _).trans w10) (by first | exact w11 | exact (shapeCast_self _ _).trans w11) 24 (by omega) inb_S128x32x128_S8x32x128_24_0_0 inb_S128x32x256_S8x32x256_24_0_0 _ (slab58 _ _ _), ?_⟩
        refine List.forall_mem_cons.2 ⟨pieceF arg14 _ _ x10 x11 hall _ _ (by first | exact w10 | exact (shapeCast_self _ _).trans w10) (by first | exact w11 | exact (shapeCast_self _ _).trans w11) 16 (by omega) inb_S128x32x128_S8x32x128_16_0_0 inb_S128x32x256_S8x32x256_16_0_0 _ (slab57 _ _ _), ?_⟩
        refine List.forall_mem_cons.2 ⟨pieceF arg14 _ _ x10 x11 hall _ _ (by first | exact w10 | exact (shapeCast_self _ _).trans w10) (by first | exact w11 | exact (shapeCast_self _ _).trans w11) 8 (by omega) inb_S128x32x128_S8x32x128_8_0_0 inb_S128x32x256_S8x32x256_8_0_0 _ (slab56 _ _ _), ?_⟩
        refine List.forall_mem_cons.2 ⟨pieceF arg14 _ _ x10 x11 hall _ _ (by first | exact w10 | exact (shapeCast_self _ _).trans w10) (by first | exact w11 | exact (shapeCast_self _ _).trans w11) 0 (by omega) inb_S128x32x128_S8x32x128_0_0_0 inb_S128x32x256_S8x32x256_0_0_0 _ (slab55 _ _ _), ?_⟩
        exact fun p hp => absurd hp List.not_mem_nil
      ·
        intro y
        obtain ⟨i, hi⟩ := slab_of (y 0).val (y 0).isLt
        fin_cases i
        · exact ⟨_, (.tail _ (.tail _ (.tail _ (.tail _ (.tail _ (.tail _ (.tail _ (.tail _ (.tail _ (.tail _ (.tail _ (.tail _ (.tail _ (.tail _ (.tail _ (.head _)))))))))))))))), mem_rows 0 inb_S128x32x128_S8x32x128_0_0_0 y hi⟩
        · exact ⟨_, (.tail _ (.tail _ (.tail _ (.tail _ (.tail _ (.tail _ (.tail _ (.tail _ (.tail _ (.tail _ (.tail _ (.tail _ (.tail _ (.tail _ (.head _))))))))))))))), mem_rows 8 inb_S128x32x128_S8x32x128_8_0_0 y hi⟩
        · exact ⟨_, (.tail _ (.tail _ (.tail _ (.tail _ (.tail _ (.tail _ (.tail _ (.tail _ (.tail _ (.tail _ (.tail _ (.tail _ (.tail _ (.head _)))))))))))))), mem_rows 16 inb_S128x32x128_S8x32x128_16_0_0 y hi⟩
        · exact ⟨_, (.tail _ (.tail _ (.tail _ (.tail _ (.tail _ (.tail _ (.tail _ (.tail _ (.tail _ (.tail _ (.tail _ (.tail _ (.head _))))))))))))), mem_rows 24 inb_S128x32x128_S8x32x128_24_0_0 y hi⟩
        · exact ⟨_, (.tail _ (.tail _ (.tail _ (.tail _ (.tail _ (.tail _ (.tail _ (.tail _ (.tail _ (.tail _ (.tail _ (.head _)))))))))))), mem_rows 32 inb_S128x32x128_S8x32x128_32_0_0 y hi⟩
        · exact ⟨_, (.tail _ (.tail _ (.tail _ (.tail _ (.tail _ (.tail _ (.tail _ (.tail _ (.tail _ (.tail _ (.head _))))))))))), mem_rows 40 inb_S128x32x128_S8x32x128_40_0_0 y hi⟩
        · exact ⟨_, (.tail _ (.tail _ (.tail _ (.tail _ (.tail _ (.tail _ (.tail _ (.tail _ (.tail _ (.head _)))))))))), mem_rows 48 inb_S128x32x128_S8x32x128_48_0_0 y hi⟩
        · exact ⟨_, (.tail _ (.tail _ (.tail _ (.tail _ (.tail _ (.tail _ (.tail _ (.tail _ (.head _))))))))), mem_rows 56 inb_S128x32x128_S8x32x128_56_0_0 y hi⟩
        · exact ⟨_, (.tail _ (.tail _ (.tail _ (.tail _ (.tail _ (.tail _ (.tail _ (.head _)))))))), mem_rows 64 inb_S128x32x128_S8x32x128_64_0_0 y hi⟩
        · exact ⟨_, (.tail _ (.tail _ (.tail _ (.tail _ (.tail _ (.tail _ (.head _))))))), mem_rows 72 inb_S128x32x128_S8x32x128_72_0_0 y hi⟩
        · exact ⟨_, (.tail _ (.tail _ (.tail _ (.tail _ (.tail _ (.head _)))))), mem_rows 80 inb_S128x32x128_S8x32x128_80_0_0 y hi⟩
        · exact ⟨_, (.tail _ (.tail _ (.tail _ (.tail _ (.head _))))), mem_rows 88 inb_S128x32x128_S8x32x128_88_0_0 y hi⟩
        · exact ⟨_, (.tail _ (.tail _ (.tail _ (.head _)))), mem_rows 96 inb_S128x32x128_S8x32x128_96_0_0 y hi⟩
        · exact ⟨_, (.tail _ (.tail _ (.head _))), mem_rows 104 inb_S128x32x128_S8x32x128_104_0_0 y hi⟩
        · exact ⟨_, (.tail _ (.head _)), mem_rows 112 inb_S128x32x128_S8x32x128_112_0_0 y hi⟩
        · exact ⟨_, (.head _), mem_rows 120 inb_S128x32x128_S8x32x128_120_0_0 y hi⟩
    isplitl [HS0]
    · iexists _, _; isplitr; swap; · iexact HS0
      ipureintro; rfl
    iexists _, _; isplitr; swap; · iexact HS1
    ipureintro; rfl

end Cert.KernelIdeal.Body

end
-- ==== Proof.Run.lean ====
/-
  The launch of the kernel at the ideal instance: the one body run meets the pipeline's obligation, so the run ends
  with the result array at `outT` of the arrays that the host operations before the call leave, every other array as
  it was at the call, and every counter at zero.
-/
module

public import proofs.«01_k».proof.Proof.Gen.KernelIdeal.Frame
public import proofs.«01_k».proof.Proof.Gen.KernelIdeal.Loops
public import Idealize.ShloMosaic.Lib.Pointwise
public import Idealize.ShloMosaic.Lib.WholeRead

public import proofs.«01_k».proof.Proof.Body
public import Idealize.ShloMosaic.Lib.Pipeline.ValueKit.Geometry
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S128x32x384 .f32 := win0_0.stage (cfg0.slots t 0)
abbrev ms0_1 (t : Fin cfg0.N) : Memref sig .tc .vmem S384x1024 .bf16 := win0_1.stage (cfg0.slots t 1)
abbrev ms0_2 (t : Fin cfg0.N) : Memref sig .tc .vmem S256x1024 .bf16 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S384x1024 .bf16 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S512x768 .bf16 := win0_6.stage (cfg0.slots t 6)
abbrev ms0_7 (t : Fin cfg0.N) : Memref sig .tc .vmem S1x768 .f32 := win0_7.stage (cfg0.slots t 7)
abbrev ms0_8 (t : Fin cfg0.N) : Memref sig .tc .vmem S256x768 .bf16 := win0_8.stage (cfg0.slots t 8)
abbrev ms0_9 (t : Fin cfg0.N) : Memref sig .tc .vmem S1x768 .f32 := win0_9.stage (cfg0.slots t 9)
abbrev ms0_10 (t : Fin cfg0.N) : Memref sig .tc .vmem S256x128 .bf16 := win0_10.stage (cfg0.slots t 10)
abbrev ms0_11 (t : Fin cfg0.N) : Memref sig .tc .vmem S1x128 .f32 := win0_11.stage (cfg0.slots t 11)
abbrev ms0_12 (t : Fin cfg0.N) : Memref sig .tc .vmem S128x32x128 .f32 := win0_12.stage (cfg0.slots t 12)
/-- The scratch operands: whole scoped buffers of the kernel's own, passed beside the windows. -/
abbrev scM0_0 : Memref sig .tc .vmem S128x32x1024 .f32 := Memref.whole cc0_scratch0
abbrev scM0_1 : Memref sig .tc .vmem S128x32x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The call's result, from the arrays as the call finds them. -/
def result (c : Dev nD) : Vec Ideal S128x32x128 .f32 :=
  outT (V (F := Ideal) m c main_v1) (V (F := Ideal) m c main_v215) (V (F := Ideal) m c main_v216) (V (F := Ideal) m c main_v73) (V (F := Ideal) m c main_v217) (V (F := Ideal) m c main_v118) (V (F := Ideal) m c main_v218) (V (F := Ideal) m c main_v174) (V (F := Ideal) m c main_v219) (V (F := Ideal) m c main_v209) (V (F := Ideal) m c main_v220) (V (F := Ideal) m c main_v214)

/-- The pipeline's data: the inputs' blocks stay, the output's is the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2000000 in
/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((body_run c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run: the pipeline's arrays at their final contents, the others as at the call, the counters at zero. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Input blocks are the arrays. -/
theorem read_0 (t : Fin cfg0.N) (X : main_v1.ty.Contents (Elt Ideal)) : ((cfg0.win 0).blk t).view.read (Elt Ideal) X = X := by
  funext y; refine congrArg X (funext fun a => Fin.ext ?_)
  exact Window.rect_emb_val_of_index_zero (cfg0.win 0) t a rfl y
theorem iblk_0 (c : Dev nD) (t : Fin cfg0.N) : iblk m c 0 t = V m c main_v1 := by
  unfold iblk; exact read_0 t _
theorem read_1 (t : Fin cfg0.N) (X : main_v215.ty.Contents (Elt Ideal)) : ((cfg0.win 1).blk t).view.read (Elt Ideal) X = X := by
  funext y; refine congrArg X (funext fun a => Fin.ext ?_)
  exact Window.rect_emb_val_of_index_zero (cfg0.win 1) t a rfl y
theorem iblk_1 (c : Dev nD) (t : Fin cfg0.N) : iblk m c 1 t = V m c main_v215 := by
  unfold iblk; exact read_1 t _
theorem read_2 (t : Fin cfg0.N) (X : main_v216.ty.Contents (Elt Ideal)) : ((cfg0.win 2).blk t).view.read (Elt Ideal) X = X := by
  funext y; refine congrArg X (funext fun a => Fin.ext ?_)
  exact Window.rect_emb_val_of_index_zero (cfg0.win 2) t a rfl y
theorem iblk_2 (c : Dev nD) (t : Fin cfg0.N) : iblk m c 2 t = V m c main_v216 := by
  unfold iblk; exact read_2 t _
theorem read_3 (t : Fin cfg0.N) (X : main_v73.ty.Contents (Elt Ideal)) : ((cfg0.win 3).blk t).view.read (Elt Ideal) X = X := by
  funext y; refine congrArg X (funext fun a => Fin.ext ?_)
  exact Window.rect_emb_val_of_index_zero (cfg0.win 3) t a rfl y
theorem iblk_3 (c : Dev nD) (t : Fin cfg0.N) : iblk m c 3 t = V m c main_v73 := by
  unfold iblk; exact read_3 t _
theorem read_4 (t : Fin cfg0.N) (X : main_v217.ty.Contents (Elt Ideal)) : ((cfg0.win 4).blk t).view.read (Elt Ideal) X = X := by
  funext y; refine congrArg X (funext fun a => Fin.ext ?_)
  exact Window.rect_emb_val_of_index_zero (cfg0.win 4) t a rfl y
theorem iblk_4 (c : Dev nD) (t : Fin cfg0.N) : iblk m c 4 t = V m c main_v217 := by
  unfold iblk; exact read_4 t _
theorem read_5 (t : Fin cfg0.N) (X : main_v118.ty.Contents (Elt Ideal)) : ((cfg0.win 5).blk t).view.read (Elt Ideal) X = X := by
  funext y; refine congrArg X (funext fun a => Fin.ext ?_)
  exact Window.rect_emb_val_of_index_zero (cfg0.win 5) t a rfl y
theorem iblk_5 (c : Dev nD) (t : Fin cfg0.N) : iblk m c 5 t = V m c main_v118 := by
  unfold iblk; exact read_5 t _
theorem read_6 (t : Fin cfg0.N) (X : main_v218.ty.Contents (Elt Ideal)) : ((cfg0.win 6).blk t).view.read (Elt Ideal) X = X := by
  funext y; refine congrArg X (funext fun a => Fin.ext ?_)
  exact Window.rect_emb_val_of_index_zero (cfg0.win 6) t a rfl y
theorem iblk_6 (c : Dev nD) (t : Fin cfg0.N) : iblk m c 6 t = V m c main_v218 := by
  unfold iblk; exact read_6 t _
theorem read_7 (t : Fin cfg0.N) (X : main_v174.ty.Contents (Elt Ideal)) : ((cfg0.win 7).blk t).view.read (Elt Ideal) X = X := by
  funext y; refine congrArg X (funext fun a => Fin.ext ?_)
  exact Window.rect_emb_val_of_index_zero (cfg0.win 7) t a rfl y
theorem iblk_7 (c : Dev nD) (t : Fin cfg0.N) : iblk m c 7 t = V m c main_v174 := by
  unfold iblk; exact read_7 t _
theorem read_8 (t : Fin cfg0.N) (X : main_v219.ty.Contents (Elt Ideal)) : ((cfg0.win 8).blk t).view.read (Elt Ideal) X = X := by
  funext y; refine congrArg X (funext fun a => Fin.ext ?_)
  exact Window.rect_emb_val_of_index_zero (cfg0.win 8) t a rfl y
theorem iblk_8 (c : Dev nD) (t : Fin cfg0.N) : iblk m c 8 t = V m c main_v219 := by
  unfold iblk; exact read_8 t _
theorem read_9 (t : Fin cfg0.N) (X : main_v209.ty.Contents (Elt Ideal)) : ((cfg0.win 9).blk t).view.read (Elt Ideal) X = X := by
  funext y; refine congrArg X (funext fun a => Fin.ext ?_)
  exact Window.rect_emb_val_of_index_zero (cfg0.win 9) t a rfl y
theorem iblk_9 (c : Dev nD) (t : Fin cfg0.N) : iblk m c 9 t = V m c main_v209 := by
  unfold iblk; exact read_9 t _
theorem read_10 (t : Fin cfg0.N) (X : main_v220.ty.Contents (Elt Ideal)) : ((cfg0.win 10).blk t).view.read (Elt Ideal) X = X := by
  funext y; refine congrArg X (funext fun a => Fin.ext ?_)
  exact Window.rect_emb_val_of_index_zero (cfg0.win 10) t a rfl y
theorem iblk_10 (c : Dev nD) (t : Fin cfg0.N) : iblk m c 10 t = V m c main_v220 := by
  unfold iblk; exact read_10 t _
theorem read_11 (t : Fin cfg0.N) (X : main_v214.ty.Contents (Elt Ideal)) : ((cfg0.win 11).blk t).view.read (Elt Ideal) X = X := by
  funext y; refine congrArg X (funext fun a => Fin.ext ?_)
  exact Window.rect_emb_val_of_index_zero (cfg0.win 11) t a rfl y
theorem iblk_11 (c : Dev nD) (t : Fin cfg0.N) : iblk m c 11 t = V m c main_v214 := by
  unfold iblk; exact read_11 t _

/-- The result array after the run. -/
theorem final (c : Dev nD) : (dats m 0 c).arrAt 12 cfg0.N = result m c := by
  refine (dats m 0 c).arrAt_eq_of_after_last 12 ⟨0, by decide⟩ (by decide +kernel) (result m c) fun j => ?_
  rw [after0_12, iblk_0, iblk_1, iblk_2, iblk_3, iblk_4, iblk_5, iblk_6, iblk_7, iblk_8, iblk_9, iblk_10, iblk_11]
  unfold result
  generalize outT _ _ _ _ _ _ _ _ _ _ _ _ = G
  rfl

end Cert.KernelIdeal.Body

end
-- ==== Proof.Reads.lean ====
/-
  The arrays the kernel call reads, as the host operations before the call leave them: the reads through the 294 host
  operations, taken in the five windows they are printed in.
-/
module

public import proofs.«01_k».proof.Proof.Gen.KernelIdeal.Frame
public import Idealize.ShloMosaic.Lib.StableHlo.RunRead

@[expose] public section

set_option maxRecDepth 16384

noncomputable section

namespace Cert.KernelIdeal.Pads

open Cert.KernelIdeal Cert.KernelIdeal.Gen
open Idealize.ShloMosaic Idealize.ShloMosaic.TcCoe Idealize.ShloMosaic.Tactic
open Idealize.ShloMosaic.StableHlo

variable {F : FTy → Type} [FloatOps F]

/-! ## Window 0 -/

abbrev W0 : List (Ref sig .tc) := [main_v0, main_v1, main_v2, main_v3, main_cst, main_v4, main_v5, main_v6, main_c, main_v7, main_v8, main_v9, main_v10, main_c_0, main_v11, main_v12, main_v13, main_v14, main_c_1, main_v15, main_v16, main_v17, main_v18, main_c_2, main_v19, main_v20, main_v21, main_v22, main_cst_3, main_v23, main_v24, main_v25, main_c_4, main_v26, main_c_5, main_v27, main_v28, main_v29, main_v30, main_v31, main_c_6, main_v32, main_c_7, main_v33, main_v34, main_v35, main_v36, main_v37, main_c_8, main_v38, main_c_9, main_v39, main_v40, main_v41, main_v42, main_v43, main_c_10, main_v44, main_c_11, main_v45]
theorem writes0 : (main_part0_ops0 : List (HloOp τ sig (Elt F))).Forall fun op => op.writes ⊆ (W0.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keep0 (V : Valuation τ sig (Elt F)) (r : Ref sig .tc) (h : r ∉ W0) :
    after main_part0_ops0 V (Proc.devRef .tc r) = V (Proc.devRef .tc r) :=
  after_of_writes_sub main_part0_ops0 _ writes0 h

theorem k0_main_arg1 (V : Valuation τ sig (Elt F)) :
    after main_part0_ops0 V (no_index (Proc.devRef .tc main_arg1)) = V (Proc.devRef .tc main_arg1) := keep0 V main_arg1 (by decide)
theorem k0_main_arg10 (V : Valuation τ sig (Elt F)) :
    after main_part0_ops0 V (no_index (Proc.devRef .tc main_arg10)) = V (Proc.devRef .tc main_arg10) := keep0 V main_arg10 (by decide)
theorem k0_main_arg3 (V : Valuation τ sig (Elt F)) :
    after main_part0_ops0 V (no_index (Proc.devRef .tc main_arg3)) = V (Proc.devRef .tc main_arg3) := keep0 V main_arg3 (by decide)
theorem k0_main_arg4 (V : Valuation τ sig (Elt F)) :
    after main_part0_ops0 V (no_index (Proc.devRef .tc main_arg4)) = V (Proc.devRef .tc main_arg4) := keep0 V main_arg4 (by decide)
theorem k0_main_arg5 (V : Valuation τ sig (Elt F)) :
    after main_part0_ops0 V (no_index (Proc.devRef .tc main_arg5)) = V (Proc.devRef .tc main_arg5) := keep0 V main_arg5 (by decide)
theorem k0_main_arg6 (V : Valuation τ sig (Elt F)) :
    after main_part0_ops0 V (no_index (Proc.devRef .tc main_arg6)) = V (Proc.devRef .tc main_arg6) := keep0 V main_arg6 (by decide)
theorem k0_main_arg7 (V : Valuation τ sig (Elt F)) :
    after main_part0_ops0 V (no_index (Proc.devRef .tc main_arg7)) = V (Proc.devRef .tc main_arg7) := keep0 V main_arg7 (by decide)
theorem k0_main_arg8 (V : Valuation τ sig (Elt F)) :
    after main_part0_ops0 V (no_index (Proc.devRef .tc main_arg8)) = V (Proc.devRef .tc main_arg8) := keep0 V main_arg8 (by decide)
theorem k0_main_arg9 (V : Valuation τ sig (Elt F)) :
    after main_part0_ops0 V (no_index (Proc.devRef .tc main_arg9)) = V (Proc.devRef .tc main_arg9) := keep0 V main_arg9 (by decide)

set_option backward.isDefEq.respectTransparency.types false in
theorem r0_main_v1 (V : Valuation τ sig (Elt F)) :
    after main_part0_ops0 V (no_index (Proc.devRef .tc main_v1)) = shapeCast S128x32x384 (transpose S128x32x3x128 [2, 1, 0, 3] (V (Proc.devRef .tc main_arg0)) transposes_S3x32x128x128_S128x32x3x128_2_1_0_3) shapeCasts_S128x32x3x128_S128x32x384 := by
  simp only [main_part0_ops0]
  after_reads_simp <;> rfl

set_option backward.isDefEq.respectTransparency.types false in
theorem r0_main_v20 (V : Valuation τ sig (Elt F)) :
    after main_part0_ops0 V (no_index (Proc.devRef .tc main_v20)) = Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (broadcastInDim S384x1024 ![] bcast_S_S384x1024 (constant S_ .f32 0x00000000#32)) (broadcastInDim S1 ![] bcast_S_S1 (constantI S_ 32 0#32)) (transpose S384x150 [1, 0] (extractStridedSlice S150x384 ![0, 0] (shapeCast S600x384 (extractStridedSlice S1x600x384 ![0, 0, 0] (V (Proc.devRef .tc main_arg1)) slices_S2x600x384_S1x600x384_0_0_0) shapeCasts_S1x600x384_S600x384) slices_S600x384_S150x384_0_0) transposes_S150x384_S384x150_1_0)) (broadcastInDim S1 ![] bcast_S_S1 (constantI S_ 32 256#32)) (transpose S384x150 [1, 0] (extractStridedSlice S150x384 ![150, 0] (shapeCast S600x384 (extractStridedSlice S1x600x384 ![0, 0, 0] (V (Proc.devRef .tc main_arg1)) slices_S2x600x384_S1x600x384_0_0_0) shapeCasts_S1x600x384_S600x384) slices_S600x384_S150x384_150_0) transposes_S150x384_S384x150_1_0)) (broadcastInDim S1 ![] bcast_S_S1 (constantI S_ 32 512#32)) (transpose S384x150 [1, 0] (extractStridedSlice S150x384 ![300, 0] (shapeCast S600x384 (extractStridedSlice S1x600x384 ![0, 0, 0] (V (Proc.devRef .tc main_arg1)) slices_S2x600x384_S1x600x384_0_0_0) shapeCasts_S1x600x384_S600x384) slices_S600x384_S150x384_300_0) transposes_S150x384_S384x150_1_0)) (broadcastInDim S1 ![] bcast_S_S1 (constantI S_ 32 768#32)) (transpose S384x150 [1, 0] (extractStridedSlice S150x384 ![450, 0] (shapeCast S600x384 (extractStridedSlice S1x600x384 ![0, 0, 0] (V (Proc.devRef .tc main_arg1)) slices_S2x600x384_S1x600x384_0_0_0) shapeCasts_S1x600x384_S600x384) slices_S600x384_S150x384_450_0) transposes_S150x384_S384x150_1_0) := by
  simp only [main_part0_ops0]
  after_reads_simp <;> rfl

set_option backward.isDefEq.respectTransparency.types false in
theorem r0_main_v41 (V : Valuation τ sig (Elt F)) :
    after main_part0_ops0 V (no_index (Proc.devRef .tc main_v41)) = Host.scatter scatter_S256x1024_S2_S150x150_01_n_01_0 (fun _ b => b) (Host.scatter scatter_S256x1024_S2_S150x150_01_n_01_0 (fun _ b => b) (Host.scatter scatter_S256x1024_S2_S150x150_01_n_01_0 (fun _ b => b) (broadcastInDim S256x1024 ![] bcast_S_S256x1024 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S150x150 [1, 0] (extractStridedSlice S150x150 ![0, 0] (shapeCast S600x150 (extractStridedSlice S1x600x150 ![0, 0, 0] (V (Proc.devRef .tc main_arg2)) slices_S2x600x150_S1x600x150_0_0_0) shapeCasts_S1x600x150_S600x150) slices_S600x150_S150x150_0_0) transposes_S150x150_S150x150_1_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (transpose S150x150 [1, 0] (extractStridedSlice S150x150 ![150, 0] (shapeCast S600x150 (extractStridedSlice S1x600x150 ![0, 0, 0] (V (Proc.devRef .tc main_arg2)) slices_S2x600x150_S1x600x150_0_0_0) shapeCasts_S1x600x150_S600x150) slices_S600x150_S150x150_150_0) transposes_S150x150_S150x150_1_0)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (transpose S150x150 [1, 0] (extractStridedSlice S150x150 ![300, 0] (shapeCast S600x150 (extractStridedSlice S1x600x150 ![0, 0, 0] (V (Proc.devRef .tc main_arg2)) slices_S2x600x150_S1x600x150_0_0_0) shapeCasts_S1x600x150_S600x150) slices_S600x150_S150x150_300_0) transposes_S150x150_S150x150_1_0) := by
  simp only [main_part0_ops0]
  after_reads_simp <;> rfl

set_option backward.isDefEq.respectTransparency.types false in
theorem r0_main_v43 (V : Valuation τ sig (Elt F)) :
    after main_part0_ops0 V (no_index (Proc.devRef .tc main_v43)) = transpose S150x150 [1, 0] (extractStridedSlice S150x150 ![450, 0] (shapeCast S600x150 (extractStridedSlice S1x600x150 ![0, 0, 0] (V (Proc.devRef .tc main_arg2)) slices_S2x600x150_S1x600x150_0_0_0) shapeCasts_S1x600x150_S600x150) slices_S600x150_S150x150_450_0) transposes_S150x150_S150x150_1_0 := by
  simp only [main_part0_ops0]
  after_reads_simp <;> rfl

set_option backward.isDefEq.respectTransparency.types false in
theorem r0_main_v44 (V : Valuation τ sig (Elt F)) :
    after main_part0_ops0 V (no_index (Proc.devRef .tc main_v44)) = broadcastInDim S1 ![] bcast_S_S1 (constantI S_ 32 0#32) := by
  simp only [main_part0_ops0]
  after_reads_simp <;> rfl

set_option backward.isDefEq.respectTransparency.types false in
theorem r0_main_v45 (V : Valuation τ sig (Elt F)) :
    after main_part0_ops0 V (no_index (Proc.devRef .tc main_v45)) = broadcastInDim S1 ![] bcast_S_S1 (constantI S_ 32 768#32) := by
  simp only [main_part0_ops0]
  after_reads_simp <;> rfl

/-! ## Window 1 -/

abbrev W1 : List (Ref sig .tc) := [main_v46, main_v47, main_v48, main_v49, main_v50, main_v51, main_v52, main_cst_12, main_v53, main_v54, main_c_13, main_v55, main_c_14, main_v56, main_v57, main_v58, main_v59, main_c_15, main_v60, main_c_16, main_v61, main_v62, main_v63, main_v64, main_c_17, main_v65, main_c_18, main_v66, main_v67, main_v68, main_v69, main_c_19, main_v70, main_c_20, main_v71, main_v72, main_v73, main_v74, main_v75, main_cst_21, main_v76, main_v77, main_v78, main_c_22, main_v79, main_v80, main_v81, main_v82, main_c_23, main_v83, main_v84, main_v85, main_v86, main_c_24, main_v87, main_v88, main_v89, main_v90, main_c_25, main_v91]
theorem writes1 : (main_part1_ops0 : List (HloOp τ sig (Elt F))).Forall fun op => op.writes ⊆ (W1.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keep1 (V : Valuation τ sig (Elt F)) (r : Ref sig .tc) (h : r ∉ W1) :
    after main_part1_ops0 V (Proc.devRef .tc r) = V (Proc.devRef .tc r) :=
  after_of_writes_sub main_part1_ops0 _ writes1 h

theorem k1_main_arg10 (V : Valuation τ sig (Elt F)) :
    after main_part1_ops0 V (no_index (Proc.devRef .tc main_arg10)) = V (Proc.devRef .tc main_arg10) := keep1 V main_arg10 (by decide)
theorem k1_main_arg3 (V : Valuation τ sig (Elt F)) :
    after main_part1_ops0 V (no_index (Proc.devRef .tc main_arg3)) = V (Proc.devRef .tc main_arg3) := keep1 V main_arg3 (by decide)
theorem k1_main_arg4 (V : Valuation τ sig (Elt F)) :
    after main_part1_ops0 V (no_index (Proc.devRef .tc main_arg4)) = V (Proc.devRef .tc main_arg4) := keep1 V main_arg4 (by decide)
theorem k1_main_arg5 (V : Valuation τ sig (Elt F)) :
    after main_part1_ops0 V (no_index (Proc.devRef .tc main_arg5)) = V (Proc.devRef .tc main_arg5) := keep1 V main_arg5 (by decide)
theorem k1_main_arg6 (V : Valuation τ sig (Elt F)) :
    after main_part1_ops0 V (no_index (Proc.devRef .tc main_arg6)) = V (Proc.devRef .tc main_arg6) := keep1 V main_arg6 (by decide)
theorem k1_main_arg7 (V : Valuation τ sig (Elt F)) :
    after main_part1_ops0 V (no_index (Proc.devRef .tc main_arg7)) = V (Proc.devRef .tc main_arg7) := keep1 V main_arg7 (by decide)
theorem k1_main_arg8 (V : Valuation τ sig (Elt F)) :
    after main_part1_ops0 V (no_index (Proc.devRef .tc main_arg8)) = V (Proc.devRef .tc main_arg8) := keep1 V main_arg8 (by decide)
theorem k1_main_arg9 (V : Valuation τ sig (Elt F)) :
    after main_part1_ops0 V (no_index (Proc.devRef .tc main_arg9)) = V (Proc.devRef .tc main_arg9) := keep1 V main_arg9 (by decide)
theorem k1_main_v1 (V : Valuation τ sig (Elt F)) :
    after main_part1_ops0 V (no_index (Proc.devRef .tc main_v1)) = V (Proc.devRef .tc main_v1) := keep1 V main_v1 (by decide)
theorem k1_main_v20 (V : Valuation τ sig (Elt F)) :
    after main_part1_ops0 V (no_index (Proc.devRef .tc main_v20)) = V (Proc.devRef .tc main_v20) := keep1 V main_v20 (by decide)

set_option backward.isDefEq.respectTransparency.types false in
theorem r1_main_v47 (V : Valuation τ sig (Elt F)) :
    after main_part1_ops0 V (no_index (Proc.devRef .tc main_v47)) = Host.scatter scatter_S256x1024_S2_S150x150_01_n_01_0 (fun _ b => b) (V (Proc.devRef .tc main_v41)) (concatenate S2 0 [⟨S1, (V (Proc.devRef .tc main_v44))⟩, ⟨S1, (V (Proc.devRef .tc main_v45))⟩] concatenates_S1_S1_S2_d0) (V (Proc.devRef .tc main_v43)) := by
  simp only [main_part1_ops0]
  after_reads_simp <;> rfl

set_option backward.isDefEq.respectTransparency.types false in
theorem r1_main_v73 (V : Valuation τ sig (Elt F)) :
    after main_part1_ops0 V (no_index (Proc.devRef .tc main_v73)) = Host.scatter scatter_S1x1024_S2_S150_0_0_01_0 (fun _ b => b) (Host.scatter scatter_S1x1024_S2_S150_0_0_01_0 (fun _ b => b) (Host.scatter scatter_S1x1024_S2_S150_0_0_01_0 (fun _ b => b) (Host.scatter scatter_S1x1024_S2_S150_0_0_01_0 (fun _ b => b) (broadcastInDim S1x1024 ![] bcast_S_S1x1024 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_300)) (concatenate S2 0 [⟨S1, (broadcastInDim S1 ![] bcast_S_S1 (constantI S_ 32 0#32))⟩, ⟨S1, (broadcastInDim S1 ![] bcast_S_S1 (constantI S_ 32 768#32))⟩] concatenates_S1_S1_S2_d0) (extractStridedSlice S150 ![450] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_450) := by
  simp only [main_part1_ops0]
  after_reads_simp <;> rfl

set_option backward.isDefEq.respectTransparency.types false in
theorem r1_main_v88 (V : Valuation τ sig (Elt F)) :
    after main_part1_ops0 V (no_index (Proc.devRef .tc main_v88)) = Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (broadcastInDim S384x1024 ![] bcast_S_S384x1024 (constant S_ .f32 0x00000000#32)) (broadcastInDim S1 ![] bcast_S_S1 (constantI S_ 32 0#32)) (transpose S384x150 [1, 0] (extractStridedSlice S150x384 ![0, 0] (shapeCast S600x384 (extractStridedSlice S1x600x384 ![1, 0, 0] (V (Proc.devRef .tc main_arg1)) slices_S2x600x384_S1x600x384_1_0_0) shapeCasts_S1x600x384_S600x384) slices_S600x384_S150x384_0_0) transposes_S150x384_S384x150_1_0)) (broadcastInDim S1 ![] bcast_S_S1 (constantI S_ 32 256#32)) (transpose S384x150 [1, 0] (extractStridedSlice S150x384 ![150, 0] (shapeCast S600x384 (extractStridedSlice S1x600x384 ![1, 0, 0] (V (Proc.devRef .tc main_arg1)) slices_S2x600x384_S1x600x384_1_0_0) shapeCasts_S1x600x384_S600x384) slices_S600x384_S150x384_150_0) transposes_S150x384_S384x150_1_0)) (broadcastInDim S1 ![] bcast_S_S1 (constantI S_ 32 512#32)) (transpose S384x150 [1, 0] (extractStridedSlice S150x384 ![300, 0] (shapeCast S600x384 (extractStridedSlice S1x600x384 ![1, 0, 0] (V (Proc.devRef .tc main_arg1)) slices_S2x600x384_S1x600x384_1_0_0) shapeCasts_S1x600x384_S600x384) slices_S600x384_S150x384_300_0) transposes_S150x384_S384x150_1_0) := by
  simp only [main_part1_ops0]
  after_reads_simp <;> rfl

set_option backward.isDefEq.respectTransparency.types false in
theorem r1_main_v90 (V : Valuation τ sig (Elt F)) :
    after main_part1_ops0 V (no_index (Proc.devRef .tc main_v90)) = transpose S384x150 [1, 0] (extractStridedSlice S150x384 ![450, 0] (shapeCast S600x384 (extractStridedSlice S1x600x384 ![1, 0, 0] (V (Proc.devRef .tc main_arg1)) slices_S2x600x384_S1x600x384_1_0_0) shapeCasts_S1x600x384_S600x384) slices_S600x384_S150x384_450_0) transposes_S150x384_S384x150_1_0 := by
  simp only [main_part1_ops0]
  after_reads_simp <;> rfl

set_option backward.isDefEq.respectTransparency.types false in
theorem r1_main_v91 (V : Valuation τ sig (Elt F)) :
    after main_part1_ops0 V (no_index (Proc.devRef .tc main_v91)) = broadcastInDim S1 ![] bcast_S_S1 (constantI S_ 32 768#32) := by
  simp only [main_part1_ops0]
  after_reads_simp <;> rfl

/-! ## Window 2 -/

abbrev W2 : List (Ref sig .tc) := [main_v92, main_v93, main_v94, main_v95, main_v96, main_v97, main_cst_26, main_v98, main_v99, main_c_27, main_v100, main_c_28, main_v101, main_v102, main_v103, main_v104, main_c_29, main_v105, main_c_30, main_v106, main_v107, main_v108, main_v109, main_c_31, main_v110, main_c_32, main_v111, main_v112, main_v113, main_v114, main_c_33, main_v115, main_c_34, main_v116, main_v117, main_v118, main_cst_35, main_v119, main_v120, main_v121, main_v122, main_c_36, main_v123, main_c_37, main_v124, main_v125, main_v126, main_v127, main_v128, main_c_38, main_v129, main_c_39, main_v130, main_v131, main_v132, main_v133, main_v134, main_v135, main_c_40, main_v136]
theorem writes2 : (main_part2_ops0 : List (HloOp τ sig (Elt F))).Forall fun op => op.writes ⊆ (W2.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keep2 (V : Valuation τ sig (Elt F)) (r : Ref sig .tc) (h : r ∉ W2) :
    after main_part2_ops0 V (Proc.devRef .tc r) = V (Proc.devRef .tc r) :=
  after_of_writes_sub main_part2_ops0 _ writes2 h

theorem k2_main_arg10 (V : Valuation τ sig (Elt F)) :
    after main_part2_ops0 V (no_index (Proc.devRef .tc main_arg10)) = V (Proc.devRef .tc main_arg10) := keep2 V main_arg10 (by decide)
theorem k2_main_arg5 (V : Valuation τ sig (Elt F)) :
    after main_part2_ops0 V (no_index (Proc.devRef .tc main_arg5)) = V (Proc.devRef .tc main_arg5) := keep2 V main_arg5 (by decide)
theorem k2_main_arg6 (V : Valuation τ sig (Elt F)) :
    after main_part2_ops0 V (no_index (Proc.devRef .tc main_arg6)) = V (Proc.devRef .tc main_arg6) := keep2 V main_arg6 (by decide)
theorem k2_main_arg7 (V : Valuation τ sig (Elt F)) :
    after main_part2_ops0 V (no_index (Proc.devRef .tc main_arg7)) = V (Proc.devRef .tc main_arg7) := keep2 V main_arg7 (by decide)
theorem k2_main_arg8 (V : Valuation τ sig (Elt F)) :
    after main_part2_ops0 V (no_index (Proc.devRef .tc main_arg8)) = V (Proc.devRef .tc main_arg8) := keep2 V main_arg8 (by decide)
theorem k2_main_arg9 (V : Valuation τ sig (Elt F)) :
    after main_part2_ops0 V (no_index (Proc.devRef .tc main_arg9)) = V (Proc.devRef .tc main_arg9) := keep2 V main_arg9 (by decide)
theorem k2_main_v1 (V : Valuation τ sig (Elt F)) :
    after main_part2_ops0 V (no_index (Proc.devRef .tc main_v1)) = V (Proc.devRef .tc main_v1) := keep2 V main_v1 (by decide)
theorem k2_main_v20 (V : Valuation τ sig (Elt F)) :
    after main_part2_ops0 V (no_index (Proc.devRef .tc main_v20)) = V (Proc.devRef .tc main_v20) := keep2 V main_v20 (by decide)
theorem k2_main_v47 (V : Valuation τ sig (Elt F)) :
    after main_part2_ops0 V (no_index (Proc.devRef .tc main_v47)) = V (Proc.devRef .tc main_v47) := keep2 V main_v47 (by decide)
theorem k2_main_v73 (V : Valuation τ sig (Elt F)) :
    after main_part2_ops0 V (no_index (Proc.devRef .tc main_v73)) = V (Proc.devRef .tc main_v73) := keep2 V main_v73 (by decide)

set_option backward.isDefEq.respectTransparency.types false in
theorem r2_main_v92 (V : Valuation τ sig (Elt F)) :
    after main_part2_ops0 V (no_index (Proc.devRef .tc main_v92)) = Host.scatter scatter_S384x1024_S1_S384x150_01_n_1_0 (fun _ b => b) (V (Proc.devRef .tc main_v88)) (V (Proc.devRef .tc main_v91)) (V (Proc.devRef .tc main_v90)) := by
  simp only [main_part2_ops0]
  after_reads_simp <;> rfl

set_option backward.isDefEq.respectTransparency.types false in
theorem r2_main_v118 (V : Valuation τ sig (Elt F)) :
    after main_part2_ops0 V (no_index (Proc.devRef .tc main_v118)) = Host.scatter scatter_S1x1024_S2_S150_0_0_01_0 (fun _ b => b) (Host.scatter scatter_S1x1024_S2_S150_0_0_01_0 (fun _ b => b) (Host.scatter scatter_S1x1024_S2_S150_0_0_01_0 (fun _ b => b) (Host.scatter scatter_S1x1024_S2_S150_0_0_01_0 (fun _ b => b) (broadcastInDim S1x1024 ![] bcast_S_S1x1024 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_300)) (concatenate S2 0 [⟨S1, (broadcastInDim S1 ![] bcast_S_S1 (constantI S_ 32 0#32))⟩, ⟨S1, (broadcastInDim S1 ![] bcast_S_S1 (constantI S_ 32 768#32))⟩] concatenates_S1_S1_S2_d0) (extractStridedSlice S150 ![450] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_450) := by
  simp only [main_part2_ops0]
  after_reads_simp <;> rfl

set_option backward.isDefEq.respectTransparency.types false in
theorem r2_main_v132 (V : Valuation τ sig (Elt F)) :
    after main_part2_ops0 V (no_index (Proc.devRef .tc main_v132)) = Host.scatter scatter_S512x768_S2_S150x150_01_n_01_0 (fun _ b => b) (Host.scatter scatter_S512x768_S2_S150x150_01_n_01_0 (fun _ b => b) (broadcastInDim S512x768 ![] bcast_S_S512x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S150x150 [1, 0] (extractStridedSlice S150x150 ![0, 0] (extractStridedSlice S150x300 ![0, 0] (V (Proc.devRef .tc main_arg5)) slices_S450x300_S150x300_0_0) slices_S150x300_S150x150_0_0) transposes_S150x150_S150x150_1_0)) (concatenate S2 0 [⟨S1, (broadcastInDim S1 ![] bcast_S_S1 (constantI S_ 32 256#32))⟩, ⟨S1, (broadcastInDim S1 ![] bcast_S_S1 (constantI S_ 32 0#32))⟩] concatenates_S1_S1_S2_d0) (transpose S150x150 [1, 0] (extractStridedSlice S150x150 ![0, 150] (extractStridedSlice S150x300 ![0, 0] (V (Proc.devRef .tc main_arg5)) slices_S450x300_S150x300_0_0) slices_S150x300_S150x150_0_150) transposes_S150x150_S150x150_1_0) := by
  simp only [main_part2_ops0]
  after_reads_simp <;> rfl

set_option backward.isDefEq.respectTransparency.types false in
theorem r2_main_v133 (V : Valuation τ sig (Elt F)) :
    after main_part2_ops0 V (no_index (Proc.devRef .tc main_v133)) = extractStridedSlice S150x300 ![150, 0] (V (Proc.devRef .tc main_arg5)) slices_S450x300_S150x300_150_0 := by
  simp only [main_part2_ops0]
  after_reads_simp <;> rfl

set_option backward.isDefEq.respectTransparency.types false in
theorem r2_main_v135 (V : Valuation τ sig (Elt F)) :
    after main_part2_ops0 V (no_index (Proc.devRef .tc main_v135)) = transpose S150x150 [1, 0] (extractStridedSlice S150x150 ![0, 0] (extractStridedSlice S150x300 ![150, 0] (V (Proc.devRef .tc main_arg5)) slices_S450x300_S150x300_150_0) slices_S150x300_S150x150_0_0) transposes_S150x150_S150x150_1_0 := by
  simp only [main_part2_ops0]
  after_reads_simp <;> rfl

set_option backward.isDefEq.respectTransparency.types false in
theorem r2_main_v136 (V : Valuation τ sig (Elt F)) :
    after main_part2_ops0 V (no_index (Proc.devRef .tc main_v136)) = broadcastInDim S1 ![] bcast_S_S1 (constantI S_ 32 0#32) := by
  simp only [main_part2_ops0]
  after_reads_simp <;> rfl

/-! ## Window 3 -/

abbrev W3 : List (Ref sig .tc) := [main_c_41, main_v137, main_v138, main_v139, main_v140, main_v141, main_c_42, main_v142, main_c_43, main_v143, main_v144, main_v145, main_v146, main_v147, main_v148, main_c_44, main_v149, main_c_45, main_v150, main_v151, main_v152, main_v153, main_v154, main_c_46, main_v155, main_c_47, main_v156, main_v157, main_v158, main_cst_48, main_v159, main_v160, main_c_49, main_v161, main_c_50, main_v162, main_v163, main_v164, main_v165, main_c_51, main_v166, main_c_52, main_v167, main_v168, main_v169, main_v170, main_c_53, main_v171, main_c_54, main_v172, main_v173, main_v174, main_cst_55, main_v175, main_v176, main_v177, main_c_56, main_v178, main_c_57, main_v179]
theorem writes3 : (main_part3_ops0 : List (HloOp τ sig (Elt F))).Forall fun op => op.writes ⊆ (W3.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keep3 (V : Valuation τ sig (Elt F)) (r : Ref sig .tc) (h : r ∉ W3) :
    after main_part3_ops0 V (Proc.devRef .tc r) = V (Proc.devRef .tc r) :=
  after_of_writes_sub main_part3_ops0 _ writes3 h

theorem k3_main_arg10 (V : Valuation τ sig (Elt F)) :
    after main_part3_ops0 V (no_index (Proc.devRef .tc main_arg10)) = V (Proc.devRef .tc main_arg10) := keep3 V main_arg10 (by decide)
theorem k3_main_arg6 (V : Valuation τ sig (Elt F)) :
    after main_part3_ops0 V (no_index (Proc.devRef .tc main_arg6)) = V (Proc.devRef .tc main_arg6) := keep3 V main_arg6 (by decide)
theorem k3_main_arg8 (V : Valuation τ sig (Elt F)) :
    after main_part3_ops0 V (no_index (Proc.devRef .tc main_arg8)) = V (Proc.devRef .tc main_arg8) := keep3 V main_arg8 (by decide)
theorem k3_main_arg9 (V : Valuation τ sig (Elt F)) :
    after main_part3_ops0 V (no_index (Proc.devRef .tc main_arg9)) = V (Proc.devRef .tc main_arg9) := keep3 V main_arg9 (by decide)
theorem k3_main_v1 (V : Valuation τ sig (Elt F)) :
    after main_part3_ops0 V (no_index (Proc.devRef .tc main_v1)) = V (Proc.devRef .tc main_v1) := keep3 V main_v1 (by decide)
theorem k3_main_v118 (V : Valuation τ sig (Elt F)) :
    after main_part3_ops0 V (no_index (Proc.devRef .tc main_v118)) = V (Proc.devRef .tc main_v118) := keep3 V main_v118 (by decide)
theorem k3_main_v20 (V : Valuation τ sig (Elt F)) :
    after main_part3_ops0 V (no_index (Proc.devRef .tc main_v20)) = V (Proc.devRef .tc main_v20) := keep3 V main_v20 (by decide)
theorem k3_main_v47 (V : Valuation τ sig (Elt F)) :
    after main_part3_ops0 V (no_index (Proc.devRef .tc main_v47)) = V (Proc.devRef .tc main_v47) := keep3 V main_v47 (by decide)
theorem k3_main_v73 (V : Valuation τ sig (Elt F)) :
    after main_part3_ops0 V (no_index (Proc.devRef .tc main_v73)) = V (Proc.devRef .tc main_v73) := keep3 V main_v73 (by decide)
theorem k3_main_v92 (V : Valuation τ sig (Elt F)) :
    after main_part3_ops0 V (no_index (Proc.devRef .tc main_v92)) = V (Proc.devRef .tc main_v92) := keep3 V main_v92 (by decide)

set_option backward.isDefEq.respectTransparency.types false in
theorem r3_main_v158 (V : Valuation τ sig (Elt F)) :
    after main_part3_ops0 V (no_index (Proc.devRef .tc main_v158)) = Host.scatter scatter_S512x768_S2_S150x150_01_n_01_0 (fun _ b => b) (Host.scatter scatter_S512x768_S2_S150x150_01_n_01_0 (fun _ b => b) (Host.scatter scatter_S512x768_S2_S150x150_01_n_01_0 (fun _ b => b) (Host.scatter scatter_S512x768_S2_S150x150_01_n_01_0 (fun _ b => b) (V (Proc.devRef .tc main_v132)) (concatenate S2 0 [⟨S1, (V (Proc.devRef .tc main_v136))⟩, ⟨S1, (broadcastInDim S1 ![] bcast_S_S1 (constantI S_ 32 256#32))⟩] concatenates_S1_S1_S2_d0) (V (Proc.devRef .tc main_v135))) (concatenate S2 0 [⟨S1, (broadcastInDim S1 ![] bcast_S_S1 (constantI S_ 32 256#32))⟩, ⟨S1, (broadcastInDim S1 ![] bcast_S_S1 (constantI S_ 32 256#32))⟩] concatenates_S1_S1_S2_d0) (transpose S150x150 [1, 0] (extractStridedSlice S150x150 ![0, 150] (V (Proc.devRef .tc main_v133)) slices_S150x300_S150x150_0_150) transposes_S150x150_S150x150_1_0)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (transpose S150x150 [1, 0] (extractStridedSlice S150x150 ![0, 0] (extractStridedSlice S150x300 ![300, 0] (V (Proc.devRef .tc main_arg5)) slices_S450x300_S150x300_300_0) slices_S150x300_S150x150_0_0) transposes_S150x150_S150x150_1_0)) (concatenate S2 0 [⟨S1, (broadcastInDim S1 ![] bcast_S_S1 (constantI S_ 32 256#32))⟩, ⟨S1, (broadcastInDim S1 ![] bcast_S_S1 (constantI S_ 32 512#32))⟩] concatenates_S1_S1_S2_d0) (transpose S150x150 [1, 0] (extractStridedSlice S150x150 ![0, 150] (extractStridedSlice S150x300 ![300, 0] (V (Proc.devRef .tc main_arg5)) slices_S450x300_S150x300_300_0) slices_S150x300_S150x150_0_150) transposes_S150x150_S150x150_1_0) := by
  simp only [main_part3_ops0]
  after_reads_simp <;> rfl

set_option backward.isDefEq.respectTransparency.types false in
theorem r3_main_v174 (V : Valuation τ sig (Elt F)) :
    after main_part3_ops0 V (no_index (Proc.devRef .tc main_v174)) = Host.scatter scatter_S1x768_S2_S150_0_0_01_0 (fun _ b => b) (Host.scatter scatter_S1x768_S2_S150_0_0_01_0 (fun _ b => b) (Host.scatter scatter_S1x768_S2_S150_0_0_01_0 (fun _ b => b) (broadcastInDim S1x768 ![] bcast_S_S1x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (V (Proc.devRef .tc main_arg7)) slices_S450_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (V (Proc.devRef .tc main_arg7)) slices_S450_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (V (Proc.devRef .tc main_arg7)) slices_S450_S150_300) := by
  simp only [main_part3_ops0]
  after_reads_simp <;> rfl

set_option backward.isDefEq.respectTransparency.types false in
theorem r3_main_v175 (V : Valuation τ sig (Elt F)) :
    after main_part3_ops0 V (no_index (Proc.devRef .tc main_v175)) = broadcastInDim S256x768 ![] bcast_S_S256x768 (constant S_ .f32 0x00000000#32) := by
  simp only [main_part3_ops0]
  after_reads_simp <;> rfl

set_option backward.isDefEq.respectTransparency.types false in
theorem r3_main_v177 (V : Valuation τ sig (Elt F)) :
    after main_part3_ops0 V (no_index (Proc.devRef .tc main_v177)) = transpose S150x150 [1, 0] (extractStridedSlice S150x150 ![0, 0] (V (Proc.devRef .tc main_arg6)) slices_S450x150_S150x150_0_0) transposes_S150x150_S150x150_1_0 := by
  simp only [main_part3_ops0]
  after_reads_simp <;> rfl

set_option backward.isDefEq.respectTransparency.types false in
theorem r3_main_v178 (V : Valuation τ sig (Elt F)) :
    after main_part3_ops0 V (no_index (Proc.devRef .tc main_v178)) = broadcastInDim S1 ![] bcast_S_S1 (constantI S_ 32 0#32) := by
  simp only [main_part3_ops0]
  after_reads_simp <;> rfl

set_option backward.isDefEq.respectTransparency.types false in
theorem r3_main_v179 (V : Valuation τ sig (Elt F)) :
    after main_part3_ops0 V (no_index (Proc.devRef .tc main_v179)) = broadcastInDim S1 ![] bcast_S_S1 (constantI S_ 32 0#32) := by
  simp only [main_part3_ops0]
  after_reads_simp <;> rfl

/-! ## Window 4 -/

abbrev W4 : List (Ref sig .tc) := [main_v180, main_v181, main_v182, main_v183, main_c_58, main_v184, main_c_59, main_v185, main_v186, main_v187, main_v188, main_v189, main_c_60, main_v190, main_c_61, main_v191, main_v192, main_v193, main_cst_62, main_v194, main_v195, main_c_63, main_v196, main_c_64, main_v197, main_v198, main_v199, main_v200, main_c_65, main_v201, main_c_66, main_v202, main_v203, main_v204, main_v205, main_c_67, main_v206, main_c_68, main_v207, main_v208, main_v209, main_cst_69, main_v210, main_v211, main_c_70, main_v212, main_v213, main_v214, main_v215, main_v216, main_v217, main_v218, main_v219, main_v220]
theorem writes4 : (main_part4_ops0 : List (HloOp τ sig (Elt F))).Forall fun op => op.writes ⊆ (W4.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
theorem keep4 (V : Valuation τ sig (Elt F)) (r : Ref sig .tc) (h : r ∉ W4) :
    after main_part4_ops0 V (Proc.devRef .tc r) = V (Proc.devRef .tc r) :=
  after_of_writes_sub main_part4_ops0 _ writes4 h

theorem k4_main_v1 (V : Valuation τ sig (Elt F)) :
    after main_part4_ops0 V (no_index (Proc.devRef .tc main_v1)) = V (Proc.devRef .tc main_v1) := keep4 V main_v1 (by decide)
theorem k4_main_v118 (V : Valuation τ sig (Elt F)) :
    after main_part4_ops0 V (no_index (Proc.devRef .tc main_v118)) = V (Proc.devRef .tc main_v118) := keep4 V main_v118 (by decide)
theorem k4_main_v174 (V : Valuation τ sig (Elt F)) :
    after main_part4_ops0 V (no_index (Proc.devRef .tc main_v174)) = V (Proc.devRef .tc main_v174) := keep4 V main_v174 (by decide)
theorem k4_main_v73 (V : Valuation τ sig (Elt F)) :
    after main_part4_ops0 V (no_index (Proc.devRef .tc main_v73)) = V (Proc.devRef .tc main_v73) := keep4 V main_v73 (by decide)

set_option backward.isDefEq.respectTransparency.types false in
theorem r4_main_v209 (V : Valuation τ sig (Elt F)) :
    after main_part4_ops0 V (no_index (Proc.devRef .tc main_v209)) = Host.scatter scatter_S1x768_S2_S150_0_0_01_0 (fun _ b => b) (Host.scatter scatter_S1x768_S2_S150_0_0_01_0 (fun _ b => b) (Host.scatter scatter_S1x768_S2_S150_0_0_01_0 (fun _ b => b) (broadcastInDim S1x768 ![] bcast_S_S1x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (V (Proc.devRef .tc main_arg8)) slices_S450_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (V (Proc.devRef .tc main_arg8)) slices_S450_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (V (Proc.devRef .tc main_arg8)) slices_S450_S150_300) := by
  simp only [main_part4_ops0]
  after_reads_simp <;> rfl

set_option backward.isDefEq.respectTransparency.types false in
theorem r4_main_v214 (V : Valuation τ sig (Elt F)) :
    after main_part4_ops0 V (no_index (Proc.devRef .tc main_v214)) = shapeCast S1x128 (V (Proc.devRef .tc main_arg10)) shapeCasts_S128_S1x128 := by
  simp only [main_part4_ops0]
  after_reads_simp <;> rfl

set_option backward.isDefEq.respectTransparency.types false in
theorem r4_main_v215 (V : Valuation τ sig (Elt F)) :
    after main_part4_ops0 V (no_index (Proc.devRef .tc main_v215)) = truncf .bf16 (V (Proc.devRef .tc main_v20)) bitsLt_bf16_f32 := by
  simp only [main_part4_ops0]
  after_reads_simp <;> rfl

set_option backward.isDefEq.respectTransparency.types false in
theorem r4_main_v216 (V : Valuation τ sig (Elt F)) :
    after main_part4_ops0 V (no_index (Proc.devRef .tc main_v216)) = truncf .bf16 (V (Proc.devRef .tc main_v47)) bitsLt_bf16_f32 := by
  simp only [main_part4_ops0]
  after_reads_simp <;> rfl

set_option backward.isDefEq.respectTransparency.types false in
theorem r4_main_v217 (V : Valuation τ sig (Elt F)) :
    after main_part4_ops0 V (no_index (Proc.devRef .tc main_v217)) = truncf .bf16 (V (Proc.devRef .tc main_v92)) bitsLt_bf16_f32 := by
  simp only [main_part4_ops0]
  after_reads_simp <;> rfl

set_option backward.isDefEq.respectTransparency.types false in
theorem r4_main_v218 (V : Valuation τ sig (Elt F)) :
    after main_part4_ops0 V (no_index (Proc.devRef .tc main_v218)) = truncf .bf16 (V (Proc.devRef .tc main_v158)) bitsLt_bf16_f32 := by
  simp only [main_part4_ops0]
  after_reads_simp <;> rfl

set_option backward.isDefEq.respectTransparency.types false in
theorem r4_main_v219 (V : Valuation τ sig (Elt F)) :
    after main_part4_ops0 V (no_index (Proc.devRef .tc main_v219)) = truncf .bf16 (Host.scatter scatter_S256x768_S2_S150x150_01_n_01_0 (fun _ b => b) (Host.scatter scatter_S256x768_S2_S150x150_01_n_01_0 (fun _ b => b) (Host.scatter scatter_S256x768_S2_S150x150_01_n_01_0 (fun _ b => b) (V (Proc.devRef .tc main_v175)) (concatenate S2 0 [⟨S1, (V (Proc.devRef .tc main_v178))⟩, ⟨S1, (V (Proc.devRef .tc main_v179))⟩] concatenates_S1_S1_S2_d0) (V (Proc.devRef .tc main_v177))) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (transpose S150x150 [1, 0] (extractStridedSlice S150x150 ![150, 0] (V (Proc.devRef .tc main_arg6)) slices_S450x150_S150x150_150_0) transposes_S150x150_S150x150_1_0)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (transpose S150x150 [1, 0] (extractStridedSlice S150x150 ![300, 0] (V (Proc.devRef .tc main_arg6)) slices_S450x150_S150x150_300_0) transposes_S150x150_S150x150_1_0)) bitsLt_bf16_f32 := by
  simp only [main_part4_ops0]
  after_reads_simp <;> rfl

set_option backward.isDefEq.respectTransparency.types false in
theorem r4_main_v220 (V : Valuation τ sig (Elt F)) :
    after main_part4_ops0 V (no_index (Proc.devRef .tc main_v220)) = truncf .bf16 (Host.scatter scatter_S256x128_S1_S150x128_01_n_0_0 (fun _ b => b) (broadcastInDim S256x128 ![] bcast_S_S256x128 (constant S_ .f32 0x00000000#32)) (broadcastInDim S1 ![] bcast_S_S1 (constantI S_ 32 0#32)) (transpose S150x128 [1, 0] (V (Proc.devRef .tc main_arg9)) transposes_S128x150_S150x128_1_0)) bitsLt_bf16_f32 := by
  simp only [main_part4_ops0]
  after_reads_simp <;> rfl

/-! ## The whole stretch -/

theorem cut : (hostOps0 : List (HloOp τ sig (Elt F))) = main_part0_ops0 ++ (main_part1_ops0 ++ (main_part2_ops0 ++ (main_part3_ops0 ++ main_part4_ops0))) := rfl

theorem after_cut (V : Valuation τ sig (Elt F)) : after hostOps0 V = after main_part4_ops0 (after main_part3_ops0 (after main_part2_ops0 (after main_part1_ops0 (after main_part0_ops0 V)))) := by
  rw [cut, after_append, after_append, after_append, after_append]

theorem read_main_v1 (V : Valuation τ sig (Elt F)) :
    after hostOps0 V (Proc.devRef .tc main_v1) = shapeCast S128x32x384 (transpose S128x32x3x128 [2, 1, 0, 3] (V (Proc.devRef .tc main_arg0)) transposes_S3x32x128x128_S128x32x3x128_2_1_0_3) shapeCasts_S128x32x3x128_S128x32x384 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v215 (V : Valuation τ sig (Elt F)) :
    after hostOps0 V (Proc.devRef .tc main_v215) = truncf .bf16 (Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (broadcastInDim S384x1024 ![] bcast_S_S384x1024 (constant S_ .f32 0x00000000#32)) (broadcastInDim S1 ![] bcast_S_S1 (constantI S_ 32 0#32)) (transpose S384x150 [1, 0] (extractStridedSlice S150x384 ![0, 0] (shapeCast S600x384 (extractStridedSlice S1x600x384 ![0, 0, 0] (V (Proc.devRef .tc main_arg1)) slices_S2x600x384_S1x600x384_0_0_0) shapeCasts_S1x600x384_S600x384) slices_S600x384_S150x384_0_0) transposes_S150x384_S384x150_1_0)) (broadcastInDim S1 ![] bcast_S_S1 (constantI S_ 32 256#32)) (transpose S384x150 [1, 0] (extractStridedSlice S150x384 ![150, 0] (shapeCast S600x384 (extractStridedSlice S1x600x384 ![0, 0, 0] (V (Proc.devRef .tc main_arg1)) slices_S2x600x384_S1x600x384_0_0_0) shapeCasts_S1x600x384_S600x384) slices_S600x384_S150x384_150_0) transposes_S150x384_S384x150_1_0)) (broadcastInDim S1 ![] bcast_S_S1 (constantI S_ 32 512#32)) (transpose S384x150 [1, 0] (extractStridedSlice S150x384 ![300, 0] (shapeCast S600x384 (extractStridedSlice S1x600x384 ![0, 0, 0] (V (Proc.devRef .tc main_arg1)) slices_S2x600x384_S1x600x384_0_0_0) shapeCasts_S1x600x384_S600x384) slices_S600x384_S150x384_300_0) transposes_S150x384_S384x150_1_0)) (broadcastInDim S1 ![] bcast_S_S1 (constantI S_ 32 768#32)) (transpose S384x150 [1, 0] (extractStridedSlice S150x384 ![450, 0] (shapeCast S600x384 (extractStridedSlice S1x600x384 ![0, 0, 0] (V (Proc.devRef .tc main_arg1)) slices_S2x600x384_S1x600x384_0_0_0) shapeCasts_S1x600x384_S600x384) slices_S600x384_S150x384_450_0) transposes_S150x384_S384x150_1_0)) bitsLt_bf16_f32 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v216 (V : Valuation τ sig (Elt F)) :
    after hostOps0 V (Proc.devRef .tc main_v216) = truncf .bf16 (Host.scatter scatter_S256x1024_S2_S150x150_01_n_01_0 (fun _ b => b) (Host.scatter scatter_S256x1024_S2_S150x150_01_n_01_0 (fun _ b => b) (Host.scatter scatter_S256x1024_S2_S150x150_01_n_01_0 (fun _ b => b) (Host.scatter scatter_S256x1024_S2_S150x150_01_n_01_0 (fun _ b => b) (broadcastInDim S256x1024 ![] bcast_S_S256x1024 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S150x150 [1, 0] (extractStridedSlice S150x150 ![0, 0] (shapeCast S600x150 (extractStridedSlice S1x600x150 ![0, 0, 0] (V (Proc.devRef .tc main_arg2)) slices_S2x600x150_S1x600x150_0_0_0) shapeCasts_S1x600x150_S600x150) slices_S600x150_S150x150_0_0) transposes_S150x150_S150x150_1_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (transpose S150x150 [1, 0] (extractStridedSlice S150x150 ![150, 0] (shapeCast S600x150 (extractStridedSlice S1x600x150 ![0, 0, 0] (V (Proc.devRef .tc main_arg2)) slices_S2x600x150_S1x600x150_0_0_0) shapeCasts_S1x600x150_S600x150) slices_S600x150_S150x150_150_0) transposes_S150x150_S150x150_1_0)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (transpose S150x150 [1, 0] (extractStridedSlice S150x150 ![300, 0] (shapeCast S600x150 (extractStridedSlice S1x600x150 ![0, 0, 0] (V (Proc.devRef .tc main_arg2)) slices_S2x600x150_S1x600x150_0_0_0) shapeCasts_S1x600x150_S600x150) slices_S600x150_S150x150_300_0) transposes_S150x150_S150x150_1_0)) (concatenate S2 0 [⟨S1, (broadcastInDim S1 ![] bcast_S_S1 (constantI S_ 32 0#32))⟩, ⟨S1, (broadcastInDim S1 ![] bcast_S_S1 (constantI S_ 32 768#32))⟩] concatenates_S1_S1_S2_d0) (transpose S150x150 [1, 0] (extractStridedSlice S150x150 ![450, 0] (shapeCast S600x150 (extractStridedSlice S1x600x150 ![0, 0, 0] (V (Proc.devRef .tc main_arg2)) slices_S2x600x150_S1x600x150_0_0_0) shapeCasts_S1x600x150_S600x150) slices_S600x150_S150x150_450_0) transposes_S150x150_S150x150_1_0)) bitsLt_bf16_f32 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v73 (V : Valuation τ sig (Elt F)) :
    after hostOps0 V (Proc.devRef .tc main_v73) = Host.scatter scatter_S1x1024_S2_S150_0_0_01_0 (fun _ b => b) (Host.scatter scatter_S1x1024_S2_S150_0_0_01_0 (fun _ b => b) (Host.scatter scatter_S1x1024_S2_S150_0_0_01_0 (fun _ b => b) (Host.scatter scatter_S1x1024_S2_S150_0_0_01_0 (fun _ b => b) (broadcastInDim S1x1024 ![] bcast_S_S1x1024 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_300)) (concatenate S2 0 [⟨S1, (broadcastInDim S1 ![] bcast_S_S1 (constantI S_ 32 0#32))⟩, ⟨S1, (broadcastInDim S1 ![] bcast_S_S1 (constantI S_ 32 768#32))⟩] concatenates_S1_S1_S2_d0) (extractStridedSlice S150 ![450] (addf (shapeCast S600 (extractStridedSlice S1x600 ![0, 0] (V (Proc.devRef .tc main_arg3)) slices_S2x600_S1x600_0_0) shapeCasts_S1x600_S600) (shapeCast S600 (extractStridedSlice S1x600 ![0, 0] (V (Proc.devRef .tc main_arg4)) slices_S2x600_S1x600_0_0) shapeCasts_S1x600_S600)) slices_S600_S150_450) := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v217 (V : Valuation τ sig (Elt F)) :
    after hostOps0 V (Proc.devRef .tc main_v217) = truncf .bf16 (Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (Host.scatter scatter_S384x1024_S1_S384x150_01_n_1_0 (fun _ b => b) (broadcastInDim S384x1024 ![] bcast_S_S384x1024 (constant S_ .f32 0x00000000#32)) (broadcastInDim S1 ![] bcast_S_S1 (constantI S_ 32 0#32)) (transpose S384x150 [1, 0] (extractStridedSlice S150x384 ![0, 0] (shapeCast S600x384 (extractStridedSlice S1x600x384 ![1, 0, 0] (V (Proc.devRef .tc main_arg1)) slices_S2x600x384_S1x600x384_1_0_0) shapeCasts_S1x600x384_S600x384) slices_S600x384_S150x384_0_0) transposes_S150x384_S384x150_1_0)) (broadcastInDim S1 ![] bcast_S_S1 (constantI S_ 32 256#32)) (transpose S384x150 [1, 0] (extractStridedSlice S150x384 ![150, 0] (shapeCast S600x384 (extractStridedSlice S1x600x384 ![1, 0, 0] (V (Proc.devRef .tc main_arg1)) slices_S2x600x384_S1x600x384_1_0_0) shapeCasts_S1x600x384_S600x384) slices_S600x384_S150x384_150_0) transposes_S150x384_S384x150_1_0)) (broadcastInDim S1 ![] bcast_S_S1 (constantI S_ 32 512#32)) (transpose S384x150 [1, 0] (extractStridedSlice S150x384 ![300, 0] (shapeCast S600x384 (extractStridedSlice S1x600x384 ![1, 0, 0] (V (Proc.devRef .tc main_arg1)) slices_S2x600x384_S1x600x384_1_0_0) shapeCasts_S1x600x384_S600x384) slices_S600x384_S150x384_300_0) transposes_S150x384_S384x150_1_0)) (broadcastInDim S1 ![] bcast_S_S1 (constantI S_ 32 768#32)) (transpose S384x150 [1, 0] (extractStridedSlice S150x384 ![450, 0] (shapeCast S600x384 (extractStridedSlice S1x600x384 ![1, 0, 0] (V (Proc.devRef .tc main_arg1)) slices_S2x600x384_S1x600x384_1_0_0) shapeCasts_S1x600x384_S600x384) slices_S600x384_S150x384_450_0) transposes_S150x384_S384x150_1_0)) bitsLt_bf16_f32 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v118 (V : Valuation τ sig (Elt F)) :
    after hostOps0 V (Proc.devRef .tc main_v118) = Host.scatter scatter_S1x1024_S2_S150_0_0_01_0 (fun _ b => b) (Host.scatter scatter_S1x1024_S2_S150_0_0_01_0 (fun _ b => b) (Host.scatter scatter_S1x1024_S2_S150_0_0_01_0 (fun _ b => b) (Host.scatter scatter_S1x1024_S2_S150_0_0_01_0 (fun _ b => b) (broadcastInDim S1x1024 ![] bcast_S_S1x1024 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_300)) (concatenate S2 0 [⟨S1, (broadcastInDim S1 ![] bcast_S_S1 (constantI S_ 32 0#32))⟩, ⟨S1, (broadcastInDim S1 ![] bcast_S_S1 (constantI S_ 32 768#32))⟩] concatenates_S1_S1_S2_d0) (extractStridedSlice S150 ![450] (addf (shapeCast S600 (extractStridedSlice S1x600 ![1, 0] (V (Proc.devRef .tc main_arg3)) slices_S2x600_S1x600_1_0) shapeCasts_S1x600_S600) (shapeCast S600 (extractStridedSlice S1x600 ![1, 0] (V (Proc.devRef .tc main_arg4)) slices_S2x600_S1x600_1_0) shapeCasts_S1x600_S600)) slices_S600_S150_450) := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v218 (V : Valuation τ sig (Elt F)) :
    after hostOps0 V (Proc.devRef .tc main_v218) = truncf .bf16 (Host.scatter scatter_S512x768_S2_S150x150_01_n_01_0 (fun _ b => b) (Host.scatter scatter_S512x768_S2_S150x150_01_n_01_0 (fun _ b => b) (Host.scatter scatter_S512x768_S2_S150x150_01_n_01_0 (fun _ b => b) (Host.scatter scatter_S512x768_S2_S150x150_01_n_01_0 (fun _ b => b) (Host.scatter scatter_S512x768_S2_S150x150_01_n_01_0 (fun _ b => b) (Host.scatter scatter_S512x768_S2_S150x150_01_n_01_0 (fun _ b => b) (broadcastInDim S512x768 ![] bcast_S_S512x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S150x150 [1, 0] (extractStridedSlice S150x150 ![0, 0] (extractStridedSlice S150x300 ![0, 0] (V (Proc.devRef .tc main_arg5)) slices_S450x300_S150x300_0_0) slices_S150x300_S150x150_0_0) transposes_S150x150_S150x150_1_0)) (concatenate S2 0 [⟨S1, (broadcastInDim S1 ![] bcast_S_S1 (constantI S_ 32 256#32))⟩, ⟨S1, (broadcastInDim S1 ![] bcast_S_S1 (constantI S_ 32 0#32))⟩] concatenates_S1_S1_S2_d0) (transpose S150x150 [1, 0] (extractStridedSlice S150x150 ![0, 150] (extractStridedSlice S150x300 ![0, 0] (V (Proc.devRef .tc main_arg5)) slices_S450x300_S150x300_0_0) slices_S150x300_S150x150_0_150) transposes_S150x150_S150x150_1_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (transpose S150x150 [1, 0] (extractStridedSlice S150x150 ![0, 0] (extractStridedSlice S150x300 ![150, 0] (V (Proc.devRef .tc main_arg5)) slices_S450x300_S150x300_150_0) slices_S150x300_S150x150_0_0) transposes_S150x150_S150x150_1_0)) (concatenate S2 0 [⟨S1, (broadcastInDim S1 ![] bcast_S_S1 (constantI S_ 32 256#32))⟩, ⟨S1, (broadcastInDim S1 ![] bcast_S_S1 (constantI S_ 32 256#32))⟩] concatenates_S1_S1_S2_d0) (transpose S150x150 [1, 0] (extractStridedSlice S150x150 ![0, 150] (extractStridedSlice S150x300 ![150, 0] (V (Proc.devRef .tc main_arg5)) slices_S450x300_S150x300_150_0) slices_S150x300_S150x150_0_150) transposes_S150x150_S150x150_1_0)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (transpose S150x150 [1, 0] (extractStridedSlice S150x150 ![0, 0] (extractStridedSlice S150x300 ![300, 0] (V (Proc.devRef .tc main_arg5)) slices_S450x300_S150x300_300_0) slices_S150x300_S150x150_0_0) transposes_S150x150_S150x150_1_0)) (concatenate S2 0 [⟨S1, (broadcastInDim S1 ![] bcast_S_S1 (constantI S_ 32 256#32))⟩, ⟨S1, (broadcastInDim S1 ![] bcast_S_S1 (constantI S_ 32 512#32))⟩] concatenates_S1_S1_S2_d0) (transpose S150x150 [1, 0] (extractStridedSlice S150x150 ![0, 150] (extractStridedSlice S150x300 ![300, 0] (V (Proc.devRef .tc main_arg5)) slices_S450x300_S150x300_300_0) slices_S150x300_S150x150_0_150) transposes_S150x150_S150x150_1_0)) bitsLt_bf16_f32 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v174 (V : Valuation τ sig (Elt F)) :
    after hostOps0 V (Proc.devRef .tc main_v174) = Host.scatter scatter_S1x768_S2_S150_0_0_01_0 (fun _ b => b) (Host.scatter scatter_S1x768_S2_S150_0_0_01_0 (fun _ b => b) (Host.scatter scatter_S1x768_S2_S150_0_0_01_0 (fun _ b => b) (broadcastInDim S1x768 ![] bcast_S_S1x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (V (Proc.devRef .tc main_arg7)) slices_S450_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (V (Proc.devRef .tc main_arg7)) slices_S450_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (V (Proc.devRef .tc main_arg7)) slices_S450_S150_300) := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v219 (V : Valuation τ sig (Elt F)) :
    after hostOps0 V (Proc.devRef .tc main_v219) = truncf .bf16 (Host.scatter scatter_S256x768_S2_S150x150_01_n_01_0 (fun _ b => b) (Host.scatter scatter_S256x768_S2_S150x150_01_n_01_0 (fun _ b => b) (Host.scatter scatter_S256x768_S2_S150x150_01_n_01_0 (fun _ b => b) (broadcastInDim S256x768 ![] bcast_S_S256x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S150x150 [1, 0] (extractStridedSlice S150x150 ![0, 0] (V (Proc.devRef .tc main_arg6)) slices_S450x150_S150x150_0_0) transposes_S150x150_S150x150_1_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (transpose S150x150 [1, 0] (extractStridedSlice S150x150 ![150, 0] (V (Proc.devRef .tc main_arg6)) slices_S450x150_S150x150_150_0) transposes_S150x150_S150x150_1_0)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (transpose S150x150 [1, 0] (extractStridedSlice S150x150 ![300, 0] (V (Proc.devRef .tc main_arg6)) slices_S450x150_S150x150_300_0) transposes_S150x150_S150x150_1_0)) bitsLt_bf16_f32 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v209 (V : Valuation τ sig (Elt F)) :
    after hostOps0 V (Proc.devRef .tc main_v209) = Host.scatter scatter_S1x768_S2_S150_0_0_01_0 (fun _ b => b) (Host.scatter scatter_S1x768_S2_S150_0_0_01_0 (fun _ b => b) (Host.scatter scatter_S1x768_S2_S150_0_0_01_0 (fun _ b => b) (broadcastInDim S1x768 ![] bcast_S_S1x768 (constant S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (extractStridedSlice S150 ![0] (V (Proc.devRef .tc main_arg8)) slices_S450_S150_0)) (concatenate S2 0 [⟨S1, (broadcastInDim S1 ![] bcast_S_S1 (constantI S_ 32 0#32))⟩, ⟨S1, (broadcastInDim S1 ![] bcast_S_S1 (constantI S_ 32 256#32))⟩] concatenates_S1_S1_S2_d0) (extractStridedSlice S150 ![150] (V (Proc.devRef .tc main_arg8)) slices_S450_S150_150)) (concatenate S2 0 [⟨S1, (broadcastInDim S1 ![] bcast_S_S1 (constantI S_ 32 0#32))⟩, ⟨S1, (broadcastInDim S1 ![] bcast_S_S1 (constantI S_ 32 512#32))⟩] concatenates_S1_S1_S2_d0) (extractStridedSlice S150 ![300] (V (Proc.devRef .tc main_arg8)) slices_S450_S150_300) := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v220 (V : Valuation τ sig (Elt F)) :
    after hostOps0 V (Proc.devRef .tc main_v220) = truncf .bf16 (Host.scatter scatter_S256x128_S1_S150x128_01_n_0_0 (fun _ b => b) (broadcastInDim S256x128 ![] bcast_S_S256x128 (constant S_ .f32 0x00000000#32)) (broadcastInDim S1 ![] bcast_S_S1 (constantI S_ 32 0#32)) (transpose S150x128 [1, 0] (V (Proc.devRef .tc main_arg9)) transposes_S128x150_S150x128_1_0)) bitsLt_bf16_f32 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

theorem read_main_v214 (V : Valuation τ sig (Elt F)) :
    after hostOps0 V (Proc.devRef .tc main_v214) = shapeCast S1x128 (V (Proc.devRef .tc main_arg10)) shapeCasts_S128_S1x128 := by
  rw [after_cut]
  simp only [k0_main_arg1, k0_main_arg10, k0_main_arg3, k0_main_arg4, k0_main_arg5, k0_main_arg6, k0_main_arg7, k0_main_arg8, k0_main_arg9, k1_main_arg10, k1_main_arg3, k1_main_arg4, k1_main_arg5, k1_main_arg6, k1_main_arg7, k1_main_arg8, k1_main_arg9, k1_main_v1, k1_main_v20, k2_main_arg10, k2_main_arg5, k2_main_arg6, k2_main_arg7, k2_main_arg8, k2_main_arg9, k2_main_v1, k2_main_v20, k2_main_v47, k2_main_v73, k3_main_arg10, k3_main_arg6, k3_main_arg8, k3_main_arg9, k3_main_v1, k3_main_v118, k3_main_v20, k3_main_v47, k3_main_v73, k3_main_v92, k4_main_v1, k4_main_v118, k4_main_v174, k4_main_v73, r0_main_v1, r0_main_v20, r0_main_v41, r0_main_v43, r0_main_v44, r0_main_v45, r1_main_v47, r1_main_v73, r1_main_v88, r1_main_v90, r1_main_v91, r2_main_v92, r2_main_v118, r2_main_v132, r2_main_v133, r2_main_v135, r2_main_v136, r3_main_v158, r3_main_v174, r3_main_v175, r3_main_v177, r3_main_v178, r3_main_v179, r4_main_v209, r4_main_v214, r4_main_v215, r4_main_v216, r4_main_v217, r4_main_v218, r4_main_v219, r4_main_v220] <;> rfl

end Cert.KernelIdeal.Pads

end
-- ==== Proof.Pads.lean ====
/-
  The padded arrays the kernel call reads, at an index: an array of zeros into which blocks have been set holds the
  block's entry under each block and zero elsewhere.
-/
module

public import proofs.«01_k».proof.Proof.Reads
public import proofs.«01_k».proof.Proof.Math
public import Idealize.ShloMosaic.Lib.Routing.OpsSet
public import Idealize.ShloMosaic.Lib.Routing.OpsPair
public import Idealize.ShloMosaic.Lib.Pointwise

@[expose] public section

set_option maxRecDepth 16384

noncomputable section

namespace Cert.KernelIdeal.Pads

open Cert.KernelIdeal Cert.KernelIdeal.Gen Cert.Rnn
open Idealize.ShloMosaic Idealize.ShloMosaic.TcCoe Idealize.ShloMosaic.Tactic
open Idealize.ShloMosaic.StableHlo Idealize.ShloMosaic.Routing

/-! ## Setting one block -/

section
variable {α : Type} {R C h w : ℕ} {si : Shape}

/-- Where an update lands in a matrix, axis by axis. -/
theorem lands {R C w : ℕ} {si u : Shape} (d : ScatterDims (shape2 R C) si u) (k : u.Idx) (idx : IVec si w) (r : Fin R) (c : Fin C) :
    d.resultIdx? k idx = some (ix2 r c)
      ↔ d.start k idx 0 + (d.window k 0 : Int) = (r.val : Int) ∧ d.start k idx 1 + (d.window k 1 : Int) = (c.val : Int) := by
  rw [resultIdx?_eq_some]
  exact ⟨fun h => ⟨h 0, h 1⟩, fun h a => match a with
    | ⟨0, _⟩ => h.1
    | ⟨1, _⟩ => h.2⟩

/-- The updates of the scatter are one block, set with its first entry at row `r0`, column `c0`. -/
structure IsBox (d : ScatterDims (shape2 R C) si (shape2 h w)) (idx : IVec si 32) (r0 c0 : ℕ) : Prop where
  s0 : ∀ k, d.start k idx 0 = (r0 : Int)
  s1 : ∀ k, d.start k idx 1 = (c0 : Int)
  w0 : ∀ k, d.window k 0 = (k 0).val
  w1 : ∀ k, d.window k 1 = (k 1).val

theorem box_hit {d : ScatterDims (shape2 R C) si (shape2 h w)} {idx : IVec si 32} {r0 c0 : ℕ} (H : IsBox d idx r0 c0)
    (x : (shape2 R C).Idx → α) (u : (shape2 h w).Idx → α) (i : Fin h) (j : Fin w) (r : Fin R) (c : Fin C)
    (hr : r0 + i.val = r.val) (hc : c0 + j.val = c.val) :
    Host.scatter d (fun _ b => b) x idx u (ix2 r c) = u (ix2 i j) := by
  refine scatter_set_hit d x idx u _ _ (fun k hk => ?_) (ix2 i j) ?_
  · rw [lands, H.s0, H.s1, H.w0, H.w1] at hk
    rw [eq_ix2 k]
    congr 1
    have e0 : k 0 = i := Fin.ext (by omega)
    have e1 : k 1 = j := Fin.ext (by omega)
    rw [e0, e1]
  · rw [lands, H.s0, H.s1, H.w0, H.w1]
    exact ⟨by rw [← hr]; push_cast; rfl, by rw [← hc]; push_cast; rfl⟩

theorem box_miss {d : ScatterDims (shape2 R C) si (shape2 h w)} {idx : IVec si 32} {r0 c0 : ℕ} (H : IsBox d idx r0 c0)
    (x : (shape2 R C).Idx → α) (u : (shape2 h w).Idx → α) (r : Fin R) (c : Fin C)
    (hn : r.val < r0 ∨ r0 + h ≤ r.val ∨ c.val < c0 ∨ c0 + w ≤ c.val) :
    Host.scatter d (fun _ b => b) x idx u (ix2 r c) = x (ix2 r c) := by
  refine scatter_set_miss d x idx u _ fun k hk => ?_
  rw [lands, H.s0, H.s1, H.w0, H.w1] at hk
  have a : (k 0).val < h := (k 0).isLt
  have b : (k 1).val < w := (k 1).isLt
  omega

/-- The updates of the scatter are one run of row 0, its first entry at column `c0`. -/
structure IsRun (d : ScatterDims (shape2 1 C) si (shape1 w)) (idx : IVec si 32) (c0 : ℕ) : Prop where
  s0 : ∀ k, d.start k idx 0 = 0
  s1 : ∀ k, d.start k idx 1 = (c0 : Int)
  w0 : ∀ k, d.window k 0 = 0
  w1 : ∀ k, d.window k 1 = (k 0).val

theorem run_hit {d : ScatterDims (shape2 1 C) si (shape1 w)} {idx : IVec si 32} {c0 : ℕ} (H : IsRun d idx c0)
    (x : (shape2 1 C).Idx → α) (u : (shape1 w).Idx → α) (j : Fin w) (c : Fin C) (hc : c0 + j.val = c.val) :
    Host.scatter d (fun _ b => b) x idx u (ix2 0 c) = u (ix1 j) := by
  refine scatter_set_hit d x idx u _ _ (fun k hk => ?_) (ix1 j) ?_
  · rw [lands, H.s0, H.s1, H.w0, H.w1] at hk
    have e0 : k = ix1 j := by
      funext a
      match a with
      | ⟨0, _⟩ => exact Fin.ext (show (k 0).val = j.val by omega)
    rw [e0]
  · rw [lands, H.s0, H.s1, H.w0, H.w1]
    exact ⟨by simp, by rw [← hc]; push_cast; rfl⟩

theorem run_miss {d : ScatterDims (shape2 1 C) si (shape1 w)} {idx : IVec si 32} {c0 : ℕ} (H : IsRun d idx c0)
    (x : (shape2 1 C).Idx → α) (u : (shape1 w).Idx → α) (c : Fin C) (hn : c.val < c0 ∨ c0 + w ≤ c.val) :
    Host.scatter d (fun _ b => b) x idx u (ix2 0 c) = x (ix2 0 c) := by
  refine scatter_set_miss d x idx u _ fun k hk => ?_
  rw [lands, H.s0, H.s1, H.w0, H.w1] at hk
  have b : (k 0).val < w := (k 0).isLt
  omega

end

/-! ## The scatters of the program -/

/-- One index word. -/
abbrev word (n : BitVec 32) : IVec S1 32 := broadcastInDim S1 ![] bcast_S_S1 (constantI S_ 32 n)

/-- Two index words. -/
abbrev words (a b : BitVec 32) : IVec S2 32 := concatenate S2 0 [⟨S1, word a⟩, ⟨S1, word b⟩] concatenates_S1_S1_S2_d0

theorem words_0 (a b : BitVec 32) : words a b (ix1 0) = a := by
  pointwise [words, word]
theorem words_1 (a b : BitVec 32) : words a b (ix1 1) = b := by
  pointwise [words, word]

theorem box_cols (n : BitVec 32) (c0 : ℕ) (hc : n.toInt = c0) : IsBox scatter_S384x1024_S1_S384x150_01_n_1_0 (word n) 0 c0 where
  s0 k := rfl
  s1 k := hc
  w0 k := rfl
  w1 k := rfl

theorem box_rows (n : BitVec 32) (r0 : ℕ) (hr : n.toInt = r0) : IsBox scatter_S256x128_S1_S150x128_01_n_0_0 (word n) r0 0 where
  s0 k := hr
  s1 k := rfl
  w0 k := rfl
  w1 k := rfl

theorem box_lstm (a b : BitVec 32) (r0 c0 : ℕ) (hr : a.toInt = r0) (hc : b.toInt = c0) :
    IsBox scatter_S256x1024_S2_S150x150_01_n_01_0 (words a b) r0 c0 where
  s0 k := (congrArg BitVec.toInt (words_0 a b)).trans hr
  s1 k := (congrArg BitVec.toInt (words_1 a b)).trans hc
  w0 k := rfl
  w1 k := rfl

theorem box_gi (a b : BitVec 32) (r0 c0 : ℕ) (hr : a.toInt = r0) (hc : b.toInt = c0) :
    IsBox scatter_S512x768_S2_S150x150_01_n_01_0 (words a b) r0 c0 where
  s0 k := (congrArg BitVec.toInt (words_0 a b)).trans hr
  s1 k := (congrArg BitVec.toInt (words_1 a b)).trans hc
  w0 k := rfl
  w1 k := rfl

theorem box_gh (a b : BitVec 32) (r0 c0 : ℕ) (hr : a.toInt = r0) (hc : b.toInt = c0) :
    IsBox scatter_S256x768_S2_S150x150_01_n_01_0 (words a b) r0 c0 where
  s0 k := (congrArg BitVec.toInt (words_0 a b)).trans hr
  s1 k := (congrArg BitVec.toInt (words_1 a b)).trans hc
  w0 k := rfl
  w1 k := rfl

theorem run_lstm (b : BitVec 32) (c0 : ℕ) (hc : b.toInt = c0) : IsRun scatter_S1x1024_S2_S150_0_0_01_0 (words 0#32 b) c0 where
  s0 k := (congrArg BitVec.toInt (words_0 0#32 b)).trans rfl
  s1 k := (congrArg BitVec.toInt (words_1 0#32 b)).trans hc
  w0 k := rfl
  w1 k := rfl

theorem run_gru (b : BitVec 32) (c0 : ℕ) (hc : b.toInt = c0) : IsRun scatter_S1x768_S2_S150_0_0_01_0 (words 0#32 b) c0 where
  s0 k := (congrArg BitVec.toInt (words_0 0#32 b)).trans rfl
  s1 k := (congrArg BitVec.toInt (words_1 0#32 b)).trans hc
  w0 k := rfl
  w1 k := rfl

/-! ## The padded arrays -/

section
variable {α : Type} {R h : ℕ} {si : Shape}

/-- 4 blocks set side by side, 256 columns apart: the entry under a block. -/
theorem box4 {d : ScatterDims (shape2 R 1024) si (shape2 h 150)} {i0 i1 i2 i3 : IVec si 32} {r0 : ℕ} (H0 : IsBox d i0 r0 0) (H1 : IsBox d i1 r0 256) (H2 : IsBox d i2 r0 512) (H3 : IsBox d i3 r0 768)
    (x : (shape2 R 1024).Idx → α) (A : Fin 600 → Fin h → α) {u0 u1 u2 u3 : (shape2 h 150).Idx → α}
    (e0 : ∀ k j, u0 (ix2 k j) = A (rq (n := 4) 0 j) k) (e1 : ∀ k j, u1 (ix2 k j) = A (rq (n := 4) 1 j) k) (e2 : ∀ k j, u2 (ix2 k j) = A (rq (n := 4) 2 j) k) (e3 : ∀ k j, u3 (ix2 k j) = A (rq (n := 4) 3 j) k)
    (g : Fin 4) (j : Fin 150) (k : Fin h) (r : Fin R) (hr : r0 + k.val = r.val) :
    Host.scatter d (fun _ b => b) (Host.scatter d (fun _ b => b) (Host.scatter d (fun _ b => b) (Host.scatter d (fun _ b => b) x i0 u0) i1 u1) i2 u2) i3 u3 (ix2 r (kq g (up j))) = A (rq g j) k := by
  have hj := j.isLt
  fin_cases g
  · exact (box_miss H3 _ _ _ _ (by simp only [kq, up]; first | (left; omega) | omega)).trans ((box_miss H2 _ _ _ _ (by simp only [kq, up]; first | (left; omega) | omega)).trans ((box_miss H1 _ _ _ _ (by simp only [kq, up]; first | (left; omega) | omega)).trans ((box_hit H0 _ _ k j _ _ hr (by simp [kq, up])).trans (e0 k j))))
  · exact (box_miss H3 _ _ _ _ (by simp only [kq, up]; first | (left; omega) | omega)).trans ((box_miss H2 _ _ _ _ (by simp only [kq, up]; first | (left; omega) | omega)).trans ((box_hit H1 _ _ k j _ _ hr (by simp [kq, up])).trans (e1 k j)))
  · exact (box_miss H3 _ _ _ _ (by simp only [kq, up]; first | (left; omega) | omega)).trans ((box_hit H2 _ _ k j _ _ hr (by simp [kq, up])).trans (e2 k j))
  · exact (box_hit H3 _ _ k j _ _ hr (by simp [kq, up])).trans (e3 k j)

/-- The same array outside the rows of the blocks. -/
theorem box4_pad {d : ScatterDims (shape2 R 1024) si (shape2 h 150)} {i0 i1 i2 i3 : IVec si 32} {r0 : ℕ} (H0 : IsBox d i0 r0 0) (H1 : IsBox d i1 r0 256) (H2 : IsBox d i2 r0 512) (H3 : IsBox d i3 r0 768)
    (x : (shape2 R 1024).Idx → α) (u0 u1 u2 u3 : (shape2 h 150).Idx → α) (r : Fin R) (q : Fin 1024) (hr : r.val < r0 ∨ r0 + h ≤ r.val) :
    Host.scatter d (fun _ b => b) (Host.scatter d (fun _ b => b) (Host.scatter d (fun _ b => b) (Host.scatter d (fun _ b => b) x i0 u0) i1 u1) i2 u2) i3 u3 (ix2 r q) = x (ix2 r q) := by
  have hr' : ∀ c0 : ℕ, r.val < r0 ∨ r0 + h ≤ r.val ∨ q.val < c0 ∨ c0 + 150 ≤ q.val := fun _ => by omega
  rw [box_miss H3 _ _ _ _ (hr' _), box_miss H2 _ _ _ _ (hr' _), box_miss H1 _ _ _ _ (hr' _), box_miss H0 _ _ _ _ (hr' _)]

/-- 4 runs set in a row, 256 columns apart: the entry under a run. -/
theorem run4 {d : ScatterDims (shape2 1 1024) si (shape1 150)} {i0 i1 i2 i3 : IVec si 32} (H0 : IsRun d i0 0) (H1 : IsRun d i1 256) (H2 : IsRun d i2 512) (H3 : IsRun d i3 768)
    (x : (shape2 1 1024).Idx → α) (A : Fin 600 → α) {u0 u1 u2 u3 : (shape1 150).Idx → α}
    (e0 : ∀ j, u0 (ix1 j) = A (rq (n := 4) 0 j)) (e1 : ∀ j, u1 (ix1 j) = A (rq (n := 4) 1 j)) (e2 : ∀ j, u2 (ix1 j) = A (rq (n := 4) 2 j)) (e3 : ∀ j, u3 (ix1 j) = A (rq (n := 4) 3 j))
    (g : Fin 4) (j : Fin 150) :
    Host.scatter d (fun _ b => b) (Host.scatter d (fun _ b => b) (Host.scatter d (fun _ b => b) (Host.scatter d (fun _ b => b) x i0 u0) i1 u1) i2 u2) i3 u3 (ix2 0 (kq g (up j))) = A (rq g j) := by
  have hj := j.isLt
  fin_cases g
  · exact (run_miss H3 _ _ _ (by simp only [kq, up]; first | (left; omega) | omega)).trans ((run_miss H2 _ _ _ (by simp only [kq, up]; first | (left; omega) | omega)).trans ((run_miss H1 _ _ _ (by simp only [kq, up]; first | (left; omega) | omega)).trans ((run_hit H0 _ _ j _ (by simp [kq, up])).trans (e0 j))))
  · exact (run_miss H3 _ _ _ (by simp only [kq, up]; first | (left; omega) | omega)).trans ((run_miss H2 _ _ _ (by simp only [kq, up]; first | (left; omega) | omega)).trans ((run_hit H1 _ _ j _ (by simp [kq, up])).trans (e1 j)))
  · exact (run_miss H3 _ _ _ (by simp only [kq, up]; first | (left; omega) | omega)).trans ((run_hit H2 _ _ j _ (by simp [kq, up])).trans (e2 j))
  · exact (run_hit H3 _ _ j _ (by simp [kq, up])).trans (e3 j)

/-- 3 blocks set side by side, 256 columns apart: the entry under a block. -/
theorem box3 {d : ScatterDims (shape2 R 768) si (shape2 h 150)} {i0 i1 i2 : IVec si 32} {r0 : ℕ} (H0 : IsBox d i0 r0 0) (H1 : IsBox d i1 r0 256) (H2 : IsBox d i2 r0 512)
    (x : (shape2 R 768).Idx → α) (A : Fin 450 → Fin h → α) {u0 u1 u2 : (shape2 h 150).Idx → α}
    (e0 : ∀ k j, u0 (ix2 k j) = A (rq (n := 3) 0 j) k) (e1 : ∀ k j, u1 (ix2 k j) = A (rq (n := 3) 1 j) k) (e2 : ∀ k j, u2 (ix2 k j) = A (rq (n := 3) 2 j) k)
    (g : Fin 3) (j : Fin 150) (k : Fin h) (r : Fin R) (hr : r0 + k.val = r.val) :
    Host.scatter d (fun _ b => b) (Host.scatter d (fun _ b => b) (Host.scatter d (fun _ b => b) x i0 u0) i1 u1) i2 u2 (ix2 r (kq g (up j))) = A (rq g j) k := by
  have hj := j.isLt
  fin_cases g
  · exact (box_miss H2 _ _ _ _ (by simp only [kq, up]; first | (left; omega) | omega)).trans ((box_miss H1 _ _ _ _ (by simp only [kq, up]; first | (left; omega) | omega)).trans ((box_hit H0 _ _ k j _ _ hr (by simp [kq, up])).trans (e0 k j)))
  · exact (box_miss H2 _ _ _ _ (by simp only [kq, up]; first | (left; omega) | omega)).trans ((box_hit H1 _ _ k j _ _ hr (by simp [kq, up])).trans (e1 k j))
  · exact (box_hit H2 _ _ k j _ _ hr (by simp [kq, up])).trans (e2 k j)

/-- The same array outside the rows of the blocks. -/
theorem box3_pad {d : ScatterDims (shape2 R 768) si (shape2 h 150)} {i0 i1 i2 : IVec si 32} {r0 : ℕ} (H0 : IsBox d i0 r0 0) (H1 : IsBox d i1 r0 256) (H2 : IsBox d i2 r0 512)
    (x : (shape2 R 768).Idx → α) (u0 u1 u2 : (shape2 h 150).Idx → α) (r : Fin R) (q : Fin 768) (hr : r.val < r0 ∨ r0 + h ≤ r.val) :
    Host.scatter d (fun _ b => b) (Host.scatter d (fun _ b => b) (Host.scatter d (fun _ b => b) x i0 u0) i1 u1) i2 u2 (ix2 r q) = x (ix2 r q) := by
  have hr' : ∀ c0 : ℕ, r.val < r0 ∨ r0 + h ≤ r.val ∨ q.val < c0 ∨ c0 + 150 ≤ q.val := fun _ => by omega
  rw [box_miss H2 _ _ _ _ (hr' _), box_miss H1 _ _ _ _ (hr' _), box_miss H0 _ _ _ _ (hr' _)]

/-- 3 runs set in a row, 256 columns apart: the entry under a run. -/
theorem run3 {d : ScatterDims (shape2 1 768) si (shape1 150)} {i0 i1 i2 : IVec si 32} (H0 : IsRun d i0 0) (H1 : IsRun d i1 256) (H2 : IsRun d i2 512)
    (x : (shape2 1 768).Idx → α) (A : Fin 450 → α) {u0 u1 u2 : (shape1 150).Idx → α}
    (e0 : ∀ j, u0 (ix1 j) = A (rq (n := 3) 0 j)) (e1 : ∀ j, u1 (ix1 j) = A (rq (n := 3) 1 j)) (e2 : ∀ j, u2 (ix1 j) = A (rq (n := 3) 2 j))
    (g : Fin 3) (j : Fin 150) :
    Host.scatter d (fun _ b => b) (Host.scatter d (fun _ b => b) (Host.scatter d (fun _ b => b) x i0 u0) i1 u1) i2 u2 (ix2 0 (kq g (up j))) = A (rq g j) := by
  have hj := j.isLt
  fin_cases g
  · exact (run_miss H2 _ _ _ (by simp only [kq, up]; first | (left; omega) | omega)).trans ((run_miss H1 _ _ _ (by simp only [kq, up]; first | (left; omega) | omega)).trans ((run_hit H0 _ _ j _ (by simp [kq, up])).trans (e0 j)))
  · exact (run_miss H2 _ _ _ (by simp only [kq, up]; first | (left; omega) | omega)).trans ((run_hit H1 _ _ j _ (by simp [kq, up])).trans (e1 j))
  · exact (run_hit H2 _ _ j _ (by simp [kq, up])).trans (e2 j)

/-- Two rows of three blocks each: an entry under a block of the first row. -/
theorem box6_0 {d : ScatterDims (shape2 R 768) si (shape2 h 150)} {i0 i1 i2 i3 i4 i5 : IVec si 32} {r0 r1 : ℕ} (hrr : r0 + h ≤ r1) (H0 : IsBox d i0 r0 0) (H1 : IsBox d i1 r1 0) (H2 : IsBox d i2 r0 256) (H3 : IsBox d i3 r1 256) (H4 : IsBox d i4 r0 512) (H5 : IsBox d i5 r1 512)
    (x : (shape2 R 768).Idx → α) (A : Fin 450 → Fin h → α) {u0 u1 u2 u3 u4 u5 : (shape2 h 150).Idx → α}
    (e0 : ∀ k j, u0 (ix2 k j) = A (rq (n := 3) 0 j) k) (e2 : ∀ k j, u2 (ix2 k j) = A (rq (n := 3) 1 j) k) (e4 : ∀ k j, u4 (ix2 k j) = A (rq (n := 3) 2 j) k)
    (g : Fin 3) (j : Fin 150) (k : Fin h) (r : Fin R) (hr : r0 + k.val = r.val) :
    Host.scatter d (fun _ b => b) (Host.scatter d (fun _ b => b) (Host.scatter d (fun _ b => b) (Host.scatter d (fun _ b => b) (Host.scatter d (fun _ b => b) (Host.scatter d (fun _ b => b) x i0 u0) i1 u1) i2 u2) i3 u3) i4 u4) i5 u5 (ix2 r (kq g (up j))) = A (rq g j) k := by
  have hj := j.isLt
  have hk := k.isLt
  fin_cases g
  · exact (box_miss H5 _ _ _ _ (by simp only [kq, up]; first | (left; omega) | (right; left; omega) | (right; right; left; omega) | (right; right; right; omega))).trans ((box_miss H4 _ _ _ _ (by simp only [kq, up]; first | (left; omega) | (right; left; omega) | (right; right; left; omega) | (right; right; right; omega))).trans ((box_miss H3 _ _ _ _ (by simp only [kq, up]; first | (left; omega) | (right; left; omega) | (right; right; left; omega) | (right; right; right; omega))).trans ((box_miss H2 _ _ _ _ (by simp only [kq, up]; first | (left; omega) | (right; left; omega) | (right; right; left; omega) | (right; right; right; omega))).trans ((box_miss H1 _ _ _ _ (by simp only [kq, up]; first | (left; omega) | (right; left; omega) | (right; right; left; omega) | (right; right; right; omega))).trans ((box_hit H0 _ _ k j _ _ hr (by simp [kq, up])).trans (e0 k j))))))
  · exact (box_miss H5 _ _ _ _ (by simp only [kq, up]; first | (left; omega) | (right; left; omega) | (right; right; left; omega) | (right; right; right; omega))).trans ((box_miss H4 _ _ _ _ (by simp only [kq, up]; first | (left; omega) | (right; left; omega) | (right; right; left; omega) | (right; right; right; omega))).trans ((box_miss H3 _ _ _ _ (by simp only [kq, up]; first | (left; omega) | (right; left; omega) | (right; right; left; omega) | (right; right; right; omega))).trans ((box_hit H2 _ _ k j _ _ hr (by simp [kq, up])).trans (e2 k j))))
  · exact (box_miss H5 _ _ _ _ (by simp only [kq, up]; first | (left; omega) | (right; left; omega) | (right; right; left; omega) | (right; right; right; omega))).trans ((box_hit H4 _ _ k j _ _ hr (by simp [kq, up])).trans (e4 k j))

/-- Two rows of three blocks each: an entry under a block of the second row. -/
theorem box6_1 {d : ScatterDims (shape2 R 768) si (shape2 h 150)} {i0 i1 i2 i3 i4 i5 : IVec si 32} {r0 r1 : ℕ} (hrr : r0 + h ≤ r1) (H0 : IsBox d i0 r0 0) (H1 : IsBox d i1 r1 0) (H2 : IsBox d i2 r0 256) (H3 : IsBox d i3 r1 256) (H4 : IsBox d i4 r0 512) (H5 : IsBox d i5 r1 512)
    (x : (shape2 R 768).Idx → α) (A : Fin 450 → Fin h → α) {u0 u1 u2 u3 u4 u5 : (shape2 h 150).Idx → α}
    (e1 : ∀ k j, u1 (ix2 k j) = A (rq (n := 3) 0 j) k) (e3 : ∀ k j, u3 (ix2 k j) = A (rq (n := 3) 1 j) k) (e5 : ∀ k j, u5 (ix2 k j) = A (rq (n := 3) 2 j) k)
    (g : Fin 3) (j : Fin 150) (k : Fin h) (r : Fin R) (hr : r1 + k.val = r.val) :
    Host.scatter d (fun _ b => b) (Host.scatter d (fun _ b => b) (Host.scatter d (fun _ b => b) (Host.scatter d (fun _ b => b) (Host.scatter d (fun _ b => b) (Host.scatter d (fun _ b => b) x i0 u0) i1 u1) i2 u2) i3 u3) i4 u4) i5 u5 (ix2 r (kq g (up j))) = A (rq g j) k := by
  have hj := j.isLt
  have hk := k.isLt
  fin_cases g
  · exact (box_miss H5 _ _ _ _ (by simp only [kq, up]; first | (left; omega) | (right; left; omega) | (right; right; left; omega) | (right; right; right; omega))).trans ((box_miss H4 _ _ _ _ (by simp only [kq, up]; first | (left; omega) | (right; left; omega) | (right; right; left; omega) | (right; right; right; omega))).trans ((box_miss H3 _ _ _ _ (by simp only [kq, up]; first | (left; omega) | (right; left; omega) | (right; right; left; omega) | (right; right; right; omega))).trans ((box_miss H2 _ _ _ _ (by simp only [kq, up]; first | (left; omega) | (right; left; omega) | (right; right; left; omega) | (right; right; right; omega))).trans ((box_hit H1 _ _ k j _ _ hr (by simp [kq, up])).trans (e1 k j)))))
  · exact (box_miss H5 _ _ _ _ (by simp only [kq, up]; first | (left; omega) | (right; left; omega) | (right; right; left; omega) | (right; right; right; omega))).trans ((box_miss H4 _ _ _ _ (by simp only [kq, up]; first | (left; omega) | (right; left; omega) | (right; right; left; omega) | (right; right; right; omega))).trans ((box_hit H3 _ _ k j _ _ hr (by simp [kq, up])).trans (e3 k j)))
  · exact (box_hit H5 _ _ k j _ _ hr (by simp [kq, up])).trans (e5 k j)

/-- The same array outside the rows of both. -/
theorem box6_pad {d : ScatterDims (shape2 R 768) si (shape2 h 150)} {i0 i1 i2 i3 i4 i5 : IVec si 32} {r0 r1 : ℕ} (H0 : IsBox d i0 r0 0) (H1 : IsBox d i1 r1 0) (H2 : IsBox d i2 r0 256) (H3 : IsBox d i3 r1 256) (H4 : IsBox d i4 r0 512) (H5 : IsBox d i5 r1 512)
    (x : (shape2 R 768).Idx → α) (u0 u1 u2 u3 u4 u5 : (shape2 h 150).Idx → α) (r : Fin R) (q : Fin 768)
    (h0 : r.val < r0 ∨ r0 + h ≤ r.val) (h1 : r.val < r1 ∨ r1 + h ≤ r.val) :
    Host.scatter d (fun _ b => b) (Host.scatter d (fun _ b => b) (Host.scatter d (fun _ b => b) (Host.scatter d (fun _ b => b) (Host.scatter d (fun _ b => b) (Host.scatter d (fun _ b => b) x i0 u0) i1 u1) i2 u2) i3 u3) i4 u4) i5 u5 (ix2 r q) = x (ix2 r q) := by
  have h0' : ∀ c0 : ℕ, r.val < r0 ∨ r0 + h ≤ r.val ∨ q.val < c0 ∨ c0 + 150 ≤ q.val := fun _ => by omega
  have h1' : ∀ c0 : ℕ, r.val < r1 ∨ r1 + h ≤ r.val ∨ q.val < c0 ∨ c0 + 150 ≤ q.val := fun _ => by omega
  rw [box_miss H5 _ _ _ _ (h1' _), box_miss H4 _ _ _ _ (h0' _), box_miss H3 _ _ _ _ (h1' _), box_miss H2 _ _ _ _ (h0' _), box_miss H1 _ _ _ _ (h1' _), box_miss H0 _ _ _ _ (h0' _)]

end

/-! ## The operands of the call -/

variable (V : Valuation τ sig (Elt Ideal))

/-- The cast of a weight is the identity on reals. -/
theorem cast_at {s : Shape} (a : FVec Ideal s .f32) (h : FTy.bits .bf16 < FTy.bits .f32) (i : s.Idx) : truncf .bf16 a h i = a i := rfl

/-- The stacked hidden states, time first, the three graphs side by side. -/
theorem hct_at (t : Fin 128) (b : Fin 32) (n : Fin 3) (f : Fin 128) :
    after hostOps0 V (Proc.devRef .tc main_v1) (ix3 t b ⟨128 * n.val + f.val, by have := n.isLt; have := f.isLt; omega⟩)
      = V (Proc.devRef .tc main_arg0) (ix4 n b t f) := by
  rw [read_main_v1]
  pointwise

theorem rq4_zero (j : Fin 150) : rq (n := 4) 0 j = ⟨j.val, by have := j.isLt; omega⟩ := Fin.ext (by simp [rq])
theorem rq3_zero (j : Fin 150) : rq (n := 3) 0 j = ⟨j.val, by have := j.isLt; omega⟩ := Fin.ext (by simp [rq])
/-- The constant the arrays start from. -/
theorem zero_at {s : Shape} (h : S_.BroadcastsInDim s ![]) (i : s.Idx) :
    (broadcastInDim s ![] h (constant S_ .f32 0x00000000#32) : FVec Ideal s .f32) i = 0 := by
  pointwise [Ideal.ofBits_zero]

/-- The sum of two reals. -/
abbrev plus (a b : EReal) : EReal := a + b

theorem wif_at (g : Fin 4) (j : Fin 150) (k : Fin 384) :
    after hostOps0 V (Proc.devRef .tc main_v215) (ix2 k (kq g (up j))) = V (Proc.devRef .tc main_arg1) (ix3 0 (rq g j) k) := by
  rw [read_main_v215, cast_at]
  refine box4 (box_cols _ _ rfl) (box_cols _ _ rfl) (box_cols _ _ rfl) (box_cols _ _ rfl) _
    (fun q k => V (Proc.devRef .tc main_arg1) (ix3 0 q k)) ?_ ?_ ?_ ?_ g j k k (by simp)
  all_goals (intro k j; pointwise; try (first | rfl | (simp only [rq4_zero] <;> rfl)))

theorem wib_at (g : Fin 4) (j : Fin 150) (k : Fin 384) :
    after hostOps0 V (Proc.devRef .tc main_v217) (ix2 k (kq g (up j))) = V (Proc.devRef .tc main_arg1) (ix3 1 (rq g j) k) := by
  rw [read_main_v217, cast_at]
  refine box4 (box_cols _ _ rfl) (box_cols _ _ rfl) (box_cols _ _ rfl) (box_cols _ _ rfl) _
    (fun q k => V (Proc.devRef .tc main_arg1) (ix3 1 q k)) ?_ ?_ ?_ ?_ g j k k (by simp)
  all_goals (intro k j; pointwise; try (first | rfl | (simp only [rq4_zero] <;> rfl)))

theorem whf_at (g : Fin 4) (j : Fin 150) (k : Fin 150) :
    after hostOps0 V (Proc.devRef .tc main_v216) (ix2 (up k) (kq g (up j))) = V (Proc.devRef .tc main_arg2) (ix3 0 (rq g j) k) := by
  rw [read_main_v216, cast_at]
  refine box4 (box_lstm _ _ _ _ rfl rfl) (box_lstm _ _ _ _ rfl rfl) (box_lstm _ _ _ _ rfl rfl) (box_lstm _ _ _ _ rfl rfl) _
    (fun q k => V (Proc.devRef .tc main_arg2) (ix3 0 q k)) ?_ ?_ ?_ ?_ g j k (up k) (by simp [up])
  all_goals (intro k j; pointwise; try (first | rfl | (simp only [rq4_zero] <;> rfl)))

theorem whf_pad (k : Fin 106) (q : Fin 1024) :
    after hostOps0 V (Proc.devRef .tc main_v216) (ix2 (Rnn.pad k) q) = (0 : EReal) := by
  rw [read_main_v216, cast_at]
  exact (box4_pad (box_lstm _ _ 0 _ rfl rfl) (box_lstm _ _ _ _ rfl rfl) (box_lstm _ _ _ _ rfl rfl) (box_lstm _ _ _ _ rfl rfl) _ _ _ _ _ _ _ (by simp only [Rnn.pad]; omega)).trans (zero_at _ _)

theorem bf_at (g : Fin 4) (j : Fin 150) :
    after hostOps0 V (Proc.devRef .tc main_v73) (ix2 0 (kq g (up j))) = plus (V (Proc.devRef .tc main_arg3) (ix2 0 (rq g j))) (V (Proc.devRef .tc main_arg4) (ix2 0 (rq g j))) := by
  rw [read_main_v73]
  refine run4 (run_lstm _ _ rfl) (run_lstm _ _ rfl) (run_lstm _ _ rfl) (run_lstm _ _ rfl) _
    (fun q => plus (V (Proc.devRef .tc main_arg3) (ix2 0 q)) (V (Proc.devRef .tc main_arg4) (ix2 0 q))) ?_ ?_ ?_ ?_ g j
  all_goals (intro j; pointwise; try (first | rfl | (simp only [rq4_zero] <;> rfl)))

theorem bb_at (g : Fin 4) (j : Fin 150) :
    after hostOps0 V (Proc.devRef .tc main_v118) (ix2 0 (kq g (up j))) = plus (V (Proc.devRef .tc main_arg3) (ix2 1 (rq g j))) (V (Proc.devRef .tc main_arg4) (ix2 1 (rq g j))) := by
  rw [read_main_v118]
  refine run4 (run_lstm _ _ rfl) (run_lstm _ _ rfl) (run_lstm _ _ rfl) (run_lstm _ _ rfl) _
    (fun q => plus (V (Proc.devRef .tc main_arg3) (ix2 1 q)) (V (Proc.devRef .tc main_arg4) (ix2 1 q))) ?_ ?_ ?_ ?_ g j
  all_goals (intro j; pointwise; try (first | rfl | (simp only [rq4_zero] <;> rfl)))

theorem wig_f (g : Fin 3) (j : Fin 150) (k : Fin 150) :
    after hostOps0 V (Proc.devRef .tc main_v218) (ix2 ⟨(up k).val, by have := (up k).isLt; omega⟩ (kq g (up j))) = V (Proc.devRef .tc main_arg5) (ix2 (rq g j) ⟨k.val, by have := k.isLt; omega⟩) := by
  rw [read_main_v218, cast_at]
  refine box6_0 (by omega) (box_gi _ _ 0 _ rfl rfl) (box_gi _ _ 256 _ rfl rfl) (box_gi _ _ 0 _ rfl rfl) (box_gi _ _ 256 _ rfl rfl) (box_gi _ _ 0 _ rfl rfl) (box_gi _ _ 256 _ rfl rfl) _
    (fun q k => V (Proc.devRef .tc main_arg5) (ix2 q ⟨k.val, by have := k.isLt; omega⟩)) ?_ ?_ ?_ g j k _ (by simp [up])
  all_goals (intro k j; pointwise; try (first | rfl | (simp only [rq3_zero] <;> rfl)))

theorem wig_b (g : Fin 3) (j : Fin 150) (k : Fin 150) :
    after hostOps0 V (Proc.devRef .tc main_v218) (ix2 ⟨256 + (up k).val, by have := (up k).isLt; omega⟩ (kq g (up j))) = V (Proc.devRef .tc main_arg5) (ix2 (rq g j) ⟨150 + k.val, by have := k.isLt; omega⟩) := by
  rw [read_main_v218, cast_at]
  refine box6_1 (by omega) (box_gi _ _ 0 _ rfl rfl) (box_gi _ _ 256 _ rfl rfl) (box_gi _ _ 0 _ rfl rfl) (box_gi _ _ 256 _ rfl rfl) (box_gi _ _ 0 _ rfl rfl) (box_gi _ _ 256 _ rfl rfl) _
    (fun q k => V (Proc.devRef .tc main_arg5) (ix2 q ⟨150 + k.val, by have := k.isLt; omega⟩)) ?_ ?_ ?_ g j k _ (by simp [up])
  all_goals (intro k j; pointwise; try (first | rfl | (simp only [rq3_zero] <;> rfl)))

theorem wig_f_pad (k : Fin 106) (q : Fin 768) :
    after hostOps0 V (Proc.devRef .tc main_v218) (ix2 ⟨(Rnn.pad k).val, by have := (Rnn.pad k).isLt; omega⟩ q) = (0 : EReal) := by
  rw [read_main_v218, cast_at]
  have hk := k.isLt
  exact (box6_pad (box_gi _ _ 0 _ rfl rfl) (box_gi _ _ 256 _ rfl rfl) (box_gi _ _ 0 _ rfl rfl) (box_gi _ _ 256 _ rfl rfl) (box_gi _ _ 0 _ rfl rfl) (box_gi _ _ 256 _ rfl rfl) _ _ _ _ _ _ _ _ _ (by simp only [Rnn.pad]; omega) (by simp only [Rnn.pad]; omega)).trans (zero_at _ _)

theorem wig_b_pad (k : Fin 106) (q : Fin 768) :
    after hostOps0 V (Proc.devRef .tc main_v218) (ix2 ⟨256 + (Rnn.pad k).val, by have := (Rnn.pad k).isLt; omega⟩ q) = (0 : EReal) := by
  rw [read_main_v218, cast_at]
  have hk := k.isLt
  exact (box6_pad (box_gi _ _ 0 _ rfl rfl) (box_gi _ _ 256 _ rfl rfl) (box_gi _ _ 0 _ rfl rfl) (box_gi _ _ 256 _ rfl rfl) (box_gi _ _ 0 _ rfl rfl) (box_gi _ _ 256 _ rfl rfl) _ _ _ _ _ _ _ _ _ (by simp only [Rnn.pad]; omega) (by simp only [Rnn.pad]; omega)).trans (zero_at _ _)

theorem big_at (g : Fin 3) (j : Fin 150) :
    after hostOps0 V (Proc.devRef .tc main_v174) (ix2 0 (kq g (up j))) = V (Proc.devRef .tc main_arg7) (ix1 (rq g j)) := by
  rw [read_main_v174]
  refine run3 (run_gru _ _ rfl) (run_gru _ _ rfl) (run_gru _ _ rfl) _
    (fun q => V (Proc.devRef .tc main_arg7) (ix1 q)) ?_ ?_ ?_ g j
  all_goals (intro j; pointwise; try (first | rfl | (simp only [rq3_zero] <;> rfl)))

theorem bhg_at (g : Fin 3) (j : Fin 150) :
    after hostOps0 V (Proc.devRef .tc main_v209) (ix2 0 (kq g (up j))) = V (Proc.devRef .tc main_arg8) (ix1 (rq g j)) := by
  rw [read_main_v209]
  refine run3 (run_gru _ _ rfl) (run_gru _ _ rfl) (run_gru _ _ rfl) _
    (fun q => V (Proc.devRef .tc main_arg8) (ix1 q)) ?_ ?_ ?_ g j
  all_goals (intro j; pointwise; try (first | rfl | (simp only [rq3_zero] <;> rfl)))

theorem whg_at (g : Fin 3) (j : Fin 150) (k : Fin 150) :
    after hostOps0 V (Proc.devRef .tc main_v219) (ix2 (up k) (kq g (up j))) = V (Proc.devRef .tc main_arg6) (ix2 (rq g j) k) := by
  rw [read_main_v219, cast_at]
  refine box3 (box_gh _ _ _ _ rfl rfl) (box_gh _ _ _ _ rfl rfl) (box_gh _ _ _ _ rfl rfl) _
    (fun q k => V (Proc.devRef .tc main_arg6) (ix2 q k)) ?_ ?_ ?_ g j k (up k) (by simp [up])
  all_goals (intro k j; pointwise; try (first | rfl | (simp only [rq3_zero] <;> rfl)))

theorem whg_pad (k : Fin 106) (q : Fin 768) :
    after hostOps0 V (Proc.devRef .tc main_v219) (ix2 (Rnn.pad k) q) = (0 : EReal) := by
  rw [read_main_v219, cast_at]
  exact (box3_pad (box_gh _ _ 0 _ rfl rfl) (box_gh _ _ _ _ rfl rfl) (box_gh _ _ _ _ rfl rfl) _ _ _ _ _ _ (by simp only [Rnn.pad]; omega)).trans (zero_at _ _)

theorem wfc_at (k : Fin 150) (o : Fin 128) :
    after hostOps0 V (Proc.devRef .tc main_v220) (ix2 (up k) o) = V (Proc.devRef .tc main_arg9) (ix2 o k) := by
  rw [read_main_v220, cast_at]
  refine (box_hit (box_rows _ _ rfl) _ _ k o _ _ (by simp [up]) (by simp)).trans ?_
  pointwise

theorem wfc_pad (k : Fin 106) (o : Fin 128) :
    after hostOps0 V (Proc.devRef .tc main_v220) (ix2 (Rnn.pad k) o) = (0 : EReal) := by
  rw [read_main_v220, cast_at]
  exact (box_miss (box_rows _ 0 rfl) _ _ _ _ (by simp only [Rnn.pad]; omega)).trans (zero_at _ _)

theorem bfc_at (o : Fin 128) :
    after hostOps0 V (Proc.devRef .tc main_v214) (ix2 0 o) = V (Proc.devRef .tc main_arg10) (ix1 o) := by
  rw [read_main_v214]
  pointwise

end Cert.KernelIdeal.Pads

end
-- ==== Proof.Value.lean ====
/-
  The kernel's result at an index is the given recurrences' value: the padded arrays hold the given weights and zero
  elsewhere, and the padding contributes nothing.
-/
module

public import proofs.«01_k».proof.Proof.Run
public import proofs.«01_k».proof.Proof.Pads

@[expose] public section

set_option maxRecDepth 16384

noncomputable section

namespace Cert.KernelIdeal.Body

open Cert.KernelIdeal Cert.KernelIdeal.Gen Cert.Rnn
open Idealize.ShloMosaic Idealize.ShloMosaic.TcCoe Idealize.ShloMosaic.Tactic
open Idealize.ShloMosaic.StableHlo

/-- The call's result at an index, given what its operands hold. -/
theorem out_agree (x0 : Vec Ideal S128x32x384 .f32) (x1 : Vec Ideal S384x1024 .bf16) (x2 : Vec Ideal S256x1024 .bf16) (x3 : Vec Ideal S1x1024 .f32)
    (x4 : Vec Ideal S384x1024 .bf16) (x5 : Vec Ideal S1x1024 .f32) (x6 : Vec Ideal S512x768 .bf16) (x7 : Vec Ideal S1x768 .f32)
    (x8 : Vec Ideal S256x768 .bf16) (x9 : Vec Ideal S1x768 .f32) (x10 : Vec Ideal S256x128 .bf16) (x11 : Vec Ideal S1x128 .f32)
    (b : Fin 32) (xf xb : ℕ → Fin 384 → EReal) (Wif Wib : Fin 600 → Fin 384 → EReal) (Whf Whb : Fin 600 → Fin 150 → EReal)
    (bif0 bhf bib bhb : Fin 600 → EReal) (Wig : Fin 450 → Fin 300 → EReal) (Whg : Fin 450 → Fin 150 → EReal) (big bhg : Fin 450 → EReal)
    (Wfc : Fin 128 → Fin 150 → EReal) (bfc : Fin 128 → EReal)
    (hxf : ∀ n (h : n < 128) q, x0 (ix3 ⟨n, h⟩ b q) = xf n q) (hxb : ∀ q, x0 (ix3 (127 : Fin 128) b q) = xb 0 q)
    (h1 : ∀ (g : Fin 4) j k, x1 (ix2 k (kq g (up j))) = Wif (rq g j) k)
    (h2 : ∀ (g : Fin 4) j k, x2 (ix2 (up k) (kq g (up j))) = Whf (rq g j) k) (h2p : ∀ k q, x2 (ix2 (Rnn.pad k) q) = (0 : EReal))
    (h3 : ∀ (g : Fin 4) j, x3 (ix2 0 (kq g (up j))) = bif0 (rq g j) + bhf (rq g j))
    (h4 : ∀ (g : Fin 4) j k, x4 (ix2 k (kq g (up j))) = Wib (rq g j) k)
    (h5 : ∀ (g : Fin 4) j, x5 (ix2 0 (kq g (up j))) = bib (rq g j) + bhb (rq g j))
    (h6f : ∀ (g : Fin 3) j (k : Fin 150), x6 (ix2 ⟨(up k).val, by have := (up k).isLt; omega⟩ (kq g (up j))) = Wig (rq g j) ⟨k.val, by have := k.isLt; omega⟩)
    (h6fp : ∀ (k : Fin 106) q, x6 (ix2 ⟨(Rnn.pad k).val, by have := (Rnn.pad k).isLt; omega⟩ q) = (0 : EReal))
    (h6b : ∀ (g : Fin 3) j (k : Fin 150), x6 (ix2 ⟨256 + (up k).val, by have := (up k).isLt; omega⟩ (kq g (up j))) = Wig (rq g j) ⟨150 + k.val, by have := k.isLt; omega⟩)
    (h6bp : ∀ (k : Fin 106) q, x6 (ix2 ⟨256 + (Rnn.pad k).val, by have := (Rnn.pad k).isLt; omega⟩ q) = (0 : EReal))
    (h7 : ∀ (g : Fin 3) j, x7 (ix2 0 (kq g (up j))) = big (rq g j))
    (h8 : ∀ (g : Fin 3) j k, x8 (ix2 (up k) (kq g (up j))) = Whg (rq g j) k) (h8p : ∀ k q, x8 (ix2 (Rnn.pad k) q) = (0 : EReal))
    (h9 : ∀ (g : Fin 3) j, x9 (ix2 0 (kq g (up j))) = bhg (rq g j))
    (h10 : ∀ k o, x10 (ix2 (up k) o) = Wfc o k) (h10p : ∀ k o, x10 (ix2 (Rnn.pad k) o) = (0 : EReal)) (h11 : ∀ o, x11 (ix2 0 o) = bfc o)
    (t : Fin 128) (o : Fin 128) :
    outT x0 x1 x2 x3 x4 x5 x6 x7 x8 x9 x10 x11 (ix3 t b o)
      = (∑ k : Fin 150, rGru (rGh Wig big (rCtx (rLstm xf Wif Whf bif0 bhf 128).1 (rLstm xb Wib Whb bib bhb 1).1)) Whg bhg (t.val + 1) k * Wfc o k) + bfc o := by
  have ef := (lstm_agree (xpRow x0 x1 x3 b) (fun k q => x2 (ix2 k q)) xf Wif Whf bif0 bhf
    (fun n hn g j => by
      show (if h : n < 128 then xpT x0 x1 x3 (ix3 ⟨n, h⟩ b (kq g (up j))) else 0) = _
      rw [dif_pos hn]
      show (∑ k : Fin 384, x0 (ix3 ⟨n, hn⟩ b k) * x1 (ix2 k (kq g (up j)))) + x3 (ix2 0 (kq g (up j))) = _
      rw [h3]
      exact congrArg (· + _) (Finset.sum_congr rfl fun k _ => congrArg₂ (· * ·) (hxf n hn k) (h1 g j k)))
    h2 (fun g j k => h2p k _) 128 (le_refl _)).1
  have eb := bwd_agree xb Wib Whb bib bhb (fun q => (∑ k : Fin 384, x0 (ix3 (127 : Fin 128) b k) * x4 (ix2 k q)) + x5 (ix2 0 q))
    (fun g j => by
      show (∑ k : Fin 384, x0 (ix3 (127 : Fin 128) b k) * x4 (ix2 k (kq g (up j)))) + x5 (ix2 0 (kq g (up j))) = _
      rw [h5]
      exact congrArg (· + _) (Finset.sum_congr rfl fun k _ => congrArg₂ (· * ·) (hxb k) (h4 g j k)))
  have eg := gru_agree (fun q => giT x0 x1 x2 x3 x4 x5 x6 x7 (ix2 b q)) (fun k q => x8 (ix2 k q)) (fun q => x9 (ix2 0 q))
    (rGh Wig big (rCtx (rLstm xf Wif Whf bif0 bhf 128).1 (rLstm xb Wib Whb bib bhb 1).1)) Whg bhg
    (fun g j => gi_agree _ _ _ _ ef eb (fun k q => x6 (ix2 k q)) (fun q => x7 (ix2 0 q)) Wig big h6f (fun g j k => h6fp k _) h6b (fun g j k => h6bp k _) h7 g j)
    h8 (fun g j k => h8p k _) h9
  show (∑ k : Fin 256, hallT (giT x0 x1 x2 x3 x4 x5 x6 x7) x8 x9 (ix3 t b k) * x10 (ix2 k o)) + x11 (ix2 0 o) = _
  rw [h11]
  exact congrArg (· + _) (dot_up (fun k => hallT (giT x0 x1 x2 x3 x4 x5 x6 x7) x8 x9 (ix3 t b k)) (fun k => x10 (ix2 k o)) _ _
    (fun k => eg (t.val + 1) k) (fun k => h10 k o) (fun k => h10p k o))

variable (m : (ℓ : Loc nD τ sig) → Buf (Elt Ideal) ℓ) (c : Dev nD)

/-- An argument as launched. -/
abbrev arg (r : Ref sig .tc) : (Proc.devRef (τ := τ) .tc r).ty.Contents (Elt Ideal) := m (c, Proc.devRef .tc r)

/-- The columns of the inputs, graph by graph. -/
theorem cols (P : Fin 384 → Prop) (h : ∀ (n : Fin 3) (f : Fin 128), P ⟨128 * n.val + f.val, by have := n.isLt; have := f.isLt; omega⟩) (q : Fin 384) : P q := by
  have hq := q.isLt
  have := h ⟨q.val / 128, by omega⟩ ⟨q.val % 128, Nat.mod_lt _ (by omega)⟩
  have e : (⟨128 * (q.val / 128) + q.val % 128, by omega⟩ : Fin 384) = q := Fin.ext (by simp only; omega)
  rwa [← e]

theorem result_at (b : Fin 32) (xf xb : ℕ → Fin 384 → EReal)
    (hxf : ∀ t (h : t < 128) (n : Fin 3) (f : Fin 128), xf t ⟨128 * n.val + f.val, by have := n.isLt; have := f.isLt; omega⟩ = arg m c main_arg0 (ix4 n b ⟨t, h⟩ f))
    (hxb : ∀ (n : Fin 3) (f : Fin 128), xb 0 ⟨128 * n.val + f.val, by have := n.isLt; have := f.isLt; omega⟩ = arg m c main_arg0 (ix4 n b 127 f))
    (t : Fin 128) (o : Fin 128) :
    result m c (ix3 t b o)
      = (∑ k : Fin 150, rGru (rGh (fun q k => arg m c main_arg5 (ix2 q k)) (fun q => arg m c main_arg7 (ix1 q))
          (rCtx (rLstm xf (fun q k => arg m c main_arg1 (ix3 0 q k)) (fun q k => arg m c main_arg2 (ix3 0 q k)) (fun q => arg m c main_arg3 (ix2 0 q)) (fun q => arg m c main_arg4 (ix2 0 q)) 128).1
            (rLstm xb (fun q k => arg m c main_arg1 (ix3 1 q k)) (fun q k => arg m c main_arg2 (ix3 1 q k)) (fun q => arg m c main_arg3 (ix2 1 q)) (fun q => arg m c main_arg4 (ix2 1 q)) 1).1))
          (fun q k => arg m c main_arg6 (ix2 q k)) (fun q => arg m c main_arg8 (ix1 q)) (t.val + 1) k * (arg m c main_arg9 (ix2 o k) : EReal)) + (arg m c main_arg10 (ix1 o) : EReal) := by
  unfold result
  exact out_agree _ _ _ _ _ _ _ _ _ _ _ _ b xf xb
    (fun q k => arg m c main_arg1 (ix3 0 q k)) (fun q k => arg m c main_arg1 (ix3 1 q k)) (fun q k => arg m c main_arg2 (ix3 0 q k)) (fun q k => arg m c main_arg2 (ix3 1 q k))
    (fun q => arg m c main_arg3 (ix2 0 q)) (fun q => arg m c main_arg4 (ix2 0 q)) (fun q => arg m c main_arg3 (ix2 1 q)) (fun q => arg m c main_arg4 (ix2 1 q))
    (fun q k => arg m c main_arg5 (ix2 q k)) (fun q k => arg m c main_arg6 (ix2 q k)) (fun q => arg m c main_arg7 (ix1 q)) (fun q => arg m c main_arg8 (ix1 q))
    (fun o k => arg m c main_arg9 (ix2 o k)) (fun o => arg m c main_arg10 (ix1 o))
    (fun n h => cols _ fun k f => (Pads.hct_at (fun b => m (c, b)) ⟨n, h⟩ b k f).trans (hxf n h k f).symm)
    (cols _ fun k f => (Pads.hct_at (fun b => m (c, b)) 127 b k f).trans (hxb k f).symm)
    (Pads.wif_at (fun b => m (c, b))) (Pads.whf_at (fun b => m (c, b))) (Pads.whf_pad (fun b => m (c, b))) (Pads.bf_at (fun b => m (c, b)))
    (Pads.wib_at (fun b => m (c, b))) (Pads.bb_at (fun b => m (c, b)))
    (Pads.wig_f (fun b => m (c, b))) (Pads.wig_f_pad (fun b => m (c, b))) (Pads.wig_b (fun b => m (c, b))) (Pads.wig_b_pad (fun b => m (c, b)))
    (Pads.big_at (fun b => m (c, b))) (Pads.whg_at (fun b => m (c, b))) (Pads.whg_pad (fun b => m (c, b))) (Pads.bhg_at (fun b => m (c, b)))
    (Pads.wfc_at (fun b => m (c, b))) (Pads.wfc_pad (fun b => m (c, b))) (Pads.bfc_at (fun b => m (c, b))) t o

end Cert.KernelIdeal.Body

end
-- ==== Proof.RefOps.lean ====
/- The reference program's @main and loop bodies as lists of host operations, and the equations saying that the printed
   program is those lists run in order around its three counted loops. -/
module

public import proofs.«01_k».proof.ReferenceIdeal
public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1568

noncomputable section

namespace Cert.ReferenceIdeal.Host

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem
open Idealize.ShloMosaic.StableHlo

variable {F : FTy → Type} [FloatOps F]

/-- Contents of an array of floats of shape `s`. -/
abbrev Arr (F : FTy → Type) (s : Shape) : Type := (⟨s, .f32⟩ : BufTy).Contents (Elt F)

abbrev hostOps0 : List (HloOp τ sig (Elt F)) :=
  [ unary main_arg0 main_v0 ((extractStridedSlice S1x32x128x128 ![0, 0, 0, 0] · slices_S3x32x128x128_S1x32x128x128_0_0_0_0) : Arr F S3x32x128x128 → Arr F S1x32x128x128),
    reshape main_v0 main_v1 (rfl : (.f32 : EltTy) = .f32) shapeCasts_S1x32x128x128_S32x128x128,
    unary main_arg0 main_v2 ((extractStridedSlice S1x32x128x128 ![1, 0, 0, 0] · slices_S3x32x128x128_S1x32x128x128_1_0_0_0) : Arr F S3x32x128x128 → Arr F S1x32x128x128),
    reshape main_v2 main_v3 (rfl : (.f32 : EltTy) = .f32) shapeCasts_S1x32x128x128_S32x128x128,
    unary main_arg0 main_v4 ((extractStridedSlice S1x32x128x128 ![2, 0, 0, 0] · slices_S3x32x128x128_S1x32x128x128_2_0_0_0) : Arr F S3x32x128x128 → Arr F S1x32x128x128),
    reshape main_v4 main_v5 (rfl : (.f32 : EltTy) = .f32) shapeCasts_S1x32x128x128_S32x128x128,
    nary ![main_v1, main_v3, main_v5] main_v6 (fun u => (concatenate S32x128x384 2 [⟨S32x128x128, (u 0 : Arr F S32x128x128)⟩, ⟨S32x128x128, (u 1 : Arr F S32x128x128)⟩, ⟨S32x128x128, (u 2 : Arr F S32x128x128)⟩] concatenates_S32x128x128_S32x128x128_S32x128x128_S32x128x384_d2 : Arr F S32x128x384)),
    unary main_arg1 main_v7 ((extractStridedSlice S1x600x384 ![0, 0, 0] · slices_S2x600x384_S1x600x384_0_0_0) : Arr F S2x600x384 → Arr F S1x600x384),
    reshape main_v7 main_v8 (rfl : (.f32 : EltTy) = .f32) shapeCasts_S1x600x384_S600x384,
    unary main_arg2 main_v9 ((extractStridedSlice S1x600x150 ![0, 0, 0] · slices_S2x600x150_S1x600x150_0_0_0) : Arr F S2x600x150 → Arr F S1x600x150),
    reshape main_v9 main_v10 (rfl : (.f32 : EltTy) = .f32) shapeCasts_S1x600x150_S600x150,
    unary main_arg3 main_v11 ((extractStridedSlice S1x600 ![0, 0] · slices_S2x600_S1x600_0_0) : Arr F S2x600 → Arr F S1x600),
    reshape main_v11 main_v12 (rfl : (.f32 : EltTy) = .f32) shapeCasts_S1x600_S600,
    unary main_arg4 main_v13 ((extractStridedSlice S1x600 ![0, 0] · slices_S2x600_S1x600_0_0) : Arr F S2x600 → Arr F S1x600),
    reshape main_v13 main_v14 (rfl : (.f32 : EltTy) = .f32) shapeCasts_S1x600_S600,
    unary main_v6 main_v15 ((transpose S128x32x384 [1, 0, 2] · transposes_S32x128x384_S128x32x384_1_0_2) : Arr F S32x128x384 → Arr F S128x32x384),
    nullary main_cst (constant S_ .f32 0x00000000#32),
    unary main_cst main_v16 (broadcastInDim S32x150 ![] bcast_S_S32x150 : Arr F S_ → Arr F S32x150),
    nullary main_cst_0 (constant S_ .f32 0x00000000#32),
    unary main_cst_0 main_v17 (broadcastInDim S128x32x150 ![] bcast_S_S128x32x150 : Arr F S_ → Arr F S128x32x150),
    nullary main_c (constantI S_ 32 0#32),
    unary main_v15 main_v18_0 id,
    unary main_v8 main_v18_1 id,
    unary main_v12 main_v18_2 id,
    unary main_v10 main_v18_3 id,
    unary main_v14 main_v18_4 id,
    unary main_c main_v18_5 id,
    unary main_v16 main_v18_6 id,
    unary main_v16 main_v18_7 id,
    unary main_v17 main_v18_8 id ]
theorem hostOps0_sub : (hostOps0 : List (HloOp τ sig (Elt F))).Forall fun op => op.bufs ⊆ tcRefs τ sig :=
  ⟨unary_bufs_sub .., reshape_bufs_sub .., unary_bufs_sub .., reshape_bufs_sub .., unary_bufs_sub .., reshape_bufs_sub .., nary_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
abbrev hostOps0_1 : List (HloOp τ sig (Elt F)) :=
  [ unary main_v18_8 main_v19 ((transpose S32x128x150 [1, 0, 2] · transposes_S128x32x150_S32x128x150_1_0_2) : Arr F S128x32x150 → Arr F S32x128x150),
    unary main_arg1 main_v20 ((extractStridedSlice S1x600x384 ![1, 0, 0] · slices_S2x600x384_S1x600x384_1_0_0) : Arr F S2x600x384 → Arr F S1x600x384),
    reshape main_v20 main_v21 (rfl : (.f32 : EltTy) = .f32) shapeCasts_S1x600x384_S600x384,
    unary main_arg2 main_v22 ((extractStridedSlice S1x600x150 ![1, 0, 0] · slices_S2x600x150_S1x600x150_1_0_0) : Arr F S2x600x150 → Arr F S1x600x150),
    reshape main_v22 main_v23 (rfl : (.f32 : EltTy) = .f32) shapeCasts_S1x600x150_S600x150,
    unary main_arg3 main_v24 ((extractStridedSlice S1x600 ![1, 0] · slices_S2x600_S1x600_1_0) : Arr F S2x600 → Arr F S1x600),
    reshape main_v24 main_v25 (rfl : (.f32 : EltTy) = .f32) shapeCasts_S1x600_S600,
    unary main_arg4 main_v26 ((extractStridedSlice S1x600 ![1, 0] · slices_S2x600_S1x600_1_0) : Arr F S2x600 → Arr F S1x600),
    reshape main_v26 main_v27 (rfl : (.f32 : EltTy) = .f32) shapeCasts_S1x600_S600,
    unary main_v6 main_v28 ((transpose S128x32x384 [1, 0, 2] · transposes_S32x128x384_S128x32x384_1_0_2) : Arr F S32x128x384 → Arr F S128x32x384),
    unary main_v28 main_v29 (Host.reverse [0] : Arr F S128x32x384 → Arr F S128x32x384),
    nullary main_cst_1 (constant S_ .f32 0x00000000#32),
    unary main_cst_1 main_v30 (broadcastInDim S32x150 ![] bcast_S_S32x150 : Arr F S_ → Arr F S32x150),
    nullary main_cst_2 (constant S_ .f32 0x00000000#32),
    unary main_cst_2 main_v31 (broadcastInDim S128x32x150 ![] bcast_S_S128x32x150 : Arr F S_ → Arr F S128x32x150),
    nullary main_c_3 (constantI S_ 32 0#32),
    unary main_v29 main_v32_0 id,
    unary main_v21 main_v32_1 id,
    unary main_v25 main_v32_2 id,
    unary main_v23 main_v32_3 id,
    unary main_v27 main_v32_4 id,
    unary main_c_3 main_v32_5 id,
    unary main_v30 main_v32_6 id,
    unary main_v30 main_v32_7 id,
    unary main_v31 main_v32_8 id ]
theorem hostOps0_1_sub : (hostOps0_1 : List (HloOp τ sig (Elt F))).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
abbrev hostOps0_2 : List (HloOp τ sig (Elt F)) :=
  [ unary main_v32_8 main_v33 (Host.reverse [0] : Arr F S128x32x150 → Arr F S128x32x150),
    unary main_v33 main_v34 ((transpose S32x128x150 [1, 0, 2] · transposes_S128x32x150_S32x128x150_1_0_2) : Arr F S128x32x150 → Arr F S32x128x150),
    binary main_v19 main_v34 main_v35 ((fun a b => concatenate S32x128x300 2 [⟨S32x128x150, a⟩, ⟨S32x128x150, b⟩] concatenates_S32x128x150_S32x128x150_S32x128x300_d2) : Arr F S32x128x150 → Arr F S32x128x150 → Arr F S32x128x300),
    unary main_v35 main_v36 ((extractStridedSlice S32x1x300 ![0, 127, 0] · slices_S32x128x300_S32x1x300_0_127_0) : Arr F S32x128x300 → Arr F S32x1x300),
    reshape main_v36 main_v37 (rfl : (.f32 : EltTy) = .f32) shapeCasts_S32x1x300_S32x300,
    unary main_v37 main_v38 (broadcastInDim S32x1x300 ![0, 2] bcast_S32x300_S32x1x300_0_2 : Arr F S32x300 → Arr F S32x1x300),
    unary main_v38 main_v39 (broadcastInDim S32x1x128x300 ![0, 1, 3] bcast_S32x1x300_S32x1x128x300_0_1_3 : Arr F S32x1x300 → Arr F S32x1x128x300),
    reshape main_v39 main_v40 (rfl : (.f32 : EltTy) = .f32) shapeCasts_S32x1x128x300_S32x128x300,
    unary main_v40 main_v41 ((transpose S128x32x300 [1, 0, 2] · transposes_S32x128x300_S128x32x300_1_0_2) : Arr F S32x128x300 → Arr F S128x32x300),
    nullary main_cst_4 (constant S_ .f32 0x00000000#32),
    unary main_cst_4 main_v42 (broadcastInDim S32x150 ![] bcast_S_S32x150 : Arr F S_ → Arr F S32x150),
    nullary main_cst_5 (constant S_ .f32 0x00000000#32),
    unary main_cst_5 main_v43 (broadcastInDim S128x32x150 ![] bcast_S_S128x32x150 : Arr F S_ → Arr F S128x32x150),
    nullary main_c_6 (constantI S_ 32 0#32),
    unary main_v41 main_v44_0 id,
    unary main_arg5 main_v44_1 id,
    unary main_arg7 main_v44_2 id,
    unary main_arg6 main_v44_3 id,
    unary main_arg8 main_v44_4 id,
    unary main_c_6 main_v44_5 id,
    unary main_v42 main_v44_6 id,
    unary main_v43 main_v44_7 id ]
theorem hostOps0_2_sub : (hostOps0_2 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., reshape_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
abbrev hostOps0_3 : List (HloOp τ sig (Elt F)) :=
  [ unary main_v44_7 main_v45 ((transpose S32x128x150 [1, 0, 2] · transposes_S128x32x150_S32x128x150_1_0_2) : Arr F S128x32x150 → Arr F S32x128x150),
    unary main_arg9 main_v46 ((transpose S150x128 [1, 0] · transposes_S128x150_S150x128_1_0) : Arr F S128x150 → Arr F S150x128),
    binary main_v45 main_v46 main_v47 ((fun l r => Host.dotGeneral dot_S32x128x150_S150x128_S32x128x128_2_0_01_1_n_n none l r) : Arr F S32x128x150 → Arr F S150x128 → Arr F S32x128x128),
    unary main_arg10 main_v48 (broadcastInDim S1x1x128 ![2] bcast_S128_S1x1x128_2 : Arr F S128 → Arr F S1x1x128),
    unary main_v48 main_v49 (broadcastInDim S32x128x128 ![0, 1, 2] bcast_S1x1x128_S32x128x128_0_1_2 : Arr F S1x1x128 → Arr F S32x128x128),
    binary main_v47 main_v49 main_v50 (addf : Arr F S32x128x128 → Arr F S32x128x128 → Arr F S32x128x128),
    unary main_v50 main_v51 ((transpose S128x32x128 [1, 0, 2] · transposes_S32x128x128_S128x32x128_1_0_2) : Arr F S32x128x128 → Arr F S128x32x128) ]
theorem hostOps0_3_sub : (hostOps0_3 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub ..⟩
abbrev main_part0_ops2 : List (HloOp τ sig (Elt F)) :=
  [ unary main_v32_8 main_v33 (Host.reverse [0] : Arr F S128x32x150 → Arr F S128x32x150),
    unary main_v33 main_v34 ((transpose S32x128x150 [1, 0, 2] · transposes_S128x32x150_S32x128x150_1_0_2) : Arr F S128x32x150 → Arr F S32x128x150),
    binary main_v19 main_v34 main_v35 ((fun a b => concatenate S32x128x300 2 [⟨S32x128x150, a⟩, ⟨S32x128x150, b⟩] concatenates_S32x128x150_S32x128x150_S32x128x300_d2) : Arr F S32x128x150 → Arr F S32x128x150 → Arr F S32x128x300) ]
theorem main_part0_ops2_sub : (main_part0_ops2 : List (HloOp τ sig (Elt F))).Forall fun op => op.bufs ⊆ tcRefs τ sig :=
  ⟨unary_bufs_sub .., unary_bufs_sub .., binary_bufs_sub ..⟩
theorem main_part0_chain (c : Dev nD) : main_part0 (F := F) c = (Pipeline.chainK
  [ seq hostOps0,
    HostLoop.enter 0,
    seq hostOps0_1,
    HostLoop.enter 1 ]
  (seq main_part0_ops2) : Prog (TpuEff nD τ sig (Elt F) (HostLoop.Sig (Pipeline.Sig Λ₀ (Fin 0) fun p => (pcfgs (F := F) p).Adm) 3) .tc) PUnit) := by
  rewrite [chainK_seq_cons, Pipeline.chainK_cons, chainK_seq_cons, Pipeline.chainK_cons]
  chain_rfl

abbrev main_part1_ops0 : List (HloOp τ sig (Elt F)) :=
  [ unary main_v35 main_v36 ((extractStridedSlice S32x1x300 ![0, 127, 0] · slices_S32x128x300_S32x1x300_0_127_0) : Arr F S32x128x300 → Arr F S32x1x300),
    reshape main_v36 main_v37 (rfl : (.f32 : EltTy) = .f32) shapeCasts_S32x1x300_S32x300,
    unary main_v37 main_v38 (broadcastInDim S32x1x300 ![0, 2] bcast_S32x300_S32x1x300_0_2 : Arr F S32x300 → Arr F S32x1x300),
    unary main_v38 main_v39 (broadcastInDim S32x1x128x300 ![0, 1, 3] bcast_S32x1x300_S32x1x128x300_0_1_3 : Arr F S32x1x300 → Arr F S32x1x128x300),
    reshape main_v39 main_v40 (rfl : (.f32 : EltTy) = .f32) shapeCasts_S32x1x128x300_S32x128x300,
    unary main_v40 main_v41 ((transpose S128x32x300 [1, 0, 2] · transposes_S32x128x300_S128x32x300_1_0_2) : Arr F S32x128x300 → Arr F S128x32x300),
    nullary main_cst_4 (constant S_ .f32 0x00000000#32),
    unary main_cst_4 main_v42 (broadcastInDim S32x150 ![] bcast_S_S32x150 : Arr F S_ → Arr F S32x150),
    nullary main_cst_5 (constant S_ .f32 0x00000000#32),
    unary main_cst_5 main_v43 (broadcastInDim S128x32x150 ![] bcast_S_S128x32x150 : Arr F S_ → Arr F S128x32x150),
    nullary main_c_6 (constantI S_ 32 0#32),
    unary main_v41 main_v44_0 id,
    unary main_arg5 main_v44_1 id,
    unary main_arg7 main_v44_2 id,
    unary main_arg6 main_v44_3 id,
    unary main_arg8 main_v44_4 id,
    unary main_c_6 main_v44_5 id,
    unary main_v42 main_v44_6 id,
    unary main_v43 main_v44_7 id ]
theorem main_part1_ops0_sub : (main_part1_ops0 : List (HloOp τ sig (Elt F))).Forall fun op => op.bufs ⊆ tcRefs τ sig :=
  ⟨unary_bufs_sub .., reshape_bufs_sub .., unary_bufs_sub .., unary_bufs_sub .., reshape_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
theorem main_part1_chain (c : Dev nD) : main_part1 (F := F) c = (Pipeline.chain
  [ seq main_part1_ops0,
    HostLoop.enter 2,
    seq hostOps0_3 ] : Prog (TpuEff nD τ sig (Elt F) (HostLoop.Sig (Pipeline.Sig Λ₀ (Fin 0) fun p => (pcfgs (F := F) p).Adm) 3) .tc) PUnit) := by
  rewrite [chain_seq_cons, Pipeline.chain_cons, chain_seq_cons]
  chain_rfl

theorem main_chain_windows (c : Dev nD) : main (F := F) c = (Pipeline.chain
  [ seq hostOps0,
    HostLoop.enter 0,
    seq hostOps0_1,
    HostLoop.enter 1,
    seq main_part0_ops2,
    seq main_part1_ops0,
    HostLoop.enter 2,
    seq hostOps0_3 ] : Prog (TpuEff nD τ sig (Elt F) (HostLoop.Sig (Pipeline.Sig Λ₀ (Fin 0) fun p => (pcfgs (F := F) p).Adm) 3) .tc) PUnit) := by
  show (main_part0 (F := F) c >>= fun _ => main_part1 (F := F) c) = _
  rewrite [main_part1_chain, main_part0_chain, Pipeline.chainK_bind_chain]
  chain_rfl

abbrev main_groups (c : Dev nD) : List (Group nD τ sig (Elt F) (HostLoop.Sig (Pipeline.Sig Λ₀ (Fin 0) fun p => (pcfgs (F := F) p).Adm) 3)) :=
  [ .ops [hostOps0],
    .prog (HostLoop.enter 0),
    .ops [hostOps0_1],
    .prog (HostLoop.enter 1),
    .ops [main_part0_ops2, main_part1_ops0],
    .prog (HostLoop.enter 2),
    .ops [hostOps0_3] ]

theorem main_chain_cut (c : Dev nD) : (Pipeline.chain
  [ seq hostOps0,
    HostLoop.enter 0,
    seq hostOps0_1,
    HostLoop.enter 1,
    seq main_part0_ops2,
    seq main_part1_ops0,
    HostLoop.enter 2,
    seq hostOps0_3 ] : Prog (TpuEff nD τ sig (Elt F) (HostLoop.Sig (Pipeline.Sig Λ₀ (Fin 0) fun p => (pcfgs (F := F) p).Adm) 3) .tc) PUnit) = Pipeline.chain ((main_groups (F := F) c).flatMap Group.cut) := by
  chain_rfl

theorem main_chain_whole (c : Dev nD) : Pipeline.chain ((main_groups (F := F) c).map Group.whole) = (Pipeline.chain
  [ seq hostOps0,
    HostLoop.enter 0,
    seq hostOps0_1,
    HostLoop.enter 1,
    seq hostOps0_2,
    HostLoop.enter 2,
    seq hostOps0_3 ] : Prog (TpuEff nD τ sig (Elt F) (HostLoop.Sig (Pipeline.Sig Λ₀ (Fin 0) fun p => (pcfgs (F := F) p).Adm) 3) .tc) PUnit) := by
  chain_rfl

theorem main_chain (c : Dev nD) : main (F := F) c = (Pipeline.chain
  [ seq hostOps0,
    HostLoop.enter 0,
    seq hostOps0_1,
    HostLoop.enter 1,
    seq hostOps0_2,
    HostLoop.enter 2,
    seq hostOps0_3 ] : Prog (TpuEff nD τ sig (Elt F) (HostLoop.Sig (Pipeline.Sig Λ₀ (Fin 0) fun p => (pcfgs (F := F) p).Adm) 3) .tc) PUnit) :=
  (main_chain_windows (F := F) c).trans <| (main_chain_cut (F := F) c).trans <|
    (chain_cut_eq_whole (main_groups (F := F) c)).trans (main_chain_whole (F := F) c)

abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v18_0 : TRef sig ⟨S128x32x384, .f32⟩) ![(.of main_v18_5 : TRef sig ⟨S_, .i32⟩), (.of main_while0b_call0_c : TRef sig ⟨S_, .i32⟩), (.of main_while0b_call0_c_0 : TRef sig ⟨S_, .i32⟩)] (.of main_while0b_call0_v0 : TRef sig ⟨S1x32x384, .f32⟩) (fun x i => Host.dynamicSlice S1x32x384 x (fun k => (i k (Shape.Idx.first h_S_)).toInt) sliceFits_S128x32x384_S1x32x384),
    TRef.reshape (.of main_while0b_call0_v0 : TRef sig ⟨S1x32x384, .f32⟩) (.of main_while0b_v52 : TRef sig ⟨S32x384, .f32⟩) (rfl : (.f32 : EltTy) = .f32) shapeCasts_S1x32x384_S32x384 ]
theorem while0Ops0_sub : (while0Ops0 : List (HloOp τ sig (Elt F))).Forall fun op => op.bufs ⊆ tcRefs τ sig :=
  ⟨nullary_bufs_sub .., nullary_bufs_sub .., unaryIndexed_bufs_sub .., reshape_bufs_sub ..⟩
abbrev while0Ops0_1 : List (HloOp τ sig (Elt F)) :=
  ( unary main_v18_1 main_while0b_v53 ((transpose S384x600 [1, 0] · transposes_S600x384_S384x600_1_0) : Arr F S600x384 → Arr F S384x600)
  :: binary main_while0b_v52 main_while0b_v53 main_while0b_v54 ((fun l r => Host.dotGeneral dot_S32x384_S384x600_S32x600_1_0_0_1_n_n none l r) : Arr F S32x384 → Arr F S384x600 → Arr F S32x600)
  :: unary main_v18_2 main_while0b_v55 (broadcastInDim S1x600 ![1] bcast_S600_S1x600_1 : Arr F S600 → Arr F S1x600)
  :: unary main_while0b_v55 main_while0b_v56 (broadcastInDim S32x600 ![0, 1] bcast_S1x600_S32x600_0_1 : Arr F S1x600 → Arr F S32x600)
  :: binary main_while0b_v54 main_while0b_v56 main_while0b_v57 (addf : Arr F S32x600 → Arr F S32x600 → Arr F S32x600)
  :: unary main_v18_3 main_while0b_v58 ((transpose S150x600 [1, 0] · transposes_S600x150_S150x600_1_0) : Arr F S600x150 → Arr F S150x600)
  :: binary main_v18_6 main_while0b_v58 main_while0b_v59 ((fun l r => Host.dotGeneral dot_S32x150_S150x600_S32x600_1_0_0_1_n_n none l r) : Arr F S32x150 → Arr F S150x600 → Arr F S32x600)
  :: binary main_while0b_v57 main_while0b_v59 main_while0b_v60 (addf : Arr F S32x600 → Arr F S32x600 → Arr F S32x600)
  :: unary main_v18_4 main_while0b_v61 (broadcastInDim S1x600 ![1] bcast_S600_S1x600_1 : Arr F S600 → Arr F S1x600)
  :: unary main_while0b_v61 main_while0b_v62 (broadcastInDim S32x600 ![0, 1] bcast_S1x600_S32x600_0_1 : Arr F S1x600 → Arr F S32x600)
  :: binary main_while0b_v60 main_while0b_v62 main_while0b_v63 (addf : Arr F S32x600 → Arr F S32x600 → Arr F S32x600)
  :: unary main_while0b_v63 main_while0b_v64 ((extractStridedSlice S32x150 ![0, 0] · slices_S32x600_S32x150_0_0) : Arr F S32x600 → Arr F S32x150)
  :: unary main_while0b_v63 main_while0b_v65 ((extractStridedSlice S32x150 ![0, 150] · slices_S32x600_S32x150_0_150) : Arr F S32x600 → Arr F S32x150)
  :: unary main_while0b_v63 main_while0b_v66 ((extractStridedSlice S32x150 ![0, 300] · slices_S32x600_S32x150_0_300) : Arr F S32x600 → Arr F S32x150)
  :: unary main_while0b_v63 main_while0b_v67 ((extractStridedSlice S32x150 ![0, 450] · slices_S32x600_S32x150_0_450) : Arr F S32x600 → Arr F S32x150)
  :: unary main_while0b_v65 main_while0b_v68 (Host.negf : Arr F S32x150 → Arr F S32x150)
  :: unary main_while0b_v68 main_while0b_v69 (Host.exp : Arr F S32x150 → Arr F S32x150)
  :: nullary main_while0b_cst_15 (constant S_ .f32 0x3F800000#32)
  :: unary main_while0b_cst_15 main_while0b_v70 (broadcastInDim S32x150 ![] bcast_S_S32x150 : Arr F S_ → Arr F S32x150)
  :: binary main_while0b_v70 main_while0b_v69 main_while0b_v71 (addf : Arr F S32x150 → Arr F S32x150 → Arr F S32x150)
  :: nullary main_while0b_cst_16 (constant S_ .f32 0x3F800000#32)
  :: unary main_while0b_cst_16 main_while0b_v72 (broadcastInDim S32x150 ![] bcast_S_S32x150 : Arr F S_ → Arr F S32x150)
  :: binary main_while0b_v72 main_while0b_v71 main_while0b_v73 (Host.divf : Arr F S32x150 → Arr F S32x150 → Arr F S32x150)
  :: binary main_while0b_v73 main_v18_7 main_while0b_v74 (mulf : Arr F S32x150 → Arr F S32x150 → Arr F S32x150)
  :: unary main_while0b_v64 main_while0b_v75 (Host.negf : Arr F S32x150 → Arr F S32x150)
  :: unary main_while0b_v75 main_while0b_v76 (Host.exp : Arr F S32x150 → Arr F S32x150)
  :: nullary main_while0b_cst_17 (constant S_ .f32 0x3F800000#32)
  :: unary main_while0b_cst_17 main_while0b_v77 (broadcastInDim S32x150 ![] bcast_S_S32x150 : Arr F S_ → Arr F S32x150)
  :: binary main_while0b_v77 main_while0b_v76 main_while0b_v78 (addf : Arr F S32x150 → Arr F S32x150 → Arr F S32x150)
  :: nullary main_while0b_cst_18 (constant S_ .f32 0x3F800000#32)
  :: unary main_while0b_cst_18 main_while0b_v79 (broadcastInDim S32x150 ![] bcast_S_S32x150 : Arr F S_ → Arr F S32x150)
  :: binary main_while0b_v79 main_while0b_v78 main_while0b_v80 (Host.divf : Arr F S32x150 → Arr F S32x150 → Arr F S32x150)
  :: unary main_while0b_v66 main_while0b_v81 (Host.tanh : Arr F S32x150 → Arr F S32x150)
  :: binary main_while0b_v80 main_while0b_v81 main_while0b_v82 (mulf : Arr F S32x150 → Arr F S32x150 → Arr F S32x150)
  :: binary main_while0b_v74 main_while0b_v82 main_while0b_v83 (addf : Arr F S32x150 → Arr F S32x150 → Arr F S32x150)
  :: unary main_while0b_v67 main_while0b_v84 (Host.negf : Arr F S32x150 → Arr F S32x150)
  :: unary main_while0b_v84 main_while0b_v85 (Host.exp : Arr F S32x150 → Arr F S32x150)
  :: nullary main_while0b_cst_19 (constant S_ .f32 0x3F800000#32)
  :: unary main_while0b_cst_19 main_while0b_v86 (broadcastInDim S32x150 ![] bcast_S_S32x150 : Arr F S_ → Arr F S32x150)
  :: binary main_while0b_v86 main_while0b_v85 main_while0b_v87 (addf : Arr F S32x150 → Arr F S32x150 → Arr F S32x150)
  :: nullary main_while0b_cst_20 (constant S_ .f32 0x3F800000#32)
  :: unary main_while0b_cst_20 main_while0b_v88 (broadcastInDim S32x150 ![] bcast_S_S32x150 : Arr F S_ → Arr F S32x150)
  :: binary main_while0b_v88 main_while0b_v87 main_while0b_v89 (Host.divf : Arr F S32x150 → Arr F S32x150 → Arr F S32x150)
  :: unary main_while0b_v83 main_while0b_v90 (Host.tanh : Arr F S32x150 → Arr F S32x150)
  :: binary main_while0b_v89 main_while0b_v90 main_while0b_v91 (mulf : Arr F S32x150 → Arr F S32x150 → Arr F S32x150)
  :: [] )
theorem while0Ops0_1_sub : (while0Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
abbrev while0Ops0_2 : List (HloOp τ sig (Elt F)) :=
  [ TRef.unary (.of main_while0b_v91 : TRef sig ⟨S32x150, .f32⟩) (.of main_while0b_call1_v0 : TRef sig ⟨S1x32x150, .f32⟩) (broadcastInDim S1x32x150 ![1, 2] bcast_S32x150_S1x32x150_1_2),
    TRef.nullary (.of main_while0b_call1_c : TRef sig ⟨S_, .i32⟩) (constantI S_ 32 0#32),
    TRef.nullary (.of main_while0b_call1_c_0 : TRef sig ⟨S_, .i32⟩) (constantI S_ 32 0#32),
    TRef.binaryIndexed (.of main_v18_8 : TRef sig ⟨S128x32x150, .f32⟩) (.of main_while0b_call1_v0 : TRef sig ⟨S1x32x150, .f32⟩) ![(.of main_v18_5 : TRef sig ⟨S_, .i32⟩), (.of main_while0b_call1_c : TRef sig ⟨S_, .i32⟩), (.of main_while0b_call1_c_0 : TRef sig ⟨S_, .i32⟩)] (.of main_while0b_v92 : TRef sig ⟨S128x32x150, .f32⟩) (fun x u i => Host.dynamicUpdateSlice x u (fun k => (i k (Shape.Idx.first h_S_)).toInt) updateFits_S128x32x150_S1x32x150) ]
theorem while0Ops0_2_sub : (while0Ops0_2 : List (HloOp τ sig (Elt F))).Forall fun op => op.bufs ⊆ tcRefs τ sig :=
  ⟨unary_bufs_sub .., nullary_bufs_sub .., nullary_bufs_sub .., binaryIndexed_bufs_sub ..⟩
abbrev while0Ops0_3 : List (HloOp τ sig (Elt F)) :=
  [ nullary main_while0b_c_21 (constantI S_ 32 1#32),
    binary main_v18_5 main_while0b_c_21 main_while0b_v93 (addi : (⟨S_, .i32⟩ : BufTy).Contents (Elt F) → (⟨S_, .i32⟩ : BufTy).Contents (Elt F) → (⟨S_, .i32⟩ : BufTy).Contents (Elt F)),
    unary main_while0b_v93 main_v18_5 id,
    unary main_while0b_v91 main_v18_6 id,
    unary main_while0b_v83 main_v18_7 id,
    unary main_while0b_v92 main_v18_8 id ]
theorem while0Ops0_3_sub : (while0Ops0_3 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem while0_body_chain : main_while0_body (F := F) = (Pipeline.chain
  [ seq while0Ops0,
    seq while0Ops0_1,
    seq while0Ops0_2,
    seq while0Ops0_3 ] : Prog (TpuEff nD τ sig (Elt F) (HostLoop.Sig (Pipeline.Sig Λ₀ (Fin 0) fun p => (pcfgs (F := F) p).Adm) 3) .tc) PUnit) := by
  rewrite [Pipeline.chain_cons, chain_seq_cons, Pipeline.chain_cons, chain_seq_cons]
  chain_rfl

abbrev while1Ops0 : List (HloOp τ sig (Elt F)) :=
  [ TRef.nullary (.of main_while1b_call2_c : TRef sig ⟨S_, .i32⟩) (constantI S_ 32 0#32),
    TRef.nullary (.of main_while1b_call2_c_0 : TRef sig ⟨S_, .i32⟩) (constantI S_ 32 0#32),
    TRef.unaryIndexed (.of main_v32_0 : TRef sig ⟨S128x32x384, .f32⟩) ![(.of main_v32_5 : TRef sig ⟨S_, .i32⟩), (.of main_while1b_call2_c : TRef sig ⟨S_, .i32⟩), (.of main_while1b_call2_c_0 : TRef sig ⟨S_, .i32⟩)] (.of main_while1b_call2_v0 : TRef sig ⟨S1x32x384, .f32⟩) (fun x i => Host.dynamicSlice S1x32x384 x (fun k => (i k (Shape.Idx.first h_S_)).toInt) sliceFits_S128x32x384_S1x32x384),
    TRef.reshape (.of main_while1b_call2_v0 : TRef sig ⟨S1x32x384, .f32⟩) (.of main_while1b_v52 : TRef sig ⟨S32x384, .f32⟩) (rfl : (.f32 : EltTy) = .f32) shapeCasts_S1x32x384_S32x384 ]
theorem while1Ops0_sub : (while1Ops0 : List (HloOp τ sig (Elt F))).Forall fun op => op.bufs ⊆ tcRefs τ sig :=
  ⟨nullary_bufs_sub .., nullary_bufs_sub .., unaryIndexed_bufs_sub .., reshape_bufs_sub ..⟩
abbrev while1Ops0_1 : List (HloOp τ sig (Elt F)) :=
  ( unary main_v32_1 main_while1b_v53 ((transpose S384x600 [1, 0] · transposes_S600x384_S384x600_1_0) : Arr F S600x384 → Arr F S384x600)
  :: binary main_while1b_v52 main_while1b_v53 main_while1b_v54 ((fun l r => Host.dotGeneral dot_S32x384_S384x600_S32x600_1_0_0_1_n_n none l r) : Arr F S32x384 → Arr F S384x600 → Arr F S32x600)
  :: unary main_v32_2 main_while1b_v55 (broadcastInDim S1x600 ![1] bcast_S600_S1x600_1 : Arr F S600 → Arr F S1x600)
  :: unary main_while1b_v55 main_while1b_v56 (broadcastInDim S32x600 ![0, 1] bcast_S1x600_S32x600_0_1 : Arr F S1x600 → Arr F S32x600)
  :: binary main_while1b_v54 main_while1b_v56 main_while1b_v57 (addf : Arr F S32x600 → Arr F S32x600 → Arr F S32x600)
  :: unary main_v32_3 main_while1b_v58 ((transpose S150x600 [1, 0] · transposes_S600x150_S150x600_1_0) : Arr F S600x150 → Arr F S150x600)
  :: binary main_v32_6 main_while1b_v58 main_while1b_v59 ((fun l r => Host.dotGeneral dot_S32x150_S150x600_S32x600_1_0_0_1_n_n none l r) : Arr F S32x150 → Arr F S150x600 → Arr F S32x600)
  :: binary main_while1b_v57 main_while1b_v59 main_while1b_v60 (addf : Arr F S32x600 → Arr F S32x600 → Arr F S32x600)
  :: unary main_v32_4 main_while1b_v61 (broadcastInDim S1x600 ![1] bcast_S600_S1x600_1 : Arr F S600 → Arr F S1x600)
  :: unary main_while1b_v61 main_while1b_v62 (broadcastInDim S32x600 ![0, 1] bcast_S1x600_S32x600_0_1 : Arr F S1x600 → Arr F S32x600)
  :: binary main_while1b_v60 main_while1b_v62 main_while1b_v63 (addf : Arr F S32x600 → Arr F S32x600 → Arr F S32x600)
  :: unary main_while1b_v63 main_while1b_v64 ((extractStridedSlice S32x150 ![0, 0] · slices_S32x600_S32x150_0_0) : Arr F S32x600 → Arr F S32x150)
  :: unary main_while1b_v63 main_while1b_v65 ((extractStridedSlice S32x150 ![0, 150] · slices_S32x600_S32x150_0_150) : Arr F S32x600 → Arr F S32x150)
  :: unary main_while1b_v63 main_while1b_v66 ((extractStridedSlice S32x150 ![0, 300] · slices_S32x600_S32x150_0_300) : Arr F S32x600 → Arr F S32x150)
  :: unary main_while1b_v63 main_while1b_v67 ((extractStridedSlice S32x150 ![0, 450] · slices_S32x600_S32x150_0_450) : Arr F S32x600 → Arr F S32x150)
  :: unary main_while1b_v65 main_while1b_v68 (Host.negf : Arr F S32x150 → Arr F S32x150)
  :: unary main_while1b_v68 main_while1b_v69 (Host.exp : Arr F S32x150 → Arr F S32x150)
  :: nullary main_while1b_cst_15 (constant S_ .f32 0x3F800000#32)
  :: unary main_while1b_cst_15 main_while1b_v70 (broadcastInDim S32x150 ![] bcast_S_S32x150 : Arr F S_ → Arr F S32x150)
  :: binary main_while1b_v70 main_while1b_v69 main_while1b_v71 (addf : Arr F S32x150 → Arr F S32x150 → Arr F S32x150)
  :: nullary main_while1b_cst_16 (constant S_ .f32 0x3F800000#32)
  :: unary main_while1b_cst_16 main_while1b_v72 (broadcastInDim S32x150 ![] bcast_S_S32x150 : Arr F S_ → Arr F S32x150)
  :: binary main_while1b_v72 main_while1b_v71 main_while1b_v73 (Host.divf : Arr F S32x150 → Arr F S32x150 → Arr F S32x150)
  :: binary main_while1b_v73 main_v32_7 main_while1b_v74 (mulf : Arr F S32x150 → Arr F S32x150 → Arr F S32x150)
  :: unary main_while1b_v64 main_while1b_v75 (Host.negf : Arr F S32x150 → Arr F S32x150)
  :: unary main_while1b_v75 main_while1b_v76 (Host.exp : Arr F S32x150 → Arr F S32x150)
  :: nullary main_while1b_cst_17 (constant S_ .f32 0x3F800000#32)
  :: unary main_while1b_cst_17 main_while1b_v77 (broadcastInDim S32x150 ![] bcast_S_S32x150 : Arr F S_ → Arr F S32x150)
  :: binary main_while1b_v77 main_while1b_v76 main_while1b_v78 (addf : Arr F S32x150 → Arr F S32x150 → Arr F S32x150)
  :: nullary main_while1b_cst_18 (constant S_ .f32 0x3F800000#32)
  :: unary main_while1b_cst_18 main_while1b_v79 (broadcastInDim S32x150 ![] bcast_S_S32x150 : Arr F S_ → Arr F S32x150)
  :: binary main_while1b_v79 main_while1b_v78 main_while1b_v80 (Host.divf : Arr F S32x150 → Arr F S32x150 → Arr F S32x150)
  :: unary main_while1b_v66 main_while1b_v81 (Host.tanh : Arr F S32x150 → Arr F S32x150)
  :: binary main_while1b_v80 main_while1b_v81 main_while1b_v82 (mulf : Arr F S32x150 → Arr F S32x150 → Arr F S32x150)
  :: binary main_while1b_v74 main_while1b_v82 main_while1b_v83 (addf : Arr F S32x150 → Arr F S32x150 → Arr F S32x150)
  :: unary main_while1b_v67 main_while1b_v84 (Host.negf : Arr F S32x150 → Arr F S32x150)
  :: unary main_while1b_v84 main_while1b_v85 (Host.exp : Arr F S32x150 → Arr F S32x150)
  :: nullary main_while1b_cst_19 (constant S_ .f32 0x3F800000#32)
  :: unary main_while1b_cst_19 main_while1b_v86 (broadcastInDim S32x150 ![] bcast_S_S32x150 : Arr F S_ → Arr F S32x150)
  :: binary main_while1b_v86 main_while1b_v85 main_while1b_v87 (addf : Arr F S32x150 → Arr F S32x150 → Arr F S32x150)
  :: nullary main_while1b_cst_20 (constant S_ .f32 0x3F800000#32)
  :: unary main_while1b_cst_20 main_while1b_v88 (broadcastInDim S32x150 ![] bcast_S_S32x150 : Arr F S_ → Arr F S32x150)
  :: binary main_while1b_v88 main_while1b_v87 main_while1b_v89 (Host.divf : Arr F S32x150 → Arr F S32x150 → Arr F S32x150)
  :: unary main_while1b_v83 main_while1b_v90 (Host.tanh : Arr F S32x150 → Arr F S32x150)
  :: binary main_while1b_v89 main_while1b_v90 main_while1b_v91 (mulf : Arr F S32x150 → Arr F S32x150 → Arr F S32x150)
  :: [] )
theorem while1Ops0_1_sub : (while1Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
abbrev while1Ops0_2 : List (HloOp τ sig (Elt F)) :=
  [ TRef.unary (.of main_while1b_v91 : TRef sig ⟨S32x150, .f32⟩) (.of main_while1b_call3_v0 : TRef sig ⟨S1x32x150, .f32⟩) (broadcastInDim S1x32x150 ![1, 2] bcast_S32x150_S1x32x150_1_2),
    TRef.nullary (.of main_while1b_call3_c : TRef sig ⟨S_, .i32⟩) (constantI S_ 32 0#32),
    TRef.nullary (.of main_while1b_call3_c_0 : TRef sig ⟨S_, .i32⟩) (constantI S_ 32 0#32),
    TRef.binaryIndexed (.of main_v32_8 : TRef sig ⟨S128x32x150, .f32⟩) (.of main_while1b_call3_v0 : TRef sig ⟨S1x32x150, .f32⟩) ![(.of main_v32_5 : TRef sig ⟨S_, .i32⟩), (.of main_while1b_call3_c : TRef sig ⟨S_, .i32⟩), (.of main_while1b_call3_c_0 : TRef sig ⟨S_, .i32⟩)] (.of main_while1b_v92 : TRef sig ⟨S128x32x150, .f32⟩) (fun x u i => Host.dynamicUpdateSlice x u (fun k => (i k (Shape.Idx.first h_S_)).toInt) updateFits_S128x32x150_S1x32x150) ]
theorem while1Ops0_2_sub : (while1Ops0_2 : List (HloOp τ sig (Elt F))).Forall fun op => op.bufs ⊆ tcRefs τ sig :=
  ⟨unary_bufs_sub .., nullary_bufs_sub .., nullary_bufs_sub .., binaryIndexed_bufs_sub ..⟩
abbrev while1Ops0_3 : List (HloOp τ sig (Elt F)) :=
  [ nullary main_while1b_c_21 (constantI S_ 32 1#32),
    binary main_v32_5 main_while1b_c_21 main_while1b_v93 (addi : (⟨S_, .i32⟩ : BufTy).Contents (Elt F) → (⟨S_, .i32⟩ : BufTy).Contents (Elt F) → (⟨S_, .i32⟩ : BufTy).Contents (Elt F)),
    unary main_while1b_v93 main_v32_5 id,
    unary main_while1b_v91 main_v32_6 id,
    unary main_while1b_v83 main_v32_7 id,
    unary main_while1b_v92 main_v32_8 id ]
theorem while1Ops0_3_sub : (while1Ops0_3 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem while1_body_chain : main_while1_body (F := F) = (Pipeline.chain
  [ seq while1Ops0,
    seq while1Ops0_1,
    seq while1Ops0_2,
    seq while1Ops0_3 ] : Prog (TpuEff nD τ sig (Elt F) (HostLoop.Sig (Pipeline.Sig Λ₀ (Fin 0) fun p => (pcfgs (F := F) p).Adm) 3) .tc) PUnit) := by
  rewrite [Pipeline.chain_cons, chain_seq_cons, Pipeline.chain_cons, chain_seq_cons]
  chain_rfl

abbrev while2Ops0 : List (HloOp τ sig (Elt F)) :=
  [ TRef.nullary (.of main_while2b_call4_c : TRef sig ⟨S_, .i32⟩) (constantI S_ 32 0#32),
    TRef.nullary (.of main_while2b_call4_c_0 : TRef sig ⟨S_, .i32⟩) (constantI S_ 32 0#32),
    TRef.unaryIndexed (.of main_v44_0 : TRef sig ⟨S128x32x300, .f32⟩) ![(.of main_v44_5 : TRef sig ⟨S_, .i32⟩), (.of main_while2b_call4_c : TRef sig ⟨S_, .i32⟩), (.of main_while2b_call4_c_0 : TRef sig ⟨S_, .i32⟩)] (.of main_while2b_call4_v0 : TRef sig ⟨S1x32x300, .f32⟩) (fun x i => Host.dynamicSlice S1x32x300 x (fun k => (i k (Shape.Idx.first h_S_)).toInt) sliceFits_S128x32x300_S1x32x300),
    TRef.reshape (.of main_while2b_call4_v0 : TRef sig ⟨S1x32x300, .f32⟩) (.of main_while2b_v52 : TRef sig ⟨S32x300, .f32⟩) (rfl : (.f32 : EltTy) = .f32) shapeCasts_S1x32x300_S32x300 ]
theorem while2Ops0_sub : (while2Ops0 : List (HloOp τ sig (Elt F))).Forall fun op => op.bufs ⊆ tcRefs τ sig :=
  ⟨nullary_bufs_sub .., nullary_bufs_sub .., unaryIndexed_bufs_sub .., reshape_bufs_sub ..⟩
abbrev while2Ops0_1 : List (HloOp τ sig (Elt F)) :=
  ( unary main_v44_1 main_while2b_v53 ((transpose S300x450 [1, 0] · transposes_S450x300_S300x450_1_0) : Arr F S450x300 → Arr F S300x450)
  :: binary main_while2b_v52 main_while2b_v53 main_while2b_v54 ((fun l r => Host.dotGeneral dot_S32x300_S300x450_S32x450_1_0_0_1_n_n none l r) : Arr F S32x300 → Arr F S300x450 → Arr F S32x450)
  :: unary main_v44_2 main_while2b_v55 (broadcastInDim S1x450 ![1] bcast_S450_S1x450_1 : Arr F S450 → Arr F S1x450)
  :: unary main_while2b_v55 main_while2b_v56 (broadcastInDim S32x450 ![0, 1] bcast_S1x450_S32x450_0_1 : Arr F S1x450 → Arr F S32x450)
  :: binary main_while2b_v54 main_while2b_v56 main_while2b_v57 (addf : Arr F S32x450 → Arr F S32x450 → Arr F S32x450)
  :: unary main_v44_3 main_while2b_v58 ((transpose S150x450 [1, 0] · transposes_S450x150_S150x450_1_0) : Arr F S450x150 → Arr F S150x450)
  :: binary main_v44_6 main_while2b_v58 main_while2b_v59 ((fun l r => Host.dotGeneral dot_S32x150_S150x450_S32x450_1_0_0_1_n_n none l r) : Arr F S32x150 → Arr F S150x450 → Arr F S32x450)
  :: unary main_v44_4 main_while2b_v60 (broadcastInDim S1x450 ![1] bcast_S450_S1x450_1 : Arr F S450 → Arr F S1x450)
  :: unary main_while2b_v60 main_while2b_v61 (broadcastInDim S32x450 ![0, 1] bcast_S1x450_S32x450_0_1 : Arr F S1x450 → Arr F S32x450)
  :: binary main_while2b_v59 main_while2b_v61 main_while2b_v62 (addf : Arr F S32x450 → Arr F S32x450 → Arr F S32x450)
  :: unary main_while2b_v57 main_while2b_v63 ((extractStridedSlice S32x150 ![0, 0] · slices_S32x450_S32x150_0_0) : Arr F S32x450 → Arr F S32x150)
  :: unary main_while2b_v57 main_while2b_v64 ((extractStridedSlice S32x150 ![0, 150] · slices_S32x450_S32x150_0_150) : Arr F S32x450 → Arr F S32x150)
  :: unary main_while2b_v57 main_while2b_v65 ((extractStridedSlice S32x150 ![0, 300] · slices_S32x450_S32x150_0_300) : Arr F S32x450 → Arr F S32x150)
  :: unary main_while2b_v62 main_while2b_v66 ((extractStridedSlice S32x150 ![0, 0] · slices_S32x450_S32x150_0_0) : Arr F S32x450 → Arr F S32x150)
  :: unary main_while2b_v62 main_while2b_v67 ((extractStridedSlice S32x150 ![0, 150] · slices_S32x450_S32x150_0_150) : Arr F S32x450 → Arr F S32x150)
  :: unary main_while2b_v62 main_while2b_v68 ((extractStridedSlice S32x150 ![0, 300] · slices_S32x450_S32x150_0_300) : Arr F S32x450 → Arr F S32x150)
  :: binary main_while2b_v63 main_while2b_v66 main_while2b_v69 (addf : Arr F S32x150 → Arr F S32x150 → Arr F S32x150)
  :: unary main_while2b_v69 main_while2b_v70 (Host.negf : Arr F S32x150 → Arr F S32x150)
  :: unary main_while2b_v70 main_while2b_v71 (Host.exp : Arr F S32x150 → Arr F S32x150)
  :: nullary main_while2b_cst_14 (constant S_ .f32 0x3F800000#32)
  :: unary main_while2b_cst_14 main_while2b_v72 (broadcastInDim S32x150 ![] bcast_S_S32x150 : Arr F S_ → Arr F S32x150)
  :: binary main_while2b_v72 main_while2b_v71 main_while2b_v73 (addf : Arr F S32x150 → Arr F S32x150 → Arr F S32x150)
  :: nullary main_while2b_cst_15 (constant S_ .f32 0x3F800000#32)
  :: unary main_while2b_cst_15 main_while2b_v74 (broadcastInDim S32x150 ![] bcast_S_S32x150 : Arr F S_ → Arr F S32x150)
  :: binary main_while2b_v74 main_while2b_v73 main_while2b_v75 (Host.divf : Arr F S32x150 → Arr F S32x150 → Arr F S32x150)
  :: binary main_while2b_v64 main_while2b_v67 main_while2b_v76 (addf : Arr F S32x150 → Arr F S32x150 → Arr F S32x150)
  :: unary main_while2b_v76 main_while2b_v77 (Host.negf : Arr F S32x150 → Arr F S32x150)
  :: unary main_while2b_v77 main_while2b_v78 (Host.exp : Arr F S32x150 → Arr F S32x150)
  :: nullary main_while2b_cst_16 (constant S_ .f32 0x3F800000#32)
  :: unary main_while2b_cst_16 main_while2b_v79 (broadcastInDim S32x150 ![] bcast_S_S32x150 : Arr F S_ → Arr F S32x150)
  :: binary main_while2b_v79 main_while2b_v78 main_while2b_v80 (addf : Arr F S32x150 → Arr F S32x150 → Arr F S32x150)
  :: nullary main_while2b_cst_17 (constant S_ .f32 0x3F800000#32)
  :: unary main_while2b_cst_17 main_while2b_v81 (broadcastInDim S32x150 ![] bcast_S_S32x150 : Arr F S_ → Arr F S32x150)
  :: binary main_while2b_v81 main_while2b_v80 main_while2b_v82 (Host.divf : Arr F S32x150 → Arr F S32x150 → Arr F S32x150)
  :: binary main_while2b_v75 main_while2b_v68 main_while2b_v83 (mulf : Arr F S32x150 → Arr F S32x150 → Arr F S32x150)
  :: binary main_while2b_v65 main_while2b_v83 main_while2b_v84 (addf : Arr F S32x150 → Arr F S32x150 → Arr F S32x150)
  :: unary main_while2b_v84 main_while2b_v85 (Host.tanh : Arr F S32x150 → Arr F S32x150)
  :: nullary main_while2b_cst_18 (constant S_ .f32 0x3F800000#32)
  :: unary main_while2b_cst_18 main_while2b_v86 (broadcastInDim S32x150 ![] bcast_S_S32x150 : Arr F S_ → Arr F S32x150)
  :: binary main_while2b_v86 main_while2b_v82 main_while2b_v87 (subf : Arr F S32x150 → Arr F S32x150 → Arr F S32x150)
  :: binary main_while2b_v87 main_while2b_v85 main_while2b_v88 (mulf : Arr F S32x150 → Arr F S32x150 → Arr F S32x150)
  :: binary main_while2b_v82 main_v44_6 main_while2b_v89 (mulf : Arr F S32x150 → Arr F S32x150 → Arr F S32x150)
  :: binary main_while2b_v88 main_while2b_v89 main_while2b_v90 (addf : Arr F S32x150 → Arr F S32x150 → Arr F S32x150)
  :: [] )
theorem while2Ops0_1_sub : (while2Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
abbrev while2Ops0_2 : List (HloOp τ sig (Elt F)) :=
  [ TRef.unary (.of main_while2b_v90 : TRef sig ⟨S32x150, .f32⟩) (.of main_while2b_call5_v0 : TRef sig ⟨S1x32x150, .f32⟩) (broadcastInDim S1x32x150 ![1, 2] bcast_S32x150_S1x32x150_1_2),
    TRef.nullary (.of main_while2b_call5_c : TRef sig ⟨S_, .i32⟩) (constantI S_ 32 0#32),
    TRef.nullary (.of main_while2b_call5_c_0 : TRef sig ⟨S_, .i32⟩) (constantI S_ 32 0#32),
    TRef.binaryIndexed (.of main_v44_7 : TRef sig ⟨S128x32x150, .f32⟩) (.of main_while2b_call5_v0 : TRef sig ⟨S1x32x150, .f32⟩) ![(.of main_v44_5 : TRef sig ⟨S_, .i32⟩), (.of main_while2b_call5_c : TRef sig ⟨S_, .i32⟩), (.of main_while2b_call5_c_0 : TRef sig ⟨S_, .i32⟩)] (.of main_while2b_v91 : TRef sig ⟨S128x32x150, .f32⟩) (fun x u i => Host.dynamicUpdateSlice x u (fun k => (i k (Shape.Idx.first h_S_)).toInt) updateFits_S128x32x150_S1x32x150) ]
theorem while2Ops0_2_sub : (while2Ops0_2 : List (HloOp τ sig (Elt F))).Forall fun op => op.bufs ⊆ tcRefs τ sig :=
  ⟨unary_bufs_sub .., nullary_bufs_sub .., nullary_bufs_sub .., binaryIndexed_bufs_sub ..⟩
abbrev while2Ops0_3 : List (HloOp τ sig (Elt F)) :=
  [ nullary main_while2b_c_19 (constantI S_ 32 1#32),
    binary main_v44_5 main_while2b_c_19 main_while2b_v92 (addi : (⟨S_, .i32⟩ : BufTy).Contents (Elt F) → (⟨S_, .i32⟩ : BufTy).Contents (Elt F) → (⟨S_, .i32⟩ : BufTy).Contents (Elt F)),
    unary main_while2b_v92 main_v44_5 id,
    unary main_while2b_v90 main_v44_6 id,
    unary main_while2b_v91 main_v44_7 id ]
theorem while2Ops0_3_sub : (while2Ops0_3 : List (HloOp τ sig (Elt F))).Forall fun op => op.bufs ⊆ tcRefs τ sig :=
  ⟨nullary_bufs_sub .., binary_bufs_sub .., unary_bufs_sub .., unary_bufs_sub .., unary_bufs_sub ..⟩
theorem while2_body_chain : main_while2_body (F := F) = (Pipeline.chain
  [ seq while2Ops0,
    seq while2Ops0_1,
    seq while2Ops0_2,
    seq while2Ops0_3 ] : Prog (TpuEff nD τ sig (Elt F) (HostLoop.Sig (Pipeline.Sig Λ₀ (Fin 0) fun p => (pcfgs (F := F) p).Adm) 3) .tc) PUnit) := by
  rewrite [Pipeline.chain_cons, chain_seq_cons, Pipeline.chain_cons, chain_seq_cons]
  chain_rfl

end Cert.ReferenceIdeal.Host

end
-- ==== Proof.RefLoop0.lean ====
/- Loop 0 of the reference: its condition, and what one trip leaves in the carried buffers. -/
module

public import proofs.«01_k».proof.Proof.RefOps

@[expose] public section

set_option maxRecDepth 1568

noncomputable section

namespace Cert.ReferenceIdeal.Loop0

open Cert.ReferenceIdeal Cert.ReferenceIdeal.Gen Cert.ReferenceIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem while0Ops0_fresh : (while0Ops0 : List (HloOp τ sig (Elt F))).Forall fun op => op.fresh = ∅ :=
  forall_fresh_of_map rfl

abbrev while0Ops0_W : List (Ref sig .tc) := [main_while0b_call0_c, main_while0b_call0_c_0, main_while0b_call0_v0, main_while0b_v52]

theorem while0Ops0_writes : (while0Ops0 : List (HloOp τ sig (Elt F))).Forall fun op => op.writes ⊆ (while0Ops0_W.map (Proc.devRef (τ := τ) .tc)).toFinset :=
  forall_writes_sub_of_map rfl

theorem while0Ops0_1_fresh : (while0Ops0_1 : List (HloOp τ sig (Elt F))).Forall fun op => op.fresh = ∅ :=
  forall_fresh_of_map rfl

abbrev while0Ops0_1_W : List (Ref sig .tc) := [main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_cst_15, main_while0b_v70, main_while0b_v71, main_while0b_cst_16, main_while0b_v72, main_while0b_v73, main_while0b_v74, main_while0b_v75, main_while0b_v76, main_while0b_cst_17, main_while0b_v77, main_while0b_v78, main_while0b_cst_18, main_while0b_v79, main_while0b_v80, main_while0b_v81, main_while0b_v82, main_while0b_v83, main_while0b_v84, main_while0b_v85, main_while0b_cst_19, main_while0b_v86, main_while0b_v87, main_while0b_cst_20, main_while0b_v88, main_while0b_v89, main_while0b_v90, main_while0b_v91]

theorem while0Ops0_1_writes : (while0Ops0_1 : List (HloOp τ sig (Elt F))).Forall fun op => op.writes ⊆ (while0Ops0_1_W.map (Proc.devRef (τ := τ) .tc)).toFinset :=
  forall_writes_sub_of_map rfl

theorem while0Ops0_2_fresh : (while0Ops0_2 : List (HloOp τ sig (Elt F))).Forall fun op => op.fresh = ∅ :=
  forall_fresh_of_map rfl

abbrev while0Ops0_2_W : List (Ref sig .tc) := [main_while0b_call1_v0, main_while0b_call1_c, main_while0b_call1_c_0, main_while0b_v92]

theorem while0Ops0_2_writes : (while0Ops0_2 : List (HloOp τ sig (Elt F))).Forall fun op => op.writes ⊆ (while0Ops0_2_W.map (Proc.devRef (τ := τ) .tc)).toFinset :=
  forall_writes_sub_of_map rfl

theorem while0Ops0_3_fresh : (while0Ops0_3 : List (HloOp τ sig (Elt F))).Forall fun op => op.fresh = ∅ :=
  forall_fresh_of_map rfl

abbrev while0Ops0_3_W : List (Ref sig .tc) := [main_while0b_c_21, main_while0b_v93, main_v18_5, main_v18_6, main_v18_7, main_v18_8]

theorem while0Ops0_3_writes : (while0Ops0_3 : List (HloOp τ sig (Elt F))).Forall fun op => op.writes ⊆ (while0Ops0_3_W.map (Proc.devRef (τ := τ) .tc)).toFinset :=
  forall_writes_sub_of_map rfl

/-- The condition's two operations: the bound, and the counter compared with it. -/
abbrev condOps : List (HloOp τ sig (Elt F)) :=
  [ nullary main_while0c_c_15 (constantI S_ 32 128#32),
    binary main_v18_5 main_while0c_c_15 main_while0c_v52 (cmpi .slt) ]

abbrev bodyI : List (List (HloOp τ sig (Elt F))) := [while0Ops0, while0Ops0_1, while0Ops0_2, while0Ops0_3]

theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))

abbrev condOps_W : List (Ref sig .tc) := [main_while0c_c_15, main_while0c_v52]
theorem condOps_writes : (condOps : List (HloOp τ sig (Elt F))).Forall fun op => op.writes ⊆ (condOps_W.map (Proc.devRef (τ := τ) .tc)).toFinset :=
  forall_writes_sub_of_map rfl

theorem ctr_cond (V : Valuation τ sig (Elt F)) : after condOps V (Proc.devRef .tc main_v18_5) = V (Proc.devRef .tc main_v18_5) :=
  after_of_writes_sub condOps V condOps_writes (by decide +kernel)
theorem ctr_while0Ops0 (V : Valuation τ sig (Elt F)) : after while0Ops0 V (Proc.devRef .tc main_v18_5) = V (Proc.devRef .tc main_v18_5) :=
  after_of_writes_sub while0Ops0 V while0Ops0_writes (by decide +kernel)
theorem ctr_while0Ops0_1 (V : Valuation τ sig (Elt F)) : after while0Ops0_1 V (Proc.devRef .tc main_v18_5) = V (Proc.devRef .tc main_v18_5) :=
  after_of_writes_sub while0Ops0_1 V while0Ops0_1_writes (by decide +kernel)
theorem ctr_while0Ops0_2 (V : Valuation τ sig (Elt F)) : after while0Ops0_2 V (Proc.devRef .tc main_v18_5) = V (Proc.devRef .tc main_v18_5) :=
  after_of_writes_sub while0Ops0_2 V while0Ops0_2_writes (by decide +kernel)

set_option maxRecDepth 100000 in
theorem ctr_step (X : Valuation τ sig (Elt F)) :
    after while0Ops0_3 X (Proc.devRef .tc main_v18_5) = addi (X (Proc.devRef .tc main_v18_5)) (constantI S_ 32 1#32) := by
  after_results
  rfl

/-- Before the `k`-th condition the counter is the loop's induction variable at `k`. -/
theorem atTrip_ctr (W₀ : Dev nD → Valuation τ sig (Elt F)) (h0 : ∀ c, W₀ c (Proc.devRef .tc main_v18_5) = fun _ => (0#32 : BitVec 32)) (c : Dev nD) :
    ∀ k, atTrip condOps bodyI W₀ k c (Proc.devRef .tc main_v18_5) = fun _ => Scf.iv 0#32 1#32 k
  | 0 => by rw [atTrip_zero, h0, Scf.iv_zero]
  | k + 1 => by
    rw [atTrip_succ]
    simp only [afterL_cons, afterL_nil]
    rw [ctr_step, ctr_while0Ops0_2, ctr_while0Ops0_1, ctr_while0Ops0, ctr_cond, atTrip_ctr W₀ h0 c k, Scf.iv_succ]
    rfl

set_option backward.isDefEq.respectTransparency.types false in
/-- The condition returns 1 exactly before the first 128 trips and changes nothing the body reads. -/
theorem loop_cond (W₀ : Dev nD → Valuation τ sig (Elt F)) (h0 : ∀ c, W₀ c (Proc.devRef .tc main_v18_5) = fun _ => (0#32 : BitVec 32))
    (Rc : Dev nD → sProp (MT nD τ sig Unit (Elt F) ℕ (Option PUnit) ℕ)) :
    LoopCond (pcfgs (F := F)) defs₀ Variants.none loops Rc (main_while0_cond (F := F)) condOps bodyI W₀ 128 := by
  intro k hk c bd
  have hctr := atTrip_ctr W₀ h0 c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v18_5 HostLoop.idx0)
        (HloOp.result _ (atTrip condOps bodyI W₀ k c) main_while0c_c_15 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

/-! ## One trip's values: the body's operations in windows, and the carried buffers after them -/
abbrev trip_w0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v18_0 : TRef sig ⟨S128x32x384, .f32⟩) ![(.of main_v18_5 : TRef sig ⟨S_, .i32⟩), (.of main_while0b_call0_c : TRef sig ⟨S_, .i32⟩), (.of main_while0b_call0_c_0 : TRef sig ⟨S_, .i32⟩)] (.of main_while0b_call0_v0 : TRef sig ⟨S1x32x384, .f32⟩) (fun x i => Host.dynamicSlice S1x32x384 x (fun k => (i k (Shape.Idx.first h_S_)).toInt) sliceFits_S128x32x384_S1x32x384) ]

abbrev trip_w1 : List (HloOp τ sig (Elt F)) :=
  [ TRef.reshape (.of main_while0b_call0_v0 : TRef sig ⟨S1x32x384, .f32⟩) (.of main_while0b_v52 : TRef sig ⟨S32x384, .f32⟩) (rfl : (.f32 : EltTy) = .f32) shapeCasts_S1x32x384_S32x384 ]

abbrev trip_w2 : List (HloOp τ sig (Elt F)) :=
  [ unary main_v18_1 main_while0b_v53 ((transpose S384x600 [1, 0] · transposes_S600x384_S384x600_1_0) : Arr F S600x384 → Arr F S384x600),
    binary main_while0b_v52 main_while0b_v53 main_while0b_v54 ((fun l r => Host.dotGeneral dot_S32x384_S384x600_S32x600_1_0_0_1_n_n none l r) : Arr F S32x384 → Arr F S384x600 → Arr F S32x600),
    unary main_v18_2 main_while0b_v55 (broadcastInDim S1x600 ![1] bcast_S600_S1x600_1 : Arr F S600 → Arr F S1x600),
    unary main_while0b_v55 main_while0b_v56 (broadcastInDim S32x600 ![0, 1] bcast_S1x600_S32x600_0_1 : Arr F S1x600 → Arr F S32x600),
    binary main_while0b_v54 main_while0b_v56 main_while0b_v57 (addf : Arr F S32x600 → Arr F S32x600 → Arr F S32x600),
    unary main_v18_3 main_while0b_v58 ((transpose S150x600 [1, 0] · transposes_S600x150_S150x600_1_0) : Arr F S600x150 → Arr F S150x600),
    binary main_v18_6 main_while0b_v58 main_while0b_v59 ((fun l r => Host.dotGeneral dot_S32x150_S150x600_S32x600_1_0_0_1_n_n none l r) : Arr F S32x150 → Arr F S150x600 → Arr F S32x600),
    binary main_while0b_v57 main_while0b_v59 main_while0b_v60 (addf : Arr F S32x600 → Arr F S32x600 → Arr F S32x600),
    unary main_v18_4 main_while0b_v61 (broadcastInDim S1x600 ![1] bcast_S600_S1x600_1 : Arr F S600 → Arr F S1x600),
    unary main_while0b_v61 main_while0b_v62 (broadcastInDim S32x600 ![0, 1] bcast_S1x600_S32x600_0_1 : Arr F S1x600 → Arr F S32x600),
    binary main_while0b_v60 main_while0b_v62 main_while0b_v63 (addf : Arr F S32x600 → Arr F S32x600 → Arr F S32x600),
    unary main_while0b_v63 main_while0b_v64 ((extractStridedSlice S32x150 ![0, 0] · slices_S32x600_S32x150_0_0) : Arr F S32x600 → Arr F S32x150),
    unary main_while0b_v63 main_while0b_v65 ((extractStridedSlice S32x150 ![0, 150] · slices_S32x600_S32x150_0_150) : Arr F S32x600 → Arr F S32x150),
    unary main_while0b_v63 main_while0b_v66 ((extractStridedSlice S32x150 ![0, 300] · slices_S32x600_S32x150_0_300) : Arr F S32x600 → Arr F S32x150),
    unary main_while0b_v63 main_while0b_v67 ((extractStridedSlice S32x150 ![0, 450] · slices_S32x600_S32x150_0_450) : Arr F S32x600 → Arr F S32x150),
    unary main_while0b_v65 main_while0b_v68 (Host.negf : Arr F S32x150 → Arr F S32x150),
    unary main_while0b_v68 main_while0b_v69 (Host.exp : Arr F S32x150 → Arr F S32x150),
    nullary main_while0b_cst_15 (constant S_ .f32 0x3F800000#32),
    unary main_while0b_cst_15 main_while0b_v70 (broadcastInDim S32x150 ![] bcast_S_S32x150 : Arr F S_ → Arr F S32x150),
    binary main_while0b_v70 main_while0b_v69 main_while0b_v71 (addf : Arr F S32x150 → Arr F S32x150 → Arr F S32x150),
    nullary main_while0b_cst_16 (constant S_ .f32 0x3F800000#32),
    unary main_while0b_cst_16 main_while0b_v72 (broadcastInDim S32x150 ![] bcast_S_S32x150 : Arr F S_ → Arr F S32x150),
    binary main_while0b_v72 main_while0b_v71 main_while0b_v73 (Host.divf : Arr F S32x150 → Arr F S32x150 → Arr F S32x150),
    binary main_while0b_v73 main_v18_7 main_while0b_v74 (mulf : Arr F S32x150 → Arr F S32x150 → Arr F S32x150) ]

abbrev trip_w3 : List (HloOp τ sig (Elt F)) :=
  [ unary main_while0b_v64 main_while0b_v75 (Host.negf : Arr F S32x150 → Arr F S32x150),
    unary main_while0b_v75 main_while0b_v76 (Host.exp : Arr F S32x150 → Arr F S32x150),
    nullary main_while0b_cst_17 (constant S_ .f32 0x3F800000#32),
    unary main_while0b_cst_17 main_while0b_v77 (broadcastInDim S32x150 ![] bcast_S_S32x150 : Arr F S_ → Arr F S32x150),
    binary main_while0b_v77 main_while0b_v76 main_while0b_v78 (addf : Arr F S32x150 → Arr F S32x150 → Arr F S32x150),
    nullary main_while0b_cst_18 (constant S_ .f32 0x3F800000#32),
    unary main_while0b_cst_18 main_while0b_v79 (broadcastInDim S32x150 ![] bcast_S_S32x150 : Arr F S_ → Arr F S32x150),
    binary main_while0b_v79 main_while0b_v78 main_while0b_v80 (Host.divf : Arr F S32x150 → Arr F S32x150 → Arr F S32x150),
    unary main_while0b_v66 main_while0b_v81 (Host.tanh : Arr F S32x150 → Arr F S32x150),
    binary main_while0b_v80 main_while0b_v81 main_while0b_v82 (mulf : Arr F S32x150 → Arr F S32x150 → Arr F S32x150),
    binary main_while0b_v74 main_while0b_v82 main_while0b_v83 (addf : Arr F S32x150 → Arr F S32x150 → Arr F S32x150),
    unary main_while0b_v67 main_while0b_v84 (Host.negf : Arr F S32x150 → Arr F S32x150),
    unary main_while0b_v84 main_while0b_v85 (Host.exp : Arr F S32x150 → Arr F S32x150),
    nullary main_while0b_cst_19 (constant S_ .f32 0x3F800000#32),
    unary main_while0b_cst_19 main_while0b_v86 (broadcastInDim S32x150 ![] bcast_S_S32x150 : Arr F S_ → Arr F S32x150),
    binary main_while0b_v86 main_while0b_v85 main_while0b_v87 (addf : Arr F S32x150 → Arr F S32x150 → Arr F S32x150),
    nullary main_while0b_cst_20 (constant S_ .f32 0x3F800000#32),
    unary main_while0b_cst_20 main_while0b_v88 (broadcastInDim S32x150 ![] bcast_S_S32x150 : Arr F S_ → Arr F S32x150),
    binary main_while0b_v88 main_while0b_v87 main_while0b_v89 (Host.divf : Arr F S32x150 → Arr F S32x150 → Arr F S32x150),
    unary main_while0b_v83 main_while0b_v90 (Host.tanh : Arr F S32x150 → Arr F S32x150),
    binary main_while0b_v89 main_while0b_v90 main_while0b_v91 (mulf : Arr F S32x150 → Arr F S32x150 → Arr F S32x150) ]

abbrev trip_w4 : List (HloOp τ sig (Elt F)) :=
  [ TRef.unary (.of main_while0b_v91 : TRef sig ⟨S32x150, .f32⟩) (.of main_while0b_call1_v0 : TRef sig ⟨S1x32x150, .f32⟩) (broadcastInDim S1x32x150 ![1, 2] bcast_S32x150_S1x32x150_1_2),
    TRef.nullary (.of main_while0b_call1_c : TRef sig ⟨S_, .i32⟩) (constantI S_ 32 0#32),
    TRef.nullary (.of main_while0b_call1_c_0 : TRef sig ⟨S_, .i32⟩) (constantI S_ 32 0#32),
    TRef.binaryIndexed (.of main_v18_8 : TRef sig ⟨S128x32x150, .f32⟩) (.of main_while0b_call1_v0 : TRef sig ⟨S1x32x150, .f32⟩) ![(.of main_v18_5 : TRef sig ⟨S_, .i32⟩), (.of main_while0b_call1_c : TRef sig ⟨S_, .i32⟩), (.of main_while0b_call1_c_0 : TRef sig ⟨S_, .i32⟩)] (.of main_while0b_v92 : TRef sig ⟨S128x32x150, .f32⟩) (fun x u i => Host.dynamicUpdateSlice x u (fun k => (i k (Shape.Idx.first h_S_)).toInt) updateFits_S128x32x150_S1x32x150) ]

set_option maxRecDepth 5000 in
theorem while0Ops0_cut : (while0Ops0 : List (HloOp τ sig (Elt F))) = trip_w0 ++ (trip_w1) := rfl
set_option maxRecDepth 5000 in
theorem while0Ops0_1_cut : (while0Ops0_1 : List (HloOp τ sig (Elt F))) = trip_w2 ++ (trip_w3) := rfl
set_option maxRecDepth 5000 in
theorem while0Ops0_2_cut : (while0Ops0_2 : List (HloOp τ sig (Elt F))) = trip_w4 := rfl

set_option maxRecDepth 8192 in
def res_main_while0b_v63 (V0 : Valuation τ sig (Elt F)) : (Proc.devRef .tc main_while0b_v63 : DevRef τ sig).ty.Contents (Elt F) :=
  addf (addf (addf (Host.dotGeneral dot_S32x384_S384x600_S32x600_1_0_0_1_n_n none (shapeCast S32x384 (Host.dynamicSlice S1x32x384 (V0 (Proc.devRef .tc main_v18_0)) (fun k => (((![V0 (Proc.devRef .tc main_v18_5), constantI S_ 32 0#32, constantI S_ 32 0#32] : Fin 3 → (⟨S_, .i32⟩ : BufTy).Contents (Elt F))) k (Shape.Idx.first h_S_)).toInt) sliceFits_S128x32x384_S1x32x384) shapeCasts_S1x32x384_S32x384) (transpose S384x600 [1, 0] (V0 (Proc.devRef .tc main_v18_1)) transposes_S600x384_S384x600_1_0)) (broadcastInDim S32x600 ![0, 1] bcast_S1x600_S32x600_0_1 (broadcastInDim S1x600 ![1] bcast_S600_S1x600_1 (V0 (Proc.devRef .tc main_v18_2))))) (Host.dotGeneral dot_S32x150_S150x600_S32x600_1_0_0_1_n_n none (V0 (Proc.devRef .tc main_v18_6)) (transpose S150x600 [1, 0] (V0 (Proc.devRef .tc main_v18_3)) transposes_S600x150_S150x600_1_0))) (broadcastInDim S32x600 ![0, 1] bcast_S1x600_S32x600_0_1 (broadcastInDim S1x600 ![1] bcast_S600_S1x600_1 (V0 (Proc.devRef .tc main_v18_4))))

set_option maxRecDepth 8192 in
def res_main_while0b_v83 (V0 : Valuation τ sig (Elt F)) : (Proc.devRef .tc main_while0b_v83 : DevRef τ sig).ty.Contents (Elt F) :=
  addf (mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 150] (res_main_while0b_v63 V0) slices_S32x600_S32x150_0_150))))) (V0 (Proc.devRef .tc main_v18_7))) (mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 0] (res_main_while0b_v63 V0) slices_S32x600_S32x150_0_0))))) (Host.tanh (extractStridedSlice S32x150 ![0, 300] (res_main_while0b_v63 V0) slices_S32x600_S32x150_0_300)))

set_option maxRecDepth 8192 in
def res_main_while0b_v91 (V0 : Valuation τ sig (Elt F)) : (Proc.devRef .tc main_while0b_v91 : DevRef τ sig).ty.Contents (Elt F) :=
  mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 450] (res_main_while0b_v63 V0) slices_S32x600_S32x150_0_450))))) (Host.tanh (res_main_while0b_v83 V0))

/-- The buffers that a trip carries; no window but the last operations writes one. -/
abbrev carried : List (Ref sig .tc) := [main_v18_0, main_v18_1, main_v18_2, main_v18_3, main_v18_4, main_v18_5, main_v18_6, main_v18_7, main_v18_8]

def val0 (V0 : Valuation τ sig (Elt F)) : Valuation τ sig (Elt F) := V0
theorem val0_carried (V0 : Valuation τ sig (Elt F)) (r : Ref sig .tc) (h : r ∈ carried) : val0 V0 (Proc.devRef .tc r) = V0 (Proc.devRef .tc r) := rfl
theorem val0_main_v18_0 (V0 : Valuation τ sig (Elt F)) : val0 V0 (no_index (Proc.devRef .tc main_v18_0)) = V0 (Proc.devRef .tc main_v18_0) := val0_carried V0 _ (by decide)
theorem val0_main_v18_5 (V0 : Valuation τ sig (Elt F)) : val0 V0 (no_index (Proc.devRef .tc main_v18_5)) = V0 (Proc.devRef .tc main_v18_5) := val0_carried V0 _ (by decide)

def val1 (V0 : Valuation τ sig (Elt F)) : Valuation τ sig (Elt F) := after trip_w0 (val0 V0)
abbrev trip_w0_W : List (Ref sig .tc) := [main_while0b_call0_c, main_while0b_call0_c_0, main_while0b_call0_v0]
theorem trip_w0_writes : (trip_w0 : List (HloOp τ sig (Elt F))).Forall fun op => op.writes ⊆ (trip_w0_W.map (Proc.devRef (τ := τ) .tc)).toFinset :=
  forall_writes_sub_of_map rfl
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_carried (V0 : Valuation τ sig (Elt F)) (r : Ref sig .tc) (h : r ∈ carried) : val1 V0 (Proc.devRef .tc r) = V0 (Proc.devRef .tc r) :=
  (val1_keep V0 r ((by decide +kernel : ∀ r ∈ carried, r ∉ trip_w0_W) r h)).trans (val0_carried V0 r h)
set_option maxRecDepth 8192 in
theorem val1_main_while0b_call0_v0 (V0 : Valuation τ sig (Elt F)) : val1 V0 (no_index (Proc.devRef .tc main_while0b_call0_v0)) = Host.dynamicSlice S1x32x384 (V0 (Proc.devRef .tc main_v18_0)) (fun k => (((![V0 (Proc.devRef .tc main_v18_5), constantI S_ 32 0#32, constantI S_ 32 0#32] : Fin 3 → (⟨S_, .i32⟩ : BufTy).Contents (Elt F))) k (Shape.Idx.first h_S_)).toInt) sliceFits_S128x32x384_S1x32x384 := by
  unfold val1
  simp only [trip_w0]
  after_results_entrywise [val0_main_v18_5, val0_main_v18_0, cast_eq]

def val2 (V0 : Valuation τ sig (Elt F)) : Valuation τ sig (Elt F) := after trip_w1 (val1 V0)
abbrev trip_w1_W : List (Ref sig .tc) := [main_while0b_v52]
theorem trip_w1_writes : (trip_w1 : List (HloOp τ sig (Elt F))).Forall fun op => op.writes ⊆ (trip_w1_W.map (Proc.devRef (τ := τ) .tc)).toFinset :=
  forall_writes_sub_of_map rfl
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_carried (V0 : Valuation τ sig (Elt F)) (r : Ref sig .tc) (h : r ∈ carried) : val2 V0 (Proc.devRef .tc r) = V0 (Proc.devRef .tc r) :=
  (val2_keep V0 r ((by decide +kernel : ∀ r ∈ carried, r ∉ trip_w1_W) r h)).trans (val1_carried V0 r h)
theorem val2_main_v18_1 (V0 : Valuation τ sig (Elt F)) : val2 V0 (no_index (Proc.devRef .tc main_v18_1)) = V0 (Proc.devRef .tc main_v18_1) := val2_carried V0 _ (by decide)
theorem val2_main_v18_2 (V0 : Valuation τ sig (Elt F)) : val2 V0 (no_index (Proc.devRef .tc main_v18_2)) = V0 (Proc.devRef .tc main_v18_2) := val2_carried V0 _ (by decide)
theorem val2_main_v18_3 (V0 : Valuation τ sig (Elt F)) : val2 V0 (no_index (Proc.devRef .tc main_v18_3)) = V0 (Proc.devRef .tc main_v18_3) := val2_carried V0 _ (by decide)
theorem val2_main_v18_6 (V0 : Valuation τ sig (Elt F)) : val2 V0 (no_index (Proc.devRef .tc main_v18_6)) = V0 (Proc.devRef .tc main_v18_6) := val2_carried V0 _ (by decide)
theorem val2_main_v18_4 (V0 : Valuation τ sig (Elt F)) : val2 V0 (no_index (Proc.devRef .tc main_v18_4)) = V0 (Proc.devRef .tc main_v18_4) := val2_carried V0 _ (by decide)
theorem val2_main_v18_7 (V0 : Valuation τ sig (Elt F)) : val2 V0 (no_index (Proc.devRef .tc main_v18_7)) = V0 (Proc.devRef .tc main_v18_7) := val2_carried V0 _ (by decide)
set_option maxRecDepth 8192 in
theorem val2_main_while0b_v52 (V0 : Valuation τ sig (Elt F)) : val2 V0 (no_index (Proc.devRef .tc main_while0b_v52)) = shapeCast S32x384 (Host.dynamicSlice S1x32x384 (V0 (Proc.devRef .tc main_v18_0)) (fun k => (((![V0 (Proc.devRef .tc main_v18_5), constantI S_ 32 0#32, constantI S_ 32 0#32] : Fin 3 → (⟨S_, .i32⟩ : BufTy).Contents (Elt F))) k (Shape.Idx.first h_S_)).toInt) sliceFits_S128x32x384_S1x32x384) shapeCasts_S1x32x384_S32x384 := by
  unfold val2
  simp only [trip_w1]
  after_results_entrywise [val1_main_while0b_call0_v0, cast_eq]

def val3 (V0 : Valuation τ sig (Elt F)) : Valuation τ sig (Elt F) := after trip_w2 (val2 V0)
abbrev trip_w2_W : List (Ref sig .tc) := [main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_cst_15, main_while0b_v70, main_while0b_v71, main_while0b_cst_16, main_while0b_v72, main_while0b_v73, main_while0b_v74]
theorem trip_w2_writes : (trip_w2 : List (HloOp τ sig (Elt F))).Forall fun op => op.writes ⊆ (trip_w2_W.map (Proc.devRef (τ := τ) .tc)).toFinset :=
  forall_writes_sub_of_map rfl
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_carried (V0 : Valuation τ sig (Elt F)) (r : Ref sig .tc) (h : r ∈ carried) : val3 V0 (Proc.devRef .tc r) = V0 (Proc.devRef .tc r) :=
  (val3_keep V0 r ((by decide +kernel : ∀ r ∈ carried, r ∉ trip_w2_W) r h)).trans (val2_carried V0 r h)
set_option maxRecDepth 8192 in
set_option maxHeartbeats 2000000 in
theorem val3_main_while0b_v64 (V0 : Valuation τ sig (Elt F)) : val3 V0 (no_index (Proc.devRef .tc main_while0b_v64)) = extractStridedSlice S32x150 ![0, 0] (res_main_while0b_v63 V0) slices_S32x600_S32x150_0_0 := by
  unfold val3
  simp only [trip_w2]
  after_results_entrywise [val2_main_v18_4, val2_main_v18_3, val2_main_v18_6, val2_main_v18_2, val2_main_v18_1, val2_main_while0b_v52, res_main_while0b_v63, cast_eq]
set_option maxRecDepth 8192 in
set_option maxHeartbeats 2000000 in
theorem val3_main_while0b_v66 (V0 : Valuation τ sig (Elt F)) : val3 V0 (no_index (Proc.devRef .tc main_while0b_v66)) = extractStridedSlice S32x150 ![0, 300] (res_main_while0b_v63 V0) slices_S32x600_S32x150_0_300 := by
  unfold val3
  simp only [trip_w2]
  after_results_entrywise [val2_main_v18_4, val2_main_v18_3, val2_main_v18_6, val2_main_v18_2, val2_main_v18_1, val2_main_while0b_v52, res_main_while0b_v63, cast_eq]
set_option maxRecDepth 8192 in
set_option maxHeartbeats 2000000 in
theorem val3_main_while0b_v67 (V0 : Valuation τ sig (Elt F)) : val3 V0 (no_index (Proc.devRef .tc main_while0b_v67)) = extractStridedSlice S32x150 ![0, 450] (res_main_while0b_v63 V0) slices_S32x600_S32x150_0_450 := by
  unfold val3
  simp only [trip_w2]
  after_results_entrywise [val2_main_v18_4, val2_main_v18_3, val2_main_v18_6, val2_main_v18_2, val2_main_v18_1, val2_main_while0b_v52, res_main_while0b_v63, cast_eq]
set_option maxRecDepth 8192 in
set_option maxHeartbeats 2000000 in
theorem val3_main_while0b_v74 (V0 : Valuation τ sig (Elt F)) : val3 V0 (no_index (Proc.devRef .tc main_while0b_v74)) = mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 150] (res_main_while0b_v63 V0) slices_S32x600_S32x150_0_150))))) (V0 (Proc.devRef .tc main_v18_7)) := by
  unfold val3
  simp only [trip_w2]
  after_results_entrywise [val2_main_v18_7, val2_main_v18_4, val2_main_v18_3, val2_main_v18_6, val2_main_v18_2, val2_main_v18_1, val2_main_while0b_v52, res_main_while0b_v63, cast_eq]

def val4 (V0 : Valuation τ sig (Elt F)) : Valuation τ sig (Elt F) := after trip_w3 (val3 V0)
abbrev trip_w3_W : List (Ref sig .tc) := [main_while0b_v75, main_while0b_v76, main_while0b_cst_17, main_while0b_v77, main_while0b_v78, main_while0b_cst_18, main_while0b_v79, main_while0b_v80, main_while0b_v81, main_while0b_v82, main_while0b_v83, main_while0b_v84, main_while0b_v85, main_while0b_cst_19, main_while0b_v86, main_while0b_v87, main_while0b_cst_20, main_while0b_v88, main_while0b_v89, main_while0b_v90, main_while0b_v91]
theorem trip_w3_writes : (trip_w3 : List (HloOp τ sig (Elt F))).Forall fun op => op.writes ⊆ (trip_w3_W.map (Proc.devRef (τ := τ) .tc)).toFinset :=
  forall_writes_sub_of_map rfl
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_carried (V0 : Valuation τ sig (Elt F)) (r : Ref sig .tc) (h : r ∈ carried) : val4 V0 (Proc.devRef .tc r) = V0 (Proc.devRef .tc r) :=
  (val4_keep V0 r ((by decide +kernel : ∀ r ∈ carried, r ∉ trip_w3_W) r h)).trans (val3_carried V0 r h)
theorem val4_main_v18_5 (V0 : Valuation τ sig (Elt F)) : val4 V0 (no_index (Proc.devRef .tc main_v18_5)) = V0 (Proc.devRef .tc main_v18_5) := val4_carried V0 _ (by decide)
theorem val4_main_v18_8 (V0 : Valuation τ sig (Elt F)) : val4 V0 (no_index (Proc.devRef .tc main_v18_8)) = V0 (Proc.devRef .tc main_v18_8) := val4_carried V0 _ (by decide)
set_option maxRecDepth 8192 in
set_option maxHeartbeats 2000000 in
theorem val4_main_while0b_v83 (V0 : Valuation τ sig (Elt F)) : val4 V0 (no_index (Proc.devRef .tc main_while0b_v83)) = res_main_while0b_v83 V0 := by
  unfold val4
  simp only [trip_w3]
  after_results_entrywise [val3_main_while0b_v66, val3_main_while0b_v64, val3_main_while0b_v74, res_main_while0b_v83, cast_eq]
set_option maxRecDepth 8192 in
set_option maxHeartbeats 2000000 in
theorem val4_main_while0b_v91 (V0 : Valuation τ sig (Elt F)) : val4 V0 (no_index (Proc.devRef .tc main_while0b_v91)) = res_main_while0b_v91 V0 := by
  unfold val4
  simp only [trip_w3]
  after_results_entrywise [val3_main_while0b_v66, val3_main_while0b_v64, val3_main_while0b_v74, val3_main_while0b_v67, res_main_while0b_v83, res_main_while0b_v91, cast_eq]

def val5 (V0 : Valuation τ sig (Elt F)) : Valuation τ sig (Elt F) := after trip_w4 (val4 V0)
abbrev trip_w4_W : List (Ref sig .tc) := [main_while0b_call1_v0, main_while0b_call1_c, main_while0b_call1_c_0, main_while0b_v92]
theorem trip_w4_writes : (trip_w4 : List (HloOp τ sig (Elt F))).Forall fun op => op.writes ⊆ (trip_w4_W.map (Proc.devRef (τ := τ) .tc)).toFinset :=
  forall_writes_sub_of_map rfl
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_carried (V0 : Valuation τ sig (Elt F)) (r : Ref sig .tc) (h : r ∈ carried) : val5 V0 (Proc.devRef .tc r) = V0 (Proc.devRef .tc r) :=
  (val5_keep V0 r ((by decide +kernel : ∀ r ∈ carried, r ∉ trip_w4_W) r h)).trans (val4_carried V0 r h)
theorem val5_main_v18_0 (V0 : Valuation τ sig (Elt F)) : val5 V0 (no_index (Proc.devRef .tc main_v18_0)) = V0 (Proc.devRef .tc main_v18_0) := val5_carried V0 _ (by decide)
theorem val5_main_v18_5 (V0 : Valuation τ sig (Elt F)) : val5 V0 (no_index (Proc.devRef .tc main_v18_5)) = V0 (Proc.devRef .tc main_v18_5) := val5_carried V0 _ (by decide)
theorem val5_main_v18_1 (V0 : Valuation τ sig (Elt F)) : val5 V0 (no_index (Proc.devRef .tc main_v18_1)) = V0 (Proc.devRef .tc main_v18_1) := val5_carried V0 _ (by decide)
theorem val5_main_v18_2 (V0 : Valuation τ sig (Elt F)) : val5 V0 (no_index (Proc.devRef .tc main_v18_2)) = V0 (Proc.devRef .tc main_v18_2) := val5_carried V0 _ (by decide)
theorem val5_main_v18_3 (V0 : Valuation τ sig (Elt F)) : val5 V0 (no_index (Proc.devRef .tc main_v18_3)) = V0 (Proc.devRef .tc main_v18_3) := val5_carried V0 _ (by decide)
theorem val5_main_v18_6 (V0 : Valuation τ sig (Elt F)) : val5 V0 (no_index (Proc.devRef .tc main_v18_6)) = V0 (Proc.devRef .tc main_v18_6) := val5_carried V0 _ (by decide)
theorem val5_main_v18_4 (V0 : Valuation τ sig (Elt F)) : val5 V0 (no_index (Proc.devRef .tc main_v18_4)) = V0 (Proc.devRef .tc main_v18_4) := val5_carried V0 _ (by decide)
theorem val5_main_v18_7 (V0 : Valuation τ sig (Elt F)) : val5 V0 (no_index (Proc.devRef .tc main_v18_7)) = V0 (Proc.devRef .tc main_v18_7) := val5_carried V0 _ (by decide)
theorem val5_main_v18_8 (V0 : Valuation τ sig (Elt F)) : val5 V0 (no_index (Proc.devRef .tc main_v18_8)) = V0 (Proc.devRef .tc main_v18_8) := val5_carried V0 _ (by decide)
theorem val5_main_while0b_v83 (V0 : Valuation τ sig (Elt F)) : val5 V0 (no_index (Proc.devRef .tc main_while0b_v83)) = res_main_while0b_v83 V0 :=
  (val5_keep V0 main_while0b_v83 (by decide)).trans (val4_main_while0b_v83 V0)
theorem val5_main_while0b_v91 (V0 : Valuation τ sig (Elt F)) : val5 V0 (no_index (Proc.devRef .tc main_while0b_v91)) = res_main_while0b_v91 V0 :=
  (val5_keep V0 main_while0b_v91 (by decide)).trans (val4_main_while0b_v91 V0)
set_option maxRecDepth 8192 in
theorem val5_main_while0b_v92 (V0 : Valuation τ sig (Elt F)) : val5 V0 (no_index (Proc.devRef .tc main_while0b_v92)) = Host.dynamicUpdateSlice (V0 (Proc.devRef .tc main_v18_8)) (broadcastInDim S1x32x150 ![1, 2] bcast_S32x150_S1x32x150_1_2 (res_main_while0b_v91 V0)) (fun k => (((![V0 (Proc.devRef .tc main_v18_5), constantI S_ 32 0#32, constantI S_ 32 0#32] : Fin 3 → (⟨S_, .i32⟩ : BufTy).Contents (Elt F))) k (Shape.Idx.first h_S_)).toInt) updateFits_S128x32x150_S1x32x150 := by
  unfold val5
  simp only [trip_w4]
  after_results_entrywise [val4_main_v18_5, val4_main_while0b_v91, val4_main_v18_8, cast_eq]

set_option maxRecDepth 8192 in
theorem trip_windows (V0 : Valuation τ sig (Elt F)) : after while0Ops0_2 (after while0Ops0_1 (after while0Ops0 (V0))) = val5 V0 := by
  simp only [while0Ops0_cut, while0Ops0_1_cut, while0Ops0_2_cut, after_append]
  rfl

set_option maxRecDepth 8192 in
set_option maxHeartbeats 2000000 in
theorem trip_main_v18_0 (V0 : Valuation τ sig (Elt F)) : afterL bodyI V0 (no_index (Proc.devRef .tc main_v18_0)) = V0 (Proc.devRef .tc main_v18_0) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_1 (V0 : Valuation τ sig (Elt F)) : afterL bodyI V0 (no_index (Proc.devRef .tc main_v18_1)) = V0 (Proc.devRef .tc main_v18_1) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_2 (V0 : Valuation τ sig (Elt F)) : afterL bodyI V0 (no_index (Proc.devRef .tc main_v18_2)) = V0 (Proc.devRef .tc main_v18_2) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_3 (V0 : Valuation τ sig (Elt F)) : afterL bodyI V0 (no_index (Proc.devRef .tc main_v18_3)) = V0 (Proc.devRef .tc main_v18_3) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_4 (V0 : Valuation τ sig (Elt F)) : afterL bodyI V0 (no_index (Proc.devRef .tc main_v18_4)) = V0 (Proc.devRef .tc main_v18_4) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_5 (V0 : Valuation τ sig (Elt F)) : afterL bodyI V0 (no_index (Proc.devRef .tc main_v18_5)) = id (addi (V0 (Proc.devRef .tc main_v18_5)) (constantI S_ 32 1#32)) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_6 (V0 : Valuation τ sig (Elt F)) : afterL bodyI V0 (no_index (Proc.devRef .tc main_v18_6)) = id (res_main_while0b_v91 V0) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_7 (V0 : Valuation τ sig (Elt F)) : afterL bodyI V0 (no_index (Proc.devRef .tc main_v18_7)) = id (res_main_while0b_v83 V0) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl
set_option maxRecDepth 8192 in
set_option maxHeartbeats 2000000 in
theorem trip_main_v18_8 (V0 : Valuation τ sig (Elt F)) : afterL bodyI V0 (no_index (Proc.devRef .tc main_v18_8)) = id (Host.dynamicUpdateSlice (V0 (Proc.devRef .tc main_v18_8)) (broadcastInDim S1x32x150 ![1, 2] bcast_S32x150_S1x32x150_1_2 (res_main_while0b_v91 V0)) (fun k => (((![V0 (Proc.devRef .tc main_v18_5), constantI S_ 32 0#32, constantI S_ 32 0#32] : Fin 3 → (⟨S_, .i32⟩ : BufTy).Contents (Elt F))) k (Shape.Idx.first h_S_)).toInt) updateFits_S128x32x150_S1x32x150) := by
  simp only [bodyI, afterL_cons, afterL_nil, trip_windows]
  after_results
  all_goals (try simp only [val5_main_while0b_v91, val5_main_while0b_v83, val5_main_while0b_v92, val5_main_v18_0, val5_main_v18_1, val5_main_v18_2, val5_main_v18_3, val5_main_v18_4, val5_main_v18_5, val5_main_v18_6, val5_main_v18_7, val5_main_v18_8]) <;> rfl

end Cert.ReferenceIdeal.Loop0

end
-- ==== Proof.RefLoop1.lean ====
/- Loop 1 of the reference: its condition, and what one trip leaves in the carried buffers. -/
module

public import proofs.«01_k».proof.Proof.RefOps

@[expose] public section

set_option maxRecDepth 1568

noncomputable section

namespace Cert.ReferenceIdeal.Loop1

open Cert.ReferenceIdeal Cert.ReferenceIdeal.Gen Cert.ReferenceIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem while1Ops0_fresh : (while1Ops0 : List (HloOp τ sig (Elt F))).Forall fun op => op.fresh = ∅ :=
  forall_fresh_of_map rfl

abbrev while1Ops0_W : List (Ref sig .tc) := [main_while1b_call2_c, main_while1b_call2_c_0, main_while1b_call2_v0, main_while1b_v52]

theorem while1Ops0_writes : (while1Ops0 : List (HloOp τ sig (Elt F))).Forall fun op => op.writes ⊆ (while1Ops0_W.map (Proc.devRef (τ := τ) .tc)).toFinset :=
  forall_writes_sub_of_map rfl

theorem while1Ops0_1_fresh : (while1Ops0_1 : List (HloOp τ sig (Elt F))).Forall fun op => op.fresh = ∅ :=
  forall_fresh_of_map rfl

abbrev while1Ops0_1_W : List (Ref sig .tc) := [main_while1b_v53, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69, main_while1b_cst_15, main_while1b_v70, main_while1b_v71, main_while1b_cst_16, main_while1b_v72, main_while1b_v73, main_while1b_v74, main_while1b_v75, main_while1b_v76, main_while1b_cst_17, main_while1b_v77, main_while1b_v78, main_while1b_cst_18, main_while1b_v79, main_while1b_v80, main_while1b_v81, main_while1b_v82, main_while1b_v83, main_while1b_v84, main_while1b_v85, main_while1b_cst_19, main_while1b_v86, main_while1b_v87, main_while1b_cst_20, main_while1b_v88, main_while1b_v89, main_while1b_v90, main_while1b_v91]

theorem while1Ops0_1_writes : (while1Ops0_1 : List (HloOp τ sig (Elt F))).Forall fun op => op.writes ⊆ (while1Ops0_1_W.map (Proc.devRef (τ := τ) .tc)).toFinset :=
  forall_writes_sub_of_map rfl

theorem while1Ops0_2_fresh : (while1Ops0_2 : List (HloOp τ sig (Elt F))).Forall fun op => op.fresh = ∅ :=
  forall_fresh_of_map rfl

abbrev while1Ops0_2_W : List (Ref sig .tc) := [main_while1b_call3_v0, main_while1b_call3_c, main_while1b_call3_c_0, main_while1b_v92]

theorem while1Ops0_2_writes : (while1Ops0_2 : List (HloOp τ sig (Elt F))).Forall fun op => op.writes ⊆ (while1Ops0_2_W.map (Proc.devRef (τ := τ) .tc)).toFinset :=
  forall_writes_sub_of_map rfl

theorem while1Ops0_3_fresh : (while1Ops0_3 : List (HloOp τ sig (Elt F))).Forall fun op => op.fresh = ∅ :=
  forall_fresh_of_map rfl

abbrev while1Ops0_3_W : List (Ref sig .tc) := [main_while1b_c_21, main_while1b_v93, main_v32_5, main_v32_6, main_v32_7, main_v32_8]

theorem while1Ops0_3_writes : (while1Ops0_3 : List (HloOp τ sig (Elt F))).Forall fun op => op.writes ⊆ (while1Ops0_3_W.map (Proc.devRef (τ := τ) .tc)).toFinset :=
  forall_writes_sub_of_map rfl

/-- The condition's two operations: the bound, and the counter compared with it. -/
abbrev condOps : List (HloOp τ sig (Elt F)) :=
  [ nullary main_while1c_c_15 (constantI S_ 32 128#32),
    binary main_v32_5 main_while1c_c_15 main_while1c_v52 (cmpi .slt) ]

abbrev bodyI : List (List (HloOp τ sig (Elt F))) := [while1Ops0, while1Ops0_1, while1Ops0_2, while1Ops0_3]

theorem hbodyI : Plain (bodyI (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.nil))))

abbrev condOps_W : List (Ref sig .tc) := [main_while1c_c_15, main_while1c_v52]
theorem condOps_writes : (condOps : List (HloOp τ sig (Elt F))).Forall fun op => op.writes ⊆ (condOps_W.map (Proc.devRef (τ := τ) .tc)).toFinset :=
  forall_writes_sub_of_map rfl

theorem ctr_cond (V : Valuation τ sig (Elt F)) : after condOps V (Proc.devRef .tc main_v32_5) = V (Proc.devRef .tc main_v32_5) :=
  after_of_writes_sub condOps V condOps_writes (by decide +kernel)
theorem ctr_while1Ops0 (V : Valuation τ sig (Elt F)) : after while1Ops0 V (Proc.devRef .tc main_v32_5) = V (Proc.devRef .tc main_v32_5) :=
  after_of_writes_sub while1Ops0 V while1Ops0_writes (by decide +kernel)
theorem ctr_while1Ops0_1 (V : Valuation τ sig (Elt F)) : after while1Ops0_1 V (Proc.devRef .tc main_v32_5) = V (Proc.devRef .tc main_v32_5) :=
  after_of_writes_sub while1Ops0_1 V while1Ops0_1_writes (by decide +kernel)
theorem ctr_while1Ops0_2 (V : Valuation τ sig (Elt F)) : after while1Ops0_2 V (Proc.devRef .tc main_v32_5) = V (Proc.devRef .tc main_v32_5) :=
  after_of_writes_sub while1Ops0_2 V while1Ops0_2_writes (by decide +kernel)

set_option maxRecDepth 100000 in
theorem ctr_step (X : Valuation τ sig (Elt F)) :
    after while1Ops0_3 X (Proc.devRef .tc main_v32_5) = addi (X (Proc.devRef .tc main_v32_5)) (constantI S_ 32 1#32) := by
  after_results
  rfl

/-- Before the `k`-th condition the counter is the loop's induction variable at `k`. -/
theorem atTrip_ctr (W₀ : Dev nD → Valuation τ sig (Elt F)) (h0 : ∀ c, W₀ c (Proc.devRef .tc main_v32_5) = fun _ => (0#32 : BitVec 32)) (c : Dev nD) :
    ∀ k, atTrip condOps bodyI W₀ k c (Proc.devRef .tc main_v32_5) = fun _ => Scf.iv 0#32 1#32 k
  | 0 => by rw [atTrip_zero, h0, Scf.iv_zero]
  | k + 1 => by
    rw [atTrip_succ]
    simp only [afterL_cons, afterL_nil]
    rw [ctr_step, ctr_while1Ops0_2, ctr_while1Ops0_1, ctr_while1Ops0, ctr_cond, atTrip_ctr W₀ h0 c k, Scf.iv_succ]
    rfl

set_option backward.isDefEq.respectTransparency.types false in
/-- The condition returns 1 exactly before the first 128 trips and changes nothing the body reads. -/
theorem loop_cond (W₀ : Dev nD → Valuation τ sig (Elt F)) (h0 : ∀ c, W₀ c (Proc.devRef .tc main_v32_5) = fun _ => (0#32 : BitVec 32))
    (Rc : Dev nD → sProp (MT nD τ sig Unit (Elt F) ℕ (Option PUnit) ℕ)) :
    LoopCond (pcfgs (F := F)) defs₀ Variants.none loops Rc (main_while1_cond (F := F)) condOps bodyI W₀ 128 := by
  intro k hk c bd
  have hctr := atTrip_ctr W₀ h0 c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v32_5 HostLoop.idx0)
        (HloOp.result _ (atTrip condOps bodyI W₀ k c) main_while1c_c_15 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

/-! ## One trip's values: the body's operations in windows, and the carried buffers after them -/
abbrev trip_w0 : List (HloOp τ sig (Elt F)) :=
  [ TRef.nullary (.of main_while1b_call2_c : TRef sig ⟨S_, .i32⟩) (constantI S_ 32 0#32),
    TRef.nullary (.of main_while1b_call2_c_0 : TRef sig ⟨S_, .i32⟩) (constantI S_ 32 0#32),
    TRef.unaryIndexed (.of main_v32_0 : TRef sig ⟨S128x32x384, .f32⟩) ![(.of main_v32_5 : TRef sig ⟨S_, .i32⟩), (.of main_while1b_call2_c : TRef sig ⟨S_, .i32⟩), (.of main_while1b_call2_c_0 : TRef sig ⟨S_, .i32⟩)] (.of main_while1b_call2_v0 : TRef sig ⟨S1x32x384, .f32⟩) (fun x i => Host.dynamicSlice S1x32x384 x (fun k => (i k (Shape.Idx.first h_S_)).toInt) sliceFits_S128x32x384_S1x32x384) ]

abbrev trip_w1 : List (HloOp τ sig (Elt F)) :=
  [ TRef.reshape (.of main_while1b_call2_v0 : TRef sig ⟨S1x32x384, .f32⟩) (.of main_while1b_v52 : TRef sig ⟨S32x384, .f32⟩) (rfl : (.f32 : EltTy) = .f32) shapeCasts_S1x32x384_S32x384 ]

abbrev trip_w2 : List (HloOp τ sig (Elt F)) :=
  [ unary main_v32_1 main_while1b_v53 ((transpose S384x600 [1, 0] · transposes_S600x384_S384x600_1_0) : Arr F S600x384 → Arr F S384x600),
    binary main_while1b_v52 main_while1b_v53 main_while1b_v54 ((fun l r => Host.dotGeneral dot_S32x384_S384x600_S32x600_1_0_0_1_n_n none l r) : Arr F S32x384 → Arr F S384x600 → Arr F S32x600),
    unary main_v32_2 main_while1b_v55 (broadcastInDim S1x600 ![1] bcast_S600_S1x600_1 : Arr F S600 → Arr F S1x600),
    unary main_while1b_v55 main_while1b_v56 (broadcastInDim S32x600 ![0, 1] bcast_S1x600_S32x600_0_1 : Arr F S1x600 → Arr F S32x600),
    binary main_while1b_v54 main_while1b_v56 main_while1b_v57 (addf : Arr F S32x600 → Arr F S32x600 → Arr F S32x600),
    unary main_v32_3 main_while1b_v58 ((transpose S150x600 [1, 0] · transposes_S600x150_S150x600_1_0) : Arr F S600x150 → Arr F S150x600),
    binary main_v32_6 main_while1b_v58 main_while1b_v59 ((fun l r => Host.dotGeneral dot_S32x150_S150x600_S32x600_1_0_0_1_n_n none l r) : Arr F S32x150 → Arr F S150x600 → Arr F S32x600),
    binary main_while1b_v57 main_while1b_v59 main_while1b_v60 (addf : Arr F S32x600 → Arr F S32x600 → Arr F S32x600),
    unary main_v32_4 main_while1b_v61 (broadcastInDim S1x600 ![1] bcast_S600_S1x600_1 : Arr F S600 → Arr F S1x600),
    unary main_while1b_v61 main_while1b_v62 (broadcastInDim S32x600 ![0, 1] bcast_S1x600_S32x600_0_1 : Arr F S1x600 → Arr F S32x600),
    binary main_while1b_v60 main_while1b_v62 main_while1b_v63 (addf : Arr F S32x600 → Arr F S32x600 → Arr F S32x600),
    unary main_while1b_v63 main_while1b_v64 ((extractStridedSlice S32x150 ![0, 0] · slices_S32x600_S32x150_0_0) : Arr F S32x600 → Arr F S32x150),
    unary main_while1b_v63 main_while1b_v65 ((extractStridedSlice S32x150 ![0, 150] · slices_S32x600_S32x150_0_150) : Arr F S32x600 → Arr F S32x150),
    unary main_while1b_v63 main_while1b_v66 ((extractStridedSlice S32x150 ![0, 300] · slices_S32x600_S32x150_0_300) : Arr F S32x600 → Arr F S32x150),
    unary main_while1b_v63 main_while1b_v67 ((extractStridedSlice S32x150 ![0, 450] · slices_S32x600_S32x150_0_450) : Arr F S32x600 → Arr F S32x150),
    unary main_while1b_v65 main_while1b_v68 (Host.negf : Arr F S32x150 → Arr F S32x150),
    unary main_while1b_v68 main_while1b_v69 (Host.exp : Arr F S32x150 → Arr F S32x150),
    nullary main_while1b_cst_15 (constant S_ .f32 0x3F800000#32),
    unary main_while1b_cst_15 main_while1b_v70 (broadcastInDim S32x150 ![] bcast_S_S32x150 : Arr F S_ → Arr F S32x150),
    binary main_while1b_v70 main_while1b_v69 main_while1b_v71 (addf : Arr F S32x150 → Arr F S32x150 → Arr F S32x150),
    nullary main_while1b_cst_16 (constant S_ .f32 0x3F800000#32),
    unary main_while1b_cst_16 main_while1b_v72 (broadcastInDim S32x150 ![] bcast_S_S32x150 : Arr F S_ → Arr F S32x150),
    binary main_while1b_v72 main_while1b_v71 main_while1b_v73 (Host.divf : Arr F S32x150 → Arr F S32x150 → Arr F S32x150),
    binary main_while1b_v73 main_v32_7 main_while1b_v74 (mulf : Arr F S32x150 → Arr F S32x150 → Arr F S32x150) ]

abbrev trip_w3 : List (HloOp τ sig (Elt F)) :=
  [ unary main_while1b_v64 main_while1b_v75 (Host.negf : Arr F S32x150 → Arr F S32x150),
    unary main_while1b_v75 main_while1b_v76 (Host.exp : Arr F S32x150 → Arr F S32x150),
    nullary main_while1b_cst_17 (constant S_ .f32 0x3F800000#32),
    unary main_while1b_cst_17 main_while1b_v77 (broadcastInDim S32x150 ![] bcast_S_S32x150 : Arr F S_ → Arr F S32x150),
    binary main_while1b_v77 main_while1b_v76 main_while1b_v78 (addf : Arr F S32x150 → Arr F S32x150 → Arr F S32x150),
    nullary main_while1b_cst_18 (constant S_ .f32 0x3F800000#32),
    unary main_while1b_cst_18 main_while1b_v79 (broadcastInDim S32x150 ![] bcast_S_S32x150 : Arr F S_ → Arr F S32x150),
    binary main_while1b_v79 main_while1b_v78 main_while1b_v80 (Host.divf : Arr F S32x150 → Arr F S32x150 → Arr F S32x150),
    unary main_while1b_v66 main_while1b_v81 (Host.tanh : Arr F S32x150 → Arr F S32x150),
    binary main_while1b_v80 main_while1b_v81 main_while1b_v82 (mulf : Arr F S32x150 → Arr F S32x150 → Arr F S32x150),
    binary main_while1b_v74 main_while1b_v82 main_while1b_v83 (addf : Arr F S32x150 → Arr F S32x150 → Arr F S32x150),
    unary main_while1b_v67 main_while1b_v84 (Host.negf : Arr F S32x150 → Arr F S32x150),
    unary main_while1b_v84 main_while1b_v85 (Host.exp : Arr F S32x150 → Arr F S32x150),
    nullary main_while1b_cst_19 (constant S_ .f32 0x3F800000#32),
    unary main_while1b_cst_19 main_while1b_v86 (broadcastInDim S32x150 ![] bcast_S_S32x150 : Arr F S_ → Arr F S32x150),
    binary main_while1b_v86 main_while1b_v85 main_while1b_v87 (addf : Arr F S32x150 → Arr F S32x150 → Arr F S32x150),
    nullary main_while1b_cst_20 (constant S_ .f32 0x3F800000#32),
    unary main_while1b_cst_20 main_while1b_v88 (broadcastInDim S32x150 ![] bcast_S_S32x150 : Arr F S_ → Arr F S32x150),
    binary main_while1b_v88 main_while1b_v87 main_while1b_v89 (Host.divf : Arr F S32x150 → Arr F S32x150 → Arr F S32x150),
    unary main_while1b_v83 main_while1b_v90 (Host.tanh : Arr F S32x150 → Arr F S32x150),
    binary main_while1b_v89 main_while1b_v90 main_while1b_v91 (mulf : Arr F S32x150 → Arr F S32x150 → Arr F S32x150) ]

abbrev trip_w4 : List (HloOp τ sig (Elt F)) :=
  [ TRef.unary (.of main_while1b_v91 : TRef sig ⟨S32x150, .f32⟩) (.of main_while1b_call3_v0 : TRef sig ⟨S1x32x150, .f32⟩) (broadcastInDim S1x32x150 ![1, 2] bcast_S32x150_S1x32x150_1_2),
    TRef.nullary (.of main_while1b_call3_c : TRef sig ⟨S_, .i32⟩) (constantI S_ 32 0#32),
    TRef.nullary (.of main_while1b_call3_c_0 : TRef sig ⟨S_, .i32⟩) (constantI S_ 32 0#32),
    TRef.binaryIndexed (.of main_v32_8 : TRef sig ⟨S128x32x150, .f32⟩) (.of main_while1b_call3_v0 : TRef sig ⟨S1x32x150, .f32⟩) ![(.of main_v32_5 : TRef sig ⟨S_, .i32⟩), (.of main_while1b_call3_c : TRef sig ⟨S_, .i32⟩), (.of main_while1b_call3_c_0 : TRef sig ⟨S_, .i32⟩)] (.of main_while1b_v92 : TRef sig ⟨S128x32x150, .f32⟩) (fun x u i => Host.dynamicUpdateSlice x u (fun k => (i k (Shape.Idx.first h_S_)).toInt) updateFits_S128x32x150_S1x32x150) ]

set_option maxRecDepth 5000 in
theorem while1Ops0_cut : (while1Ops0 : List (HloOp τ sig (Elt F))) = trip_w0 ++ (trip_w1) := rfl
set_option maxRecDepth 5000 in
theorem while1Ops0_1_cut : (while1Ops0_1 : List (HloOp τ sig (Elt F))) = trip_w2 ++ (trip_w3) := rfl
set_option maxRecDepth 5000 in
theorem while1Ops0_2_cut : (while1Ops0_2 : List (HloOp τ sig (Elt F))) = trip_w4 := rfl

set_option maxRecDepth 8192 in
def res_main_while1b_v63 (V0 : Valuation τ sig (Elt F)) : (Proc.devRef .tc main_while1b_v63 : DevRef τ sig).ty.Contents (Elt F) :=
  addf (addf (addf (Host.dotGeneral dot_S32x384_S384x600_S32x600_1_0_0_1_n_n none (shapeCast S32x384 (Host.dynamicSlice S1x32x384 (V0 (Proc.devRef .tc main_v32_0)) (fun k => (((![V0 (Proc.devRef .tc main_v32_5), constantI S_ 32 0#32, constantI S_ 32 0#32] : Fin 3 → (⟨S_, .i32⟩ : BufTy).Contents (Elt F))) k (Shape.Idx.first h_S_)).toInt) sliceFits_S128x32x384_S1x32x384) shapeCasts_S1x32x384_S32x384) (transpose S384x600 [1, 0] (V0 (Proc.devRef .tc main_v32_1)) transposes_S600x384_S384x600_1_0)) (broadcastInDim S32x600 ![0, 1] bcast_S1x600_S32x600_0_1 (broadcastInDim S1x600 ![1] bcast_S600_S1x600_1 (V0 (Proc.devRef .tc main_v32_2))))) (Host.dotGeneral dot_S32x150_S150x600_S32x600_1_0_0_1_n_n none (V0 (Proc.devRef .tc main_v32_6)) (transpose S150x600 [1, 0] (V0 (Proc.devRef .tc main_v32_3)) transposes_S600x150_S150x600_1_0))) (broadcastInDim S32x600 ![0, 1] bcast_S1x600_S32x600_0_1 (broadcastInDim S1x600 ![1] bcast_S600_S1x600_1 (V0 (Proc.devRef .tc main_v32_4))))

set_option maxRecDepth 8192 in
def res_main_while1b_v83 (V0 : Valuation τ sig (Elt F)) : (Proc.devRef .tc main_while1b_v83 : DevRef τ sig).ty.Contents (Elt F) :=
  addf (mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 150] (res_main_while1b_v63 V0) slices_S32x600_S32x150_0_150))))) (V0 (Proc.devRef .tc main_v32_7))) (mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 0] (res_main_while1b_v63 V0) slices_S32x600_S32x150_0_0))))) (Host.tanh (extractStridedSlice S32x150 ![0, 300] (res_main_while1b_v63 V0) slices_S32x600_S32x150_0_300)))

set_option maxRecDepth 8192 in
def res_main_while1b_v91 (V0 : Valuation τ sig (Elt F)) : (Proc.devRef .tc main_while1b_v91 : DevRef τ sig).ty.Contents (Elt F) :=
  mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 450] (res_main_while1b_v63 V0) slices_S32x600_S32x150_0_450))))) (Host.tanh (res_main_while1b_v83 V0))

/-- The buffers that a trip carries; no window but the last operations writes one. -/
abbrev carried : List (Ref sig .tc) := [main_v32_0, main_v32_1, main_v32_2, main_v32_3, main_v32_4, main_v32_5, main_v32_6, main_v32_7, main_v32_8]

def val0 (V0 : Valuation τ sig (Elt F)) : Valuation τ sig (Elt F) := V0
theorem val0_carried (V0 : Valuation τ sig (Elt F)) (r : Ref sig .tc) (h : r ∈ carried) : val0 V0 (Proc.devRef .tc r) = V0 (Proc.devRef .tc r) := rfl
theorem val0_main_v32_0 (V0 : Valuation τ sig (Elt F)) : val0 V0 (no_index (Proc.devRef .tc main_v32_0)) = V0 (Proc.devRef .tc main_v32_0) := val0_carried V0 _ (by decide)
theorem val0_main_v32_5 (V0 : Valuation τ sig (Elt F)) : val0 V0 (no_index (Proc.devRef .tc main_v32_5)) = V0 (Proc.devRef .tc main_v32_5) := val0_carried V0 _ (by decide)

def val1 (V0 : Valuation τ sig (Elt F)) : Valuation τ sig (Elt F) := after trip_w0 (val0 V0)
abbrev trip_w0_W : List (Ref sig .tc) := [main_while1b_call2_c, main_while1b_call2_c_0, main_while1b_call2_v0]
theorem trip_w0_writes : (trip_w0 : List (HloOp τ sig (Elt F))).Forall fun op => op.writes ⊆ (trip_w0_W.map (Proc.devRef (τ := τ) .tc)).toFinset :=
  forall_writes_sub_of_map rfl
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_carried (V0 : Valuation τ sig (Elt F)) (r : Ref sig .tc) (h : r ∈ carried) : val1 V0 (Proc.devRef .tc r) = V0 (Proc.devRef .tc r) :=
  (val1_keep V0 r ((by decide +kernel : ∀ r ∈ carried, r ∉ trip_w0_W) r h)).trans (val0_carried V0 r h)
set_option maxRecDepth 8192 in
theorem val1_main_while1b_call2_v0 (V0 : Valuation τ sig (Elt F)) : val1 V0 (no_index (Proc.devRef .tc main_while1b_call2_v0)) = Host.dynamicSlice S1x32x384 (V0 (Proc.devRef .tc main_v32_0)) (fun k => (((![V0 (Proc.devRef .tc main_v32_5), constantI S_ 32 0#32, constantI S_ 32 0#32] : Fin 3 → (⟨S_, .i32⟩ : BufTy).Contents (Elt F))) k (Shape.Idx.first h_S_)).toInt) sliceFits_S128x32x384_S1x32x384 := by
  unfold val1
  simp only [trip_w0]
  after_results_entrywise [val0_main_v32_5, val0_main_v32_0, cast_eq]

def val2 (V0 : Valuation τ sig (Elt F)) : Valuation τ sig (Elt F) := after trip_w1 (val1 V0)
abbrev trip_w1_W : List (Ref sig .tc) := [main_while1b_v52]
theorem trip_w1_writes : (trip_w1 : List (HloOp τ sig (Elt F))).Forall fun op => op.writes ⊆ (trip_w1_W.map (Proc.devRef (τ := τ) .tc)).toFinset :=
  forall_writes_sub_of_map rfl
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_carried (V0 : Valuation τ sig (Elt F)) (r : Ref sig .tc) (h : r ∈ carried) : val2 V0 (Proc.devRef .tc r) = V0 (Proc.devRef .tc r) :=
  (val2_keep V0 r ((by decide +kernel : ∀ r ∈ carried, r ∉ trip_w1_W) r h)).trans (val1_carried V0 r h)
theorem val2_main_v32_1 (V0 : Valuation τ sig (Elt F)) : val2 V0 (no_index (Proc.devRef .tc main_v32_1)) = V0 (Proc.devRef .tc main_v32_1) := val2_carried V0 _ (by decide)
theorem val2_main_v32_2 (V0 : Valuation τ sig (Elt F)) : val2 V0 (no_index (Proc.devRef .tc main_v32_2)) = V0 (Proc.devRef .tc main_v32_2) := val2_carried V0 _ (by decide)
theorem val2_main_v32_3 (V0 : Valuation τ sig (Elt F)) : val2 V0 (no_index (Proc.devRef .tc main_v32_3)) = V0 (Proc.devRef .tc main_v32_3) := val2_carried V0 _ (by decide)
theorem val2_main_v32_6 (V0 : Valuation τ sig (Elt F)) : val2 V0 (no_index (Proc.devRef .tc main_v32_6)) = V0 (Proc.devRef .tc main_v32_6) := val2_carried V0 _ (by decide)
theorem val2_main_v32_4 (V0 : Valuation τ sig (Elt F)) : val2 V0 (no_index (Proc.devRef .tc main_v32_4)) = V0 (Proc.devRef .tc main_v32_4) := val2_carried V0 _ (by decide)
theorem val2_main_v32_7 (V0 : Valuation τ sig (Elt F)) : val2 V0 (no_index (Proc.devRef .tc main_v32_7)) = V0 (Proc.devRef .tc main_v32_7) := val2_carried V0 _ (by decide)
set_option maxRecDepth 8192 in
theorem val2_main_while1b_v52 (V0 : Valuation τ sig (Elt F)) : val2 V0 (no_index (Proc.devRef .tc main_while1b_v52)) = shapeCast S32x384 (Host.dynamicSlice S1x32x384 (V0 (Proc.devRef .tc main_v32_0)) (fun k => (((![V0 (Proc.devRef .tc main_v32_5), constantI S_ 32 0#32, constantI S_ 32 0#32] : Fin 3 → (⟨S_, .i32⟩ : BufTy).Contents (Elt F))) k (Shape.Idx.first h_S_)).toInt) sliceFits_S128x32x384_S1x32x384) shapeCasts_S1x32x384_S32x384 := by
  unfold val2
  simp only [trip_w1]
  after_results_entrywise [val1_main_while1b_call2_v0, cast_eq]

def val3 (V0 : Valuation τ sig (Elt F)) : Valuation τ sig (Elt F) := after trip_w2 (val2 V0)
abbrev trip_w2_W : List (Ref sig .tc) := [main_while1b_v53, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69, main_while1b_cst_15, main_while1b_v70, main_while1b_v71, main_while1b_cst_16, main_while1b_v72, main_while1b_v73, main_while1b_v74]
theorem trip_w2_writes : (trip_w2 : List (HloOp τ sig (Elt F))).Forall fun op => op.writes ⊆ (trip_w2_W.map (Proc.devRef (τ := τ) .tc)).toFinset :=
  forall_writes_sub_of_map rfl
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_carried (V0 : Valuation τ sig (Elt F)) (r : Ref sig .tc) (h : r ∈ carried) : val3 V0 (Proc.devRef .tc r) = V0 (Proc.devRef .tc r) :=
  (val3_keep V0 r ((by decide +kernel : ∀ r ∈ carried, r ∉ trip_w2_W) r h)).trans (val2_carried V0 r h)
set_option maxRecDepth 8192 in
set_option maxHeartbeats 2000000 in
theorem val3_main_while1b_v64 (V0 : Valuation τ sig (Elt F)) : val3 V0 (no_index (Proc.devRef .tc main_while1b_v64)) = extractStridedSlice S32x150 ![0, 0] (res_main_while1b_v63 V0) slices_S32x600_S32x150_0_0 := by
  unfold val3
  simp only [trip_w2]
  after_results_entrywise [val2_main_v32_4, val2_main_v32_3, val2_main_v32_6, val2_main_v32_2, val2_main_v32_1, val2_main_while1b_v52, res_main_while1b_v63, cast_eq]
set_option maxRecDepth 8192 in
set_option maxHeartbeats 2000000 in
theorem val3_main_while1b_v66 (V0 : Valuation τ sig (Elt F)) : val3 V0 (no_index (Proc.devRef .tc main_while1b_v66)) = extractStridedSlice S32x150 ![0, 300] (res_main_while1b_v63 V0) slices_S32x600_S32x150_0_300 := by
  unfold val3
  simp only [trip_w2]
  after_results_entrywise [val2_main_v32_4, val2_main_v32_3, val2_main_v32_6, val2_main_v32_2, val2_main_v32_1, val2_main_while1b_v52, res_main_while1b_v63, cast_eq]
set_option maxRecDepth 8192 in
set_option maxHeartbeats 2000000 in
theorem val3_main_while1b_v67 (V0 : Valuation τ sig (Elt F)) : val3 V0 (no_index (Proc.devRef .tc main_while1b_v67)) = extractStridedSlice S32x150 ![0, 450] (res_main_while1b_v63 V0) slices_S32x600_S32x150_0_450 := by
  unfold val3
  simp only [trip_w2]
  after_results_entrywise [val2_main_v32_4, val2_main_v32_3, val2_main_v32_6, val2_main_v32_2, val2_main_v32_1, val2_main_while1b_v52, res_main_while1b_v63, cast_eq]
set_option maxRecDepth 8192 in
set_option maxHeartbeats 2000000 in
theorem val3_main_while1b_v74 (V0 : Valuation τ sig (Elt F)) : val3 V0 (no_index (Proc.devRef .tc main_while1b_v74)) = mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 150] (res_main_while1b_v63 V0) slices_S32x600_S32x150_0_150))))) (V0 (Proc.devRef .tc main_v32_7)) := by
  unfold val3
  simp only [trip_w2]
  after_results_entrywise [val2_main_v32_7, val2_main_v32_4, val2_main_v32_3, val2_main_v32_6, val2_main_v32_2, val2_main_v32_1, val2_main_while1b_v52, res_main_while1b_v63, cast_eq]

def val4 (V0 : Valuation τ sig (Elt F)) : Valuation τ sig (Elt F) := after trip_w3 (val3 V0)
abbrev trip_w3_W : List (Ref sig .tc) := [main_while1b_v75, main_while1b_v76, main_while1b_cst_17, main_while1b_v77, main_while1b_v78, main_while1b_cst_18, main_while1b_v79, main_while1b_v80, main_while1b_v81, main_while1b_v82, main_while1b_v83, main_while1b_v84, main_while1b_v85, main_while1b_cst_19, main_while1b_v86, main_while1b_v87, main_while1b_cst_20, main_while1b_v88, main_while1b_v89, main_while1b_v90, main_while1b_v91]
theorem trip_w3_writes : (trip_w3 : List (HloOp τ sig (Elt F))).Forall fun op => op.writes ⊆ (trip_w3_W.map (Proc.devRef (τ := τ) .tc)).toFinset :=
  forall_writes_sub_of_map rfl
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_carried (V0 : Valuation τ sig (Elt F)) (r : Ref sig .tc) (h : r ∈ carried) : val4 V0 (Proc.devRef .tc r) = V0 (Proc.devRef .tc r) :=
  (val4_keep V0 r ((by decide +kernel : ∀ r ∈ carried, r ∉ trip_w3_W) r h)).trans (val3_carried V0 r h)
theorem val4_main_v32_5 (V0 : Valuation τ sig (Elt F)) : val4 V0 (no_index (Proc.devRef .tc main_v32_5)) = V0 (Proc.devRef .tc main_v32_5) := val4_carried V0 _ (by decide)
theorem val4_main_v32_8 (V0 : Valuation τ sig (Elt F)) : val4 V0 (no_index (Proc.devRef .tc main_v32_8)) = V0 (Proc.devRef .tc main_v32_8) := val4_carried V0 _ (by decide)
set_option maxRecDepth 8192 in
set_option maxHeartbeats 2000000 in
theorem val4_main_while1b_v83 (V0 : Valuation τ sig (Elt F)) : val4 V0 (no_index (Proc.devRef .tc main_while1b_v83)) = res_main_while1b_v83 V0 := by
  unfold val4
  simp only [trip_w3]
  after_results_entrywise [val3_main_while1b_v66, val3_main_while1b_v64, val3_main_while1b_v74, res_main_while1b_v83, cast_eq]
set_option maxRecDepth 8192 in
set_option maxHeartbeats 2000000 in
theorem val4_main_while1b_v91 (V0 : Valuation τ sig (Elt F)) : val4 V0 (no_index (Proc.devRef .tc main_while1b_v91)) = res_main_while1b_v91 V0 := by
  unfold val4
  simp only [trip_w3]
  after_results_entrywise [val3_main_while1b_v66, val3_main_while1b_v64, val3_main_while1b_v74, val3_main_while1b_v67, res_main_while1b_v83, res_main_while1b_v91, cast_eq]

def val5 (V0 : Valuation τ sig (Elt F)) : Valuation τ sig (Elt F) := after trip_w4 (val4 V0)
abbrev trip_w4_W : List (Ref sig .tc) := [main_while1b_call3_v0, main_while1b_call3_c, main_while1b_call3_c_0, main_while1b_v92]
theorem trip_w4_writes : (trip_w4 : List (HloOp τ sig (Elt F))).Forall fun op => op.writes ⊆ (trip_w4_W.map (Proc.devRef (τ := τ) .tc)).toFinset :=
  forall_writes_sub_of_map rfl
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_carried (V0 : Valuation τ sig (Elt F)) (r : Ref sig .tc) (h : r ∈ carried) : val5 V0 (Proc.devRef .tc r) = V0 (Proc.devRef .tc r) :=
  (val5_keep V0 r ((by decide +kernel : ∀ r ∈ carried, r ∉ trip_w4_W) r h)).trans (val4_carried V0 r h)
theorem val5_main_v32_0 (V0 : Valuation τ sig (Elt F)) : val5 V0 (no_index (Proc.devRef .tc main_v32_0)) = V0 (Proc.devRef .tc main_v32_0) := val5_carried V0 _ (by decide)
theorem val5_main_v32_5 (V0 : Valuation τ sig (Elt F)) : val5 V0 (no_index (Proc.devRef .tc main_v32_5)) = V0 (Proc.devRef .tc main_v32_5) := val5_carried V0 _ (by decide)
theorem val5_main_v32_1 (V0 : Valuation τ sig (Elt F)) : val5 V0 (no_index (Proc.devRef .tc main_v32_1)) = V0 (Proc.devRef .tc main_v32_1) := val5_carried V0 _ (by decide)
theorem val5_main_v32_2 (V0 : Valuation τ sig (Elt F)) : val5 V0 (no_index (Proc.devRef .tc main_v32_2)) = V0 (Proc.devRef .tc main_v32_2) := val5_carried V0 _ (by decide)
theorem val5_main_v32_3 (V0 : Valuation τ sig (Elt F)) : val5 V0 (no_index (Proc.devRef .tc main_v32_3)) = V0 (Proc.devRef .tc main_v32_3) := val5_carried V0 _ (by decide)
theorem val5_main_v32_6 (V0 : Valuation τ sig (Elt F)) : val5 V0 (no_index (Proc.devRef .tc main_v32_6)) = V0 (Proc.devRef .tc main_v32_6) := val5_carried V0 _ (by decide)
theorem val5_main_v32_4 (V0 : Valuation τ sig (Elt F)) : val5 V0 (no_index (Proc.devRef .tc main_v32_4)) = V0 (Proc.devRef .tc main_v32_4) := val5_carried V0 _ (by decide)
theorem val5_main_v32_7 (V0 : Valuation τ sig (Elt F)) : val5 V0 (no_index (Proc.devRef .tc main_v32_7)) = V0 (Proc.devRef .tc main_v32_7) := val5_carried V0 _ (by decide)
theorem val5_main_v32_8 (V0 : Valuation τ sig (Elt F)) : val5 V0 (no_index (Proc.devRef .tc main_v32_8)) = V0 (Proc.devRef .tc main_v32_8) := val5_carried V0 _ (by decide)
theorem val5_main_while1b_v83 (V0 : Valuation τ sig (Elt F)) : val5 V0 (no_index (Proc.devRef .tc main_while1b_v83)) = res_main_while1b_v83 V0 :=
  (val5_keep V0 main_while1b_v83 (by decide)).trans (val4_main_while1b_v83 V0)
theorem val5_main_while1b_v91 (V0 : Valuation τ sig (Elt F)) : val5 V0 (no_index (Proc.devRef .tc main_while1b_v91)) = res_main_while1b_v91 V0 :=
  (val5_keep V0 main_while1b_v91 (by decide)).trans (val4_main_while1b_v91 V0)
set_option maxRecDepth 8192 in
theorem val5_main_while1b_v92 (V0 : Valuation τ sig (Elt F)) : val5 V0 (no_index (Proc.devRef .tc main_while1b_v92)) = Host.dynamicUpdateSlice (V0 (Proc.devRef .tc main_v32_8)) (broadcastInDim S1x32x150 ![1, 2] bcast_S32x150_S1x32x150_1_2 (res_main_while1b_v91 V0)) (fun k => (((![V0 (Proc.devRef .tc main_v32_5), constantI S_ 32 0#32, constantI S_ 32 0#32] : Fin 3 → (⟨S_, .i32⟩ : BufTy).Contents (Elt F))) k (Shape.Idx.first h_S_)).toInt) updateFits_S128x32x150_S1x32x150 := by
  unfold val5
  simp only [trip_w4]
  after_results_entrywise [val4_main_v32_5, val4_main_while1b_v91, val4_main_v32_8, cast_eq]

set_option maxRecDepth 8192 in
theorem trip_windows (V0 : Valuation τ sig (Elt F)) : after while1Ops0_2 (after while1Ops0_1 (after while1Ops0 (V0))) = val5 V0 := by
  simp only [while1Ops0_cut, while1Ops0_1_cut, while1Ops0_2_cut, after_append]
  rfl

set_option maxRecDepth 8192 in
set_option maxHeartbeats 2000000 in
theorem trip_main_v32_0 (V0 : Valuation τ sig (Elt F)) : afterL bodyI V0 (no_index (Proc.devRef .tc main_v32_0)) = V0 (Proc.devRef .tc main_v32_0) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_1 (V0 : Valuation τ sig (Elt F)) : afterL bodyI V0 (no_index (Proc.devRef .tc main_v32_1)) = V0 (Proc.devRef .tc main_v32_1) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_2 (V0 : Valuation τ sig (Elt F)) : afterL bodyI V0 (no_index (Proc.devRef .tc main_v32_2)) = V0 (Proc.devRef .tc main_v32_2) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_3 (V0 : Valuation τ sig (Elt F)) : afterL bodyI V0 (no_index (Proc.devRef .tc main_v32_3)) = V0 (Proc.devRef .tc main_v32_3) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_4 (V0 : Valuation τ sig (Elt F)) : afterL bodyI V0 (no_index (Proc.devRef .tc main_v32_4)) = V0 (Proc.devRef .tc main_v32_4) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_5 (V0 : Valuation τ sig (Elt F)) : afterL bodyI V0 (no_index (Proc.devRef .tc main_v32_5)) = id (addi (V0 (Proc.devRef .tc main_v32_5)) (constantI S_ 32 1#32)) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_6 (V0 : Valuation τ sig (Elt F)) : afterL bodyI V0 (no_index (Proc.devRef .tc main_v32_6)) = id (res_main_while1b_v91 V0) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_7 (V0 : Valuation τ sig (Elt F)) : afterL bodyI V0 (no_index (Proc.devRef .tc main_v32_7)) = id (res_main_while1b_v83 V0) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl
set_option maxRecDepth 8192 in
set_option maxHeartbeats 2000000 in
theorem trip_main_v32_8 (V0 : Valuation τ sig (Elt F)) : afterL bodyI V0 (no_index (Proc.devRef .tc main_v32_8)) = id (Host.dynamicUpdateSlice (V0 (Proc.devRef .tc main_v32_8)) (broadcastInDim S1x32x150 ![1, 2] bcast_S32x150_S1x32x150_1_2 (res_main_while1b_v91 V0)) (fun k => (((![V0 (Proc.devRef .tc main_v32_5), constantI S_ 32 0#32, constantI S_ 32 0#32] : Fin 3 → (⟨S_, .i32⟩ : BufTy).Contents (Elt F))) k (Shape.Idx.first h_S_)).toInt) updateFits_S128x32x150_S1x32x150) := by
  simp only [bodyI, afterL_cons, afterL_nil, trip_windows]
  after_results
  all_goals (try simp only [val5_main_while1b_v91, val5_main_while1b_v83, val5_main_while1b_v92, val5_main_v32_0, val5_main_v32_1, val5_main_v32_2, val5_main_v32_3, val5_main_v32_4, val5_main_v32_5, val5_main_v32_6, val5_main_v32_7, val5_main_v32_8]) <;> rfl

end Cert.ReferenceIdeal.Loop1

end
-- ==== Proof.RefLoop2.lean ====
/- Loop 2 of the reference: its condition, and what one trip leaves in the carried buffers. -/
module

public import proofs.«01_k».proof.Proof.RefOps

@[expose] public section

set_option maxRecDepth 1568

noncomputable section

namespace Cert.ReferenceIdeal.Loop2

open Cert.ReferenceIdeal Cert.ReferenceIdeal.Gen Cert.ReferenceIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem while2Ops0_fresh : (while2Ops0 : List (HloOp τ sig (Elt F))).Forall fun op => op.fresh = ∅ :=
  forall_fresh_of_map rfl

abbrev while2Ops0_W : List (Ref sig .tc) := [main_while2b_call4_c, main_while2b_call4_c_0, main_while2b_call4_v0, main_while2b_v52]

theorem while2Ops0_writes : (while2Ops0 : List (HloOp τ sig (Elt F))).Forall fun op => op.writes ⊆ (while2Ops0_W.map (Proc.devRef (τ := τ) .tc)).toFinset :=
  forall_writes_sub_of_map rfl

theorem while2Ops0_1_fresh : (while2Ops0_1 : List (HloOp τ sig (Elt F))).Forall fun op => op.fresh = ∅ :=
  forall_fresh_of_map rfl

abbrev while2Ops0_1_W : List (Ref sig .tc) := [main_while2b_v53, main_while2b_v54, main_while2b_v55, main_while2b_v56, main_while2b_v57, main_while2b_v58, main_while2b_v59, main_while2b_v60, main_while2b_v61, main_while2b_v62, main_while2b_v63, main_while2b_v64, main_while2b_v65, main_while2b_v66, main_while2b_v67, main_while2b_v68, main_while2b_v69, main_while2b_v70, main_while2b_v71, main_while2b_cst_14, main_while2b_v72, main_while2b_v73, main_while2b_cst_15, main_while2b_v74, main_while2b_v75, main_while2b_v76, main_while2b_v77, main_while2b_v78, main_while2b_cst_16, main_while2b_v79, main_while2b_v80, main_while2b_cst_17, main_while2b_v81, main_while2b_v82, main_while2b_v83, main_while2b_v84, main_while2b_v85, main_while2b_cst_18, main_while2b_v86, main_while2b_v87, main_while2b_v88, main_while2b_v89, main_while2b_v90]

theorem while2Ops0_1_writes : (while2Ops0_1 : List (HloOp τ sig (Elt F))).Forall fun op => op.writes ⊆ (while2Ops0_1_W.map (Proc.devRef (τ := τ) .tc)).toFinset :=
  forall_writes_sub_of_map rfl

theorem while2Ops0_2_fresh : (while2Ops0_2 : List (HloOp τ sig (Elt F))).Forall fun op => op.fresh = ∅ :=
  forall_fresh_of_map rfl

abbrev while2Ops0_2_W : List (Ref sig .tc) := [main_while2b_call5_v0, main_while2b_call5_c, main_while2b_call5_c_0, main_while2b_v91]

theorem while2Ops0_2_writes : (while2Ops0_2 : List (HloOp τ sig (Elt F))).Forall fun op => op.writes ⊆ (while2Ops0_2_W.map (Proc.devRef (τ := τ) .tc)).toFinset :=
  forall_writes_sub_of_map rfl

theorem while2Ops0_3_fresh : (while2Ops0_3 : List (HloOp τ sig (Elt F))).Forall fun op => op.fresh = ∅ :=
  forall_fresh_of_map rfl

abbrev while2Ops0_3_W : List (Ref sig .tc) := [main_while2b_c_19, main_while2b_v92, main_v44_5, main_v44_6, main_v44_7]

theorem while2Ops0_3_writes : (while2Ops0_3 : List (HloOp τ sig (Elt F))).Forall fun op => op.writes ⊆ (while2Ops0_3_W.map (Proc.devRef (τ := τ) .tc)).toFinset :=
  forall_writes_sub_of_map rfl

/-- The condition's two operations: the bound, and the counter compared with it. -/
abbrev condOps : List (HloOp τ sig (Elt F)) :=
  [ nullary main_while2c_c_14 (constantI S_ 32 128#32),
    binary main_v44_5 main_while2c_c_14 main_while2c_v52 (cmpi .slt) ]

abbrev bodyI : List (List (HloOp τ sig (Elt F))) := [while2Ops0, while2Ops0_1, while2Ops0_2, while2Ops0_3]

theorem hbodyI : Plain (bodyI (F := F)) := .cons while2Ops0_sub (hf := List.forall_iff_forall_mem.mp while2Ops0_fresh) (.cons while2Ops0_1_sub (hf := List.forall_iff_forall_mem.mp while2Ops0_1_fresh) (.cons while2Ops0_2_sub (hf := List.forall_iff_forall_mem.mp while2Ops0_2_fresh) (.cons while2Ops0_3_sub (hf := List.forall_iff_forall_mem.mp while2Ops0_3_fresh) (.nil))))

abbrev condOps_W : List (Ref sig .tc) := [main_while2c_c_14, main_while2c_v52]
theorem condOps_writes : (condOps : List (HloOp τ sig (Elt F))).Forall fun op => op.writes ⊆ (condOps_W.map (Proc.devRef (τ := τ) .tc)).toFinset :=
  forall_writes_sub_of_map rfl

theorem ctr_cond (V : Valuation τ sig (Elt F)) : after condOps V (Proc.devRef .tc main_v44_5) = V (Proc.devRef .tc main_v44_5) :=
  after_of_writes_sub condOps V condOps_writes (by decide +kernel)
theorem ctr_while2Ops0 (V : Valuation τ sig (Elt F)) : after while2Ops0 V (Proc.devRef .tc main_v44_5) = V (Proc.devRef .tc main_v44_5) :=
  after_of_writes_sub while2Ops0 V while2Ops0_writes (by decide +kernel)
theorem ctr_while2Ops0_1 (V : Valuation τ sig (Elt F)) : after while2Ops0_1 V (Proc.devRef .tc main_v44_5) = V (Proc.devRef .tc main_v44_5) :=
  after_of_writes_sub while2Ops0_1 V while2Ops0_1_writes (by decide +kernel)
theorem ctr_while2Ops0_2 (V : Valuation τ sig (Elt F)) : after while2Ops0_2 V (Proc.devRef .tc main_v44_5) = V (Proc.devRef .tc main_v44_5) :=
  after_of_writes_sub while2Ops0_2 V while2Ops0_2_writes (by decide +kernel)

set_option maxRecDepth 100000 in
theorem ctr_step (X : Valuation τ sig (Elt F)) :
    after while2Ops0_3 X (Proc.devRef .tc main_v44_5) = addi (X (Proc.devRef .tc main_v44_5)) (constantI S_ 32 1#32) := by
  after_results
  rfl

/-- Before the `k`-th condition the counter is the loop's induction variable at `k`. -/
theorem atTrip_ctr (W₀ : Dev nD → Valuation τ sig (Elt F)) (h0 : ∀ c, W₀ c (Proc.devRef .tc main_v44_5) = fun _ => (0#32 : BitVec 32)) (c : Dev nD) :
    ∀ k, atTrip condOps bodyI W₀ k c (Proc.devRef .tc main_v44_5) = fun _ => Scf.iv 0#32 1#32 k
  | 0 => by rw [atTrip_zero, h0, Scf.iv_zero]
  | k + 1 => by
    rw [atTrip_succ]
    simp only [afterL_cons, afterL_nil]
    rw [ctr_step, ctr_while2Ops0_2, ctr_while2Ops0_1, ctr_while2Ops0, ctr_cond, atTrip_ctr W₀ h0 c k, Scf.iv_succ]
    rfl

set_option backward.isDefEq.respectTransparency.types false in
/-- The condition returns 1 exactly before the first 128 trips and changes nothing the body reads. -/
theorem loop_cond (W₀ : Dev nD → Valuation τ sig (Elt F)) (h0 : ∀ c, W₀ c (Proc.devRef .tc main_v44_5) = fun _ => (0#32 : BitVec 32))
    (Rc : Dev nD → sProp (MT nD τ sig Unit (Elt F) ℕ (Option PUnit) ℕ)) :
    LoopCond (pcfgs (F := F)) defs₀ Variants.none loops Rc (main_while2_cond (F := F)) condOps bodyI W₀ 128 := by
  intro k hk c bd
  have hctr := atTrip_ctr W₀ h0 c k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v44_5 HostLoop.idx0)
        (HloOp.result _ (atTrip condOps bodyI W₀ k c) main_while2c_c_14 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

/-! ## One trip's values: the body's operations in windows, and the carried buffers after them -/
abbrev trip_w0 : List (HloOp τ sig (Elt F)) :=
  [ TRef.nullary (.of main_while2b_call4_c : TRef sig ⟨S_, .i32⟩) (constantI S_ 32 0#32),
    TRef.nullary (.of main_while2b_call4_c_0 : TRef sig ⟨S_, .i32⟩) (constantI S_ 32 0#32),
    TRef.unaryIndexed (.of main_v44_0 : TRef sig ⟨S128x32x300, .f32⟩) ![(.of main_v44_5 : TRef sig ⟨S_, .i32⟩), (.of main_while2b_call4_c : TRef sig ⟨S_, .i32⟩), (.of main_while2b_call4_c_0 : TRef sig ⟨S_, .i32⟩)] (.of main_while2b_call4_v0 : TRef sig ⟨S1x32x300, .f32⟩) (fun x i => Host.dynamicSlice S1x32x300 x (fun k => (i k (Shape.Idx.first h_S_)).toInt) sliceFits_S128x32x300_S1x32x300) ]

abbrev trip_w1 : List (HloOp τ sig (Elt F)) :=
  [ TRef.reshape (.of main_while2b_call4_v0 : TRef sig ⟨S1x32x300, .f32⟩) (.of main_while2b_v52 : TRef sig ⟨S32x300, .f32⟩) (rfl : (.f32 : EltTy) = .f32) shapeCasts_S1x32x300_S32x300 ]

abbrev trip_w2 : List (HloOp τ sig (Elt F)) :=
  [ unary main_v44_1 main_while2b_v53 ((transpose S300x450 [1, 0] · transposes_S450x300_S300x450_1_0) : Arr F S450x300 → Arr F S300x450),
    binary main_while2b_v52 main_while2b_v53 main_while2b_v54 ((fun l r => Host.dotGeneral dot_S32x300_S300x450_S32x450_1_0_0_1_n_n none l r) : Arr F S32x300 → Arr F S300x450 → Arr F S32x450),
    unary main_v44_2 main_while2b_v55 (broadcastInDim S1x450 ![1] bcast_S450_S1x450_1 : Arr F S450 → Arr F S1x450),
    unary main_while2b_v55 main_while2b_v56 (broadcastInDim S32x450 ![0, 1] bcast_S1x450_S32x450_0_1 : Arr F S1x450 → Arr F S32x450),
    binary main_while2b_v54 main_while2b_v56 main_while2b_v57 (addf : Arr F S32x450 → Arr F S32x450 → Arr F S32x450),
    unary main_v44_3 main_while2b_v58 ((transpose S150x450 [1, 0] · transposes_S450x150_S150x450_1_0) : Arr F S450x150 → Arr F S150x450),
    binary main_v44_6 main_while2b_v58 main_while2b_v59 ((fun l r => Host.dotGeneral dot_S32x150_S150x450_S32x450_1_0_0_1_n_n none l r) : Arr F S32x150 → Arr F S150x450 → Arr F S32x450),
    unary main_v44_4 main_while2b_v60 (broadcastInDim S1x450 ![1] bcast_S450_S1x450_1 : Arr F S450 → Arr F S1x450),
    unary main_while2b_v60 main_while2b_v61 (broadcastInDim S32x450 ![0, 1] bcast_S1x450_S32x450_0_1 : Arr F S1x450 → Arr F S32x450),
    binary main_while2b_v59 main_while2b_v61 main_while2b_v62 (addf : Arr F S32x450 → Arr F S32x450 → Arr F S32x450),
    unary main_while2b_v57 main_while2b_v63 ((extractStridedSlice S32x150 ![0, 0] · slices_S32x450_S32x150_0_0) : Arr F S32x450 → Arr F S32x150),
    unary main_while2b_v57 main_while2b_v64 ((extractStridedSlice S32x150 ![0, 150] · slices_S32x450_S32x150_0_150) : Arr F S32x450 → Arr F S32x150),
    unary main_while2b_v57 main_while2b_v65 ((extractStridedSlice S32x150 ![0, 300] · slices_S32x450_S32x150_0_300) : Arr F S32x450 → Arr F S32x150),
    unary main_while2b_v62 main_while2b_v66 ((extractStridedSlice S32x150 ![0, 0] · slices_S32x450_S32x150_0_0) : Arr F S32x450 → Arr F S32x150),
    unary main_while2b_v62 main_while2b_v67 ((extractStridedSlice S32x150 ![0, 150] · slices_S32x450_S32x150_0_150) : Arr F S32x450 → Arr F S32x150),
    unary main_while2b_v62 main_while2b_v68 ((extractStridedSlice S32x150 ![0, 300] · slices_S32x450_S32x150_0_300) : Arr F S32x450 → Arr F S32x150),
    binary main_while2b_v63 main_while2b_v66 main_while2b_v69 (addf : Arr F S32x150 → Arr F S32x150 → Arr F S32x150),
    unary main_while2b_v69 main_while2b_v70 (Host.negf : Arr F S32x150 → Arr F S32x150),
    unary main_while2b_v70 main_while2b_v71 (Host.exp : Arr F S32x150 → Arr F S32x150),
    nullary main_while2b_cst_14 (constant S_ .f32 0x3F800000#32),
    unary main_while2b_cst_14 main_while2b_v72 (broadcastInDim S32x150 ![] bcast_S_S32x150 : Arr F S_ → Arr F S32x150),
    binary main_while2b_v72 main_while2b_v71 main_while2b_v73 (addf : Arr F S32x150 → Arr F S32x150 → Arr F S32x150),
    nullary main_while2b_cst_15 (constant S_ .f32 0x3F800000#32),
    unary main_while2b_cst_15 main_while2b_v74 (broadcastInDim S32x150 ![] bcast_S_S32x150 : Arr F S_ → Arr F S32x150) ]

abbrev trip_w3 : List (HloOp τ sig (Elt F)) :=
  [ binary main_while2b_v74 main_while2b_v73 main_while2b_v75 (Host.divf : Arr F S32x150 → Arr F S32x150 → Arr F S32x150),
    binary main_while2b_v64 main_while2b_v67 main_while2b_v76 (addf : Arr F S32x150 → Arr F S32x150 → Arr F S32x150),
    unary main_while2b_v76 main_while2b_v77 (Host.negf : Arr F S32x150 → Arr F S32x150),
    unary main_while2b_v77 main_while2b_v78 (Host.exp : Arr F S32x150 → Arr F S32x150),
    nullary main_while2b_cst_16 (constant S_ .f32 0x3F800000#32),
    unary main_while2b_cst_16 main_while2b_v79 (broadcastInDim S32x150 ![] bcast_S_S32x150 : Arr F S_ → Arr F S32x150),
    binary main_while2b_v79 main_while2b_v78 main_while2b_v80 (addf : Arr F S32x150 → Arr F S32x150 → Arr F S32x150),
    nullary main_while2b_cst_17 (constant S_ .f32 0x3F800000#32),
    unary main_while2b_cst_17 main_while2b_v81 (broadcastInDim S32x150 ![] bcast_S_S32x150 : Arr F S_ → Arr F S32x150),
    binary main_while2b_v81 main_while2b_v80 main_while2b_v82 (Host.divf : Arr F S32x150 → Arr F S32x150 → Arr F S32x150),
    binary main_while2b_v75 main_while2b_v68 main_while2b_v83 (mulf : Arr F S32x150 → Arr F S32x150 → Arr F S32x150),
    binary main_while2b_v65 main_while2b_v83 main_while2b_v84 (addf : Arr F S32x150 → Arr F S32x150 → Arr F S32x150),
    unary main_while2b_v84 main_while2b_v85 (Host.tanh : Arr F S32x150 → Arr F S32x150),
    nullary main_while2b_cst_18 (constant S_ .f32 0x3F800000#32),
    unary main_while2b_cst_18 main_while2b_v86 (broadcastInDim S32x150 ![] bcast_S_S32x150 : Arr F S_ → Arr F S32x150),
    binary main_while2b_v86 main_while2b_v82 main_while2b_v87 (subf : Arr F S32x150 → Arr F S32x150 → Arr F S32x150),
    binary main_while2b_v87 main_while2b_v85 main_while2b_v88 (mulf : Arr F S32x150 → Arr F S32x150 → Arr F S32x150),
    binary main_while2b_v82 main_v44_6 main_while2b_v89 (mulf : Arr F S32x150 → Arr F S32x150 → Arr F S32x150),
    binary main_while2b_v88 main_while2b_v89 main_while2b_v90 (addf : Arr F S32x150 → Arr F S32x150 → Arr F S32x150) ]

abbrev trip_w4 : List (HloOp τ sig (Elt F)) :=
  [ TRef.unary (.of main_while2b_v90 : TRef sig ⟨S32x150, .f32⟩) (.of main_while2b_call5_v0 : TRef sig ⟨S1x32x150, .f32⟩) (broadcastInDim S1x32x150 ![1, 2] bcast_S32x150_S1x32x150_1_2),
    TRef.nullary (.of main_while2b_call5_c : TRef sig ⟨S_, .i32⟩) (constantI S_ 32 0#32),
    TRef.nullary (.of main_while2b_call5_c_0 : TRef sig ⟨S_, .i32⟩) (constantI S_ 32 0#32),
    TRef.binaryIndexed (.of main_v44_7 : TRef sig ⟨S128x32x150, .f32⟩) (.of main_while2b_call5_v0 : TRef sig ⟨S1x32x150, .f32⟩) ![(.of main_v44_5 : TRef sig ⟨S_, .i32⟩), (.of main_while2b_call5_c : TRef sig ⟨S_, .i32⟩), (.of main_while2b_call5_c_0 : TRef sig ⟨S_, .i32⟩)] (.of main_while2b_v91 : TRef sig ⟨S128x32x150, .f32⟩) (fun x u i => Host.dynamicUpdateSlice x u (fun k => (i k (Shape.Idx.first h_S_)).toInt) updateFits_S128x32x150_S1x32x150) ]

set_option maxRecDepth 5000 in
theorem while2Ops0_cut : (while2Ops0 : List (HloOp τ sig (Elt F))) = trip_w0 ++ (trip_w1) := rfl
set_option maxRecDepth 5000 in
theorem while2Ops0_1_cut : (while2Ops0_1 : List (HloOp τ sig (Elt F))) = trip_w2 ++ (trip_w3) := rfl
set_option maxRecDepth 5000 in
theorem while2Ops0_2_cut : (while2Ops0_2 : List (HloOp τ sig (Elt F))) = trip_w4 := rfl

set_option maxRecDepth 8192 in
def res_main_while2b_v57 (V0 : Valuation τ sig (Elt F)) : (Proc.devRef .tc main_while2b_v57 : DevRef τ sig).ty.Contents (Elt F) :=
  addf (Host.dotGeneral dot_S32x300_S300x450_S32x450_1_0_0_1_n_n none (shapeCast S32x300 (Host.dynamicSlice S1x32x300 (V0 (Proc.devRef .tc main_v44_0)) (fun k => (((![V0 (Proc.devRef .tc main_v44_5), constantI S_ 32 0#32, constantI S_ 32 0#32] : Fin 3 → (⟨S_, .i32⟩ : BufTy).Contents (Elt F))) k (Shape.Idx.first h_S_)).toInt) sliceFits_S128x32x300_S1x32x300) shapeCasts_S1x32x300_S32x300) (transpose S300x450 [1, 0] (V0 (Proc.devRef .tc main_v44_1)) transposes_S450x300_S300x450_1_0)) (broadcastInDim S32x450 ![0, 1] bcast_S1x450_S32x450_0_1 (broadcastInDim S1x450 ![1] bcast_S450_S1x450_1 (V0 (Proc.devRef .tc main_v44_2))))

set_option maxRecDepth 8192 in
def res_main_while2b_v62 (V0 : Valuation τ sig (Elt F)) : (Proc.devRef .tc main_while2b_v62 : DevRef τ sig).ty.Contents (Elt F) :=
  addf (Host.dotGeneral dot_S32x150_S150x450_S32x450_1_0_0_1_n_n none (V0 (Proc.devRef .tc main_v44_6)) (transpose S150x450 [1, 0] (V0 (Proc.devRef .tc main_v44_3)) transposes_S450x150_S150x450_1_0)) (broadcastInDim S32x450 ![0, 1] bcast_S1x450_S32x450_0_1 (broadcastInDim S1x450 ![1] bcast_S450_S1x450_1 (V0 (Proc.devRef .tc main_v44_4))))

set_option maxRecDepth 8192 in
def res_main_while2b_v82 (V0 : Valuation τ sig (Elt F)) : (Proc.devRef .tc main_while2b_v82 : DevRef τ sig).ty.Contents (Elt F) :=
  Host.divf (broadcastInDim S32x150 ![] bcast_S_S32x150 (constant S_ .f32 0x3F800000#32)) (addf (broadcastInDim S32x150 ![] bcast_S_S32x150 (constant S_ .f32 0x3F800000#32)) (Host.exp (Host.negf (addf (extractStridedSlice S32x150 ![0, 150] (res_main_while2b_v57 V0) slices_S32x450_S32x150_0_150) (extractStridedSlice S32x150 ![0, 150] (res_main_while2b_v62 V0) slices_S32x450_S32x150_0_150)))))

set_option maxRecDepth 8192 in
def res_main_while2b_v90 (V0 : Valuation τ sig (Elt F)) : (Proc.devRef .tc main_while2b_v90 : DevRef τ sig).ty.Contents (Elt F) :=
  addf (mulf (subf (broadcastInDim S32x150 ![] bcast_S_S32x150 (constant S_ .f32 0x3F800000#32)) (res_main_while2b_v82 V0)) (Host.tanh (addf (extractStridedSlice S32x150 ![0, 300] (res_main_while2b_v57 V0) slices_S32x450_S32x150_0_300) (mulf (Host.divf (broadcastInDim S32x150 ![] bcast_S_S32x150 (constant S_ .f32 0x3F800000#32)) (addf (broadcastInDim S32x150 ![] bcast_S_S32x150 (constant S_ .f32 0x3F800000#32)) (Host.exp (Host.negf (addf (extractStridedSlice S32x150 ![0, 0] (res_main_while2b_v57 V0) slices_S32x450_S32x150_0_0) (extractStridedSlice S32x150 ![0, 0] (res_main_while2b_v62 V0) slices_S32x450_S32x150_0_0)))))) (extractStridedSlice S32x150 ![0, 300] (res_main_while2b_v62 V0) slices_S32x450_S32x150_0_300))))) (mulf (res_main_while2b_v82 V0) (V0 (Proc.devRef .tc main_v44_6)))

/-- The buffers that a trip carries; no window but the last operations writes one. -/
abbrev carried : List (Ref sig .tc) := [main_v44_0, main_v44_1, main_v44_2, main_v44_3, main_v44_4, main_v44_5, main_v44_6, main_v44_7]

def val0 (V0 : Valuation τ sig (Elt F)) : Valuation τ sig (Elt F) := V0
theorem val0_carried (V0 : Valuation τ sig (Elt F)) (r : Ref sig .tc) (h : r ∈ carried) : val0 V0 (Proc.devRef .tc r) = V0 (Proc.devRef .tc r) := rfl
theorem val0_main_v44_0 (V0 : Valuation τ sig (Elt F)) : val0 V0 (no_index (Proc.devRef .tc main_v44_0)) = V0 (Proc.devRef .tc main_v44_0) := val0_carried V0 _ (by decide)
theorem val0_main_v44_5 (V0 : Valuation τ sig (Elt F)) : val0 V0 (no_index (Proc.devRef .tc main_v44_5)) = V0 (Proc.devRef .tc main_v44_5) := val0_carried V0 _ (by decide)

def val1 (V0 : Valuation τ sig (Elt F)) : Valuation τ sig (Elt F) := after trip_w0 (val0 V0)
abbrev trip_w0_W : List (Ref sig .tc) := [main_while2b_call4_c, main_while2b_call4_c_0, main_while2b_call4_v0]
theorem trip_w0_writes : (trip_w0 : List (HloOp τ sig (Elt F))).Forall fun op => op.writes ⊆ (trip_w0_W.map (Proc.devRef (τ := τ) .tc)).toFinset :=
  forall_writes_sub_of_map rfl
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_carried (V0 : Valuation τ sig (Elt F)) (r : Ref sig .tc) (h : r ∈ carried) : val1 V0 (Proc.devRef .tc r) = V0 (Proc.devRef .tc r) :=
  (val1_keep V0 r ((by decide +kernel : ∀ r ∈ carried, r ∉ trip_w0_W) r h)).trans (val0_carried V0 r h)
set_option maxRecDepth 8192 in
theorem val1_main_while2b_call4_v0 (V0 : Valuation τ sig (Elt F)) : val1 V0 (no_index (Proc.devRef .tc main_while2b_call4_v0)) = Host.dynamicSlice S1x32x300 (V0 (Proc.devRef .tc main_v44_0)) (fun k => (((![V0 (Proc.devRef .tc main_v44_5), constantI S_ 32 0#32, constantI S_ 32 0#32] : Fin 3 → (⟨S_, .i32⟩ : BufTy).Contents (Elt F))) k (Shape.Idx.first h_S_)).toInt) sliceFits_S128x32x300_S1x32x300 := by
  unfold val1
  simp only [trip_w0]
  after_results_entrywise [val0_main_v44_5, val0_main_v44_0, cast_eq]

def val2 (V0 : Valuation τ sig (Elt F)) : Valuation τ sig (Elt F) := after trip_w1 (val1 V0)
abbrev trip_w1_W : List (Ref sig .tc) := [main_while2b_v52]
theorem trip_w1_writes : (trip_w1 : List (HloOp τ sig (Elt F))).Forall fun op => op.writes ⊆ (trip_w1_W.map (Proc.devRef (τ := τ) .tc)).toFinset :=
  forall_writes_sub_of_map rfl
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_carried (V0 : Valuation τ sig (Elt F)) (r : Ref sig .tc) (h : r ∈ carried) : val2 V0 (Proc.devRef .tc r) = V0 (Proc.devRef .tc r) :=
  (val2_keep V0 r ((by decide +kernel : ∀ r ∈ carried, r ∉ trip_w1_W) r h)).trans (val1_carried V0 r h)
theorem val2_main_v44_1 (V0 : Valuation τ sig (Elt F)) : val2 V0 (no_index (Proc.devRef .tc main_v44_1)) = V0 (Proc.devRef .tc main_v44_1) := val2_carried V0 _ (by decide)
theorem val2_main_v44_2 (V0 : Valuation τ sig (Elt F)) : val2 V0 (no_index (Proc.devRef .tc main_v44_2)) = V0 (Proc.devRef .tc main_v44_2) := val2_carried V0 _ (by decide)
theorem val2_main_v44_3 (V0 : Valuation τ sig (Elt F)) : val2 V0 (no_index (Proc.devRef .tc main_v44_3)) = V0 (Proc.devRef .tc main_v44_3) := val2_carried V0 _ (by decide)
theorem val2_main_v44_6 (V0 : Valuation τ sig (Elt F)) : val2 V0 (no_index (Proc.devRef .tc main_v44_6)) = V0 (Proc.devRef .tc main_v44_6) := val2_carried V0 _ (by decide)
theorem val2_main_v44_4 (V0 : Valuation τ sig (Elt F)) : val2 V0 (no_index (Proc.devRef .tc main_v44_4)) = V0 (Proc.devRef .tc main_v44_4) := val2_carried V0 _ (by decide)
set_option maxRecDepth 8192 in
theorem val2_main_while2b_v52 (V0 : Valuation τ sig (Elt F)) : val2 V0 (no_index (Proc.devRef .tc main_while2b_v52)) = shapeCast S32x300 (Host.dynamicSlice S1x32x300 (V0 (Proc.devRef .tc main_v44_0)) (fun k => (((![V0 (Proc.devRef .tc main_v44_5), constantI S_ 32 0#32, constantI S_ 32 0#32] : Fin 3 → (⟨S_, .i32⟩ : BufTy).Contents (Elt F))) k (Shape.Idx.first h_S_)).toInt) sliceFits_S128x32x300_S1x32x300) shapeCasts_S1x32x300_S32x300 := by
  unfold val2
  simp only [trip_w1]
  after_results_entrywise [val1_main_while2b_call4_v0, cast_eq]

def val3 (V0 : Valuation τ sig (Elt F)) : Valuation τ sig (Elt F) := after trip_w2 (val2 V0)
abbrev trip_w2_W : List (Ref sig .tc) := [main_while2b_v53, main_while2b_v54, main_while2b_v55, main_while2b_v56, main_while2b_v57, main_while2b_v58, main_while2b_v59, main_while2b_v60, main_while2b_v61, main_while2b_v62, main_while2b_v63, main_while2b_v64, main_while2b_v65, main_while2b_v66, main_while2b_v67, main_while2b_v68, main_while2b_v69, main_while2b_v70, main_while2b_v71, main_while2b_cst_14, main_while2b_v72, main_while2b_v73, main_while2b_cst_15, main_while2b_v74]
theorem trip_w2_writes : (trip_w2 : List (HloOp τ sig (Elt F))).Forall fun op => op.writes ⊆ (trip_w2_W.map (Proc.devRef (τ := τ) .tc)).toFinset :=
  forall_writes_sub_of_map rfl
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_carried (V0 : Valuation τ sig (Elt F)) (r : Ref sig .tc) (h : r ∈ carried) : val3 V0 (Proc.devRef .tc r) = V0 (Proc.devRef .tc r) :=
  (val3_keep V0 r ((by decide +kernel : ∀ r ∈ carried, r ∉ trip_w2_W) r h)).trans (val2_carried V0 r h)
theorem val3_main_v44_6 (V0 : Valuation τ sig (Elt F)) : val3 V0 (no_index (Proc.devRef .tc main_v44_6)) = V0 (Proc.devRef .tc main_v44_6) := val3_carried V0 _ (by decide)
set_option maxRecDepth 8192 in
set_option maxHeartbeats 2000000 in
theorem val3_main_while2b_v64 (V0 : Valuation τ sig (Elt F)) : val3 V0 (no_index (Proc.devRef .tc main_while2b_v64)) = extractStridedSlice S32x150 ![0, 150] (res_main_while2b_v57 V0) slices_S32x450_S32x150_0_150 := by
  unfold val3
  simp only [trip_w2]
  after_results_entrywise [val2_main_v44_2, val2_main_v44_1, val2_main_while2b_v52, res_main_while2b_v57, cast_eq]
set_option maxRecDepth 8192 in
set_option maxHeartbeats 2000000 in
theorem val3_main_while2b_v65 (V0 : Valuation τ sig (Elt F)) : val3 V0 (no_index (Proc.devRef .tc main_while2b_v65)) = extractStridedSlice S32x150 ![0, 300] (res_main_while2b_v57 V0) slices_S32x450_S32x150_0_300 := by
  unfold val3
  simp only [trip_w2]
  after_results_entrywise [val2_main_v44_2, val2_main_v44_1, val2_main_while2b_v52, res_main_while2b_v57, cast_eq]
set_option maxRecDepth 8192 in
set_option maxHeartbeats 2000000 in
theorem val3_main_while2b_v67 (V0 : Valuation τ sig (Elt F)) : val3 V0 (no_index (Proc.devRef .tc main_while2b_v67)) = extractStridedSlice S32x150 ![0, 150] (res_main_while2b_v62 V0) slices_S32x450_S32x150_0_150 := by
  unfold val3
  simp only [trip_w2]
  after_results_entrywise [val2_main_v44_4, val2_main_v44_3, val2_main_v44_6, res_main_while2b_v62, cast_eq]
set_option maxRecDepth 8192 in
set_option maxHeartbeats 2000000 in
theorem val3_main_while2b_v68 (V0 : Valuation τ sig (Elt F)) : val3 V0 (no_index (Proc.devRef .tc main_while2b_v68)) = extractStridedSlice S32x150 ![0, 300] (res_main_while2b_v62 V0) slices_S32x450_S32x150_0_300 := by
  unfold val3
  simp only [trip_w2]
  after_results_entrywise [val2_main_v44_4, val2_main_v44_3, val2_main_v44_6, res_main_while2b_v62, cast_eq]
set_option maxRecDepth 8192 in
set_option maxHeartbeats 2000000 in
theorem val3_main_while2b_v73 (V0 : Valuation τ sig (Elt F)) : val3 V0 (no_index (Proc.devRef .tc main_while2b_v73)) = addf (broadcastInDim S32x150 ![] bcast_S_S32x150 (constant S_ .f32 0x3F800000#32)) (Host.exp (Host.negf (addf (extractStridedSlice S32x150 ![0, 0] (res_main_while2b_v57 V0) slices_S32x450_S32x150_0_0) (extractStridedSlice S32x150 ![0, 0] (res_main_while2b_v62 V0) slices_S32x450_S32x150_0_0)))) := by
  unfold val3
  simp only [trip_w2]
  after_results_entrywise [val2_main_v44_4, val2_main_v44_3, val2_main_v44_6, val2_main_v44_2, val2_main_v44_1, val2_main_while2b_v52, res_main_while2b_v57, res_main_while2b_v62, cast_eq]
set_option maxRecDepth 8192 in
set_option maxHeartbeats 2000000 in
theorem val3_main_while2b_v74 (V0 : Valuation τ sig (Elt F)) : val3 V0 (no_index (Proc.devRef .tc main_while2b_v74)) = broadcastInDim S32x150 ![] bcast_S_S32x150 (constant S_ .f32 0x3F800000#32) := by
  unfold val3
  simp only [trip_w2]
  after_results_entrywise [cast_eq]

def val4 (V0 : Valuation τ sig (Elt F)) : Valuation τ sig (Elt F) := after trip_w3 (val3 V0)
abbrev trip_w3_W : List (Ref sig .tc) := [main_while2b_v75, main_while2b_v76, main_while2b_v77, main_while2b_v78, main_while2b_cst_16, main_while2b_v79, main_while2b_v80, main_while2b_cst_17, main_while2b_v81, main_while2b_v82, main_while2b_v83, main_while2b_v84, main_while2b_v85, main_while2b_cst_18, main_while2b_v86, main_while2b_v87, main_while2b_v88, main_while2b_v89, main_while2b_v90]
theorem trip_w3_writes : (trip_w3 : List (HloOp τ sig (Elt F))).Forall fun op => op.writes ⊆ (trip_w3_W.map (Proc.devRef (τ := τ) .tc)).toFinset :=
  forall_writes_sub_of_map rfl
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_carried (V0 : Valuation τ sig (Elt F)) (r : Ref sig .tc) (h : r ∈ carried) : val4 V0 (Proc.devRef .tc r) = V0 (Proc.devRef .tc r) :=
  (val4_keep V0 r ((by decide +kernel : ∀ r ∈ carried, r ∉ trip_w3_W) r h)).trans (val3_carried V0 r h)
theorem val4_main_v44_5 (V0 : Valuation τ sig (Elt F)) : val4 V0 (no_index (Proc.devRef .tc main_v44_5)) = V0 (Proc.devRef .tc main_v44_5) := val4_carried V0 _ (by decide)
theorem val4_main_v44_7 (V0 : Valuation τ sig (Elt F)) : val4 V0 (no_index (Proc.devRef .tc main_v44_7)) = V0 (Proc.devRef .tc main_v44_7) := val4_carried V0 _ (by decide)
set_option maxRecDepth 8192 in
set_option maxHeartbeats 1900000 in
theorem val4_main_while2b_v90 (V0 : Valuation τ sig (Elt F)) : val4 V0 (no_index (Proc.devRef .tc main_while2b_v90)) = res_main_while2b_v90 V0 := by
  unfold val4
  simp only [trip_w3]
  after_results_entrywise [val3_main_v44_6, val3_main_while2b_v67, val3_main_while2b_v64, val3_main_while2b_v68, val3_main_while2b_v73, val3_main_while2b_v74, val3_main_while2b_v65, res_main_while2b_v82, res_main_while2b_v90, cast_eq]

def val5 (V0 : Valuation τ sig (Elt F)) : Valuation τ sig (Elt F) := after trip_w4 (val4 V0)
abbrev trip_w4_W : List (Ref sig .tc) := [main_while2b_call5_v0, main_while2b_call5_c, main_while2b_call5_c_0, main_while2b_v91]
theorem trip_w4_writes : (trip_w4 : List (HloOp τ sig (Elt F))).Forall fun op => op.writes ⊆ (trip_w4_W.map (Proc.devRef (τ := τ) .tc)).toFinset :=
  forall_writes_sub_of_map rfl
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_carried (V0 : Valuation τ sig (Elt F)) (r : Ref sig .tc) (h : r ∈ carried) : val5 V0 (Proc.devRef .tc r) = V0 (Proc.devRef .tc r) :=
  (val5_keep V0 r ((by decide +kernel : ∀ r ∈ carried, r ∉ trip_w4_W) r h)).trans (val4_carried V0 r h)
theorem val5_main_v44_0 (V0 : Valuation τ sig (Elt F)) : val5 V0 (no_index (Proc.devRef .tc main_v44_0)) = V0 (Proc.devRef .tc main_v44_0) := val5_carried V0 _ (by decide)
theorem val5_main_v44_5 (V0 : Valuation τ sig (Elt F)) : val5 V0 (no_index (Proc.devRef .tc main_v44_5)) = V0 (Proc.devRef .tc main_v44_5) := val5_carried V0 _ (by decide)
theorem val5_main_v44_1 (V0 : Valuation τ sig (Elt F)) : val5 V0 (no_index (Proc.devRef .tc main_v44_1)) = V0 (Proc.devRef .tc main_v44_1) := val5_carried V0 _ (by decide)
theorem val5_main_v44_2 (V0 : Valuation τ sig (Elt F)) : val5 V0 (no_index (Proc.devRef .tc main_v44_2)) = V0 (Proc.devRef .tc main_v44_2) := val5_carried V0 _ (by decide)
theorem val5_main_v44_3 (V0 : Valuation τ sig (Elt F)) : val5 V0 (no_index (Proc.devRef .tc main_v44_3)) = V0 (Proc.devRef .tc main_v44_3) := val5_carried V0 _ (by decide)
theorem val5_main_v44_6 (V0 : Valuation τ sig (Elt F)) : val5 V0 (no_index (Proc.devRef .tc main_v44_6)) = V0 (Proc.devRef .tc main_v44_6) := val5_carried V0 _ (by decide)
theorem val5_main_v44_4 (V0 : Valuation τ sig (Elt F)) : val5 V0 (no_index (Proc.devRef .tc main_v44_4)) = V0 (Proc.devRef .tc main_v44_4) := val5_carried V0 _ (by decide)
theorem val5_main_v44_7 (V0 : Valuation τ sig (Elt F)) : val5 V0 (no_index (Proc.devRef .tc main_v44_7)) = V0 (Proc.devRef .tc main_v44_7) := val5_carried V0 _ (by decide)
theorem val5_main_while2b_v90 (V0 : Valuation τ sig (Elt F)) : val5 V0 (no_index (Proc.devRef .tc main_while2b_v90)) = res_main_while2b_v90 V0 :=
  (val5_keep V0 main_while2b_v90 (by decide)).trans (val4_main_while2b_v90 V0)
set_option maxRecDepth 8192 in
theorem val5_main_while2b_v91 (V0 : Valuation τ sig (Elt F)) : val5 V0 (no_index (Proc.devRef .tc main_while2b_v91)) = Host.dynamicUpdateSlice (V0 (Proc.devRef .tc main_v44_7)) (broadcastInDim S1x32x150 ![1, 2] bcast_S32x150_S1x32x150_1_2 (res_main_while2b_v90 V0)) (fun k => (((![V0 (Proc.devRef .tc main_v44_5), constantI S_ 32 0#32, constantI S_ 32 0#32] : Fin 3 → (⟨S_, .i32⟩ : BufTy).Contents (Elt F))) k (Shape.Idx.first h_S_)).toInt) updateFits_S128x32x150_S1x32x150 := by
  unfold val5
  simp only [trip_w4]
  after_results_entrywise [val4_main_v44_5, val4_main_while2b_v90, val4_main_v44_7, cast_eq]

set_option maxRecDepth 8192 in
theorem trip_windows (V0 : Valuation τ sig (Elt F)) : after while2Ops0_2 (after while2Ops0_1 (after while2Ops0 (V0))) = val5 V0 := by
  simp only [while2Ops0_cut, while2Ops0_1_cut, while2Ops0_2_cut, after_append]
  rfl

set_option maxRecDepth 8192 in
set_option maxHeartbeats 2000000 in
theorem trip_main_v44_0 (V0 : Valuation τ sig (Elt F)) : afterL bodyI V0 (no_index (Proc.devRef .tc main_v44_0)) = V0 (Proc.devRef .tc main_v44_0) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_1 (V0 : Valuation τ sig (Elt F)) : afterL bodyI V0 (no_index (Proc.devRef .tc main_v44_1)) = V0 (Proc.devRef .tc main_v44_1) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_2 (V0 : Valuation τ sig (Elt F)) : afterL bodyI V0 (no_index (Proc.devRef .tc main_v44_2)) = V0 (Proc.devRef .tc main_v44_2) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_3 (V0 : Valuation τ sig (Elt F)) : afterL bodyI V0 (no_index (Proc.devRef .tc main_v44_3)) = V0 (Proc.devRef .tc main_v44_3) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_4 (V0 : Valuation τ sig (Elt F)) : afterL bodyI V0 (no_index (Proc.devRef .tc main_v44_4)) = V0 (Proc.devRef .tc main_v44_4) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_5 (V0 : Valuation τ sig (Elt F)) : afterL bodyI V0 (no_index (Proc.devRef .tc main_v44_5)) = id (addi (V0 (Proc.devRef .tc main_v44_5)) (constantI S_ 32 1#32)) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_6 (V0 : Valuation τ sig (Elt F)) : afterL bodyI V0 (no_index (Proc.devRef .tc main_v44_6)) = id (res_main_while2b_v90 V0) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl
set_option maxRecDepth 8192 in
set_option maxHeartbeats 2000000 in
theorem trip_main_v44_7 (V0 : Valuation τ sig (Elt F)) : afterL bodyI V0 (no_index (Proc.devRef .tc main_v44_7)) = id (Host.dynamicUpdateSlice (V0 (Proc.devRef .tc main_v44_7)) (broadcastInDim S1x32x150 ![1, 2] bcast_S32x150_S1x32x150_1_2 (res_main_while2b_v90 V0)) (fun k => (((![V0 (Proc.devRef .tc main_v44_5), constantI S_ 32 0#32, constantI S_ 32 0#32] : Fin 3 → (⟨S_, .i32⟩ : BufTy).Contents (Elt F))) k (Shape.Idx.first h_S_)).toInt) updateFits_S128x32x150_S1x32x150) := by
  simp only [bodyI, afterL_cons, afterL_nil, trip_windows]
  after_results
  all_goals (try simp only [val5_main_while2b_v90, val5_main_while2b_v91, val5_main_v44_0, val5_main_v44_1, val5_main_v44_2, val5_main_v44_3, val5_main_v44_4, val5_main_v44_5, val5_main_v44_6, val5_main_v44_7]) <;> rfl

end Cert.ReferenceIdeal.Loop2

end
-- ==== Proof.RefRun.lean ====
/- The run of the reference program: stretches of host operations around three counted loops. -/
module

public import proofs.«01_k».proof.Proof.RefLoop0
public import proofs.«01_k».proof.Proof.RefLoop1
public import proofs.«01_k».proof.Proof.RefLoop2
public import Idealize.ShloMosaic.Lib.Pipeline.RegionsLoop
public import Idealize.ShloMosaic.Lib.Quiescent

@[expose] public section

set_option maxRecDepth 1568

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]
variable (m : (ℓ : Loc nD τ sig) → Buf (Elt F) ℓ) (ρ : Dev nD → PrngReg)

local notation "𝕄" => MT nD τ sig Unit (Elt F) ℕ (Option PUnit) ℕ

/-! ## The contents at each point of @main -/

theorem stretch0_fresh : (hostOps0 : List (HloOp τ sig (Elt F))).Forall fun op => op.fresh = ∅ := by
  simp only [List.forall_iff_forall_mem]; intro _ h; (repeat (cases h with | head => rfl | tail _ h => ?_)); exact nomatch h
theorem stretch1_fresh : (hostOps0_1 : List (HloOp τ sig (Elt F))).Forall fun op => op.fresh = ∅ := by
  simp only [List.forall_iff_forall_mem]; intro _ h; (repeat (cases h with | head => rfl | tail _ h => ?_)); exact nomatch h
theorem stretch2_fresh : (hostOps0_2 : List (HloOp τ sig (Elt F))).Forall fun op => op.fresh = ∅ := by
  simp only [List.forall_iff_forall_mem]; intro _ h; (repeat (cases h with | head => rfl | tail _ h => ?_)); exact nomatch h
theorem stretch3_fresh : (hostOps0_3 : List (HloOp τ sig (Elt F))).Forall fun op => op.fresh = ∅ := by
  simp only [List.forall_iff_forall_mem]; intro _ h; (repeat (cases h with | head => rfl | tail _ h => ?_)); exact nomatch h

theorem plain0 : Plain ([hostOps0 (F := F)]) := .cons hostOps0_sub (hf := List.forall_iff_forall_mem.mp stretch0_fresh) .nil
theorem plain1 : Plain ([hostOps0_1 (F := F)]) := .cons hostOps0_1_sub (hf := List.forall_iff_forall_mem.mp stretch1_fresh) .nil
theorem plain2 : Plain ([hostOps0_2 (F := F)]) := .cons hostOps0_2_sub (hf := List.forall_iff_forall_mem.mp stretch2_fresh) .nil
theorem plain3 : Plain ([hostOps0_3 (F := F)]) := .cons hostOps0_3_sub (hf := List.forall_iff_forall_mem.mp stretch3_fresh) .nil

/-- Before the first loop. -/
def W0 (c : Dev nD) : Valuation τ sig (Elt F) := after hostOps0 (launchContents m c)
/-- After the first loop. -/
def X0 (c : Dev nD) : Valuation τ sig (Elt F) := after Loop0.condOps (atTrip Loop0.condOps Loop0.bodyI (W0 m) 128 c)
/-- Before the second loop. -/
def W1 (c : Dev nD) : Valuation τ sig (Elt F) := after hostOps0_1 (X0 m c)
/-- After the second loop. -/
def X1 (c : Dev nD) : Valuation τ sig (Elt F) := after Loop1.condOps (atTrip Loop1.condOps Loop1.bodyI (W1 m) 128 c)
/-- Before the third loop. -/
def W2 (c : Dev nD) : Valuation τ sig (Elt F) := after hostOps0_2 (X1 m c)
/-- After the third loop. -/
def X2 (c : Dev nD) : Valuation τ sig (Elt F) := after Loop2.condOps (atTrip Loop2.condOps Loop2.bodyI (W2 m) 128 c)
/-- At @main's end. -/
def W3 (c : Dev nD) : Valuation τ sig (Elt F) := after hostOps0_3 (X2 m c)

set_option maxRecDepth 100000 in
theorem W0_ctr (c : Dev nD) : W0 m c (Proc.devRef .tc main_v18_5) = fun _ => (0#32 : BitVec 32) := by
  unfold W0
  after_reads_simp
  rfl
set_option maxRecDepth 100000 in
theorem W1_ctr (c : Dev nD) : W1 m c (Proc.devRef .tc main_v32_5) = fun _ => (0#32 : BitVec 32) := by
  unfold W1
  after_reads_simp
  rfl
set_option maxRecDepth 100000 in
theorem W2_ctr (c : Dev nD) : W2 m c (Proc.devRef .tc main_v44_5) = fun _ => (0#32 : BitVec 32) := by
  unfold W2
  after_reads_simp
  rfl

/-! ## @main's segments -/

abbrev noAdm : (p : Fin 0) → (pcfgs (F := F) p).Adm := fun p => p.elim0
abbrev noTicket : Fin 0 → Ticket (Ix := Unit) (Name := ℕ) (U := Option PUnit) (Lvl := ℕ) (nD := nD) (τ := τ) (pcfgs (F := F)) noAdm := fun j => j.elim0
abbrev noIx : GSem nD τ sig → Finset Unit := fun _ => ∅
abbrev noLvl : GSem nD τ sig → Unit → ℕ := fun _ _ => 0

theorem noCell_injective : Function.Injective (Pipeline.cellOf (nD := nD) (τ := τ) (Pipeline.pin (pcfgs (F := F)) noAdm)) :=
  fun k => k.1.elim0

/-- What is carried beside the buffers: the core owes nothing. -/
abbrev Owes (c : Dev nD) : sProp 𝕄 := iprop(∃ W, owes (c : Thread nD τ) (0 : CellTallies nD τ sig Unit) W)

/-- The loops as segments. -/
def seg0 : CSeg (pcfgs (F := F)) noAdm defs₀ Variants.none noIx noLvl loops noTicket :=
  loopSeg _ _ _ _ _ _ _ _ 0 main_while0_cond main_while0_body rfl Loop0.condOps Loop0.bodyI Loop0.hbodyI
    (by rw [while0_body_chain]; rfl) 128 (W0 m) Owes (Loop0.loop_cond (W0 m) (W0_ctr m) Owes)
def seg1 : CSeg (pcfgs (F := F)) noAdm defs₀ Variants.none noIx noLvl loops noTicket :=
  loopSeg _ _ _ _ _ _ _ _ 1 main_while1_cond main_while1_body rfl Loop1.condOps Loop1.bodyI Loop1.hbodyI
    (by rw [while1_body_chain]; rfl) 128 (W1 m) Owes (Loop1.loop_cond (W1 m) (W1_ctr m) Owes)
def seg2 : CSeg (pcfgs (F := F)) noAdm defs₀ Variants.none noIx noLvl loops noTicket :=
  loopSeg _ _ _ _ _ _ _ _ 2 main_while2_cond main_while2_body rfl Loop2.condOps Loop2.bodyI Loop2.hbodyI
    (by rw [while2_body_chain]; rfl) 128 (W2 m) Owes (Loop2.loop_cond (W2 m) (W2_ctr m) Owes)

def mainSegs : List (CSeg (pcfgs (F := F)) noAdm defs₀ Variants.none noIx noLvl loops noTicket) :=
  segsOf _ _ _ _ _ _ _ _ Owes [hostOps0] plain0 (launchContents m)
    ++ seg0 m :: (segsOf _ _ _ _ _ _ _ _ Owes [hostOps0_1] plain1 (X0 m)
    ++ seg1 m :: (segsOf _ _ _ _ _ _ _ _ Owes [hostOps0_2] plain2 (X1 m)
    ++ seg2 m :: segsOf _ _ _ _ _ _ _ _ Owes [hostOps0_3] plain3 (X2 m)))

theorem mainSegs_prog : (mainSegs m).map CSeg.prog
    = [ StableHlo.seq hostOps0, HostLoop.enter 0, StableHlo.seq hostOps0_1, HostLoop.enter 1,
        StableHlo.seq hostOps0_2, HostLoop.enter 2, StableHlo.seq hostOps0_3 ] := by
  unfold mainSegs
  simp only [List.map_append, List.map_cons, segsOf_prog]
  rfl

theorem mainSegs_chains :
    CSeg.Chains (fun c => iprop(held (c : Thread nD τ) (ucRefs τ sig) (launchContents m c) ∗ Owes c)) (mainSegs m)
      (fun c => iprop(iprop(held (c : Thread nD τ) (ucRefs τ sig) (W3 m c)) ∗ ∃ W, owes (c : Thread nD τ) (0 : CellTallies nD τ sig Unit) W)) := by
  unfold mainSegs
  refine CSeg.Chains.append (segsOf_chains _ _ _ _ _ _ _ _ Owes _ plain0 _) ⟨fun _ => .rfl, ?_⟩
  refine CSeg.Chains.append (segsOf_chains _ _ _ _ _ _ _ _ Owes _ plain1 _) ⟨fun _ => .rfl, ?_⟩
  refine CSeg.Chains.append (segsOf_chains _ _ _ _ _ _ _ _ Owes _ plain2 _) ⟨fun _ => .rfl, ?_⟩
  exact segsOf_chains _ _ _ _ _ _ _ _ Owes _ plain3 _

set_option maxRecDepth 16384 in
/-- From any memory with zero counters every weakly fair execution of @main terminates, and every buffer that holds a
    value of the program ends at `W3`. -/
theorem run_main [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = W3 m c (Proc.devRef .tc b)) :=
  Pipeline.θ_run_regions_loop_kit (Ix := Unit) (Name := ℕ) (U := Option PUnit) (Lvl := ℕ) (J := Fin 0) (P := Fin 0) (Val := Elt F)
    (pcfgs (F := F)) noAdm noCell_injective defs₀ Variants.none noIx noLvl loops noTicket m ρ main (mainSegs m)
    (fun c Q => by
      rw [main_chain c]
      show wp _ _ _ (Pipeline.chain ((mainSegs m).map CSeg.prog)) Q ⊢ _
      rw [mainSegs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owes c))
    (Tₙ := fun c => iprop(held (c : Thread nD τ) (ucRefs τ sig) (W3 m c)))
    (hch := mainSegs_chains m)
    (hinit := by
      refine Pipeline.initEach noIx noLvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W3 m c b)
    (hfin := fun c s' => by
      unfold held
      iintro ⟨Hh, HSI⟩
      ihave Hr := (pointsTo_read_all (ucRefs τ sig) (fun b => ((c : Dev nD), b)) (fun b => W3 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The program has no semaphore: every counter of every memory is zero. -/
theorem sem_zero (s : MemSt nD τ sig (Elt F)) : s.sem = fun _ => 0 := sem_eq_zero_of_no_sems (by decide) s

end Cert.ReferenceIdeal.Host

end
-- ==== Proof.RefSteps.lean ====
/-
  One trip of each of the reference's loops at an index: the gates, the new cell, the new hidden vector, and the row
  of results that the trip writes.
-/
module

public import proofs.«01_k».proof.Proof.RefRun
public import proofs.«01_k».proof.Proof.Math
public import Idealize.ShloMosaic.Lib.Pointwise
public import Idealize.ShloMosaic.Lib.WordCmp
public import Idealize.ShloMosaic.Lib.IdealHost

@[expose] public section

set_option maxRecDepth 16384

noncomputable section

namespace Cert.ReferenceIdeal.Host

open Cert.ReferenceIdeal Cert.ReferenceIdeal.Gen Cert.Rnn
open Idealize.ShloMosaic Idealize.ShloMosaic.TcCoe Idealize.ShloMosaic.Tactic
open Idealize.ShloMosaic.StableHlo

/-! ## The pieces, at an index -/

/-- The start indices of a trip's slices: the counter, and two zeros. -/
abbrev startOf (ctr : IVec S_ 32) : Fin 3 → Int :=
  fun k => (((![ctr, constantI S_ 32 0#32, constantI S_ 32 0#32] : Fin 3 → (⟨S_, .i32⟩ : BufTy).Contents (Elt Ideal))) k (Shape.Idx.first h_S_)).toInt

theorem startOf_eq (ctr : IVec S_ 32) (k : ℕ) (hk : k < 128) (h : ctr = fun _ => Scf.iv 0#32 1#32 k) (a : Fin 3) :
    startOf ctr a = ((![k, 0, 0] : Fin 3 → ℕ) a : Int) := by
  subst h
  fin_cases a
  · show (Scf.iv 0#32 1#32 k).toInt = (k : Int)
    have : Scf.iv 0#32 1#32 k = BitVec.ofNat 32 k := by simp [Scf.iv]
    rw [this]
    exact WordCmp.toInt_ofNat_of_lt (by omega)
  · rfl
  · rfl

/-- Row `k` of the LSTM's inputs. -/
theorem row384_at (X : FVec Ideal S128x32x384 .f32) (ctr : IVec S_ 32) (k : ℕ) (hk : k < 128) (h : ctr = fun _ => Scf.iv 0#32 1#32 k)
    (b : Fin 32) (q : Fin 384) :
    shapeCast S32x384 (Host.dynamicSlice S1x32x384 X (startOf ctr) sliceFits_S128x32x384_S1x32x384) shapeCasts_S1x32x384_S32x384 (ix2 b q)
      = X (ix3 ⟨k, hk⟩ b q) := by
  rw [WordCmp.dynamicSlice_eq_extract S1x32x384 X (startOf ctr) sliceFits_S128x32x384_S1x32x384 ![k, 0, 0]
    ⟨rfl, fun a => by fin_cases a <;> simp <;> omega⟩ (startOf_eq ctr k hk h)]
  pointwise

/-- Row `k` of the GRU's inputs. -/
theorem row300_at (X : FVec Ideal S128x32x300 .f32) (ctr : IVec S_ 32) (k : ℕ) (hk : k < 128) (h : ctr = fun _ => Scf.iv 0#32 1#32 k)
    (b : Fin 32) (q : Fin 300) :
    shapeCast S32x300 (Host.dynamicSlice S1x32x300 X (startOf ctr) sliceFits_S128x32x300_S1x32x300) shapeCasts_S1x32x300_S32x300 (ix2 b q)
      = X (ix3 ⟨k, hk⟩ b q) := by
  rw [WordCmp.dynamicSlice_eq_extract S1x32x300 X (startOf ctr) sliceFits_S128x32x300_S1x32x300 ![k, 0, 0]
    ⟨rfl, fun a => by fin_cases a <;> simp <;> omega⟩ (startOf_eq ctr k hk h)]
  pointwise

/-- The results with row `k` replaced. -/
theorem put_at (Y : FVec Ideal S128x32x150 .f32) (hn : FVec Ideal S32x150 .f32) (ctr : IVec S_ 32) (k : ℕ) (hk : k < 128)
    (h : ctr = fun _ => Scf.iv 0#32 1#32 k) (t : Fin 128) (b : Fin 32) (j : Fin 150) :
    Host.dynamicUpdateSlice Y (broadcastInDim S1x32x150 ![1, 2] bcast_S32x150_S1x32x150_1_2 hn) (startOf ctr) updateFits_S128x32x150_S1x32x150
        (ix3 t b j)
      = if t.val = k then hn (ix2 b j) else Y (ix3 t b j) := by
  rw [WordCmp.dynamicUpdateSlice_eq_update Y _ (startOf ctr) updateFits_S128x32x150_S1x32x150 ![k, 0, 0]
    ⟨rfl, fun a => by fin_cases a <;> simp <;> omega⟩ (startOf_eq ctr k hk h)]
  unfold updateSlice
  have hb := b.isLt
  have hj := j.isLt
  split
  · next hi =>
    have h0 := hi (0 : Fin 3)
    have e : t.val = k := by
      have a1 : k ≤ t.val := h0.1
      have a2 : t.val < k + 1 := h0.2
      omega
    rw [if_pos e]
    pointwise
  · next hi =>
    rw [if_neg]
    intro e
    refine hi fun a => ?_
    fin_cases a
    · exact ⟨le_of_eq e.symm, by show t.val < k + 1; omega⟩
    · exact ⟨Nat.zero_le _, by show b.val < 0 + 32; omega⟩
    · exact ⟨Nat.zero_le _, by show j.val < 0 + 150; omega⟩

/-- The gates of an LSTM step. -/
theorem gates_at (xt : FVec Ideal S32x384 .f32) (W : FVec Ideal S600x384 .f32) (bi : FVec Ideal S600 .f32) (Wh : FVec Ideal S600x150 .f32)
    (bh : FVec Ideal S600 .f32) (h : FVec Ideal S32x150 .f32) (b : Fin 32) (q : Fin 600) :
    addf (addf (addf (Host.dotGeneral dot_S32x384_S384x600_S32x600_1_0_0_1_n_n none xt (transpose S384x600 [1, 0] W transposes_S600x384_S384x600_1_0)) (broadcastInDim S32x600 ![0, 1] bcast_S1x600_S32x600_0_1 (broadcastInDim S1x600 ![1] bcast_S600_S1x600_1 bi))) (Host.dotGeneral dot_S32x150_S150x600_S32x600_1_0_0_1_n_n none h (transpose S150x600 [1, 0] Wh transposes_S600x150_S150x600_1_0))) (broadcastInDim S32x600 ![0, 1] bcast_S1x600_S32x600_0_1 (broadcastInDim S1x600 ![1] bcast_S600_S1x600_1 bh)) (ix2 b q)
      = rG (fun k => xt (ix2 b k)) (fun q k => W (ix2 q k)) (fun q k => Wh (ix2 q k)) (fun q => bi (ix1 q)) (fun q => bh (ix1 q)) (fun j => h (ix2 b j)) q := by
  pointwise [rG]

/-- The new cell of an LSTM step. -/
theorem cell_at (G : FVec Ideal S32x600 .f32) (c : FVec Ideal S32x150 .f32) (b : Fin 32) (j : Fin 150) :
    addf (mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 150] G slices_S32x600_S32x150_0_150))))) c) (mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 0] G slices_S32x600_S32x150_0_0))))) (Host.tanh (extractStridedSlice S32x150 ![0, 300] G slices_S32x600_S32x150_0_300))) (ix2 b j)
      = rC (fun q => G (ix2 b q)) (fun j => c (ix2 b j)) j := by
  have e0 : rq (n := 4) 0 j = ⟨j.val, by have := j.isLt; omega⟩ := Fin.ext (by simp [rq])
  unfold rC
  rw [e0]
  pointwise [Ideal.ofBits_one_f32]
  try rfl

/-- The new hidden vector of an LSTM step. -/
theorem hidden_at (G : FVec Ideal S32x600 .f32) (c : FVec Ideal S32x150 .f32) (b : Fin 32) (j : Fin 150) :
    mulf (Host.divf (broadcastInDim S32x150 ![] bcast_S_S32x150 (constant S_ .f32 0x3F800000#32)) (addf (broadcastInDim S32x150 ![] bcast_S_S32x150 (constant S_ .f32 0x3F800000#32)) (Host.exp (Host.negf (extractStridedSlice S32x150 ![0, 450] G slices_S32x600_S32x150_0_450))))) (Host.tanh c) (ix2 b j)
      = Ideal.logistic (G (ix2 b (rq (n := 4) 3 j))) * Ideal.tanh (c (ix2 b j)) := by
  pointwise [Ideal.ofBits_one_f32]
  try rfl

/-- Either half of a GRU step. -/
theorem half300_at (xt : FVec Ideal S32x300 .f32) (W : FVec Ideal S450x300 .f32) (bi : FVec Ideal S450 .f32) (b : Fin 32) (q : Fin 450) :
    addf (Host.dotGeneral dot_S32x300_S300x450_S32x450_1_0_0_1_n_n none xt (transpose S300x450 [1, 0] W transposes_S450x300_S300x450_1_0)) (broadcastInDim S32x450 ![0, 1] bcast_S1x450_S32x450_0_1 (broadcastInDim S1x450 ![1] bcast_S450_S1x450_1 bi)) (ix2 b q)
      = rGh (fun q k => W (ix2 q k)) (fun q => bi (ix1 q)) (fun k => xt (ix2 b k)) q := by
  pointwise [rGh]
theorem half150_at (h : FVec Ideal S32x150 .f32) (W : FVec Ideal S450x150 .f32) (bh : FVec Ideal S450 .f32) (b : Fin 32) (q : Fin 450) :
    addf (Host.dotGeneral dot_S32x150_S150x450_S32x450_1_0_0_1_n_n none h (transpose S150x450 [1, 0] W transposes_S450x150_S150x450_1_0)) (broadcastInDim S32x450 ![0, 1] bcast_S1x450_S32x450_0_1 (broadcastInDim S1x450 ![1] bcast_S450_S1x450_1 bh)) (ix2 b q)
      = rGh (fun q k => W (ix2 q k)) (fun q => bh (ix1 q)) (fun k => h (ix2 b k)) q := by
  pointwise [rGh]

/-- The update gate of a GRU step. -/
theorem update_at (Gi Gh : FVec Ideal S32x450 .f32) (b : Fin 32) (j : Fin 150) :
    Host.divf (broadcastInDim S32x150 ![] bcast_S_S32x150 (constant S_ .f32 0x3F800000#32)) (addf (broadcastInDim S32x150 ![] bcast_S_S32x150 (constant S_ .f32 0x3F800000#32)) (Host.exp (Host.negf (addf (extractStridedSlice S32x150 ![0, 150] Gi slices_S32x450_S32x150_0_150) (extractStridedSlice S32x150 ![0, 150] Gh slices_S32x450_S32x150_0_150))))) (ix2 b j)
      = Ideal.logistic (Gi (ix2 b (rq (n := 3) 1 j)) + Gh (ix2 b (rq (n := 3) 1 j))) := by
  pointwise [Ideal.ofBits_one_f32]
  try rfl

/-- The new hidden vector of a GRU step. -/
theorem gru_at (Gi Gh : FVec Ideal S32x450 .f32) (z h : FVec Ideal S32x150 .f32) (b : Fin 32) (j : Fin 150)
    (hz : z (ix2 b j) = Ideal.logistic (Gi (ix2 b (rq (n := 3) 1 j)) + Gh (ix2 b (rq (n := 3) 1 j)))) :
    addf (mulf (subf (broadcastInDim S32x150 ![] bcast_S_S32x150 (constant S_ .f32 0x3F800000#32)) z) (Host.tanh (addf (extractStridedSlice S32x150 ![0, 300] Gi slices_S32x450_S32x150_0_300) (mulf (Host.divf (broadcastInDim S32x150 ![] bcast_S_S32x150 (constant S_ .f32 0x3F800000#32)) (addf (broadcastInDim S32x150 ![] bcast_S_S32x150 (constant S_ .f32 0x3F800000#32)) (Host.exp (Host.negf (addf (extractStridedSlice S32x150 ![0, 0] Gi slices_S32x450_S32x150_0_0) (extractStridedSlice S32x150 ![0, 0] Gh slices_S32x450_S32x150_0_0)))))) (extractStridedSlice S32x150 ![0, 300] Gh slices_S32x450_S32x150_0_300))))) (mulf z h) (ix2 b j)
      = rGruStep (fun q => Gi (ix2 b q)) (fun q => Gh (ix2 b q)) (fun j => h (ix2 b j)) j := by
  have e0 : rq (n := 3) 0 j = ⟨j.val, by have := j.isLt; omega⟩ := Fin.ext (by simp [rq])
  unfold rGruStep
  rw [e0, ← hz]
  pointwise [Ideal.ofBits_one_f32]
  try rfl

/-! ## The trips -/

theorem gates0 (Z : Valuation τ sig (Elt Ideal)) (k : ℕ) (hk : k < 128) (hc : Z (Proc.devRef .tc main_v18_5) = fun _ => Scf.iv 0#32 1#32 k) (b : Fin 32) (q : Fin 600) :
    Loop0.res_main_while0b_v63 Z (ix2 b q) = rG (fun k' => Z (Proc.devRef .tc main_v18_0) (ix3 ⟨k, hk⟩ b k')) (fun q k => Z (Proc.devRef .tc main_v18_1) (ix2 q k)) (fun q k => Z (Proc.devRef .tc main_v18_3) (ix2 q k)) (fun q => Z (Proc.devRef .tc main_v18_2) (ix1 q)) (fun q => Z (Proc.devRef .tc main_v18_4) (ix1 q)) (fun j => Z (Proc.devRef .tc main_v18_6) (ix2 b j)) q := by
  unfold Loop0.res_main_while0b_v63
  refine (gates_at _ _ _ _ _ _ b q).trans ?_
  exact congrArg (fun f => rG f _ _ _ _ _ q) (funext fun k' => row384_at _ _ k hk hc b k')

theorem cell0 (Z : Valuation τ sig (Elt Ideal)) (k : ℕ) (hk : k < 128) (hc : Z (Proc.devRef .tc main_v18_5) = fun _ => Scf.iv 0#32 1#32 k) (b : Fin 32) (j : Fin 150) :
    Loop0.res_main_while0b_v83 Z (ix2 b j) = rC (rG (fun k' => Z (Proc.devRef .tc main_v18_0) (ix3 ⟨k, hk⟩ b k')) (fun q k => Z (Proc.devRef .tc main_v18_1) (ix2 q k)) (fun q k => Z (Proc.devRef .tc main_v18_3) (ix2 q k)) (fun q => Z (Proc.devRef .tc main_v18_2) (ix1 q)) (fun q => Z (Proc.devRef .tc main_v18_4) (ix1 q)) (fun j => Z (Proc.devRef .tc main_v18_6) (ix2 b j))) (fun j => Z (Proc.devRef .tc main_v18_7) (ix2 b j)) j := by
  unfold Loop0.res_main_while0b_v83
  refine (cell_at _ _ b j).trans ?_
  simp only [gates0 Z k hk hc]

theorem hidden0 (Z : Valuation τ sig (Elt Ideal)) (k : ℕ) (hk : k < 128) (hc : Z (Proc.devRef .tc main_v18_5) = fun _ => Scf.iv 0#32 1#32 k) (b : Fin 32) (j : Fin 150) :
    Loop0.res_main_while0b_v91 Z (ix2 b j) = rH (rG (fun k' => Z (Proc.devRef .tc main_v18_0) (ix3 ⟨k, hk⟩ b k')) (fun q k => Z (Proc.devRef .tc main_v18_1) (ix2 q k)) (fun q k => Z (Proc.devRef .tc main_v18_3) (ix2 q k)) (fun q => Z (Proc.devRef .tc main_v18_2) (ix1 q)) (fun q => Z (Proc.devRef .tc main_v18_4) (ix1 q)) (fun j => Z (Proc.devRef .tc main_v18_6) (ix2 b j))) (fun j => Z (Proc.devRef .tc main_v18_7) (ix2 b j)) j := by
  unfold Loop0.res_main_while0b_v91
  refine (hidden_at _ _ b j).trans ?_
  rw [gates0 Z k hk hc, cell0 Z k hk hc]
  rfl

theorem gates1 (Z : Valuation τ sig (Elt Ideal)) (k : ℕ) (hk : k < 128) (hc : Z (Proc.devRef .tc main_v32_5) = fun _ => Scf.iv 0#32 1#32 k) (b : Fin 32) (q : Fin 600) :
    Loop1.res_main_while1b_v63 Z (ix2 b q) = rG (fun k' => Z (Proc.devRef .tc main_v32_0) (ix3 ⟨k, hk⟩ b k')) (fun q k => Z (Proc.devRef .tc main_v32_1) (ix2 q k)) (fun q k => Z (Proc.devRef .tc main_v32_3) (ix2 q k)) (fun q => Z (Proc.devRef .tc main_v32_2) (ix1 q)) (fun q => Z (Proc.devRef .tc main_v32_4) (ix1 q)) (fun j => Z (Proc.devRef .tc main_v32_6) (ix2 b j)) q := by
  unfold Loop1.res_main_while1b_v63
  refine (gates_at _ _ _ _ _ _ b q).trans ?_
  exact congrArg (fun f => rG f _ _ _ _ _ q) (funext fun k' => row384_at _ _ k hk hc b k')

theorem cell1 (Z : Valuation τ sig (Elt Ideal)) (k : ℕ) (hk : k < 128) (hc : Z (Proc.devRef .tc main_v32_5) = fun _ => Scf.iv 0#32 1#32 k) (b : Fin 32) (j : Fin 150) :
    Loop1.res_main_while1b_v83 Z (ix2 b j) = rC (rG (fun k' => Z (Proc.devRef .tc main_v32_0) (ix3 ⟨k, hk⟩ b k')) (fun q k => Z (Proc.devRef .tc main_v32_1) (ix2 q k)) (fun q k => Z (Proc.devRef .tc main_v32_3) (ix2 q k)) (fun q => Z (Proc.devRef .tc main_v32_2) (ix1 q)) (fun q => Z (Proc.devRef .tc main_v32_4) (ix1 q)) (fun j => Z (Proc.devRef .tc main_v32_6) (ix2 b j))) (fun j => Z (Proc.devRef .tc main_v32_7) (ix2 b j)) j := by
  unfold Loop1.res_main_while1b_v83
  refine (cell_at _ _ b j).trans ?_
  simp only [gates1 Z k hk hc]

theorem hidden1 (Z : Valuation τ sig (Elt Ideal)) (k : ℕ) (hk : k < 128) (hc : Z (Proc.devRef .tc main_v32_5) = fun _ => Scf.iv 0#32 1#32 k) (b : Fin 32) (j : Fin 150) :
    Loop1.res_main_while1b_v91 Z (ix2 b j) = rH (rG (fun k' => Z (Proc.devRef .tc main_v32_0) (ix3 ⟨k, hk⟩ b k')) (fun q k => Z (Proc.devRef .tc main_v32_1) (ix2 q k)) (fun q k => Z (Proc.devRef .tc main_v32_3) (ix2 q k)) (fun q => Z (Proc.devRef .tc main_v32_2) (ix1 q)) (fun q => Z (Proc.devRef .tc main_v32_4) (ix1 q)) (fun j => Z (Proc.devRef .tc main_v32_6) (ix2 b j))) (fun j => Z (Proc.devRef .tc main_v32_7) (ix2 b j)) j := by
  unfold Loop1.res_main_while1b_v91
  refine (hidden_at _ _ b j).trans ?_
  rw [gates1 Z k hk hc, cell1 Z k hk hc]
  rfl

theorem hidden2 (Z : Valuation τ sig (Elt Ideal)) (k : ℕ) (hk : k < 128) (hc : Z (Proc.devRef .tc main_v44_5) = fun _ => Scf.iv 0#32 1#32 k) (b : Fin 32) (j : Fin 150) :
    Loop2.res_main_while2b_v90 Z (ix2 b j)
      = rGruStep (rGh (fun q k => Z (Proc.devRef .tc main_v44_1) (ix2 q k)) (fun q => Z (Proc.devRef .tc main_v44_2) (ix1 q)) (fun q => Z (Proc.devRef .tc main_v44_0) (ix3 ⟨k, hk⟩ b q)))
          (rGh (fun q k => Z (Proc.devRef .tc main_v44_3) (ix2 q k)) (fun q => Z (Proc.devRef .tc main_v44_4) (ix1 q)) (fun j => Z (Proc.devRef .tc main_v44_6) (ix2 b j))) (fun j => Z (Proc.devRef .tc main_v44_6) (ix2 b j)) j := by
  have e1 : ∀ q, Loop2.res_main_while2b_v57 Z (ix2 b q) = rGh (fun q k => Z (Proc.devRef .tc main_v44_1) (ix2 q k)) (fun q => Z (Proc.devRef .tc main_v44_2) (ix1 q)) (fun q => Z (Proc.devRef .tc main_v44_0) (ix3 ⟨k, hk⟩ b q)) q := fun q => by
    unfold Loop2.res_main_while2b_v57
    refine (half300_at _ _ _ b q).trans ?_
    exact congrArg (fun f => rGh _ _ f q) (funext fun k' => row300_at _ _ k hk hc b k')
  have e2 : ∀ q, Loop2.res_main_while2b_v62 Z (ix2 b q) = rGh (fun q k => Z (Proc.devRef .tc main_v44_3) (ix2 q k)) (fun q => Z (Proc.devRef .tc main_v44_4) (ix1 q)) (fun j => Z (Proc.devRef .tc main_v44_6) (ix2 b j)) q := fun q => by
    unfold Loop2.res_main_while2b_v62
    exact half150_at _ _ _ b q
  unfold Loop2.res_main_while2b_v90
  refine (gru_at _ _ _ _ b j ?_).trans ?_
  · unfold Loop2.res_main_while2b_v82
    exact update_at _ _ b j
  · simp only [e1, e2]

end Cert.ReferenceIdeal.Host

end
-- ==== Proof.RefValue.lean ====
/-
  The reference program's result at an index: the recurrences of its three loops, read from the arrays as launched.
-/
module

public import proofs.«01_k».proof.Proof.RefSteps

@[expose] public section

set_option maxRecDepth 16384

noncomputable section

namespace Cert.ReferenceIdeal.Host

open Cert.ReferenceIdeal Cert.ReferenceIdeal.Gen Cert.Rnn
open Idealize.ShloMosaic Idealize.ShloMosaic.TcCoe Idealize.ShloMosaic.Tactic
open Idealize.ShloMosaic.StableHlo

/-! ## The sequences that the loops compute -/

/-- A sequence of LSTM states and result rows, each from the one before, is the recurrence. -/
theorem lstm_seq (x : Fin 32 → ℕ → Fin 384 → EReal) (Wi : Fin 600 → Fin 384 → EReal) (Wh : Fin 600 → Fin 150 → EReal) (bi bh : Fin 600 → EReal)
    (H C : ℕ → FVec Ideal S32x150 .f32) (Y : ℕ → FVec Ideal S128x32x150 .f32)
    (hH0 : ∀ b j, H 0 (ix2 b j) = 0) (hC0 : ∀ b j, C 0 (ix2 b j) = 0)
    (hC : ∀ k, k < 128 → ∀ b j, C (k + 1) (ix2 b j) = rC (rG (x b k) Wi Wh bi bh fun j => H k (ix2 b j)) (fun j => C k (ix2 b j)) j)
    (hH : ∀ k, k < 128 → ∀ b j, H (k + 1) (ix2 b j) = rH (rG (x b k) Wi Wh bi bh fun j => H k (ix2 b j)) (fun j => C k (ix2 b j)) j)
    (hY : ∀ k, k < 128 → ∀ (t : Fin 128) b j, Y (k + 1) (ix3 t b j) = if t.val = k then H (k + 1) (ix2 b j) else Y k (ix3 t b j)) :
    ∀ k, k ≤ 128 → (∀ b, (fun j => H k (ix2 b j)) = (rLstm (x b) Wi Wh bi bh k).1 ∧ (fun j => C k (ix2 b j)) = (rLstm (x b) Wi Wh bi bh k).2)
      ∧ ∀ (t : Fin 128) b j, t.val < k → Y k (ix3 t b j) = (rLstm (x b) Wi Wh bi bh (t.val + 1)).1 j
  | 0, _ => ⟨fun b => ⟨funext fun j => hH0 b j, funext fun j => hC0 b j⟩, fun _ _ _ h => absurd h (Nat.not_lt_zero _)⟩
  | k + 1, hk => by
    obtain ⟨h1, h2⟩ := lstm_seq x Wi Wh bi bh H C Y hH0 hC0 hC hH hY k (by omega)
    have s1 : ∀ b, (fun j => H (k + 1) (ix2 b j)) = (rLstm (x b) Wi Wh bi bh (k + 1)).1 := fun b => by
      funext j
      rw [hH k (by omega), (h1 b).1, (h1 b).2]; rfl
    have s2 : ∀ b, (fun j => C (k + 1) (ix2 b j)) = (rLstm (x b) Wi Wh bi bh (k + 1)).2 := fun b => by
      funext j
      rw [hC k (by omega), (h1 b).1, (h1 b).2]; rfl
    refine ⟨fun b => ⟨s1 b, s2 b⟩, fun t b j ht => ?_⟩
    rw [hY k (by omega)]
    by_cases e : t.val = k
    · rw [if_pos e, e]; exact congrFun (s1 b) j
    · rw [if_neg e]; exact h2 t b j (by omega)

/-- The same for a GRU whose input is the same at every step. -/
theorem gru_seq (gi : Fin 32 → Fin 450 → EReal) (Wh : Fin 450 → Fin 150 → EReal) (bh : Fin 450 → EReal)
    (H : ℕ → FVec Ideal S32x150 .f32) (Y : ℕ → FVec Ideal S128x32x150 .f32) (hH0 : ∀ b j, H 0 (ix2 b j) = 0)
    (hH : ∀ k, k < 128 → ∀ b j, H (k + 1) (ix2 b j) = rGruStep (gi b) (rGh Wh bh fun j => H k (ix2 b j)) (fun j => H k (ix2 b j)) j)
    (hY : ∀ k, k < 128 → ∀ (t : Fin 128) b j, Y (k + 1) (ix3 t b j) = if t.val = k then H (k + 1) (ix2 b j) else Y k (ix3 t b j)) :
    ∀ k, k ≤ 128 → (∀ b, (fun j => H k (ix2 b j)) = rGru (gi b) Wh bh k)
      ∧ ∀ (t : Fin 128) b j, t.val < k → Y k (ix3 t b j) = rGru (gi b) Wh bh (t.val + 1) j
  | 0, _ => ⟨fun b => funext fun j => hH0 b j, fun _ _ _ h => absurd h (Nat.not_lt_zero _)⟩
  | k + 1, hk => by
    obtain ⟨h1, h2⟩ := gru_seq gi Wh bh H Y hH0 hH hY k (by omega)
    have s1 : ∀ b, (fun j => H (k + 1) (ix2 b j)) = rGru (gi b) Wh bh (k + 1) := fun b => by
      funext j
      rw [hH k (by omega), h1 b]; rfl
    refine ⟨s1, fun t b j ht => ?_⟩
    rw [hY k (by omega)]
    by_cases e : t.val = k
    · rw [if_pos e, e]; exact congrFun (s1 b) j
    · rw [if_neg e]; exact h2 t b j (by omega)

theorem rG_congr {x x' : Fin 384 → EReal} {Wi Wi' : Fin 600 → Fin 384 → EReal} {Wh Wh' : Fin 600 → Fin 150 → EReal} {bi bi' bh bh' : Fin 600 → EReal}
    (h : Fin 150 → EReal) (e1 : ∀ k, x k = x' k) (e2 : ∀ q k, Wi q k = Wi' q k) (e3 : ∀ q k, Wh q k = Wh' q k) (e4 : ∀ q, bi q = bi' q)
    (e5 : ∀ q, bh q = bh' q) : rG x Wi Wh bi bh h = rG x' Wi' Wh' bi' bh' h := by
  rw [funext e1, funext fun q => funext (e2 q), funext fun q => funext (e3 q), funext e4, funext e5]

theorem rGh_congr {n : ℕ} {W W' : Fin 450 → Fin n → EReal} {b b' : Fin 450 → EReal} {x x' : Fin n → EReal}
    (e1 : ∀ q k, W q k = W' q k) (e2 : ∀ q, b q = b' q) (e3 : ∀ k, x k = x' k) : rGh W b x = rGh W' b' x' := by
  rw [funext fun q => funext (e1 q), funext e2, funext e3]

theorem rCtx_congr {f f' g g' : Fin 150 → EReal} (q : Fin 300) (e1 : ∀ j, f j = f' j) (e2 : ∀ j, g j = g' j) : rCtx f g q = rCtx f' g' q := by
  rw [funext e1, funext e2]

variable (m : (ℓ : Loc nD τ sig) → Buf (Elt Ideal) ℓ) (c : Dev nD)

seal W0 X0 W1 X1 W2 X2 W3

/-! ## What the loops leave alone -/

/-- Every buffer that a trip of loop 0 writes. -/
abbrev touched0 : List (Ref sig .tc) := Loop0.condOps_W ++ (Loop0.while0Ops0_W ++ (Loop0.while0Ops0_1_W ++ (Loop0.while0Ops0_2_W ++ (Loop0.while0Ops0_3_W))))

theorem still0 (W₀ : Dev nD → Valuation τ sig (Elt Ideal)) (r : Ref sig .tc) (h : r ∉ touched0) :
    ∀ k, atTrip Loop0.condOps Loop0.bodyI W₀ k c (Proc.devRef .tc r) = W₀ c (Proc.devRef .tc r)
  | 0 => rfl
  | k + 1 => by
    rw [atTrip_succ]
    simp only [touched0, List.mem_append, not_or] at h
    simp only [Loop0.bodyI, afterL_cons, afterL_nil]
    rw [after_of_writes_sub _ _ Loop0.while0Ops0_3_writes h.2.2.2.2, after_of_writes_sub _ _ Loop0.while0Ops0_2_writes h.2.2.2.1, after_of_writes_sub _ _ Loop0.while0Ops0_1_writes h.2.2.1, after_of_writes_sub _ _ Loop0.while0Ops0_writes h.2.1, after_of_writes_sub _ _ Loop0.condOps_writes h.1]
    exact still0 W₀ r (by simp only [touched0, List.mem_append, not_or]; exact h) k

theorem cond0 (X : Valuation τ sig (Elt Ideal)) (r : Ref sig .tc) (h : r ∉ Loop0.condOps_W) :
    after Loop0.condOps X (Proc.devRef .tc r) = X (Proc.devRef .tc r) := after_of_writes_sub _ _ Loop0.condOps_writes h

theorem through0 (r : Ref sig .tc) (h : r ∉ touched0) : X0 m c (Proc.devRef .tc r) = W0 m c (Proc.devRef .tc r) := by
  unfold X0
  rw [cond0 _ r (fun q => h (List.mem_append_left _ q)), still0 c _ r h]

/-- Every buffer that a trip of loop 1 writes. -/
abbrev touched1 : List (Ref sig .tc) := Loop1.condOps_W ++ (Loop1.while1Ops0_W ++ (Loop1.while1Ops0_1_W ++ (Loop1.while1Ops0_2_W ++ (Loop1.while1Ops0_3_W))))

theorem still1 (W₀ : Dev nD → Valuation τ sig (Elt Ideal)) (r : Ref sig .tc) (h : r ∉ touched1) :
    ∀ k, atTrip Loop1.condOps Loop1.bodyI W₀ k c (Proc.devRef .tc r) = W₀ c (Proc.devRef .tc r)
  | 0 => rfl
  | k + 1 => by
    rw [atTrip_succ]
    simp only [touched1, List.mem_append, not_or] at h
    simp only [Loop1.bodyI, afterL_cons, afterL_nil]
    rw [after_of_writes_sub _ _ Loop1.while1Ops0_3_writes h.2.2.2.2, after_of_writes_sub _ _ Loop1.while1Ops0_2_writes h.2.2.2.1, after_of_writes_sub _ _ Loop1.while1Ops0_1_writes h.2.2.1, after_of_writes_sub _ _ Loop1.while1Ops0_writes h.2.1, after_of_writes_sub _ _ Loop1.condOps_writes h.1]
    exact still1 W₀ r (by simp only [touched1, List.mem_append, not_or]; exact h) k

theorem cond1 (X : Valuation τ sig (Elt Ideal)) (r : Ref sig .tc) (h : r ∉ Loop1.condOps_W) :
    after Loop1.condOps X (Proc.devRef .tc r) = X (Proc.devRef .tc r) := after_of_writes_sub _ _ Loop1.condOps_writes h

theorem through1 (r : Ref sig .tc) (h : r ∉ touched1) : X1 m c (Proc.devRef .tc r) = W1 m c (Proc.devRef .tc r) := by
  unfold X1
  rw [cond1 _ r (fun q => h (List.mem_append_left _ q)), still1 c _ r h]

/-- Every buffer that a trip of loop 2 writes. -/
abbrev touched2 : List (Ref sig .tc) := Loop2.condOps_W ++ (Loop2.while2Ops0_W ++ (Loop2.while2Ops0_1_W ++ (Loop2.while2Ops0_2_W ++ (Loop2.while2Ops0_3_W))))

theorem still2 (W₀ : Dev nD → Valuation τ sig (Elt Ideal)) (r : Ref sig .tc) (h : r ∉ touched2) :
    ∀ k, atTrip Loop2.condOps Loop2.bodyI W₀ k c (Proc.devRef .tc r) = W₀ c (Proc.devRef .tc r)
  | 0 => rfl
  | k + 1 => by
    rw [atTrip_succ]
    simp only [touched2, List.mem_append, not_or] at h
    simp only [Loop2.bodyI, afterL_cons, afterL_nil]
    rw [after_of_writes_sub _ _ Loop2.while2Ops0_3_writes h.2.2.2.2, after_of_writes_sub _ _ Loop2.while2Ops0_2_writes h.2.2.2.1, after_of_writes_sub _ _ Loop2.while2Ops0_1_writes h.2.2.1, after_of_writes_sub _ _ Loop2.while2Ops0_writes h.2.1, after_of_writes_sub _ _ Loop2.condOps_writes h.1]
    exact still2 W₀ r (by simp only [touched2, List.mem_append, not_or]; exact h) k

theorem cond2 (X : Valuation τ sig (Elt Ideal)) (r : Ref sig .tc) (h : r ∉ Loop2.condOps_W) :
    after Loop2.condOps X (Proc.devRef .tc r) = X (Proc.devRef .tc r) := after_of_writes_sub _ _ Loop2.condOps_writes h

theorem through2 (r : Ref sig .tc) (h : r ∉ touched2) : X2 m c (Proc.devRef .tc r) = W2 m c (Proc.devRef .tc r) := by
  unfold X2
  rw [cond2 _ r (fun q => h (List.mem_append_left _ q)), still2 c _ r h]
/-! ## The arguments -/

theorem W0_arg0 : W0 m c (Proc.devRef .tc main_arg0) = launchContents m c (Proc.devRef .tc main_arg0) := by
  unfold W0
  after_reads_simp
theorem X0_arg0 : X0 m c (Proc.devRef .tc main_arg0) = launchContents m c (Proc.devRef .tc main_arg0) :=
  (through0 m c main_arg0 (by decide)).trans (W0_arg0 m c)
theorem W1_arg0 : W1 m c (Proc.devRef .tc main_arg0) = launchContents m c (Proc.devRef .tc main_arg0) := by
  unfold W1
  after_reads_simp
  exact X0_arg0 m c
theorem X1_arg0 : X1 m c (Proc.devRef .tc main_arg0) = launchContents m c (Proc.devRef .tc main_arg0) :=
  (through1 m c main_arg0 (by decide)).trans (W1_arg0 m c)
theorem W2_arg0 : W2 m c (Proc.devRef .tc main_arg0) = launchContents m c (Proc.devRef .tc main_arg0) := by
  unfold W2
  after_reads_simp
  exact X1_arg0 m c
theorem X2_arg0 : X2 m c (Proc.devRef .tc main_arg0) = launchContents m c (Proc.devRef .tc main_arg0) :=
  (through2 m c main_arg0 (by decide)).trans (W2_arg0 m c)
theorem W3_arg0 : W3 m c (Proc.devRef .tc main_arg0) = launchContents m c (Proc.devRef .tc main_arg0) := by
  unfold W3
  after_reads_simp
  exact X2_arg0 m c
theorem W0_arg1 : W0 m c (Proc.devRef .tc main_arg1) = launchContents m c (Proc.devRef .tc main_arg1) := by
  unfold W0
  after_reads_simp
theorem X0_arg1 : X0 m c (Proc.devRef .tc main_arg1) = launchContents m c (Proc.devRef .tc main_arg1) :=
  (through0 m c main_arg1 (by decide)).trans (W0_arg1 m c)
theorem W1_arg1 : W1 m c (Proc.devRef .tc main_arg1) = launchContents m c (Proc.devRef .tc main_arg1) := by
  unfold W1
  after_reads_simp
  exact X0_arg1 m c
theorem X1_arg1 : X1 m c (Proc.devRef .tc main_arg1) = launchContents m c (Proc.devRef .tc main_arg1) :=
  (through1 m c main_arg1 (by decide)).trans (W1_arg1 m c)
theorem W2_arg1 : W2 m c (Proc.devRef .tc main_arg1) = launchContents m c (Proc.devRef .tc main_arg1) := by
  unfold W2
  after_reads_simp
  exact X1_arg1 m c
theorem X2_arg1 : X2 m c (Proc.devRef .tc main_arg1) = launchContents m c (Proc.devRef .tc main_arg1) :=
  (through2 m c main_arg1 (by decide)).trans (W2_arg1 m c)
theorem W3_arg1 : W3 m c (Proc.devRef .tc main_arg1) = launchContents m c (Proc.devRef .tc main_arg1) := by
  unfold W3
  after_reads_simp
  exact X2_arg1 m c
theorem W0_arg2 : W0 m c (Proc.devRef .tc main_arg2) = launchContents m c (Proc.devRef .tc main_arg2) := by
  unfold W0
  after_reads_simp
theorem X0_arg2 : X0 m c (Proc.devRef .tc main_arg2) = launchContents m c (Proc.devRef .tc main_arg2) :=
  (through0 m c main_arg2 (by decide)).trans (W0_arg2 m c)
theorem W1_arg2 : W1 m c (Proc.devRef .tc main_arg2) = launchContents m c (Proc.devRef .tc main_arg2) := by
  unfold W1
  after_reads_simp
  exact X0_arg2 m c
theorem X1_arg2 : X1 m c (Proc.devRef .tc main_arg2) = launchContents m c (Proc.devRef .tc main_arg2) :=
  (through1 m c main_arg2 (by decide)).trans (W1_arg2 m c)
theorem W2_arg2 : W2 m c (Proc.devRef .tc main_arg2) = launchContents m c (Proc.devRef .tc main_arg2) := by
  unfold W2
  after_reads_simp
  exact X1_arg2 m c
theorem X2_arg2 : X2 m c (Proc.devRef .tc main_arg2) = launchContents m c (Proc.devRef .tc main_arg2) :=
  (through2 m c main_arg2 (by decide)).trans (W2_arg2 m c)
theorem W3_arg2 : W3 m c (Proc.devRef .tc main_arg2) = launchContents m c (Proc.devRef .tc main_arg2) := by
  unfold W3
  after_reads_simp
  exact X2_arg2 m c
theorem W0_arg3 : W0 m c (Proc.devRef .tc main_arg3) = launchContents m c (Proc.devRef .tc main_arg3) := by
  unfold W0
  after_reads_simp
theorem X0_arg3 : X0 m c (Proc.devRef .tc main_arg3) = launchContents m c (Proc.devRef .tc main_arg3) :=
  (through0 m c main_arg3 (by decide)).trans (W0_arg3 m c)
theorem W1_arg3 : W1 m c (Proc.devRef .tc main_arg3) = launchContents m c (Proc.devRef .tc main_arg3) := by
  unfold W1
  after_reads_simp
  exact X0_arg3 m c
theorem X1_arg3 : X1 m c (Proc.devRef .tc main_arg3) = launchContents m c (Proc.devRef .tc main_arg3) :=
  (through1 m c main_arg3 (by decide)).trans (W1_arg3 m c)
theorem W2_arg3 : W2 m c (Proc.devRef .tc main_arg3) = launchContents m c (Proc.devRef .tc main_arg3) := by
  unfold W2
  after_reads_simp
  exact X1_arg3 m c
theorem X2_arg3 : X2 m c (Proc.devRef .tc main_arg3) = launchContents m c (Proc.devRef .tc main_arg3) :=
  (through2 m c main_arg3 (by decide)).trans (W2_arg3 m c)
theorem W3_arg3 : W3 m c (Proc.devRef .tc main_arg3) = launchContents m c (Proc.devRef .tc main_arg3) := by
  unfold W3
  after_reads_simp
  exact X2_arg3 m c
theorem W0_arg4 : W0 m c (Proc.devRef .tc main_arg4) = launchContents m c (Proc.devRef .tc main_arg4) := by
  unfold W0
  after_reads_simp
theorem X0_arg4 : X0 m c (Proc.devRef .tc main_arg4) = launchContents m c (Proc.devRef .tc main_arg4) :=
  (through0 m c main_arg4 (by decide)).trans (W0_arg4 m c)
theorem W1_arg4 : W1 m c (Proc.devRef .tc main_arg4) = launchContents m c (Proc.devRef .tc main_arg4) := by
  unfold W1
  after_reads_simp
  exact X0_arg4 m c
theorem X1_arg4 : X1 m c (Proc.devRef .tc main_arg4) = launchContents m c (Proc.devRef .tc main_arg4) :=
  (through1 m c main_arg4 (by decide)).trans (W1_arg4 m c)
theorem W2_arg4 : W2 m c (Proc.devRef .tc main_arg4) = launchContents m c (Proc.devRef .tc main_arg4) := by
  unfold W2
  after_reads_simp
  exact X1_arg4 m c
theorem X2_arg4 : X2 m c (Proc.devRef .tc main_arg4) = launchContents m c (Proc.devRef .tc main_arg4) :=
  (through2 m c main_arg4 (by decide)).trans (W2_arg4 m c)
theorem W3_arg4 : W3 m c (Proc.devRef .tc main_arg4) = launchContents m c (Proc.devRef .tc main_arg4) := by
  unfold W3
  after_reads_simp
  exact X2_arg4 m c
theorem W0_arg5 : W0 m c (Proc.devRef .tc main_arg5) = launchContents m c (Proc.devRef .tc main_arg5) := by
  unfold W0
  after_reads_simp
theorem X0_arg5 : X0 m c (Proc.devRef .tc main_arg5) = launchContents m c (Proc.devRef .tc main_arg5) :=
  (through0 m c main_arg5 (by decide)).trans (W0_arg5 m c)
theorem W1_arg5 : W1 m c (Proc.devRef .tc main_arg5) = launchContents m c (Proc.devRef .tc main_arg5) := by
  unfold W1
  after_reads_simp
  exact X0_arg5 m c
theorem X1_arg5 : X1 m c (Proc.devRef .tc main_arg5) = launchContents m c (Proc.devRef .tc main_arg5) :=
  (through1 m c main_arg5 (by decide)).trans (W1_arg5 m c)
theorem W2_arg5 : W2 m c (Proc.devRef .tc main_arg5) = launchContents m c (Proc.devRef .tc main_arg5) := by
  unfold W2
  after_reads_simp
  exact X1_arg5 m c
theorem X2_arg5 : X2 m c (Proc.devRef .tc main_arg5) = launchContents m c (Proc.devRef .tc main_arg5) :=
  (through2 m c main_arg5 (by decide)).trans (W2_arg5 m c)
theorem W3_arg5 : W3 m c (Proc.devRef .tc main_arg5) = launchContents m c (Proc.devRef .tc main_arg5) := by
  unfold W3
  after_reads_simp
  exact X2_arg5 m c
theorem W0_arg6 : W0 m c (Proc.devRef .tc main_arg6) = launchContents m c (Proc.devRef .tc main_arg6) := by
  unfold W0
  after_reads_simp
theorem X0_arg6 : X0 m c (Proc.devRef .tc main_arg6) = launchContents m c (Proc.devRef .tc main_arg6) :=
  (through0 m c main_arg6 (by decide)).trans (W0_arg6 m c)
theorem W1_arg6 : W1 m c (Proc.devRef .tc main_arg6) = launchContents m c (Proc.devRef .tc main_arg6) := by
  unfold W1
  after_reads_simp
  exact X0_arg6 m c
theorem X1_arg6 : X1 m c (Proc.devRef .tc main_arg6) = launchContents m c (Proc.devRef .tc main_arg6) :=
  (through1 m c main_arg6 (by decide)).trans (W1_arg6 m c)
theorem W2_arg6 : W2 m c (Proc.devRef .tc main_arg6) = launchContents m c (Proc.devRef .tc main_arg6) := by
  unfold W2
  after_reads_simp
  exact X1_arg6 m c
theorem X2_arg6 : X2 m c (Proc.devRef .tc main_arg6) = launchContents m c (Proc.devRef .tc main_arg6) :=
  (through2 m c main_arg6 (by decide)).trans (W2_arg6 m c)
theorem W3_arg6 : W3 m c (Proc.devRef .tc main_arg6) = launchContents m c (Proc.devRef .tc main_arg6) := by
  unfold W3
  after_reads_simp
  exact X2_arg6 m c
theorem W0_arg7 : W0 m c (Proc.devRef .tc main_arg7) = launchContents m c (Proc.devRef .tc main_arg7) := by
  unfold W0
  after_reads_simp
theorem X0_arg7 : X0 m c (Proc.devRef .tc main_arg7) = launchContents m c (Proc.devRef .tc main_arg7) :=
  (through0 m c main_arg7 (by decide)).trans (W0_arg7 m c)
theorem W1_arg7 : W1 m c (Proc.devRef .tc main_arg7) = launchContents m c (Proc.devRef .tc main_arg7) := by
  unfold W1
  after_reads_simp
  exact X0_arg7 m c
theorem X1_arg7 : X1 m c (Proc.devRef .tc main_arg7) = launchContents m c (Proc.devRef .tc main_arg7) :=
  (through1 m c main_arg7 (by decide)).trans (W1_arg7 m c)
theorem W2_arg7 : W2 m c (Proc.devRef .tc main_arg7) = launchContents m c (Proc.devRef .tc main_arg7) := by
  unfold W2
  after_reads_simp
  exact X1_arg7 m c
theorem X2_arg7 : X2 m c (Proc.devRef .tc main_arg7) = launchContents m c (Proc.devRef .tc main_arg7) :=
  (through2 m c main_arg7 (by decide)).trans (W2_arg7 m c)
theorem W3_arg7 : W3 m c (Proc.devRef .tc main_arg7) = launchContents m c (Proc.devRef .tc main_arg7) := by
  unfold W3
  after_reads_simp
  exact X2_arg7 m c
theorem W0_arg8 : W0 m c (Proc.devRef .tc main_arg8) = launchContents m c (Proc.devRef .tc main_arg8) := by
  unfold W0
  after_reads_simp
theorem X0_arg8 : X0 m c (Proc.devRef .tc main_arg8) = launchContents m c (Proc.devRef .tc main_arg8) :=
  (through0 m c main_arg8 (by decide)).trans (W0_arg8 m c)
theorem W1_arg8 : W1 m c (Proc.devRef .tc main_arg8) = launchContents m c (Proc.devRef .tc main_arg8) := by
  unfold W1
  after_reads_simp
  exact X0_arg8 m c
theorem X1_arg8 : X1 m c (Proc.devRef .tc main_arg8) = launchContents m c (Proc.devRef .tc main_arg8) :=
  (through1 m c main_arg8 (by decide)).trans (W1_arg8 m c)
theorem W2_arg8 : W2 m c (Proc.devRef .tc main_arg8) = launchContents m c (Proc.devRef .tc main_arg8) := by
  unfold W2
  after_reads_simp
  exact X1_arg8 m c
theorem X2_arg8 : X2 m c (Proc.devRef .tc main_arg8) = launchContents m c (Proc.devRef .tc main_arg8) :=
  (through2 m c main_arg8 (by decide)).trans (W2_arg8 m c)
theorem W3_arg8 : W3 m c (Proc.devRef .tc main_arg8) = launchContents m c (Proc.devRef .tc main_arg8) := by
  unfold W3
  after_reads_simp
  exact X2_arg8 m c
theorem W0_arg9 : W0 m c (Proc.devRef .tc main_arg9) = launchContents m c (Proc.devRef .tc main_arg9) := by
  unfold W0
  after_reads_simp
theorem X0_arg9 : X0 m c (Proc.devRef .tc main_arg9) = launchContents m c (Proc.devRef .tc main_arg9) :=
  (through0 m c main_arg9 (by decide)).trans (W0_arg9 m c)
theorem W1_arg9 : W1 m c (Proc.devRef .tc main_arg9) = launchContents m c (Proc.devRef .tc main_arg9) := by
  unfold W1
  after_reads_simp
  exact X0_arg9 m c
theorem X1_arg9 : X1 m c (Proc.devRef .tc main_arg9) = launchContents m c (Proc.devRef .tc main_arg9) :=
  (through1 m c main_arg9 (by decide)).trans (W1_arg9 m c)
theorem W2_arg9 : W2 m c (Proc.devRef .tc main_arg9) = launchContents m c (Proc.devRef .tc main_arg9) := by
  unfold W2
  after_reads_simp
  exact X1_arg9 m c
theorem X2_arg9 : X2 m c (Proc.devRef .tc main_arg9) = launchContents m c (Proc.devRef .tc main_arg9) :=
  (through2 m c main_arg9 (by decide)).trans (W2_arg9 m c)
theorem W3_arg9 : W3 m c (Proc.devRef .tc main_arg9) = launchContents m c (Proc.devRef .tc main_arg9) := by
  unfold W3
  after_reads_simp
  exact X2_arg9 m c
theorem W0_arg10 : W0 m c (Proc.devRef .tc main_arg10) = launchContents m c (Proc.devRef .tc main_arg10) := by
  unfold W0
  after_reads_simp
theorem X0_arg10 : X0 m c (Proc.devRef .tc main_arg10) = launchContents m c (Proc.devRef .tc main_arg10) :=
  (through0 m c main_arg10 (by decide)).trans (W0_arg10 m c)
theorem W1_arg10 : W1 m c (Proc.devRef .tc main_arg10) = launchContents m c (Proc.devRef .tc main_arg10) := by
  unfold W1
  after_reads_simp
  exact X0_arg10 m c
theorem X1_arg10 : X1 m c (Proc.devRef .tc main_arg10) = launchContents m c (Proc.devRef .tc main_arg10) :=
  (through1 m c main_arg10 (by decide)).trans (W1_arg10 m c)
theorem W2_arg10 : W2 m c (Proc.devRef .tc main_arg10) = launchContents m c (Proc.devRef .tc main_arg10) := by
  unfold W2
  after_reads_simp
  exact X1_arg10 m c
theorem X2_arg10 : X2 m c (Proc.devRef .tc main_arg10) = launchContents m c (Proc.devRef .tc main_arg10) :=
  (through2 m c main_arg10 (by decide)).trans (W2_arg10 m c)
theorem W3_arg10 : W3 m c (Proc.devRef .tc main_arg10) = launchContents m c (Proc.devRef .tc main_arg10) := by
  unfold W3
  after_reads_simp
  exact X2_arg10 m c

/-! ## The contents at each loop's entry, at an index -/

theorem W0_1 (q : Fin 600) (k : Fin 384) : W0 m c (Proc.devRef .tc main_v18_1) (ix2 q k) = launchContents m c (Proc.devRef .tc main_arg1) (ix3 0 q k) := by
  unfold W0
  after_reads_simp
  skip
  simp only [id_eq]
  pointwise
theorem W0_3 (q : Fin 600) (k : Fin 150) : W0 m c (Proc.devRef .tc main_v18_3) (ix2 q k) = launchContents m c (Proc.devRef .tc main_arg2) (ix3 0 q k) := by
  unfold W0
  after_reads_simp
  skip
  simp only [id_eq]
  pointwise
theorem W0_2 (q : Fin 600) : W0 m c (Proc.devRef .tc main_v18_2) (ix1 q) = launchContents m c (Proc.devRef .tc main_arg3) (ix2 0 q) := by
  unfold W0
  after_reads_simp
  skip
  simp only [id_eq]
  pointwise
theorem W0_4 (q : Fin 600) : W0 m c (Proc.devRef .tc main_v18_4) (ix1 q) = launchContents m c (Proc.devRef .tc main_arg4) (ix2 0 q) := by
  unfold W0
  after_reads_simp
  skip
  simp only [id_eq]
  pointwise
theorem W0_6 (b : Fin 32) (j : Fin 150) : W0 m c (Proc.devRef .tc main_v18_6) (ix2 b j) = (0 : EReal) := by
  unfold W0
  after_reads_simp
  skip
  simp only [id_eq]
  pointwise [Ideal.ofBits_zero]
theorem W0_7 (b : Fin 32) (j : Fin 150) : W0 m c (Proc.devRef .tc main_v18_7) (ix2 b j) = (0 : EReal) := by
  unfold W0
  after_reads_simp
  skip
  simp only [id_eq]
  pointwise [Ideal.ofBits_zero]
theorem W1_1 (q : Fin 600) (k : Fin 384) : W1 m c (Proc.devRef .tc main_v32_1) (ix2 q k) = launchContents m c (Proc.devRef .tc main_arg1) (ix3 1 q k) := by
  unfold W1
  after_reads_simp
  rw [X0_arg1]
  simp only [id_eq]
  pointwise
theorem W1_3 (q : Fin 600) (k : Fin 150) : W1 m c (Proc.devRef .tc main_v32_3) (ix2 q k) = launchContents m c (Proc.devRef .tc main_arg2) (ix3 1 q k) := by
  unfold W1
  after_reads_simp
  rw [X0_arg2]
  simp only [id_eq]
  pointwise
theorem W1_2 (q : Fin 600) : W1 m c (Proc.devRef .tc main_v32_2) (ix1 q) = launchContents m c (Proc.devRef .tc main_arg3) (ix2 1 q) := by
  unfold W1
  after_reads_simp
  rw [X0_arg3]
  simp only [id_eq]
  pointwise
theorem W1_4 (q : Fin 600) : W1 m c (Proc.devRef .tc main_v32_4) (ix1 q) = launchContents m c (Proc.devRef .tc main_arg4) (ix2 1 q) := by
  unfold W1
  after_reads_simp
  rw [X0_arg4]
  simp only [id_eq]
  pointwise
theorem W1_6 (b : Fin 32) (j : Fin 150) : W1 m c (Proc.devRef .tc main_v32_6) (ix2 b j) = (0 : EReal) := by
  unfold W1
  after_reads_simp
  skip
  simp only [id_eq]
  pointwise [Ideal.ofBits_zero]
theorem W1_7 (b : Fin 32) (j : Fin 150) : W1 m c (Proc.devRef .tc main_v32_7) (ix2 b j) = (0 : EReal) := by
  unfold W1
  after_reads_simp
  skip
  simp only [id_eq]
  pointwise [Ideal.ofBits_zero]
theorem W2_1 : W2 m c (Proc.devRef .tc main_v44_1) = launchContents m c (Proc.devRef .tc main_arg5) := by
  unfold W2
  after_reads_simp
  simp only [id_eq]
  exact X1_arg5 m c
theorem W2_2 : W2 m c (Proc.devRef .tc main_v44_2) = launchContents m c (Proc.devRef .tc main_arg7) := by
  unfold W2
  after_reads_simp
  simp only [id_eq]
  exact X1_arg7 m c
theorem W2_3 : W2 m c (Proc.devRef .tc main_v44_3) = launchContents m c (Proc.devRef .tc main_arg6) := by
  unfold W2
  after_reads_simp
  simp only [id_eq]
  exact X1_arg6 m c
theorem W2_4 : W2 m c (Proc.devRef .tc main_v44_4) = launchContents m c (Proc.devRef .tc main_arg8) := by
  unfold W2
  after_reads_simp
  simp only [id_eq]
  exact X1_arg8 m c
theorem W2_6 (b : Fin 32) (j : Fin 150) : W2 m c (Proc.devRef .tc main_v44_6) (ix2 b j) = (0 : EReal) := by
  unfold W2
  after_reads_simp
  simp only [id_eq]
  pointwise [Ideal.ofBits_zero]

theorem graph_0 (b : Fin 32) (t f : Fin 128) : upto hostOps0 (launchContents m c) 6 (Proc.devRef .tc main_v1) (ix3 b t f) = launchContents m c (Proc.devRef .tc main_arg0) (ix4 0 b t f) := by
  after_reads_simp
  pointwise
theorem graph_1 (b : Fin 32) (t f : Fin 128) : upto hostOps0 (launchContents m c) 6 (Proc.devRef .tc main_v3) (ix3 b t f) = launchContents m c (Proc.devRef .tc main_arg0) (ix4 1 b t f) := by
  after_reads_simp
  pointwise
theorem graph_2 (b : Fin 32) (t f : Fin 128) : upto hostOps0 (launchContents m c) 6 (Proc.devRef .tc main_v5) (ix3 b t f) = launchContents m c (Proc.devRef .tc main_arg0) (ix4 2 b t f) := by
  after_reads_simp
  pointwise

/-- Three arrays set side by side, at an index. -/
theorem side_by_side (A B C : FVec Ideal S32x128x128 .f32) (n : Fin 3) (b : Fin 32) (t f : Fin 128) :
    concatenate S32x128x384 2 [⟨S32x128x128, A⟩, ⟨S32x128x128, B⟩, ⟨S32x128x128, C⟩] concatenates_S32x128x128_S32x128x128_S32x128x128_S32x128x384_d2
        (ix3 b t ⟨128 * n.val + f.val, by have := n.isLt; have := f.isLt; omega⟩) = (![A, B, C] n) (ix3 b t f) := by
  have := f.isLt
  fin_cases n
  · pointwise
  · pointwise
  · pointwise
    rw [dif_neg (by omega), dif_neg (by omega)]
    exact congrArg C (congrArg (ix3 b t) (Fin.ext (by simp; try omega)))

/-- The inputs, the three graphs side by side. -/
theorem W0_v6 (n : Fin 3) (b : Fin 32) (t : Fin 128) (f : Fin 128) :
    W0 m c (Proc.devRef .tc main_v6) (ix3 b t ⟨128 * n.val + f.val, by have := n.isLt; have := f.isLt; omega⟩) = launchContents m c (Proc.devRef .tc main_arg0) (ix4 n b t f) := by
  unfold W0
  after_reads_simp
  refine (side_by_side _ _ _ n b t f).trans ?_
  fin_cases n
  · exact graph_0 m c b t f
  · exact graph_1 m c b t f
  · exact graph_2 m c b t f

theorem W0_0 (n : Fin 3) (b : Fin 32) (t : Fin 128) (f : Fin 128) :
    W0 m c (Proc.devRef .tc main_v18_0) (ix3 t b ⟨128 * n.val + f.val, by have := n.isLt; have := f.isLt; omega⟩) = launchContents m c (Proc.devRef .tc main_arg0) (ix4 n b t f) := by
  refine Eq.trans ?_ (W0_v6 m c n b t f)
  have e : W0 m c (Proc.devRef .tc main_v18_0) = transpose S128x32x384 [1, 0, 2] (W0 m c (Proc.devRef .tc main_v6)) transposes_S32x128x384_S128x32x384_1_0_2 := by
    unfold W0
    after_reads_simp
    rfl
  rw [e]
  pointwise

theorem back_row (Y : FVec Ideal S32x128x384 .f32) (b : Fin 32) (q : Fin 384) :
    Host.reverse [0] (transpose S128x32x384 [1, 0, 2] Y transposes_S32x128x384_S128x32x384_1_0_2) (ix3 0 b q) = Y (ix3 b 127 q) := by
  pointwise [Host.reverse]
  exact congrArg Y (funext fun a => by fin_cases a <;> rfl)

theorem W1_0 (n : Fin 3) (b : Fin 32) (f : Fin 128) :
    W1 m c (Proc.devRef .tc main_v32_0) (ix3 0 b ⟨128 * n.val + f.val, by have := n.isLt; have := f.isLt; omega⟩) = launchContents m c (Proc.devRef .tc main_arg0) (ix4 n b 127 f) := by
  refine Eq.trans ?_ (W0_v6 m c n b 127 f)
  rw [← through0 m c main_v6 (by decide)]
  unfold W1
  after_reads_simp
  simp only [id_eq]
  exact back_row _ b _

/-! ## The three recurrences -/

/-- The input of the step with index `n` of loop 0. -/
def xs0 (b : Fin 32) (n : ℕ) (q : Fin 384) : EReal := if h : n < 128 then W0 m c (Proc.devRef .tc main_v18_0) (ix3 ⟨n, h⟩ b q) else 0

theorem entry0 (k : ℕ) : after Loop0.condOps (atTrip Loop0.condOps Loop0.bodyI (W0 m) k c) (Proc.devRef .tc main_v18_5) = fun _ => Scf.iv 0#32 1#32 k := by
  rw [cond0 _ main_v18_5 (by decide)]
  exact Loop0.atTrip_ctr (W0 m) (W0_ctr m) c k

theorem cell_step0 (k : ℕ) (hk : k < 128) (b : Fin 32) (j : Fin 150) : atTrip Loop0.condOps Loop0.bodyI (W0 m) (k + 1) c (Proc.devRef .tc main_v18_7) (ix2 b j) = rC (rG (xs0 m c b k) (fun q k => launchContents m c (Proc.devRef .tc main_arg1) (ix3 0 q k)) (fun q k => launchContents m c (Proc.devRef .tc main_arg2) (ix3 0 q k)) (fun q => launchContents m c (Proc.devRef .tc main_arg3) (ix2 0 q)) (fun q => launchContents m c (Proc.devRef .tc main_arg4) (ix2 0 q)) (fun j => atTrip Loop0.condOps Loop0.bodyI (W0 m) k c (Proc.devRef .tc main_v18_6) (ix2 b j))) (fun j => atTrip Loop0.condOps Loop0.bodyI (W0 m) k c (Proc.devRef .tc main_v18_7) (ix2 b j)) j := by
  rw [atTrip_succ, Loop0.trip_main_v18_7]
  simp only [id_eq]
  rw [cell0 _ k hk (entry0 m c k) b j]
  simp only [cond0 _ main_v18_0 (by decide), cond0 _ main_v18_1 (by decide), cond0 _ main_v18_2 (by decide), cond0 _ main_v18_3 (by decide), cond0 _ main_v18_4 (by decide), cond0 _ main_v18_6 (by decide), cond0 _ main_v18_7 (by decide), still0 c _ main_v18_0 (by decide), still0 c _ main_v18_1 (by decide), still0 c _ main_v18_2 (by decide), still0 c _ main_v18_3 (by decide), still0 c _ main_v18_4 (by decide)]
  have e : ∀ q, W0 m c (Proc.devRef .tc main_v18_0) (ix3 ⟨k, hk⟩ b q) = xs0 m c b k q := fun q => by rw [xs0, dif_pos hk]
  exact congrArg (fun g => rC g _ j) (rG_congr _ e (W0_1 m c) (W0_3 m c) (W0_2 m c) (W0_4 m c))

theorem hidden_step0 (k : ℕ) (hk : k < 128) (b : Fin 32) (j : Fin 150) : atTrip Loop0.condOps Loop0.bodyI (W0 m) (k + 1) c (Proc.devRef .tc main_v18_6) (ix2 b j) = rH (rG (xs0 m c b k) (fun q k => launchContents m c (Proc.devRef .tc main_arg1) (ix3 0 q k)) (fun q k => launchContents m c (Proc.devRef .tc main_arg2) (ix3 0 q k)) (fun q => launchContents m c (Proc.devRef .tc main_arg3) (ix2 0 q)) (fun q => launchContents m c (Proc.devRef .tc main_arg4) (ix2 0 q)) (fun j => atTrip Loop0.condOps Loop0.bodyI (W0 m) k c (Proc.devRef .tc main_v18_6) (ix2 b j))) (fun j => atTrip Loop0.condOps Loop0.bodyI (W0 m) k c (Proc.devRef .tc main_v18_7) (ix2 b j)) j := by
  rw [atTrip_succ, Loop0.trip_main_v18_6]
  simp only [id_eq]
  rw [hidden0 _ k hk (entry0 m c k) b j]
  simp only [cond0 _ main_v18_0 (by decide), cond0 _ main_v18_1 (by decide), cond0 _ main_v18_2 (by decide), cond0 _ main_v18_3 (by decide), cond0 _ main_v18_4 (by decide), cond0 _ main_v18_6 (by decide), cond0 _ main_v18_7 (by decide), still0 c _ main_v18_0 (by decide), still0 c _ main_v18_1 (by decide), still0 c _ main_v18_2 (by decide), still0 c _ main_v18_3 (by decide), still0 c _ main_v18_4 (by decide)]
  have e : ∀ q, W0 m c (Proc.devRef .tc main_v18_0) (ix3 ⟨k, hk⟩ b q) = xs0 m c b k q := fun q => by rw [xs0, dif_pos hk]
  exact congrArg (fun g => rH g _ j) (rG_congr _ e (W0_1 m c) (W0_3 m c) (W0_2 m c) (W0_4 m c))

theorem rows_step0 (k : ℕ) (hk : k < 128) (t : Fin 128) (b : Fin 32) (j : Fin 150) :
    atTrip Loop0.condOps Loop0.bodyI (W0 m) (k + 1) c (Proc.devRef .tc main_v18_8) (ix3 t b j) = if t.val = k then atTrip Loop0.condOps Loop0.bodyI (W0 m) (k + 1) c (Proc.devRef .tc main_v18_6) (ix2 b j) else atTrip Loop0.condOps Loop0.bodyI (W0 m) k c (Proc.devRef .tc main_v18_8) (ix3 t b j) := by
  rw [atTrip_succ, Loop0.trip_main_v18_8, Loop0.trip_main_v18_6]
  simp only [id_eq]
  refine (put_at _ _ _ k hk (entry0 m c k) t b j).trans ?_
  rw [cond0 _ main_v18_8 (by decide)]

theorem rows0 (t : Fin 128) (b : Fin 32) (j : Fin 150) :
    X0 m c (Proc.devRef .tc main_v18_8) (ix3 t b j) = (rLstm (xs0 m c b) (fun q k => launchContents m c (Proc.devRef .tc main_arg1) (ix3 0 q k)) (fun q k => launchContents m c (Proc.devRef .tc main_arg2) (ix3 0 q k)) (fun q => launchContents m c (Proc.devRef .tc main_arg3) (ix2 0 q)) (fun q => launchContents m c (Proc.devRef .tc main_arg4) (ix2 0 q)) (t.val + 1)).1 j := by
  unfold X0
  rw [cond0 _ main_v18_8 (by decide)]
  exact (lstm_seq (xs0 m c) (fun q k => launchContents m c (Proc.devRef .tc main_arg1) (ix3 0 q k)) (fun q k => launchContents m c (Proc.devRef .tc main_arg2) (ix3 0 q k)) (fun q => launchContents m c (Proc.devRef .tc main_arg3) (ix2 0 q)) (fun q => launchContents m c (Proc.devRef .tc main_arg4) (ix2 0 q))
    (fun k => atTrip Loop0.condOps Loop0.bodyI (W0 m) k c (Proc.devRef .tc main_v18_6)) (fun k => atTrip Loop0.condOps Loop0.bodyI (W0 m) k c (Proc.devRef .tc main_v18_7)) (fun k => atTrip Loop0.condOps Loop0.bodyI (W0 m) k c (Proc.devRef .tc main_v18_8))
    (W0_6 m c) (W0_7 m c) (cell_step0 m c) (hidden_step0 m c) (rows_step0 m c) 128 (le_refl _)).2 t b j t.isLt

/-- The input of the step with index `n` of loop 1. -/
def xs1 (b : Fin 32) (n : ℕ) (q : Fin 384) : EReal := if h : n < 128 then W1 m c (Proc.devRef .tc main_v32_0) (ix3 ⟨n, h⟩ b q) else 0

theorem entry1 (k : ℕ) : after Loop1.condOps (atTrip Loop1.condOps Loop1.bodyI (W1 m) k c) (Proc.devRef .tc main_v32_5) = fun _ => Scf.iv 0#32 1#32 k := by
  rw [cond1 _ main_v32_5 (by decide)]
  exact Loop1.atTrip_ctr (W1 m) (W1_ctr m) c k

theorem cell_step1 (k : ℕ) (hk : k < 128) (b : Fin 32) (j : Fin 150) : atTrip Loop1.condOps Loop1.bodyI (W1 m) (k + 1) c (Proc.devRef .tc main_v32_7) (ix2 b j) = rC (rG (xs1 m c b k) (fun q k => launchContents m c (Proc.devRef .tc main_arg1) (ix3 1 q k)) (fun q k => launchContents m c (Proc.devRef .tc main_arg2) (ix3 1 q k)) (fun q => launchContents m c (Proc.devRef .tc main_arg3) (ix2 1 q)) (fun q => launchContents m c (Proc.devRef .tc main_arg4) (ix2 1 q)) (fun j => atTrip Loop1.condOps Loop1.bodyI (W1 m) k c (Proc.devRef .tc main_v32_6) (ix2 b j))) (fun j => atTrip Loop1.condOps Loop1.bodyI (W1 m) k c (Proc.devRef .tc main_v32_7) (ix2 b j)) j := by
  rw [atTrip_succ, Loop1.trip_main_v32_7]
  simp only [id_eq]
  rw [cell1 _ k hk (entry1 m c k) b j]
  simp only [cond1 _ main_v32_0 (by decide), cond1 _ main_v32_1 (by decide), cond1 _ main_v32_2 (by decide), cond1 _ main_v32_3 (by decide), cond1 _ main_v32_4 (by decide), cond1 _ main_v32_6 (by decide), cond1 _ main_v32_7 (by decide), still1 c _ main_v32_0 (by decide), still1 c _ main_v32_1 (by decide), still1 c _ main_v32_2 (by decide), still1 c _ main_v32_3 (by decide), still1 c _ main_v32_4 (by decide)]
  have e : ∀ q, W1 m c (Proc.devRef .tc main_v32_0) (ix3 ⟨k, hk⟩ b q) = xs1 m c b k q := fun q => by rw [xs1, dif_pos hk]
  exact congrArg (fun g => rC g _ j) (rG_congr _ e (W1_1 m c) (W1_3 m c) (W1_2 m c) (W1_4 m c))

theorem hidden_step1 (k : ℕ) (hk : k < 128) (b : Fin 32) (j : Fin 150) : atTrip Loop1.condOps Loop1.bodyI (W1 m) (k + 1) c (Proc.devRef .tc main_v32_6) (ix2 b j) = rH (rG (xs1 m c b k) (fun q k => launchContents m c (Proc.devRef .tc main_arg1) (ix3 1 q k)) (fun q k => launchContents m c (Proc.devRef .tc main_arg2) (ix3 1 q k)) (fun q => launchContents m c (Proc.devRef .tc main_arg3) (ix2 1 q)) (fun q => launchContents m c (Proc.devRef .tc main_arg4) (ix2 1 q)) (fun j => atTrip Loop1.condOps Loop1.bodyI (W1 m) k c (Proc.devRef .tc main_v32_6) (ix2 b j))) (fun j => atTrip Loop1.condOps Loop1.bodyI (W1 m) k c (Proc.devRef .tc main_v32_7) (ix2 b j)) j := by
  rw [atTrip_succ, Loop1.trip_main_v32_6]
  simp only [id_eq]
  rw [hidden1 _ k hk (entry1 m c k) b j]
  simp only [cond1 _ main_v32_0 (by decide), cond1 _ main_v32_1 (by decide), cond1 _ main_v32_2 (by decide), cond1 _ main_v32_3 (by decide), cond1 _ main_v32_4 (by decide), cond1 _ main_v32_6 (by decide), cond1 _ main_v32_7 (by decide), still1 c _ main_v32_0 (by decide), still1 c _ main_v32_1 (by decide), still1 c _ main_v32_2 (by decide), still1 c _ main_v32_3 (by decide), still1 c _ main_v32_4 (by decide)]
  have e : ∀ q, W1 m c (Proc.devRef .tc main_v32_0) (ix3 ⟨k, hk⟩ b q) = xs1 m c b k q := fun q => by rw [xs1, dif_pos hk]
  exact congrArg (fun g => rH g _ j) (rG_congr _ e (W1_1 m c) (W1_3 m c) (W1_2 m c) (W1_4 m c))

theorem rows_step1 (k : ℕ) (hk : k < 128) (t : Fin 128) (b : Fin 32) (j : Fin 150) :
    atTrip Loop1.condOps Loop1.bodyI (W1 m) (k + 1) c (Proc.devRef .tc main_v32_8) (ix3 t b j) = if t.val = k then atTrip Loop1.condOps Loop1.bodyI (W1 m) (k + 1) c (Proc.devRef .tc main_v32_6) (ix2 b j) else atTrip Loop1.condOps Loop1.bodyI (W1 m) k c (Proc.devRef .tc main_v32_8) (ix3 t b j) := by
  rw [atTrip_succ, Loop1.trip_main_v32_8, Loop1.trip_main_v32_6]
  simp only [id_eq]
  refine (put_at _ _ _ k hk (entry1 m c k) t b j).trans ?_
  rw [cond1 _ main_v32_8 (by decide)]

theorem rows1 (t : Fin 128) (b : Fin 32) (j : Fin 150) :
    X1 m c (Proc.devRef .tc main_v32_8) (ix3 t b j) = (rLstm (xs1 m c b) (fun q k => launchContents m c (Proc.devRef .tc main_arg1) (ix3 1 q k)) (fun q k => launchContents m c (Proc.devRef .tc main_arg2) (ix3 1 q k)) (fun q => launchContents m c (Proc.devRef .tc main_arg3) (ix2 1 q)) (fun q => launchContents m c (Proc.devRef .tc main_arg4) (ix2 1 q)) (t.val + 1)).1 j := by
  unfold X1
  rw [cond1 _ main_v32_8 (by decide)]
  exact (lstm_seq (xs1 m c) (fun q k => launchContents m c (Proc.devRef .tc main_arg1) (ix3 1 q k)) (fun q k => launchContents m c (Proc.devRef .tc main_arg2) (ix3 1 q k)) (fun q => launchContents m c (Proc.devRef .tc main_arg3) (ix2 1 q)) (fun q => launchContents m c (Proc.devRef .tc main_arg4) (ix2 1 q))
    (fun k => atTrip Loop1.condOps Loop1.bodyI (W1 m) k c (Proc.devRef .tc main_v32_6)) (fun k => atTrip Loop1.condOps Loop1.bodyI (W1 m) k c (Proc.devRef .tc main_v32_7)) (fun k => atTrip Loop1.condOps Loop1.bodyI (W1 m) k c (Proc.devRef .tc main_v32_8))
    (W1_6 m c) (W1_7 m c) (cell_step1 m c) (hidden_step1 m c) (rows_step1 m c) 128 (le_refl _)).2 t b j t.isLt

/-- The last outputs of the two LSTMs, side by side. -/
def ends (b : Fin 32) : Fin 300 → EReal := rCtx (rLstm (xs0 m c b) (fun q k => launchContents m c (Proc.devRef .tc main_arg1) (ix3 0 q k)) (fun q k => launchContents m c (Proc.devRef .tc main_arg2) (ix3 0 q k)) (fun q => launchContents m c (Proc.devRef .tc main_arg3) (ix2 0 q)) (fun q => launchContents m c (Proc.devRef .tc main_arg4) (ix2 0 q)) 128).1 (rLstm (xs1 m c b) (fun q k => launchContents m c (Proc.devRef .tc main_arg1) (ix3 1 q k)) (fun q k => launchContents m c (Proc.devRef .tc main_arg2) (ix3 1 q k)) (fun q => launchContents m c (Proc.devRef .tc main_arg3) (ix2 1 q)) (fun q => launchContents m c (Proc.devRef .tc main_arg4) (ix2 1 q)) 1).1

/-- The GRU's input projection: the same at every step. -/
def gi (b : Fin 32) : Fin 450 → EReal := rGh (fun q k => launchContents m c (Proc.devRef .tc main_arg5) (ix2 q k)) (fun q => launchContents m c (Proc.devRef .tc main_arg7) (ix1 q)) (ends m c b)

theorem X1_v19 (b : Fin 32) (j : Fin 150) : X1 m c (Proc.devRef .tc main_v19) (ix3 b 127 j) = (rLstm (xs0 m c b) (fun q k => launchContents m c (Proc.devRef .tc main_arg1) (ix3 0 q k)) (fun q k => launchContents m c (Proc.devRef .tc main_arg2) (ix3 0 q k)) (fun q => launchContents m c (Proc.devRef .tc main_arg3) (ix2 0 q)) (fun q => launchContents m c (Proc.devRef .tc main_arg4) (ix2 0 q)) 128).1 j := by
  rw [through1 m c main_v19 (by decide)]
  refine Eq.trans ?_ (rows0 m c 127 b j)
  unfold W1
  after_reads_simp
  pointwise

theorem back_at (Y : FVec Ideal S128x32x150 .f32) (b : Fin 32) (j : Fin 150) :
    transpose S32x128x150 [1, 0, 2] (Host.reverse [0] Y) transposes_S128x32x150_S32x128x150_1_0_2 (ix3 b 127 j) = Y (ix3 0 b j) := by
  pointwise [Host.reverse]
  exact congrArg Y (funext fun a => by fin_cases a <;> rfl)

theorem two_halves (A B : FVec Ideal S32x128x150 .f32) (b : Fin 32) (t : Fin 128) (q : Fin 300) :
    concatenate S32x128x300 2 [⟨S32x128x150, A⟩, ⟨S32x128x150, B⟩] concatenates_S32x128x150_S32x128x150_S32x128x300_d2 (ix3 b t q)
      = rCtx (fun j => A (ix3 b t j)) (fun j => B (ix3 b t j)) q := by
  pointwise [rCtx]

theorem spread_at (A : FVec Ideal S32x128x300 .f32) (t : Fin 128) (b : Fin 32) (q : Fin 300) :
    transpose S128x32x300 [1, 0, 2] (shapeCast S32x128x300 (broadcastInDim S32x1x128x300 ![0, 1, 3] bcast_S32x1x300_S32x1x128x300_0_1_3
        (broadcastInDim S32x1x300 ![0, 2] bcast_S32x300_S32x1x300_0_2 (shapeCast S32x300 (extractStridedSlice S32x1x300 ![0, 127, 0] A slices_S32x128x300_S32x1x300_0_127_0)
          shapeCasts_S32x1x300_S32x300))) shapeCasts_S32x1x128x300_S32x128x300) transposes_S32x128x300_S128x32x300_1_0_2 (ix3 t b q) = A (ix3 b 127 q) := by
  pointwise

theorem left_half (V : Valuation τ sig (Elt Ideal)) : upto hostOps0_2 V 2 (Proc.devRef .tc main_v19) = V (Proc.devRef .tc main_v19) := by
  after_reads_simp

theorem right_half (V : Valuation τ sig (Elt Ideal)) : upto hostOps0_2 V 2 (Proc.devRef .tc main_v34)
    = transpose S32x128x150 [1, 0, 2] (Host.reverse [0] (V (Proc.devRef .tc main_v32_8))) transposes_S128x32x150_S32x128x150_1_0_2 := by
  after_reads_simp

theorem W2_0 (t : Fin 128) (b : Fin 32) (q : Fin 300) : W2 m c (Proc.devRef .tc main_v44_0) (ix3 t b q) = ends m c b q := by
  unfold W2
  after_reads_simp
  simp only [id_eq]
  refine (spread_at _ t b q).trans ?_
  refine (two_halves _ _ b 127 q).trans ?_
  unfold ends
  rw [left_half, right_half]
  refine rCtx_congr q (fun j => ?_) (fun j => ?_)
  · exact X1_v19 m c b j
  · exact (back_at _ b j).trans (rows1 m c 0 b j)

theorem entry2 (k : ℕ) : after Loop2.condOps (atTrip Loop2.condOps Loop2.bodyI (W2 m) k c) (Proc.devRef .tc main_v44_5) = fun _ => Scf.iv 0#32 1#32 k := by
  rw [cond2 _ main_v44_5 (by decide)]
  exact Loop2.atTrip_ctr (W2 m) (W2_ctr m) c k

theorem hidden_step2 (k : ℕ) (hk : k < 128) (b : Fin 32) (j : Fin 150) : atTrip Loop2.condOps Loop2.bodyI (W2 m) (k + 1) c (Proc.devRef .tc main_v44_6) (ix2 b j)
    = rGruStep (gi m c b) (rGh (fun q k => launchContents m c (Proc.devRef .tc main_arg6) (ix2 q k)) (fun q => launchContents m c (Proc.devRef .tc main_arg8) (ix1 q)) fun j => atTrip Loop2.condOps Loop2.bodyI (W2 m) k c (Proc.devRef .tc main_v44_6) (ix2 b j)) (fun j => atTrip Loop2.condOps Loop2.bodyI (W2 m) k c (Proc.devRef .tc main_v44_6) (ix2 b j)) j := by
  rw [atTrip_succ, Loop2.trip_main_v44_6]
  simp only [id_eq]
  rw [hidden2 _ k hk (entry2 m c k) b j]
  simp only [cond2 _ main_v44_0 (by decide), cond2 _ main_v44_1 (by decide), cond2 _ main_v44_2 (by decide), cond2 _ main_v44_3 (by decide), cond2 _ main_v44_4 (by decide), cond2 _ main_v44_6 (by decide), still2 c _ main_v44_0 (by decide), still2 c _ main_v44_1 (by decide), still2 c _ main_v44_2 (by decide), still2 c _ main_v44_3 (by decide), still2 c _ main_v44_4 (by decide)]
  exact congrArg₂ (fun g g' => rGruStep g g' _ j)
    (rGh_congr (fun q k => congrFun (W2_1 m c) (ix2 q k)) (fun q => congrFun (W2_2 m c) (ix1 q)) (W2_0 m c ⟨k, hk⟩ b))
    (rGh_congr (fun q k => congrFun (W2_3 m c) (ix2 q k)) (fun q => congrFun (W2_4 m c) (ix1 q)) fun _ => rfl)

theorem rows_step2 (k : ℕ) (hk : k < 128) (t : Fin 128) (b : Fin 32) (j : Fin 150) :
    atTrip Loop2.condOps Loop2.bodyI (W2 m) (k + 1) c (Proc.devRef .tc main_v44_7) (ix3 t b j) = if t.val = k then atTrip Loop2.condOps Loop2.bodyI (W2 m) (k + 1) c (Proc.devRef .tc main_v44_6) (ix2 b j) else atTrip Loop2.condOps Loop2.bodyI (W2 m) k c (Proc.devRef .tc main_v44_7) (ix3 t b j) := by
  rw [atTrip_succ, Loop2.trip_main_v44_7, Loop2.trip_main_v44_6]
  simp only [id_eq]
  refine (put_at _ _ _ k hk (entry2 m c k) t b j).trans ?_
  rw [cond2 _ main_v44_7 (by decide)]

theorem rows2 (t : Fin 128) (b : Fin 32) (j : Fin 150) :
    X2 m c (Proc.devRef .tc main_v44_7) (ix3 t b j) = rGru (gi m c b) (fun q k => launchContents m c (Proc.devRef .tc main_arg6) (ix2 q k)) (fun q => launchContents m c (Proc.devRef .tc main_arg8) (ix1 q)) (t.val + 1) j := by
  unfold X2
  rw [cond2 _ main_v44_7 (by decide)]
  exact (gru_seq (gi m c) (fun q k => launchContents m c (Proc.devRef .tc main_arg6) (ix2 q k)) (fun q => launchContents m c (Proc.devRef .tc main_arg8) (ix1 q))
    (fun k => atTrip Loop2.condOps Loop2.bodyI (W2 m) k c (Proc.devRef .tc main_v44_6)) (fun k => atTrip Loop2.condOps Loop2.bodyI (W2 m) k c (Proc.devRef .tc main_v44_7)) (W2_6 m c) (hidden_step2 m c) (rows_step2 m c) 128 (le_refl _)).2 t b j t.isLt

theorem head_at (Y : FVec Ideal S128x32x150 .f32) (W : FVec Ideal S128x150 .f32) (bias : FVec Ideal S128 .f32) (t : Fin 128) (b : Fin 32) (o : Fin 128) :
    transpose S128x32x128 [1, 0, 2] (addf (Host.dotGeneral dot_S32x128x150_S150x128_S32x128x128_2_0_01_1_n_n none
        (transpose S32x128x150 [1, 0, 2] Y transposes_S128x32x150_S32x128x150_1_0_2) (transpose S150x128 [1, 0] W transposes_S128x150_S150x128_1_0))
      (broadcastInDim S32x128x128 ![0, 1, 2] bcast_S1x1x128_S32x128x128_0_1_2 (broadcastInDim S1x1x128 ![2] bcast_S128_S1x1x128_2 bias)))
      transposes_S32x128x128_S128x32x128_1_0_2 (ix3 t b o)
      = (∑ k : Fin 150, (Y (ix3 t b k) * W (ix2 o k) : EReal)) + bias (ix1 o) := by
  pointwise

/-- The reference's result at an index. -/
theorem result_at (t : Fin 128) (b : Fin 32) (o : Fin 128) : (W3 m c (Proc.devRef .tc main_v51) (ix3 t b o) : EReal)
    = (∑ k : Fin 150, (rGru (gi m c b) (fun q k => launchContents m c (Proc.devRef .tc main_arg6) (ix2 q k)) (fun q => launchContents m c (Proc.devRef .tc main_arg8) (ix1 q)) (t.val + 1) k
        * launchContents m c (Proc.devRef .tc main_arg9) (ix2 o k) : EReal)) + launchContents m c (Proc.devRef .tc main_arg10) (ix1 o) := by
  unfold W3
  after_reads_simp
  rw [X2_arg9, X2_arg10]
  refine (head_at _ _ _ t b o).trans ?_
  exact congrArg (· + _) (Finset.sum_congr rfl fun k _ => congrArg (· * _) (rows2 m c t b k))

end Cert.ReferenceIdeal.Host

end
-- ==== Proof.lean ====
/-
  The call `_run_rnn` with its host padding computes what the plain recurrences compute, and the call `_build_counts`
  with its host layout computes what plain counting computes, at extended reals; every program runs, leaves its
  arguments alone and ends with its counters at zero.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Adequacy
public import Idealize.ShloMosaic.Init
public import Idealize.ShloMosaic.Lib.Claim
public import proofs.«01_k».proof.Proof.KernelFrame
public import proofs.«01_k».proof.Proof.CountsClaim
public import proofs.«01_k».proof.Proof.BranchClaim
public import proofs.«01_k».proof.Proof.Value
public import proofs.«01_k».proof.Proof.RefValue

@[expose] public section

set_option maxRecDepth 16384

noncomputable section

namespace Cert.Proof

open Idealize.ShloMosaic Idealize.ShloMosaic.TcCoe Idealize.SL.Sem

/-- The kernel at extended reals: its run ends with the arguments unchanged and its counters at zero. -/
theorem kernel_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  θ_run_and (Cert.KernelIdeal.Gen.frame_of m g (Cert.KernelIdeal.Body.dats m) (Cert.KernelIdeal.Body.A_eq m) ((θ_run _ _ _).mono (fun _ h => h.1) (Cert.KernelIdeal.Body.run_main m g)))
    ((θ_run _ _ _).mono (fun _ h => h.2) (Cert.KernelIdeal.Body.run_main m g))

/-- Its run ends with the result array holding `result`. -/
theorem kernel_result (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v221) = Cert.KernelIdeal.Body.result m c) :=
  (θ_run _ _ _).mono (fun _ h c => ((h.1 c).1 12).trans (Cert.KernelIdeal.Body.final m c)) (Cert.KernelIdeal.Body.run_main m g)

/-- The reference: its run ends with its result array at the last value and the arguments unchanged. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v51) = Cert.ReferenceIdeal.Host.W3 m c (Proc.devRef .tc Cert.ReferenceIdeal.main_v51)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run _ _ _).mono (fun _ h c => ⟨h c Cert.ReferenceIdeal.main_v51 (by decide),
    (h c Cert.ReferenceIdeal.main_arg0 (by decide)).trans (Cert.ReferenceIdeal.Host.W3_arg0 m c),
    (h c Cert.ReferenceIdeal.main_arg1 (by decide)).trans (Cert.ReferenceIdeal.Host.W3_arg1 m c),
    (h c Cert.ReferenceIdeal.main_arg2 (by decide)).trans (Cert.ReferenceIdeal.Host.W3_arg2 m c),
    (h c Cert.ReferenceIdeal.main_arg3 (by decide)).trans (Cert.ReferenceIdeal.Host.W3_arg3 m c),
    (h c Cert.ReferenceIdeal.main_arg4 (by decide)).trans (Cert.ReferenceIdeal.Host.W3_arg4 m c),
    (h c Cert.ReferenceIdeal.main_arg5 (by decide)).trans (Cert.ReferenceIdeal.Host.W3_arg5 m c),
    (h c Cert.ReferenceIdeal.main_arg6 (by decide)).trans (Cert.ReferenceIdeal.Host.W3_arg6 m c),
    (h c Cert.ReferenceIdeal.main_arg7 (by decide)).trans (Cert.ReferenceIdeal.Host.W3_arg7 m c),
    (h c Cert.ReferenceIdeal.main_arg8 (by decide)).trans (Cert.ReferenceIdeal.Host.W3_arg8 m c),
    (h c Cert.ReferenceIdeal.main_arg9 (by decide)).trans (Cert.ReferenceIdeal.Host.W3_arg9 m c),
    (h c Cert.ReferenceIdeal.main_arg10 (by decide)).trans (Cert.ReferenceIdeal.Host.W3_arg10 m c)⟩)
    (Cert.ReferenceIdeal.Host.run_main m g)

/-- The two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Host.W3 m' c (Proc.devRef .tc Cert.ReferenceIdeal.main_v51) = Cert.KernelIdeal.Body.result m c := by
  funext i
  have ei : i = ix3 (i 0) (i 1) (i 2) := by funext a; fin_cases a <;> rfl
  rw [ei]
  refine (Cert.ReferenceIdeal.Host.result_at m' c (i 0) (i 1) (i 2)).trans (Eq.trans ?_ (Cert.KernelIdeal.Body.result_at m c (i 1) (Cert.ReferenceIdeal.Host.xs0 m' c (i 1)) (Cert.ReferenceIdeal.Host.xs1 m' c (i 1)) ?_ ?_ (i 0) (i 2)).symm)
  · unfold Cert.ReferenceIdeal.Host.gi Cert.ReferenceIdeal.Host.ends
    rw [show StableHlo.launchContents m' c (Proc.devRef .tc Cert.ReferenceIdeal.main_arg1) = Cert.KernelIdeal.Body.arg m c Cert.KernelIdeal.main_arg1 from h1]
    rw [show StableHlo.launchContents m' c (Proc.devRef .tc Cert.ReferenceIdeal.main_arg2) = Cert.KernelIdeal.Body.arg m c Cert.KernelIdeal.main_arg2 from h2]
    rw [show StableHlo.launchContents m' c (Proc.devRef .tc Cert.ReferenceIdeal.main_arg3) = Cert.KernelIdeal.Body.arg m c Cert.KernelIdeal.main_arg3 from h3]
    rw [show StableHlo.launchContents m' c (Proc.devRef .tc Cert.ReferenceIdeal.main_arg4) = Cert.KernelIdeal.Body.arg m c Cert.KernelIdeal.main_arg4 from h4]
    rw [show StableHlo.launchContents m' c (Proc.devRef .tc Cert.ReferenceIdeal.main_arg5) = Cert.KernelIdeal.Body.arg m c Cert.KernelIdeal.main_arg5 from h5]
    rw [show StableHlo.launchContents m' c (Proc.devRef .tc Cert.ReferenceIdeal.main_arg6) = Cert.KernelIdeal.Body.arg m c Cert.KernelIdeal.main_arg6 from h6]
    rw [show StableHlo.launchContents m' c (Proc.devRef .tc Cert.ReferenceIdeal.main_arg7) = Cert.KernelIdeal.Body.arg m c Cert.KernelIdeal.main_arg7 from h7]
    rw [show StableHlo.launchContents m' c (Proc.devRef .tc Cert.ReferenceIdeal.main_arg8) = Cert.KernelIdeal.Body.arg m c Cert.KernelIdeal.main_arg8 from h8]
    rw [show StableHlo.launchContents m' c (Proc.devRef .tc Cert.ReferenceIdeal.main_arg9) = Cert.KernelIdeal.Body.arg m c Cert.KernelIdeal.main_arg9 from h9]
    rw [show StableHlo.launchContents m' c (Proc.devRef .tc Cert.ReferenceIdeal.main_arg10) = Cert.KernelIdeal.Body.arg m c Cert.KernelIdeal.main_arg10 from h10]
  · intro t h n f
    unfold Cert.ReferenceIdeal.Host.xs0
    rw [dif_pos h]
    exact (Cert.ReferenceIdeal.Host.W0_0 m' c n (i 1) ⟨t, h⟩ f).trans (congrFun h0 (ix4 n (i 1) ⟨t, h⟩ f))
  · intro n f
    unfold Cert.ReferenceIdeal.Host.xs1
    rw [dif_pos (by decide)]
    exact (Cert.ReferenceIdeal.Host.W1_0 m' c n (i 1) f).trans (congrFun h0 (ix4 n (i 1) 127 f))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m g _ => Cert.Kernel.Whole.frame m g,
  fun m g _ => kernel_frame m g,
  fun m g _ => (θ_run _ _ _).mono (fun r h => ⟨fun c => (h c).2, Cert.ReferenceIdeal.Host.sem_zero r.2⟩) (reference_run m g),
  fun m g _ => Cert.Kernel2.Gen.frame m g,
  fun m g _ => Cert.Kernel2Ideal.Gen.frame m g,
  fun m g _ => (θ_run _ _ _).mono (fun r h => ⟨fun c => (h c).2.2.2.2.2.2, Cert.Reference2Ideal.Counts.sem_zero r.2⟩) (Cert.Reference2Ideal.Counts.reference_run m g),
  fun m g _ => Cert.Kernel3.Gen.frame m g,
  fun m g _ => Cert.Kernel3Ideal.Gen.frame m g,
  fun m g _ => (θ_run _ _ _).mono (fun r h => ⟨fun c => (h c).2, Cert.Reference3Ideal.Branch.sem_zero r.2⟩) (Cert.Reference3Ideal.Branch.reference_run m g),
  trivial,
  fun m g m' g' _ hargs => ⟨fun c => Cert.KernelIdeal.Body.result m c,
    (θ_run _ _ _).mono (fun _ h c => ⟨h.1 c, h.2.1 c⟩) (θ_run_and (kernel_result m g) (kernel_frame m g)),
    (θ_run _ _ _).mono (fun _ h c => ⟨(h c).1.trans (by
      obtain ⟨h0, h1, h2, h3, h4, h5, h6, h7, h8, h9, h10⟩ := hargs c
      exact results_eq m m' c h0 h1 h2 h3 h4 h5 h6 h7 h8 h9 h10), (h c).2⟩) (reference_run m' g')⟩,
  trivial,
  fun m g m' g' _ hargs => ⟨_, _, _, _, _, _, Cert.Reference2Ideal.Counts.kernel_run m g,
    (θ_run _ _ _).mono (fun _ h c => by
      obtain ⟨a0, a1⟩ := hargs c
      obtain ⟨h0, h1, h2, h3, h4, h5, h⟩ := h c
      rw [a0] at h0 h1 h2
      rw [a1] at h3 h4 h5
      exact ⟨h0, h1, h2, h3, h4, h5, h⟩) (Cert.Reference2Ideal.Counts.reference_run m' g')⟩,
  trivial,
  fun m g m' g' _ hargs => ⟨fun c => Cert.Kernel3Ideal.Branch.R m c, Cert.Kernel3Ideal.Branch.kernel_run m g,
    (θ_run _ _ _).mono (fun _ h c => by
      obtain ⟨a0, a1, a2, a3, a4, a5, a6, a7, a8, a9⟩ := hargs c
      obtain ⟨h0, h⟩ := h c
      rw [a0, a1, a2, a3, a4, a5, a6, a7, a8, a9] at h0
      exact ⟨h0, h⟩) (Cert.Reference3Ideal.Branch.reference_run m' g')⟩⟩

end Cert.Proof

end
